-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_finite_qk_mla [hPre_finite_qk_mla : Cert.Pre_finite_qk_mla.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_finite_qk_mla.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3))).1 = (fun _ => 1#1)
    ∧ (Cert.Pre_finite_qk_mla.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3))).2 = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_finite_qk_mla [hPre_finite_qk_mla : Cert.Pre_finite_qk_mla.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_finite_qk_mla.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3))).1 = (fun _ => 1#1)
    ∧ (Cert.Pre_finite_qk_mla.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3))).2 = (fun _ => 1#1)

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_ReferenceSIdeal (m : (ℓ : Loc Cert.ReferenceSIdeal.nD Cert.ReferenceSIdeal.τ Cert.ReferenceSIdeal.sig) → Buf (Elt Ideal) ℓ) : Prop :=
  True

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelK (m : (ℓ : Loc Cert.KernelK.nD Cert.KernelK.τ Cert.KernelK.sig) → Buf (Elt Bits) ℓ) : Prop :=
  True

def Pre_KernelKIdeal (m : (ℓ : Loc Cert.KernelKIdeal.nD Cert.KernelKIdeal.τ Cert.KernelKIdeal.sig) → Buf (Elt Ideal) ℓ) : Prop :=
  True

def Pre_ReferenceKIdeal (m : (ℓ : Loc Cert.ReferenceKIdeal.nD Cert.ReferenceKIdeal.τ Cert.ReferenceKIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelCIdeal_finite_qk_mem [hPre_finite_qk_mem : Cert.Pre_finite_qk_mem.Facts] (m : (ℓ : Loc Cert.KernelCIdeal.nD Cert.KernelCIdeal.τ Cert.KernelCIdeal.sig) → Buf (Elt Ideal) ℓ) : Prop :=
  ∀ c : Dev Cert.KernelCIdeal.nD,
    (Cert.Pre_finite_qk_mem.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3))).1 = (fun _ => 1#1)
    ∧ (Cert.Pre_finite_qk_mem.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3))).2 = (fun _ => 1#1)

def Pre_ReferenceCIdeal (m : (ℓ : Loc Cert.ReferenceCIdeal.nD Cert.ReferenceCIdeal.τ Cert.ReferenceCIdeal.sig) → Buf (Elt Ideal) ℓ) : Prop :=
  True

def Pre_ReferenceCIdeal_finite_qk_mem [hPre_finite_qk_mem : Cert.Pre_finite_qk_mem.Facts] (m : (ℓ : Loc Cert.ReferenceCIdeal.nD Cert.ReferenceCIdeal.τ Cert.ReferenceCIdeal.sig) → Buf (Elt Ideal) ℓ) : Prop :=
  ∀ c : Dev Cert.ReferenceCIdeal.nD,
    (Cert.Pre_finite_qk_mem.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3))).1 = (fun _ => 1#1)
    ∧ (Cert.Pre_finite_qk_mem.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ r.2.sem = fun _ => 0)

def quiescent_KernelAIdeal_pre_finite_qk_mla [hKernelAIdeal : Cert.KernelAIdeal.Facts] [hPre_finite_qk_mla : Cert.Pre_finite_qk_mla.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_finite_qk_mla m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3))
      ∧ r.2.sem = fun _ => 0)

def quiescent_ReferenceAIdeal_pre_finite_qk_mla [hReferenceAIdeal : Cert.ReferenceAIdeal.Facts] [hPre_finite_qk_mla : Cert.Pre_finite_qk_mla.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_finite_qk_mla m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1)
      ∧ r.2.mem ((c.tc : Thread Cert.KernelS.nD Cert.KernelS.τ).loc Cert.KernelS.main_arg2) = m ((c.tc : Thread Cert.KernelS.nD Cert.KernelS.τ).loc Cert.KernelS.main_arg2)
      ∧ r.2.mem ((c.tc : Thread Cert.KernelS.nD Cert.KernelS.τ).loc Cert.KernelS.main_arg3) = m ((c.tc : Thread Cert.KernelS.nD Cert.KernelS.τ).loc Cert.KernelS.main_arg3)
      ∧ r.2.mem ((c.tc : Thread Cert.KernelS.nD Cert.KernelS.τ).loc Cert.KernelS.main_arg4) = m ((c.tc : Thread Cert.KernelS.nD Cert.KernelS.τ).loc Cert.KernelS.main_arg4)
      ∧ r.2.mem ((c.tc : Thread Cert.KernelS.nD Cert.KernelS.τ).loc Cert.KernelS.main_arg5) = m ((c.tc : Thread Cert.KernelS.nD Cert.KernelS.τ).loc Cert.KernelS.main_arg5)
      ∧ r.2.mem ((c.tc : Thread Cert.KernelS.nD Cert.KernelS.τ).loc Cert.KernelS.main_arg6) = m ((c.tc : Thread Cert.KernelS.nD Cert.KernelS.τ).loc Cert.KernelS.main_arg6)
      ∧ r.2.mem ((c.tc : Thread Cert.KernelS.nD Cert.KernelS.τ).loc Cert.KernelS.main_arg7) = m ((c.tc : Thread Cert.KernelS.nD Cert.KernelS.τ).loc Cert.KernelS.main_arg7)
      ∧ r.2.mem ((c.tc : Thread Cert.KernelS.nD Cert.KernelS.τ).loc Cert.KernelS.main_arg8) = m ((c.tc : Thread Cert.KernelS.nD Cert.KernelS.τ).loc Cert.KernelS.main_arg8)
      ∧ r.2.mem ((c.tc : Thread Cert.KernelS.nD Cert.KernelS.τ).loc Cert.KernelS.main_arg9) = m ((c.tc : Thread Cert.KernelS.nD Cert.KernelS.τ).loc Cert.KernelS.main_arg9)
      ∧ r.2.mem ((c.tc : Thread Cert.KernelS.nD Cert.KernelS.τ).loc Cert.KernelS.main_arg10) = m ((c.tc : Thread Cert.KernelS.nD Cert.KernelS.τ).loc Cert.KernelS.main_arg10)
      ∧ r.2.mem ((c.tc : Thread Cert.KernelS.nD Cert.KernelS.τ).loc Cert.KernelS.main_arg11) = m ((c.tc : Thread Cert.KernelS.nD Cert.KernelS.τ).loc Cert.KernelS.main_arg11)
      ∧ r.2.mem ((c.tc : Thread Cert.KernelS.nD Cert.KernelS.τ).loc Cert.KernelS.main_arg12) = m ((c.tc : Thread Cert.KernelS.nD Cert.KernelS.τ).loc Cert.KernelS.main_arg12)
      ∧ r.2.mem ((c.tc : Thread Cert.KernelS.nD Cert.KernelS.τ).loc Cert.KernelS.main_arg13) = m ((c.tc : Thread Cert.KernelS.nD Cert.KernelS.τ).loc Cert.KernelS.main_arg13)
      ∧ r.2.mem ((c.tc : Thread Cert.KernelS.nD Cert.KernelS.τ).loc Cert.KernelS.main_arg14) = m ((c.tc : Thread Cert.KernelS.nD Cert.KernelS.τ).loc Cert.KernelS.main_arg14))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
      ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
      ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
      ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
      ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7)
      ∧ r.2.mem ((c.tc : Thread Cert.KernelSIdeal.nD Cert.KernelSIdeal.τ).loc Cert.KernelSIdeal.main_arg8) = m ((c.tc : Thread Cert.KernelSIdeal.nD Cert.KernelSIdeal.τ).loc Cert.KernelSIdeal.main_arg8)
      ∧ r.2.mem ((c.tc : Thread Cert.KernelSIdeal.nD Cert.KernelSIdeal.τ).loc Cert.KernelSIdeal.main_arg9) = m ((c.tc : Thread Cert.KernelSIdeal.nD Cert.KernelSIdeal.τ).loc Cert.KernelSIdeal.main_arg9)
      ∧ r.2.mem ((c.tc : Thread Cert.KernelSIdeal.nD Cert.KernelSIdeal.τ).loc Cert.KernelSIdeal.main_arg10) = m ((c.tc : Thread Cert.KernelSIdeal.nD Cert.KernelSIdeal.τ).loc Cert.KernelSIdeal.main_arg10)
      ∧ r.2.mem ((c.tc : Thread Cert.KernelSIdeal.nD Cert.KernelSIdeal.τ).loc Cert.KernelSIdeal.main_arg11) = m ((c.tc : Thread Cert.KernelSIdeal.nD Cert.KernelSIdeal.τ).loc Cert.KernelSIdeal.main_arg11)
      ∧ r.2.mem ((c.tc : Thread Cert.KernelSIdeal.nD Cert.KernelSIdeal.τ).loc Cert.KernelSIdeal.main_arg12) = m ((c.tc : Thread Cert.KernelSIdeal.nD Cert.KernelSIdeal.τ).loc Cert.KernelSIdeal.main_arg12)
      ∧ r.2.mem ((c.tc : Thread Cert.KernelSIdeal.nD Cert.KernelSIdeal.τ).loc Cert.KernelSIdeal.main_arg13) = m ((c.tc : Thread Cert.KernelSIdeal.nD Cert.KernelSIdeal.τ).loc Cert.KernelSIdeal.main_arg13)
      ∧ r.2.mem ((c.tc : Thread Cert.KernelSIdeal.nD Cert.KernelSIdeal.τ).loc Cert.KernelSIdeal.main_arg14) = m ((c.tc : Thread Cert.KernelSIdeal.nD Cert.KernelSIdeal.τ).loc Cert.KernelSIdeal.main_arg14))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2)
      ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3)
      ∧ r.2.mem ((c.tc : Thread Cert.ReferenceSIdeal.nD Cert.ReferenceSIdeal.τ).loc Cert.ReferenceSIdeal.main_arg4) = m ((c.tc : Thread Cert.ReferenceSIdeal.nD Cert.ReferenceSIdeal.τ).loc Cert.ReferenceSIdeal.main_arg4)
      ∧ r.2.mem ((c.tc : Thread Cert.ReferenceSIdeal.nD Cert.ReferenceSIdeal.τ).loc Cert.ReferenceSIdeal.main_arg5) = m ((c.tc : Thread Cert.ReferenceSIdeal.nD Cert.ReferenceSIdeal.τ).loc Cert.ReferenceSIdeal.main_arg5)
      ∧ r.2.mem ((c.tc : Thread Cert.ReferenceSIdeal.nD Cert.ReferenceSIdeal.τ).loc Cert.ReferenceSIdeal.main_arg6) = m ((c.tc : Thread Cert.ReferenceSIdeal.nD Cert.ReferenceSIdeal.τ).loc Cert.ReferenceSIdeal.main_arg6)
      ∧ r.2.mem ((c.tc : Thread Cert.ReferenceSIdeal.nD Cert.ReferenceSIdeal.τ).loc Cert.ReferenceSIdeal.main_arg7) = m ((c.tc : Thread Cert.ReferenceSIdeal.nD Cert.ReferenceSIdeal.τ).loc Cert.ReferenceSIdeal.main_arg7)
      ∧ r.2.mem ((c.tc : Thread Cert.ReferenceSIdeal.nD Cert.ReferenceSIdeal.τ).loc Cert.ReferenceSIdeal.main_arg8) = m ((c.tc : Thread Cert.ReferenceSIdeal.nD Cert.ReferenceSIdeal.τ).loc Cert.ReferenceSIdeal.main_arg8)
      ∧ r.2.mem ((c.tc : Thread Cert.ReferenceSIdeal.nD Cert.ReferenceSIdeal.τ).loc Cert.ReferenceSIdeal.main_arg9) = m ((c.tc : Thread Cert.ReferenceSIdeal.nD Cert.ReferenceSIdeal.τ).loc Cert.ReferenceSIdeal.main_arg9)
      ∧ r.2.mem ((c.tc : Thread Cert.ReferenceSIdeal.nD Cert.ReferenceSIdeal.τ).loc Cert.ReferenceSIdeal.main_arg10) = m ((c.tc : Thread Cert.ReferenceSIdeal.nD Cert.ReferenceSIdeal.τ).loc Cert.ReferenceSIdeal.main_arg10)
      ∧ r.2.mem ((c.tc : Thread Cert.ReferenceSIdeal.nD Cert.ReferenceSIdeal.τ).loc Cert.ReferenceSIdeal.main_arg11) = m ((c.tc : Thread Cert.ReferenceSIdeal.nD Cert.ReferenceSIdeal.τ).loc Cert.ReferenceSIdeal.main_arg11)
      ∧ r.2.mem ((c.tc : Thread Cert.ReferenceSIdeal.nD Cert.ReferenceSIdeal.τ).loc Cert.ReferenceSIdeal.main_arg12) = m ((c.tc : Thread Cert.ReferenceSIdeal.nD Cert.ReferenceSIdeal.τ).loc Cert.ReferenceSIdeal.main_arg12)
      ∧ r.2.mem ((c.tc : Thread Cert.ReferenceSIdeal.nD Cert.ReferenceSIdeal.τ).loc Cert.ReferenceSIdeal.main_arg13) = m ((c.tc : Thread Cert.ReferenceSIdeal.nD Cert.ReferenceSIdeal.τ).loc Cert.ReferenceSIdeal.main_arg13)
      ∧ r.2.mem ((c.tc : Thread Cert.ReferenceSIdeal.nD Cert.ReferenceSIdeal.τ).loc Cert.ReferenceSIdeal.main_arg14) = m ((c.tc : Thread Cert.ReferenceSIdeal.nD Cert.ReferenceSIdeal.τ).loc Cert.ReferenceSIdeal.main_arg14))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3))
      ∧ r.2.sem = fun _ => 0)

def quiescent_KernelK [hKernelK : Cert.KernelK.Facts] : Prop :=
  ∀ (m : (ℓ : Loc Cert.KernelK.nD Cert.KernelK.τ Cert.KernelK.sig) → Buf (Elt Bits) ℓ) (g : Dev Cert.KernelK.nD → PrngReg), Pre_KernelK m →
    θ_run (Cert.KernelK.defs (F := Bits)) (onTc (τ := Cert.KernelK.τ) (Cert.KernelK.main (F := Bits))) ⟨m, fun _ => 0, g⟩ (fun r => (∀ c : Dev Cert.KernelK.nD,
      r.2.mem ((c.tc : Thread Cert.KernelK.nD Cert.KernelK.τ).loc Cert.KernelK.main_arg0) = m ((c.tc : Thread Cert.KernelK.nD Cert.KernelK.τ).loc Cert.KernelK.main_arg0)
      ∧ r.2.mem ((c.tc : Thread Cert.KernelK.nD Cert.KernelK.τ).loc Cert.KernelK.main_arg1) = m ((c.tc : Thread Cert.KernelK.nD Cert.KernelK.τ).loc Cert.KernelK.main_arg1)
      ∧ r.2.mem ((c.tc : Thread Cert.KernelK.nD Cert.KernelK.τ).loc Cert.KernelK.main_arg2) = m ((c.tc : Thread Cert.KernelK.nD Cert.KernelK.τ).loc Cert.KernelK.main_arg2))
      ∧ r.2.sem = fun _ => 0)

def quiescent_KernelKIdeal [hKernelKIdeal : Cert.KernelKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
      ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1)
      ∧ r.2.mem ((c.tc : Thread Cert.KernelKIdeal.nD Cert.KernelKIdeal.τ).loc Cert.KernelKIdeal.main_arg2) = m ((c.tc : Thread Cert.KernelKIdeal.nD Cert.KernelKIdeal.τ).loc Cert.KernelKIdeal.main_arg2))
      ∧ r.2.sem = fun _ => 0)

def quiescent_ReferenceKIdeal [hReferenceKIdeal : Cert.ReferenceKIdeal.Facts] : Prop :=
  ∀ (m : (ℓ : Loc Cert.ReferenceKIdeal.nD Cert.ReferenceKIdeal.τ Cert.ReferenceKIdeal.sig) → Buf (Elt Ideal) ℓ) (g : Dev Cert.ReferenceKIdeal.nD → PrngReg), Pre_ReferenceKIdeal m →
    θ_run (Cert.ReferenceKIdeal.defs (F := Ideal)) (onTc (τ := Cert.ReferenceKIdeal.τ) (Cert.ReferenceKIdeal.main (F := Ideal))) ⟨m, fun _ => 0, g⟩ (fun r => (∀ c : Dev Cert.ReferenceKIdeal.nD,
      r.2.mem ((c.tc : Thread Cert.ReferenceKIdeal.nD Cert.ReferenceKIdeal.τ).loc Cert.ReferenceKIdeal.main_arg0) = m ((c.tc : Thread Cert.ReferenceKIdeal.nD Cert.ReferenceKIdeal.τ).loc Cert.ReferenceKIdeal.main_arg0)
      ∧ r.2.mem ((c.tc : Thread Cert.ReferenceKIdeal.nD Cert.ReferenceKIdeal.τ).loc Cert.ReferenceKIdeal.main_arg1) = m ((c.tc : Thread Cert.ReferenceKIdeal.nD Cert.ReferenceKIdeal.τ).loc Cert.ReferenceKIdeal.main_arg1)
      ∧ r.2.mem ((c.tc : Thread Cert.ReferenceKIdeal.nD Cert.ReferenceKIdeal.τ).loc Cert.ReferenceKIdeal.main_arg2) = m ((c.tc : Thread Cert.ReferenceKIdeal.nD Cert.ReferenceKIdeal.τ).loc Cert.ReferenceKIdeal.main_arg2))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ r.2.sem = fun _ => 0)

def quiescent_KernelCIdeal_pre_finite_qk_mem [hKernelCIdeal : Cert.KernelCIdeal.Facts] [hPre_finite_qk_mem : Cert.Pre_finite_qk_mem.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal_finite_qk_mem m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3))
      ∧ r.2.sem = fun _ => 0)

def quiescent_ReferenceCIdeal_pre_finite_qk_mem [hReferenceCIdeal : Cert.ReferenceCIdeal.Facts] [hPre_finite_qk_mem : Cert.Pre_finite_qk_mem.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal_finite_qk_mem m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3))
      ∧ r.2.sem = fun _ => 0)

def preserves_Kernel_KernelIdeal : Prop :=
  IdealRules.named_const.Statement Cert.KernelIdeal.κ "gqa_scale" .f32 0x3E0293EE#32 (((Real.log 2)⁻¹ * (Real.sqrt 128)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelA_KernelAIdeal : Prop :=
  IdealRules.named_const.Statement Cert.KernelAIdeal.κ "mla_scale" .f32 0x3DD53B95#32 (((Real.log 2)⁻¹ * (Real.sqrt 192)⁻¹ : ℝ) : EReal)

def algebraic_KernelAIdeal_ReferenceAIdeal_pre_finite_qk_mla [hKernelAIdeal : Cert.KernelAIdeal.Facts] [hReferenceAIdeal : Cert.ReferenceAIdeal.Facts] [hPre_finite_qk_mla : Cert.Pre_finite_qk_mla.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_finite_qk_mla m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)) →
    ∃ (v0 : (c : Dev Cert.KernelAIdeal.nD) → Buf (Elt Ideal) ((c.tc : Thread Cert.KernelAIdeal.nD Cert.KernelAIdeal.τ).loc Cert.KernelAIdeal.main_v12)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v12) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v27) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3))

def preserves_KernelS_KernelSIdeal : Prop :=
  True

def algebraic_KernelSIdeal_ReferenceSIdeal [hKernelSIdeal : Cert.KernelSIdeal.Facts] [hReferenceSIdeal : Cert.ReferenceSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)
      ∧ m' ((c.tc : Thread Cert.ReferenceSIdeal.nD Cert.ReferenceSIdeal.τ).loc Cert.ReferenceSIdeal.main_arg2) = m ((c.tc : Thread Cert.KernelSIdeal.nD Cert.KernelSIdeal.τ).loc Cert.KernelSIdeal.main_arg2)
      ∧ m' ((c.tc : Thread Cert.ReferenceSIdeal.nD Cert.ReferenceSIdeal.τ).loc Cert.ReferenceSIdeal.main_arg3) = m ((c.tc : Thread Cert.KernelSIdeal.nD Cert.KernelSIdeal.τ).loc Cert.KernelSIdeal.main_arg3)
      ∧ m' ((c.tc : Thread Cert.ReferenceSIdeal.nD Cert.ReferenceSIdeal.τ).loc Cert.ReferenceSIdeal.main_arg4) = m ((c.tc : Thread Cert.KernelSIdeal.nD Cert.KernelSIdeal.τ).loc Cert.KernelSIdeal.main_arg4)
      ∧ m' ((c.tc : Thread Cert.ReferenceSIdeal.nD Cert.ReferenceSIdeal.τ).loc Cert.ReferenceSIdeal.main_arg5) = m ((c.tc : Thread Cert.KernelSIdeal.nD Cert.KernelSIdeal.τ).loc Cert.KernelSIdeal.main_arg5)
      ∧ m' ((c.tc : Thread Cert.ReferenceSIdeal.nD Cert.ReferenceSIdeal.τ).loc Cert.ReferenceSIdeal.main_arg6) = m ((c.tc : Thread Cert.KernelSIdeal.nD Cert.KernelSIdeal.τ).loc Cert.KernelSIdeal.main_arg6)
      ∧ m' ((c.tc : Thread Cert.ReferenceSIdeal.nD Cert.ReferenceSIdeal.τ).loc Cert.ReferenceSIdeal.main_arg7) = m ((c.tc : Thread Cert.KernelSIdeal.nD Cert.KernelSIdeal.τ).loc Cert.KernelSIdeal.main_arg7)
      ∧ m' ((c.tc : Thread Cert.ReferenceSIdeal.nD Cert.ReferenceSIdeal.τ).loc Cert.ReferenceSIdeal.main_arg8) = m ((c.tc : Thread Cert.KernelSIdeal.nD Cert.KernelSIdeal.τ).loc Cert.KernelSIdeal.main_arg8)
      ∧ m' ((c.tc : Thread Cert.ReferenceSIdeal.nD Cert.ReferenceSIdeal.τ).loc Cert.ReferenceSIdeal.main_arg9) = m ((c.tc : Thread Cert.KernelSIdeal.nD Cert.KernelSIdeal.τ).loc Cert.KernelSIdeal.main_arg9)
      ∧ m' ((c.tc : Thread Cert.ReferenceSIdeal.nD Cert.ReferenceSIdeal.τ).loc Cert.ReferenceSIdeal.main_arg10) = m ((c.tc : Thread Cert.KernelSIdeal.nD Cert.KernelSIdeal.τ).loc Cert.KernelSIdeal.main_arg10)
      ∧ m' ((c.tc : Thread Cert.ReferenceSIdeal.nD Cert.ReferenceSIdeal.τ).loc Cert.ReferenceSIdeal.main_arg11) = m ((c.tc : Thread Cert.KernelSIdeal.nD Cert.KernelSIdeal.τ).loc Cert.KernelSIdeal.main_arg11)
      ∧ m' ((c.tc : Thread Cert.ReferenceSIdeal.nD Cert.ReferenceSIdeal.τ).loc Cert.ReferenceSIdeal.main_arg12) = m ((c.tc : Thread Cert.KernelSIdeal.nD Cert.KernelSIdeal.τ).loc Cert.KernelSIdeal.main_arg12)
      ∧ m' ((c.tc : Thread Cert.ReferenceSIdeal.nD Cert.ReferenceSIdeal.τ).loc Cert.ReferenceSIdeal.main_arg13) = m ((c.tc : Thread Cert.KernelSIdeal.nD Cert.KernelSIdeal.τ).loc Cert.KernelSIdeal.main_arg13)
      ∧ m' ((c.tc : Thread Cert.ReferenceSIdeal.nD Cert.ReferenceSIdeal.τ).loc Cert.ReferenceSIdeal.main_arg14) = m ((c.tc : Thread Cert.KernelSIdeal.nD Cert.KernelSIdeal.τ).loc Cert.KernelSIdeal.main_arg14)) →
    ∃ (v0 : (c : Dev Cert.KernelSIdeal.nD) → Buf (Elt Ideal) ((c.tc : Thread Cert.KernelSIdeal.nD Cert.KernelSIdeal.τ).loc Cert.KernelSIdeal.main_v0_0)) (v1 : (c : Dev Cert.KernelSIdeal.nD) → Buf (Elt Ideal) ((c.tc : Thread Cert.KernelSIdeal.nD Cert.KernelSIdeal.τ).loc Cert.KernelSIdeal.main_v0_1)) (v2 : (c : Dev Cert.KernelSIdeal.nD) → Buf (Elt Ideal) ((c.tc : Thread Cert.KernelSIdeal.nD Cert.KernelSIdeal.τ).loc Cert.KernelSIdeal.main_v0_2)) (v3 : (c : Dev Cert.KernelSIdeal.nD) → Buf (Elt Ideal) ((c.tc : Thread Cert.KernelSIdeal.nD Cert.KernelSIdeal.τ).loc Cert.KernelSIdeal.main_v0_3)) (v4 : (c : Dev Cert.KernelSIdeal.nD) → Buf (Elt Ideal) ((c.tc : Thread Cert.KernelSIdeal.nD Cert.KernelSIdeal.τ).loc Cert.KernelSIdeal.main_v0_4)) (v5 : (c : Dev Cert.KernelSIdeal.nD) → Buf (Elt Ideal) ((c.tc : Thread Cert.KernelSIdeal.nD Cert.KernelSIdeal.τ).loc Cert.KernelSIdeal.main_v0_5)) (v6 : (c : Dev Cert.KernelSIdeal.nD) → Buf (Elt Ideal) ((c.tc : Thread Cert.KernelSIdeal.nD Cert.KernelSIdeal.τ).loc Cert.KernelSIdeal.main_v0_6)) (v7 : (c : Dev Cert.KernelSIdeal.nD) → Buf (Elt Ideal) ((c.tc : Thread Cert.KernelSIdeal.nD Cert.KernelSIdeal.τ).loc Cert.KernelSIdeal.main_v0_7)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v0_0) = v0 c
          ∧ r.2.mem ((c.tc : Thread Cert.KernelSIdeal.nD Cert.KernelSIdeal.τ).loc Cert.KernelSIdeal.main_v0_1) = v1 c
          ∧ r.2.mem ((c.tc : Thread Cert.KernelSIdeal.nD Cert.KernelSIdeal.τ).loc Cert.KernelSIdeal.main_v0_2) = v2 c
          ∧ r.2.mem ((c.tc : Thread Cert.KernelSIdeal.nD Cert.KernelSIdeal.τ).loc Cert.KernelSIdeal.main_v0_3) = v3 c
          ∧ r.2.mem ((c.tc : Thread Cert.KernelSIdeal.nD Cert.KernelSIdeal.τ).loc Cert.KernelSIdeal.main_v0_4) = v4 c
          ∧ r.2.mem ((c.tc : Thread Cert.KernelSIdeal.nD Cert.KernelSIdeal.τ).loc Cert.KernelSIdeal.main_v0_5) = v5 c
          ∧ r.2.mem ((c.tc : Thread Cert.KernelSIdeal.nD Cert.KernelSIdeal.τ).loc Cert.KernelSIdeal.main_v0_6) = v6 c
          ∧ r.2.mem ((c.tc : Thread Cert.KernelSIdeal.nD Cert.KernelSIdeal.τ).loc Cert.KernelSIdeal.main_v0_7) = v7 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
          ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
          ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
          ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
          ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
          ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
          ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7)
          ∧ r.2.mem ((c.tc : Thread Cert.KernelSIdeal.nD Cert.KernelSIdeal.τ).loc Cert.KernelSIdeal.main_arg8) = m ((c.tc : Thread Cert.KernelSIdeal.nD Cert.KernelSIdeal.τ).loc Cert.KernelSIdeal.main_arg8)
          ∧ r.2.mem ((c.tc : Thread Cert.KernelSIdeal.nD Cert.KernelSIdeal.τ).loc Cert.KernelSIdeal.main_arg9) = m ((c.tc : Thread Cert.KernelSIdeal.nD Cert.KernelSIdeal.τ).loc Cert.KernelSIdeal.main_arg9)
          ∧ r.2.mem ((c.tc : Thread Cert.KernelSIdeal.nD Cert.KernelSIdeal.τ).loc Cert.KernelSIdeal.main_arg10) = m ((c.tc : Thread Cert.KernelSIdeal.nD Cert.KernelSIdeal.τ).loc Cert.KernelSIdeal.main_arg10)
          ∧ r.2.mem ((c.tc : Thread Cert.KernelSIdeal.nD Cert.KernelSIdeal.τ).loc Cert.KernelSIdeal.main_arg11) = m ((c.tc : Thread Cert.KernelSIdeal.nD Cert.KernelSIdeal.τ).loc Cert.KernelSIdeal.main_arg11)
          ∧ r.2.mem ((c.tc : Thread Cert.KernelSIdeal.nD Cert.KernelSIdeal.τ).loc Cert.KernelSIdeal.main_arg12) = m ((c.tc : Thread Cert.KernelSIdeal.nD Cert.KernelSIdeal.τ).loc Cert.KernelSIdeal.main_arg12)
          ∧ r.2.mem ((c.tc : Thread Cert.KernelSIdeal.nD Cert.KernelSIdeal.τ).loc Cert.KernelSIdeal.main_arg13) = m ((c.tc : Thread Cert.KernelSIdeal.nD Cert.KernelSIdeal.τ).loc Cert.KernelSIdeal.main_arg13)
          ∧ r.2.mem ((c.tc : Thread Cert.KernelSIdeal.nD Cert.KernelSIdeal.τ).loc Cert.KernelSIdeal.main_arg14) = m ((c.tc : Thread Cert.KernelSIdeal.nD Cert.KernelSIdeal.τ).loc Cert.KernelSIdeal.main_arg14))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v12) = v0 c
          ∧ r.2.mem ((c.tc : Thread Cert.ReferenceSIdeal.nD Cert.ReferenceSIdeal.τ).loc Cert.ReferenceSIdeal.main_v156) = v1 c
          ∧ r.2.mem ((c.tc : Thread Cert.ReferenceSIdeal.nD Cert.ReferenceSIdeal.τ).loc Cert.ReferenceSIdeal.main_v157) = v2 c
          ∧ r.2.mem ((c.tc : Thread Cert.ReferenceSIdeal.nD Cert.ReferenceSIdeal.τ).loc Cert.ReferenceSIdeal.main_v163) = v3 c
          ∧ r.2.mem ((c.tc : Thread Cert.ReferenceSIdeal.nD Cert.ReferenceSIdeal.τ).loc Cert.ReferenceSIdeal.main_v165) = v4 c
          ∧ r.2.mem ((c.tc : Thread Cert.ReferenceSIdeal.nD Cert.ReferenceSIdeal.τ).loc Cert.ReferenceSIdeal.main_v167) = v5 c
          ∧ r.2.mem ((c.tc : Thread Cert.ReferenceSIdeal.nD Cert.ReferenceSIdeal.τ).loc Cert.ReferenceSIdeal.main_v173) = v6 c
          ∧ r.2.mem ((c.tc : Thread Cert.ReferenceSIdeal.nD Cert.ReferenceSIdeal.τ).loc Cert.ReferenceSIdeal.main_v174) = v7 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1)
          ∧ r.2.mem ((c.tc : Thread Cert.ReferenceSIdeal.nD Cert.ReferenceSIdeal.τ).loc Cert.ReferenceSIdeal.main_arg2) = m' ((c.tc : Thread Cert.ReferenceSIdeal.nD Cert.ReferenceSIdeal.τ).loc Cert.ReferenceSIdeal.main_arg2)
          ∧ r.2.mem ((c.tc : Thread Cert.ReferenceSIdeal.nD Cert.ReferenceSIdeal.τ).loc Cert.ReferenceSIdeal.main_arg3) = m' ((c.tc : Thread Cert.ReferenceSIdeal.nD Cert.ReferenceSIdeal.τ).loc Cert.ReferenceSIdeal.main_arg3)
          ∧ r.2.mem ((c.tc : Thread Cert.ReferenceSIdeal.nD Cert.ReferenceSIdeal.τ).loc Cert.ReferenceSIdeal.main_arg4) = m' ((c.tc : Thread Cert.ReferenceSIdeal.nD Cert.ReferenceSIdeal.τ).loc Cert.ReferenceSIdeal.main_arg4)
          ∧ r.2.mem ((c.tc : Thread Cert.ReferenceSIdeal.nD Cert.ReferenceSIdeal.τ).loc Cert.ReferenceSIdeal.main_arg5) = m' ((c.tc : Thread Cert.ReferenceSIdeal.nD Cert.ReferenceSIdeal.τ).loc Cert.ReferenceSIdeal.main_arg5)
          ∧ r.2.mem ((c.tc : Thread Cert.ReferenceSIdeal.nD Cert.ReferenceSIdeal.τ).loc Cert.ReferenceSIdeal.main_arg6) = m' ((c.tc : Thread Cert.ReferenceSIdeal.nD Cert.ReferenceSIdeal.τ).loc Cert.ReferenceSIdeal.main_arg6)
          ∧ r.2.mem ((c.tc : Thread Cert.ReferenceSIdeal.nD Cert.ReferenceSIdeal.τ).loc Cert.ReferenceSIdeal.main_arg7) = m' ((c.tc : Thread Cert.ReferenceSIdeal.nD Cert.ReferenceSIdeal.τ).loc Cert.ReferenceSIdeal.main_arg7)
          ∧ r.2.mem ((c.tc : Thread Cert.ReferenceSIdeal.nD Cert.ReferenceSIdeal.τ).loc Cert.ReferenceSIdeal.main_arg8) = m' ((c.tc : Thread Cert.ReferenceSIdeal.nD Cert.ReferenceSIdeal.τ).loc Cert.ReferenceSIdeal.main_arg8)
          ∧ r.2.mem ((c.tc : Thread Cert.ReferenceSIdeal.nD Cert.ReferenceSIdeal.τ).loc Cert.ReferenceSIdeal.main_arg9) = m' ((c.tc : Thread Cert.ReferenceSIdeal.nD Cert.ReferenceSIdeal.τ).loc Cert.ReferenceSIdeal.main_arg9)
          ∧ r.2.mem ((c.tc : Thread Cert.ReferenceSIdeal.nD Cert.ReferenceSIdeal.τ).loc Cert.ReferenceSIdeal.main_arg10) = m' ((c.tc : Thread Cert.ReferenceSIdeal.nD Cert.ReferenceSIdeal.τ).loc Cert.ReferenceSIdeal.main_arg10)
          ∧ r.2.mem ((c.tc : Thread Cert.ReferenceSIdeal.nD Cert.ReferenceSIdeal.τ).loc Cert.ReferenceSIdeal.main_arg11) = m' ((c.tc : Thread Cert.ReferenceSIdeal.nD Cert.ReferenceSIdeal.τ).loc Cert.ReferenceSIdeal.main_arg11)
          ∧ r.2.mem ((c.tc : Thread Cert.ReferenceSIdeal.nD Cert.ReferenceSIdeal.τ).loc Cert.ReferenceSIdeal.main_arg12) = m' ((c.tc : Thread Cert.ReferenceSIdeal.nD Cert.ReferenceSIdeal.τ).loc Cert.ReferenceSIdeal.main_arg12)
          ∧ r.2.mem ((c.tc : Thread Cert.ReferenceSIdeal.nD Cert.ReferenceSIdeal.τ).loc Cert.ReferenceSIdeal.main_arg13) = m' ((c.tc : Thread Cert.ReferenceSIdeal.nD Cert.ReferenceSIdeal.τ).loc Cert.ReferenceSIdeal.main_arg13)
          ∧ r.2.mem ((c.tc : Thread Cert.ReferenceSIdeal.nD Cert.ReferenceSIdeal.τ).loc Cert.ReferenceSIdeal.main_arg14) = m' ((c.tc : Thread Cert.ReferenceSIdeal.nD Cert.ReferenceSIdeal.τ).loc Cert.ReferenceSIdeal.main_arg14))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)) →
    ∃ (v0 : (c : Dev Cert.KernelZIdeal.nD) → Buf (Elt Ideal) ((c.tc : Thread Cert.KernelZIdeal.nD Cert.KernelZIdeal.τ).loc Cert.KernelZIdeal.main_v0)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v0) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v4) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)) →
    ∃ (v0 : (c : Dev Cert.KernelGIdeal.nD) → Buf (Elt Ideal) ((c.tc : Thread Cert.KernelGIdeal.nD Cert.KernelGIdeal.τ).loc Cert.KernelGIdeal.main_v0)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v0) = v0 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v9) = v0 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)) →
    ∃ (v0 : (c : Dev Cert.KernelMIdeal.nD) → Buf (Elt Ideal) ((c.tc : Thread Cert.KernelMIdeal.nD Cert.KernelMIdeal.τ).loc Cert.KernelMIdeal.main_v0)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v0) = v0 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v12) = v0 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)) →
    ∃ (v0 : (c : Dev Cert.KernelOIdeal.nD) → Buf (Elt Ideal) ((c.tc : Thread Cert.KernelOIdeal.nD Cert.KernelOIdeal.τ).loc Cert.KernelOIdeal.main_v0)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v15) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3))

def preserves_KernelK_KernelKIdeal : Prop :=
  True

def algebraic_KernelKIdeal_ReferenceKIdeal [hKernelKIdeal : Cert.KernelKIdeal.Facts] [hReferenceKIdeal : Cert.ReferenceKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg)
    (m' : (ℓ : Loc Cert.ReferenceKIdeal.nD Cert.ReferenceKIdeal.τ Cert.ReferenceKIdeal.sig) → Buf (Elt Ideal) ℓ) (g' : Dev Cert.ReferenceKIdeal.nD → PrngReg), Pre_KernelKIdeal m →
    (∀ c : Dev Cert.KernelKIdeal.nD,
      m' ((c.tc : Thread Cert.ReferenceKIdeal.nD Cert.ReferenceKIdeal.τ).loc Cert.ReferenceKIdeal.main_arg0) = m ((c.tc : Thread Cert.KernelKIdeal.nD Cert.KernelKIdeal.τ).loc Cert.KernelKIdeal.main_arg0)
      ∧ m' ((c.tc : Thread Cert.ReferenceKIdeal.nD Cert.ReferenceKIdeal.τ).loc Cert.ReferenceKIdeal.main_arg1) = m ((c.tc : Thread Cert.KernelKIdeal.nD Cert.KernelKIdeal.τ).loc Cert.KernelKIdeal.main_arg1)
      ∧ m' ((c.tc : Thread Cert.ReferenceKIdeal.nD Cert.ReferenceKIdeal.τ).loc Cert.ReferenceKIdeal.main_arg2) = m ((c.tc : Thread Cert.KernelKIdeal.nD Cert.KernelKIdeal.τ).loc Cert.KernelKIdeal.main_arg2)) →
    ∃ (v0 : (c : Dev Cert.KernelKIdeal.nD) → Buf (Elt Ideal) ((c.tc : Thread Cert.KernelKIdeal.nD Cert.KernelKIdeal.τ).loc Cert.KernelKIdeal.main_v0_0)) (v1 : (c : Dev Cert.KernelKIdeal.nD) → Buf (Elt Ideal) ((c.tc : Thread Cert.KernelKIdeal.nD Cert.KernelKIdeal.τ).loc Cert.KernelKIdeal.main_v0_1)),
      θ_run (Cert.KernelKIdeal.defs (F := Ideal)) (onTc (τ := Cert.KernelKIdeal.τ) (Cert.KernelKIdeal.main (F := Ideal))) ⟨m, fun _ => 0, g⟩ (fun r => ∀ c : Dev Cert.KernelKIdeal.nD,
          r.2.mem ((c.tc : Thread Cert.KernelKIdeal.nD Cert.KernelKIdeal.τ).loc Cert.KernelKIdeal.main_v0_0) = v0 c
          ∧ r.2.mem ((c.tc : Thread Cert.KernelKIdeal.nD Cert.KernelKIdeal.τ).loc Cert.KernelKIdeal.main_v0_1) = v1 c
          ∧ r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
          ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1)
          ∧ r.2.mem ((c.tc : Thread Cert.KernelKIdeal.nD Cert.KernelKIdeal.τ).loc Cert.KernelKIdeal.main_arg2) = m ((c.tc : Thread Cert.KernelKIdeal.nD Cert.KernelKIdeal.τ).loc Cert.KernelKIdeal.main_arg2))
      ∧ θ_run (Cert.ReferenceKIdeal.defs (F := Ideal)) (onTc (τ := Cert.ReferenceKIdeal.τ) (Cert.ReferenceKIdeal.main (F := Ideal))) ⟨m', fun _ => 0, g'⟩ (fun r => ∀ c : Dev Cert.ReferenceKIdeal.nD,
          r.2.mem ((c.tc : Thread Cert.ReferenceKIdeal.nD Cert.ReferenceKIdeal.τ).loc Cert.ReferenceKIdeal.main_v15) = v0 c
          ∧ r.2.mem ((c.tc : Thread Cert.ReferenceKIdeal.nD Cert.ReferenceKIdeal.τ).loc Cert.ReferenceKIdeal.main_v17) = v1 c
          ∧ r.2.mem ((c.tc : Thread Cert.ReferenceKIdeal.nD Cert.ReferenceKIdeal.τ).loc Cert.ReferenceKIdeal.main_arg0) = m' ((c.tc : Thread Cert.ReferenceKIdeal.nD Cert.ReferenceKIdeal.τ).loc Cert.ReferenceKIdeal.main_arg0)
          ∧ r.2.mem ((c.tc : Thread Cert.ReferenceKIdeal.nD Cert.ReferenceKIdeal.τ).loc Cert.ReferenceKIdeal.main_arg1) = m' ((c.tc : Thread Cert.ReferenceKIdeal.nD Cert.ReferenceKIdeal.τ).loc Cert.ReferenceKIdeal.main_arg1)
          ∧ r.2.mem ((c.tc : Thread Cert.ReferenceKIdeal.nD Cert.ReferenceKIdeal.τ).loc Cert.ReferenceKIdeal.main_arg2) = m' ((c.tc : Thread Cert.ReferenceKIdeal.nD Cert.ReferenceKIdeal.τ).loc Cert.ReferenceKIdeal.main_arg2))

def preserves_KernelC_KernelCIdeal : Prop :=
  IdealRules.named_const.Statement Cert.KernelCIdeal.κ "mem_scale" .f32 0x3DB8AA3B#32 (((Real.log 2)⁻¹ * (Real.sqrt 256)⁻¹ : ℝ) : EReal)

def algebraic_KernelCIdeal_ReferenceCIdeal_pre_finite_qk_mem [hKernelCIdeal : Cert.KernelCIdeal.Facts] [hReferenceCIdeal : Cert.ReferenceCIdeal.Facts] [hPre_finite_qk_mem : Cert.Pre_finite_qk_mem.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal_finite_qk_mem m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)) →
    ∃ (v0 : (c : Dev Cert.KernelCIdeal.nD) → Buf (Elt Ideal) ((c.tc : Thread Cert.KernelCIdeal.nD Cert.KernelCIdeal.τ).loc Cert.KernelCIdeal.main_v0)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v0) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v27) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3))

def Claim : Prop :=
  ∃ (hKernel : Cert.Kernel.Facts) (hKernelIdeal : Cert.KernelIdeal.Facts) (hReferenceIdeal : Cert.ReferenceIdeal.Facts) (hKernelA : Cert.KernelA.Facts) (hKernelAIdeal : Cert.KernelAIdeal.Facts) (hReferenceAIdeal : Cert.ReferenceAIdeal.Facts) (hKernelS : Cert.KernelS.Facts) (hKernelSIdeal : Cert.KernelSIdeal.Facts) (hReferenceSIdeal : Cert.ReferenceSIdeal.Facts) (hKernelZ : Cert.KernelZ.Facts) (hKernelZIdeal : Cert.KernelZIdeal.Facts) (hReferenceZIdeal : Cert.ReferenceZIdeal.Facts) (hKernelG : Cert.KernelG.Facts) (hKernelGIdeal : Cert.KernelGIdeal.Facts) (hReferenceGIdeal : Cert.ReferenceGIdeal.Facts) (hKernelM : Cert.KernelM.Facts) (hKernelMIdeal : Cert.KernelMIdeal.Facts) (hReferenceMIdeal : Cert.ReferenceMIdeal.Facts) (hKernelO : Cert.KernelO.Facts) (hKernelOIdeal : Cert.KernelOIdeal.Facts) (hReferenceOIdeal : Cert.ReferenceOIdeal.Facts) (hKernelK : Cert.KernelK.Facts) (hKernelKIdeal : Cert.KernelKIdeal.Facts) (hReferenceKIdeal : Cert.ReferenceKIdeal.Facts) (hKernelC : Cert.KernelC.Facts) (hKernelCIdeal : Cert.KernelCIdeal.Facts) (hReferenceCIdeal : Cert.ReferenceCIdeal.Facts) (hPre_finite_qk : Cert.Pre_finite_qk.Facts) (hPre_finite_qk_mla : Cert.Pre_finite_qk_mla.Facts) (hPre_finite_qk_mem : Cert.Pre_finite_qk_mem.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_KernelA (hKernelA := hKernelA)
    ∧ quiescent_KernelAIdeal (hKernelAIdeal := hKernelAIdeal)
    ∧ quiescent_KernelAIdeal_pre_finite_qk_mla (hKernelAIdeal := hKernelAIdeal) (hPre_finite_qk_mla := hPre_finite_qk_mla)
    ∧ quiescent_ReferenceAIdeal (hReferenceAIdeal := hReferenceAIdeal)
    ∧ quiescent_ReferenceAIdeal_pre_finite_qk_mla (hReferenceAIdeal := hReferenceAIdeal) (hPre_finite_qk_mla := hPre_finite_qk_mla)
    ∧ quiescent_KernelS (hKernelS := hKernelS)
    ∧ quiescent_KernelSIdeal (hKernelSIdeal := hKernelSIdeal)
    ∧ quiescent_ReferenceSIdeal (hReferenceSIdeal := hReferenceSIdeal)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelK (hKernelK := hKernelK)
    ∧ quiescent_KernelKIdeal (hKernelKIdeal := hKernelKIdeal)
    ∧ quiescent_ReferenceKIdeal (hReferenceKIdeal := hReferenceKIdeal)
    ∧ quiescent_KernelC (hKernelC := hKernelC)
    ∧ quiescent_KernelCIdeal (hKernelCIdeal := hKernelCIdeal)
    ∧ quiescent_KernelCIdeal_pre_finite_qk_mem (hKernelCIdeal := hKernelCIdeal) (hPre_finite_qk_mem := hPre_finite_qk_mem)
    ∧ quiescent_ReferenceCIdeal (hReferenceCIdeal := hReferenceCIdeal)
    ∧ quiescent_ReferenceCIdeal_pre_finite_qk_mem (hReferenceCIdeal := hReferenceCIdeal) (hPre_finite_qk_mem := hPre_finite_qk_mem)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_KernelA_KernelAIdeal
    ∧ algebraic_KernelAIdeal_ReferenceAIdeal_pre_finite_qk_mla (hKernelAIdeal := hKernelAIdeal) (hReferenceAIdeal := hReferenceAIdeal) (hPre_finite_qk_mla := hPre_finite_qk_mla)
    ∧ preserves_KernelS_KernelSIdeal
    ∧ algebraic_KernelSIdeal_ReferenceSIdeal (hKernelSIdeal := hKernelSIdeal) (hReferenceSIdeal := hReferenceSIdeal)
    ∧ preserves_KernelZ_KernelZIdeal
    ∧ algebraic_KernelZIdeal_ReferenceZIdeal (hKernelZIdeal := hKernelZIdeal) (hReferenceZIdeal := hReferenceZIdeal)
    ∧ preserves_KernelG_KernelGIdeal
    ∧ algebraic_KernelGIdeal_ReferenceGIdeal (hKernelGIdeal := hKernelGIdeal) (hReferenceGIdeal := hReferenceGIdeal)
    ∧ preserves_KernelM_KernelMIdeal
    ∧ algebraic_KernelMIdeal_ReferenceMIdeal (hKernelMIdeal := hKernelMIdeal) (hReferenceMIdeal := hReferenceMIdeal)
    ∧ preserves_KernelO_KernelOIdeal
    ∧ algebraic_KernelOIdeal_ReferenceOIdeal (hKernelOIdeal := hKernelOIdeal) (hReferenceOIdeal := hReferenceOIdeal)
    ∧ preserves_KernelK_KernelKIdeal
    ∧ algebraic_KernelKIdeal_ReferenceKIdeal (hKernelKIdeal := hKernelKIdeal) (hReferenceKIdeal := hReferenceKIdeal)
    ∧ preserves_KernelC_KernelCIdeal
    ∧ algebraic_KernelCIdeal_ReferenceCIdeal_pre_finite_qk_mem (hKernelCIdeal := hKernelCIdeal) (hReferenceCIdeal := hReferenceCIdeal) (hPre_finite_qk_mem := hPre_finite_qk_mem)
-- ==== Pre_finite_qk.lean ====
abbrev S32768x1024 : Shape := ⟨2, ![32768, 1024]⟩
abbrev S32768x256 : Shape := ⟨2, ![32768, 256]⟩
abbrev S32768x3072 : Shape := ⟨2, ![32768, 3072]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  bcast_S_S32768x256 : S_.BroadcastsInDim S32768x256 (![] : Fin 0 → Fin S32768x256.rank)

variable [Facts]

def fn {F : FTy → Type} [FloatOps F] (main_arg0 : FVec F S32768x1024 .bf16) (main_arg1 : FVec F S32768x256 .bf16) (main_arg2 : FVec F S32768x256 .bf16) (main_arg3 : FVec F S32768x3072 .bf16) : IVec S32768x1024 1 × IVec S32768x256 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S32768x256 .f32 := (extf .f32 · bitsLt_bf16_f32) main_arg1
  let main_v5 : FVec F S32768x256 .f32 := Host.absf main_v4
  let main_cst_0 : FVec F S_ .f32 := constant S_ .f32 0x7F800000#32
  let main_v6 : FVec F S32768x256 .f32 := broadcastInDim S32768x256 ![] bcast_S_S32768x256 main_cst_0
  let main_v7 : IVec S32768x256 1 := cmpf .olt main_v5 main_v6
  (main_v3, main_v7)
-- ==== Pre_finite_qk_mem.lean ====
abbrev S32768x1024 : Shape := ⟨2, ![32768, 1024]⟩
abbrev S2048x1024 : Shape := ⟨2, ![2048, 1024]⟩
abbrev S32768x3072 : Shape := ⟨2, ![32768, 3072]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  bcast_S_S2048x1024 : S_.BroadcastsInDim S2048x1024 (![] : Fin 0 → Fin S2048x1024.rank)

variable [Facts]

def fn {F : FTy → Type} [FloatOps F] (main_arg0 : FVec F S32768x1024 .bf16) (main_arg1 : FVec F S2048x1024 .bf16) (main_arg2 : FVec F S2048x1024 .bf16) (main_arg3 : FVec F S32768x3072 .bf16) : IVec S32768x1024 1 × IVec S2048x1024 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  (main_v3, main_v7)
-- ==== Pre_finite_qk_mla.lean ====
abbrev S32768x1536 : Shape := ⟨2, ![32768, 1536]⟩
abbrev S32768x1024 : Shape := ⟨2, ![32768, 1024]⟩
abbrev S32768x3072 : Shape := ⟨2, ![32768, 3072]⟩
abbrev S_ : Shape := ⟨0, ![]⟩

class Facts : Prop where
  bitsLt_bf16_f32 : FTy.bits .bf16 < FTy.bits .f32
  bcast_S_S32768x1536 : S_.BroadcastsInDim S32768x1536 (![] : Fin 0 → Fin S32768x1536.rank)

variable [Facts]

def fn {F : FTy → Type} [FloatOps F] (main_arg0 : FVec F S32768x1536 .bf16) (main_arg1 : FVec F S32768x1536 .bf16) (main_arg2 : FVec F S32768x1024 .bf16) (main_arg3 : FVec F S32768x3072 .bf16) : IVec S32768x1536 1 × IVec S32768x1536 1 :=
  let main_v0 : FVec F S32768x1536 .f32 := (extf .f32 · bitsLt_bf16_f32) main_arg0
  let main_v1 : FVec F S32768x1536 .f32 := Host.absf main_v0
  let main_cst : FVec F S_ .f32 := constant S_ .f32 0x7F800000#32
  let main_v2 : FVec F S32768x1536 .f32 := broadcastInDim S32768x1536 ![] bcast_S_S32768x1536 main_cst
  let main_v3 : IVec S32768x1536 1 := cmpf .olt main_v1 main_v2
  let main_v4 : FVec F S32768x1536 .f32 := (extf .f32 · bitsLt_bf16_f32) main_arg1
  let main_v5 : FVec F S32768x1536 .f32 := Host.absf main_v4
  let main_cst_0 : FVec F S_ .f32 := constant S_ .f32 0x7F800000#32
  let main_v6 : FVec F S32768x1536 .f32 := broadcastInDim S32768x1536 ![] bcast_S_S32768x1536 main_cst_0
  let main_v7 : IVec S32768x1536 1 := cmpf .olt main_v5 main_v6
  (main_v3, main_v7)
-- ==== Kernel.lean ====
abbrev S32768x1024 : Shape := ⟨2, ![32768, 1024]⟩
abbrev S32768x256 : Shape := ⟨2, ![32768, 256]⟩
abbrev S32768x3072 : Shape := ⟨2, ![32768, 3072]⟩
abbrev S256x32768 : Shape := ⟨2, ![256, 32768]⟩
abbrev S2x128x32768 : Shape := ⟨3, ![2, 128, 32768]⟩
abbrev S_ : Shape := ⟨0, ![]⟩
abbrev S2x16x32768 : Shape := ⟨3, ![2, 16, 32768]⟩
abbrev S2x144x32768 : Shape := ⟨3, ![2, 144, 32768]⟩
abbrev S288x32768 : Shape := ⟨2, ![288, 32768]⟩
abbrev S4096x128 : Shape := ⟨2, ![4096, 128]⟩
abbrev S512x128 : Shape := ⟨2, ![512, 128]⟩
abbrev S144x4096 : Shape := ⟨2, ![144, 4096]⟩
abbrev S4096x512 : Shape := ⟨2, ![4096, 512]⟩
abbrev S1x512 : Shape := ⟨2, ![1, 512]⟩
abbrev S512 : Shape := ⟨1, ![512]⟩
abbrev S144x512 : Shape := ⟨2, ![144, 512]⟩
abbrev S128x512 : Shape := ⟨2, ![128, 512]⟩

abbrev nBuf : Space → Nat
  | .hbm => 11
  | .vmem => 18
  | .smem => 0
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S32768x256, .bf16⟩
  | .hbm, ⟨3, _⟩ => ⟨S32768x3072, .bf16⟩
  | .hbm, ⟨4, _⟩ => ⟨S256x32768, .bf16⟩
  | .hbm, ⟨5, _⟩ => ⟨S2x128x32768, .bf16⟩
  | .hbm, ⟨6, _⟩ => ⟨S_, .bf16⟩
  | .hbm, ⟨7, _⟩ => ⟨S2x16x32768, .bf16⟩
  | .hbm, ⟨8, _⟩ => ⟨S2x144x32768, .bf16⟩
  | .hbm, ⟨9, _⟩ => ⟨S288x32768, .bf16⟩
  | .hbm, ⟨10, _⟩ => ⟨S32768x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S144x4096, .bf16⟩
  | .local _ .vmem, ⟨9, _⟩ => ⟨S144x4096, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x512, .f32⟩
  | .local _ .vmem, ⟨15, _⟩ => ⟨S4096x512, .f32⟩
  | .local _ .vmem, ⟨16, _⟩ => ⟨S1x512, .f32⟩
  | .local _ .vmem, ⟨17, _⟩ => ⟨S1x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_44 : BitVec 32 := 0#32
  c0_i32_44
@[reducible] def k0_t1_loop : Scf.Loop 32 :=
  let c0_i32_2 : BitVec 32 := 0#32
  let c3_i32 : BitVec 32 := 3#32
  let v5 : BitVec 32 := Scalar.addi c0_i32_2 c3_i32
  let c1_i32 : BitVec 32 := 1#32
  ⟨c0_i32_2, v5, c1_i32⟩
def k0_mult2 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v84 : BitVec 32 := Scalar.muli c2_i32 arg13
  let c1_i32_44 : BitVec 32 := 1#32
  let v85 : BitVec 32 := Scalar.addi v84 c1_i32_44
  let c512_i32 : BitVec 32 := 512#32
  let v86 : BitVec 32 := Scalar.muli v85 c512_i32
  v86
def k0_off1 (k0_t1 : Fin k0_t1_loop.trips) (c1_i32_44 : BitVec 32) : Fin 2 → Nat :=
  let c2_i32 : BitVec 32 := 2#32
  let c0_i32_2 : BitVec 32 := 0#32
  let c1_i32 : BitVec 32 := 1#32
  let arg13 : BitVec 32 := Scf.iv c0_i32_2 c1_i32 k0_t1
  let v84 : BitVec 32 := Scalar.muli c2_i32 arg13
  let v85 : BitVec 32 := Scalar.addi v84 c1_i32_44
  let c512_i32 : BitVec 32 := 512#32
  let v86 : BitVec 32 := Scalar.muli v85 c512_i32
  let v87 : BitVec 32 := v86
  let v88 : Index := Scalar.indexCast v87
  let c0_45 : Index := 0#32
  ![v88.toNat, 0]
def k0_mult3 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v84 : BitVec 32 := Scalar.muli c2_i32 arg13
  let c512_i32_62 : BitVec 32 := 512#32
  let v118 : BitVec 32 := Scalar.muli v84 c512_i32_62
  v118
def k0_off2 (k0_t1 : Fin k0_t1_loop.trips) : Fin 2 → Nat :=
  let c2_i32 : BitVec 32 := 2#32
  let c0_i32_2 : BitVec 32 := 0#32
  let c1_i32 : BitVec 32 := 1#32
  let arg13 : BitVec 32 := Scf.iv c0_i32_2 c1_i32 k0_t1
  let v84 : BitVec 32 := Scalar.muli c2_i32 arg13
  let c512_i32_62 : BitVec 32 := 512#32
  let v118 : BitVec 32 := Scalar.muli v84 c512_i32_62
  let v119 : BitVec 32 := v118
  let v120 : Index := Scalar.indexCast v119
  let c0_63 : Index := 0#32
  ![v120.toNat, 0]
def k0_mult4 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v84 : BitVec 32 := Scalar.muli c2_i32 arg13
  let c512_i32_64 : BitVec 32 := 512#32
  let v125 : BitVec 32 := Scalar.muli v84 c512_i32_64
  v125
def k0_mult5 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v84 : BitVec 32 := Scalar.muli c2_i32 arg13
  let c2_i32_66 : BitVec 32 := 2#32
  let v129 : BitVec 32 := Scalar.addi v84 c2_i32_66
  let c512_i32_67 : BitVec 32 := 512#32
  let v130 : BitVec 32 := Scalar.muli v129 c512_i32_67
  v130
def k0_mult6 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v84 : BitVec 32 := Scalar.muli c2_i32 arg13
  let c1_i32_78 : BitVec 32 := 1#32
  let v148 : BitVec 32 := Scalar.addi v84 c1_i32_78
  let c512_i32_86 : BitVec 32 := 512#32
  let v163 : BitVec 32 := Scalar.muli v148 c512_i32_86
  v163
def k0_mult7 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v84 : BitVec 32 := Scalar.muli c2_i32 arg13
  let c1_i32_78 : BitVec 32 := 1#32
  let v148 : BitVec 32 := Scalar.addi v84 c1_i32_78
  let c512_i32_88 : BitVec 32 := 512#32
  let v170 : BitVec 32 := Scalar.muli v148 c512_i32_88
  v170
def k0_mult8 : BitVec 32 :=
  let c3584_i32 : BitVec 32 := 3584#32
  c3584_i32
def k0_mult9 : BitVec 32 :=
  let c3072_i32 : BitVec 32 := 3072#32
  c3072_i32
def k0_mult10 : BitVec 32 :=
  let c3072_i32_20 : BitVec 32 := 3072#32
  c3072_i32_20
def k0_mult11 : BitVec 32 :=
  let c3584_i32_40 : BitVec 32 := 3584#32
  c3584_i32_40
def k0_mult12 : BitVec 32 :=
  let c3584_i32_42 : BitVec 32 := 3584#32
  c3584_i32_42
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi arg0 v17
  let c7_i32 : BitVec 32 := 7#32
  let v19 : BitVec 32 := Scalar.minsi v18 c7_i32
  let c1_i32_5 : BitVec 32 := 1#32
  let v20 : BitVec 32 := Scalar.addi arg1 c1_i32_5
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c8_i32_12 : BitVec 32 := 8#32
  let v31 : BitVec 32 := Scalar.muli v19 c8_i32_12
  let c0_i32_13 : BitVec 32 := 0#32
  ![v31.toNat, v30.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi arg0 v17
  let c7_i32 : BitVec 32 := 7#32
  let v19 : BitVec 32 := Scalar.minsi v18 c7_i32
  let c1_i32_5 : BitVec 32 := 1#32
  let v20 : BitVec 32 := Scalar.addi arg1 c1_i32_5
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4_i32 : BitVec 32 := 4#32
  let v31 : BitVec 32 := Scalar.divsi v30 c4_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c4_i32 c0_i32_14
  let v38 : BitVec 32 := Scalar.extui v37
  let c0_i32_15 : BitVec 32 := 0#32
  let v39 : BitVec 1 := Scalar.cmpi .slt c4_i32 c0_i32_15
  let v40 : BitVec 32 := Scalar.extui v39
  let v41 : BitVec 32 := Scalar.subi v38 v40
  let v42 : BitVec 1 := Scalar.cmpi .ne v36 v41
  let v43 : BitVec 32 := Scalar.remsi v30 c4_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c0_i32_18 : BitVec 32 := 0#32
  ![v19.toNat, v47.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S144x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "gqa_scale" => some (((Real.log 2)⁻¹ * (Real.sqrt 128)⁻¹ : ℝ) : EReal)
  | _ => none
-- ==== ReferenceIdeal.lean ====
abbrev S32768x1024 : Shape := ⟨2, ![32768, 1024]⟩
abbrev S32768x256 : Shape := ⟨2, ![32768, 256]⟩
abbrev S32768x3072 : Shape := ⟨2, ![32768, 3072]⟩
abbrev S8x4096x2x4x128 : Shape := ⟨5, ![8, 4096, 2, 4, 128]⟩
abbrev S8x4096x2x128 : Shape := ⟨4, ![8, 4096, 2, 128]⟩
abbrev S8x2x4096x4096x4 : Shape := ⟨5, ![8, 2, 4096, 4096, 4]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x256, .bf16⟩
  | .hbm, ⟨2, _⟩ => ⟨S32768x256, .bf16⟩
  | .hbm, ⟨3, _⟩ => ⟨S32768x3072, .bf16⟩
  | .hbm, ⟨4, _⟩ => ⟨S32768x1024, .f32⟩
  | .hbm, ⟨5, _⟩ => ⟨S8x4096x2x4x128, .f32⟩
  | .hbm, ⟨6, _⟩ => ⟨S32768x256, .f32⟩
  | .hbm, ⟨7, _⟩ => ⟨S8x4096x2x128, .f32⟩
  | .hbm, ⟨8, _⟩ => ⟨S32768x256, .f32⟩
  | .hbm, ⟨9, _⟩ => ⟨S8x4096x2x128, .f32⟩
  | .hbm, ⟨10, _⟩ => ⟨S8x2x4096x4096x4, .f32⟩
  | .hbm, ⟨11, _⟩ => ⟨S8x2x4x4096x4096, .f32⟩
  | .hbm, ⟨12, _⟩ => ⟨S_, .f32⟩
  | .hbm, ⟨13, _⟩ => ⟨S_, .f32⟩
  | .hbm, ⟨14, _⟩ => ⟨S8x2x4x4096x4096, .f32⟩
  | .hbm, ⟨15, _⟩ => ⟨S8x2x4x4096x4096, .f32⟩
  | .hbm, ⟨16, _⟩ => ⟨S_, .f32⟩
  | .hbm, ⟨17, _⟩ => ⟨S8x2x4x4096, .f32⟩
  | .hbm, ⟨18, _⟩ => ⟨S_, .f32⟩
  | .hbm, ⟨19, _⟩ => ⟨S8x2x4x4096, .f32⟩
  | .hbm, ⟨20, _⟩ => ⟨S8x2x4x4096, .f32⟩
  | .hbm, ⟨21, _⟩ => ⟨S8x2x4x4096x1, .f32⟩
  | .hbm, ⟨22, _⟩ => ⟨S8x2x4x4096x4096, .f32⟩
  | .hbm, ⟨23, _⟩ => ⟨S8x2x4x4096x4096, .f32⟩
  | .hbm, ⟨24, _⟩ => ⟨S8x2x4x4096x4096, .f32⟩
  | .hbm, ⟨25, _⟩ => ⟨S_, .f32⟩
  | .hbm, ⟨26, _⟩ => ⟨S8x2x4x4096, .f32⟩
  | .hbm, ⟨27, _⟩ => ⟨S8x2x4x4096x1, .f32⟩
  | .hbm, ⟨28, _⟩ => ⟨S8x2x4x4096x4096, .f32⟩
  | .hbm, ⟨29, _⟩ => ⟨S8x2x4x4096x4096, .f32⟩
  | .hbm, ⟨30, _⟩ => ⟨S8x2x128x4x4096, .f32⟩
  | .hbm, ⟨31, _⟩ => ⟨S8x4096x2x4x128, .f32⟩
  | .hbm, ⟨32, _⟩ => ⟨S32768x1024, .f32⟩
  | .hbm, ⟨33, _⟩ => ⟨S32768x1024, .bf16⟩
  | .hbm, ⟨34, _⟩ => ⟨S32768x1024, .f32⟩
  | .hbm, ⟨35, _⟩ => ⟨S32768x1024, .f32⟩
  | .hbm, ⟨36, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== KernelA.lean ====
abbrev S32768x1536 : Shape := ⟨2, ![32768, 1536]⟩
abbrev S32768x1024 : Shape := ⟨2, ![32768, 1024]⟩
abbrev S32768x3072 : Shape := ⟨2, ![32768, 3072]⟩
abbrev S_ : Shape := ⟨0, ![]⟩
abbrev S32768x8x64 : Shape := ⟨3, ![32768, 8, 64]⟩
abbrev S32768x8x192 : Shape := ⟨3, ![32768, 8, 192]⟩
abbrev S32768x8x256 : Shape := ⟨3, ![32768, 8, 256]⟩
abbrev S32768x2048 : Shape := ⟨2, ![32768, 2048]⟩
abbrev S1024x32768 : Shape := ⟨2, ![1024, 32768]⟩
abbrev S8x128x32768 : Shape := ⟨3, ![8, 128, 32768]⟩
abbrev S8x16x32768 : Shape := ⟨3, ![8, 16, 32768]⟩
abbrev S8x144x32768 : Shape := ⟨3, ![8, 144, 32768]⟩
abbrev S1152x32768 : Shape := ⟨2, ![1152, 32768]⟩
abbrev S4096x256 : Shape := ⟨2, ![4096, 256]⟩
abbrev S512x256 : Shape := ⟨2, ![512, 256]⟩
abbrev S144x4096 : Shape := ⟨2, ![144, 4096]⟩
abbrev S4096x128 : Shape := ⟨2, ![4096, 128]⟩
abbrev S4096x512 : Shape := ⟨2, ![4096, 512]⟩
abbrev S1x512 : Shape := ⟨2, ![1, 512]⟩
abbrev S512 : Shape := ⟨1, ![512]⟩
abbrev S144x512 : Shape := ⟨2, ![144, 512]⟩
abbrev S128x512 : Shape := ⟨2, ![128, 512]⟩
abbrev S512x128 : Shape := ⟨2, ![512, 128]⟩

abbrev nBuf : Space → Nat
  | .hbm => 19
  | .vmem => 18
  | .smem => 0
  | _ => 0

abbrev bufTy : (tb : Table) → Fin (tcTables nBuf tb) → BufTy
  | .hbm, ⟨0, _⟩ => ⟨S32768x1536, .bf16⟩
  | .hbm, ⟨1, _⟩ => ⟨S32768x1536, .bf16⟩
  | .hbm, ⟨2, _⟩ => ⟨S32768x1024, .bf16⟩
  | .hbm, ⟨3, _⟩ => ⟨S32768x3072, .bf16⟩
  | .hbm, ⟨4, _⟩ => ⟨S_, .bf16⟩
  | .hbm, ⟨5, _⟩ => ⟨S32768x8x64, .bf16⟩
  | .hbm, ⟨6, _⟩ => ⟨S32768x8x192, .bf16⟩
  | .hbm, ⟨7, _⟩ => ⟨S32768x8x256, .bf16⟩
  | .hbm, ⟨8, _⟩ => ⟨S32768x2048, .bf16⟩
  | .hbm, ⟨9, _⟩ => ⟨S32768x8x192, .bf16⟩
  | .hbm, ⟨10, _⟩ => ⟨S32768x8x256, .bf16⟩
  | .hbm, ⟨11, _⟩ => ⟨S32768x2048, .bf16⟩
  | .hbm, ⟨12, _⟩ => ⟨S1024x32768, .bf16⟩
  | .hbm, ⟨13, _⟩ => ⟨S8x128x32768, .bf16⟩
  | .hbm, ⟨14, _⟩ => ⟨S_, .bf16⟩
  | .hbm, ⟨15, _⟩ => ⟨S8x16x32768, .bf16⟩
  | .hbm, ⟨16, _⟩ => ⟨S8x144x32768, .bf16⟩
  | .hbm, ⟨17, _⟩ => ⟨S1152x32768, .bf16⟩
  | .hbm, ⟨18, _⟩ => ⟨S32768x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S512x256, .bf16⟩
  | .local _ .vmem, ⟨5, _⟩ => ⟨S512x256, .bf16⟩
  | .local _ .vmem, ⟨6, _⟩ => ⟨S4096x256, .bf16⟩
  | .local _ .vmem, ⟨7, _⟩ => ⟨S4096x256, .bf16⟩
  | .local _ .vmem, ⟨8, _⟩ => ⟨S144x4096, .bf16⟩
  | .local _ .vmem, ⟨9, _⟩ => ⟨S144x4096, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x512, .f32⟩
  | .local _ .vmem, ⟨15, _⟩ => ⟨S4096x512, .f32⟩
  | .local _ .vmem, ⟨16, _⟩ => ⟨S1x512, .f32⟩
  | .local _ .vmem, ⟨17, _⟩ => ⟨S1x512, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_44 : BitVec 32 := 0#32
  c0_i32_44
@[reducible] def k0_t1_loop : Scf.Loop 32 :=
  let c0_i32_2 : BitVec 32 := 0#32
  let c3_i32 : BitVec 32 := 3#32
  let v5 : BitVec 32 := Scalar.addi c0_i32_2 c3_i32
  let c1_i32 : BitVec 32 := 1#32
  ⟨c0_i32_2, v5, c1_i32⟩
def k0_mult2 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v88 : BitVec 32 := Scalar.muli c2_i32 arg13
  let c1_i32_44 : BitVec 32 := 1#32
  let v89 : BitVec 32 := Scalar.addi v88 c1_i32_44
  let c512_i32 : BitVec 32 := 512#32
  let v90 : BitVec 32 := Scalar.muli v89 c512_i32
  v90
def k0_off1 (k0_t1 : Fin k0_t1_loop.trips) (c1_i32_44 : BitVec 32) : Fin 2 → Nat :=
  let c2_i32 : BitVec 32 := 2#32
  let c0_i32_2 : BitVec 32 := 0#32
  let c1_i32 : BitVec 32 := 1#32
  let arg13 : BitVec 32 := Scf.iv c0_i32_2 c1_i32 k0_t1
  let v88 : BitVec 32 := Scalar.muli c2_i32 arg13
  let v89 : BitVec 32 := Scalar.addi v88 c1_i32_44
  let c512_i32 : BitVec 32 := 512#32
  let v90 : BitVec 32 := Scalar.muli v89 c512_i32
  let v91 : BitVec 32 := v90
  let v92 : Index := Scalar.indexCast v91
  let c0_45 : Index := 0#32
  ![v92.toNat, 0]
def k0_mult3 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v88 : BitVec 32 := Scalar.muli c2_i32 arg13
  let c512_i32_62 : BitVec 32 := 512#32
  let v124 : BitVec 32 := Scalar.muli v88 c512_i32_62
  v124
def k0_off2 (k0_t1 : Fin k0_t1_loop.trips) : Fin 2 → Nat :=
  let c2_i32 : BitVec 32 := 2#32
  let c0_i32_2 : BitVec 32 := 0#32
  let c1_i32 : BitVec 32 := 1#32
  let arg13 : BitVec 32 := Scf.iv c0_i32_2 c1_i32 k0_t1
  let v88 : BitVec 32 := Scalar.muli c2_i32 arg13
  let c512_i32_62 : BitVec 32 := 512#32
  let v124 : BitVec 32 := Scalar.muli v88 c512_i32_62
  let v125 : BitVec 32 := v124
  let v126 : Index := Scalar.indexCast v125
  let c0_63 : Index := 0#32
  ![v126.toNat, 0]
def k0_mult4 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v88 : BitVec 32 := Scalar.muli c2_i32 arg13
  let c512_i32_64 : BitVec 32 := 512#32
  let v131 : BitVec 32 := Scalar.muli v88 c512_i32_64
  v131
def k0_mult5 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v88 : BitVec 32 := Scalar.muli c2_i32 arg13
  let c2_i32_66 : BitVec 32 := 2#32
  let v135 : BitVec 32 := Scalar.addi v88 c2_i32_66
  let c512_i32_67 : BitVec 32 := 512#32
  let v136 : BitVec 32 := Scalar.muli v135 c512_i32_67
  v136
def k0_mult6 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v88 : BitVec 32 := Scalar.muli c2_i32 arg13
  let c1_i32_78 : BitVec 32 := 1#32
  let v156 : BitVec 32 := Scalar.addi v88 c1_i32_78
  let c512_i32_86 : BitVec 32 := 512#32
  let v171 : BitVec 32 := Scalar.muli v156 c512_i32_86
  v171
def k0_off3 (k0_t1 : Fin k0_t1_loop.trips) : Fin 2 → Nat :=
  let c2_i32 : BitVec 32 := 2#32
  let c0_i32_2 : BitVec 32 := 0#32
  let c1_i32 : BitVec 32 := 1#32
  let arg13 : BitVec 32 := Scf.iv c0_i32_2 c1_i32 k0_t1
  let v88 : BitVec 32 := Scalar.muli c2_i32 arg13
  let c1_i32_78 : BitVec 32 := 1#32
  let v156 : BitVec 32 := Scalar.addi v88 c1_i32_78
  let c512_i32_86 : BitVec 32 := 512#32
  let v171 : BitVec 32 := Scalar.muli v156 c512_i32_86
  let v172 : BitVec 32 := v171
  let v173 : Index := Scalar.indexCast v172
  let c0_87 : Index := 0#32
  ![v173.toNat, 0]
def k0_mult7 (k0_t1 : Fin k0_t1_loop.trips) : BitVec 32 :=
  let c2_i32 : BitVec 32 := 2#32
  let c0_i32_2 : BitVec 32 := 0#32
  let c1_i32 : BitVec 32 := 1#32
  let arg13 : BitVec 32 := Scf.iv c0_i32_2 c1_i32 k0_t1
  let v88 : BitVec 32 := Scalar.muli c2_i32 arg13
  let c1_i32_78 : BitVec 32 := 1#32
  let v156 : BitVec 32 := Scalar.addi v88 c1_i32_78
  let c512_i32_88 : BitVec 32 := 512#32
  let v178 : BitVec 32 := Scalar.muli v156 c512_i32_88
  v178
def k0_mult8 : BitVec 32 :=
  let c3584_i32 : BitVec 32 := 3584#32
  c3584_i32
def k0_mult9 : BitVec 32 :=
  let c3072_i32 : BitVec 32 := 3072#32
  c3072_i32
def k0_mult10 : BitVec 32 :=
  let c3072_i32_20 : BitVec 32 := 3072#32
  c3072_i32_20
def k0_mult11 : BitVec 32 :=
  let c3584_i32_40 : BitVec 32 := 3584#32
  c3584_i32_40
def k0_mult12 : BitVec 32 :=
  let c3584_i32_42 : BitVec 32 := 3584#32
  c3584_i32_42
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi arg0 v17
  let c7_i32 : BitVec 32 := 7#32
  let v19 : BitVec 32 := Scalar.minsi v18 c7_i32
  let c1_i32_5 : BitVec 32 := 1#32
  let v20 : BitVec 32 := Scalar.addi arg1 c1_i32_5
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c8_i32_12 : BitVec 32 := 8#32
  let v31 : BitVec 32 := Scalar.muli v19 c8_i32_12
  let c0_i32_13 : BitVec 32 := 0#32
  ![v31.toNat, v30.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi arg0 v17
  let c7_i32 : BitVec 32 := 7#32
  let v19 : BitVec 32 := Scalar.minsi v18 c7_i32
  let c1_i32_5 : BitVec 32 := 1#32
  let v20 : BitVec 32 := Scalar.addi arg1 c1_i32_5
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.divsi v30 c1_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c1_i32_12 c0_i32_15
  let v38 : BitVec 32 := Scalar.extui v37
  let c0_i32_16 : BitVec 32 := 0#32
  let v39 : BitVec 1 := Scalar.cmpi .slt c1_i32_12 c0_i32_16
  let v40 : BitVec 32 := Scalar.extui v39
  let v41 : BitVec 32 := Scalar.subi v38 v40
  let v42 : BitVec 1 := Scalar.cmpi .ne v36 v41
  let v43 : BitVec 32 := Scalar.remsi v30 c1_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c0_i32_19 : BitVec 32 := 0#32
  ![v19.toNat, v47.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![v16.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S144x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelAIdeal.lean ====
variable {F : FTy → Type} [FloatOps F] [Named F]
def κ : String → Option EReal := fun
  | "mla_scale" => some (((Real.log 2)⁻¹ * (Real.sqrt 192)⁻¹ : ℝ) : EReal)
  | _ => none
-- ==== ReferenceAIdeal.lean ====
abbrev S32768x1536 : Shape := ⟨2, ![32768, 1536]⟩
abbrev S32768x1024 : Shape := ⟨2, ![32768, 1024]⟩
abbrev S32768x3072 : Shape := ⟨2, ![32768, 3072]⟩
abbrev S8x4096x8x192 : Shape := ⟨4, ![8, 4096, 8, 192]⟩
abbrev S8x4096x8x128 : Shape := ⟨4, ![8, 4096, 8, 128]⟩
abbrev S8x8x4096x4096 : Shape := ⟨4, ![8, 8, 4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩

abbrev nBuf : Space → Nat
  | .hbm => 36
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x1536, .bf16⟩
  | .hbm, ⟨2, _⟩ => ⟨S32768x1024, .bf16⟩
  | .hbm, ⟨3, _⟩ => ⟨S32768x3072, .bf16⟩
  | .hbm, ⟨4, _⟩ => ⟨S32768x1536, .f32⟩
  | .hbm, ⟨5, _⟩ => ⟨S8x4096x8x192, .f32⟩
  | .hbm, ⟨6, _⟩ => ⟨S32768x1536, .f32⟩
  | .hbm, ⟨7, _⟩ => ⟨S8x4096x8x192, .f32⟩
  | .hbm, ⟨8, _⟩ => ⟨S32768x1024, .f32⟩
  | .hbm, ⟨9, _⟩ => ⟨S8x4096x8x128, .f32⟩
  | .hbm, ⟨10, _⟩ => ⟨S8x8x4096x4096, .f32⟩
  | .hbm, ⟨11, _⟩ => ⟨S_, .f32⟩
  | .hbm, ⟨12, _⟩ => ⟨S_, .f32⟩
  | .hbm, ⟨13, _⟩ => ⟨S8x8x4096x4096, .f32⟩
  | .hbm, ⟨14, _⟩ => ⟨S8x8x4096x4096, .f32⟩
  | .hbm, ⟨15, _⟩ => ⟨S_, .f32⟩
  | .hbm, ⟨16, _⟩ => ⟨S8x8x4096, .f32⟩
  | .hbm, ⟨17, _⟩ => ⟨S_, .f32⟩
  | .hbm, ⟨18, _⟩ => ⟨S8x8x4096, .f32⟩
  | .hbm, ⟨19, _⟩ => ⟨S8x8x4096, .f32⟩
  | .hbm, ⟨20, _⟩ => ⟨S8x8x4096x1, .f32⟩
  | .hbm, ⟨21, _⟩ => ⟨S8x8x4096x4096, .f32⟩
  | .hbm, ⟨22, _⟩ => ⟨S8x8x4096x4096, .f32⟩
  | .hbm, ⟨23, _⟩ => ⟨S8x8x4096x4096, .f32⟩
  | .hbm, ⟨24, _⟩ => ⟨S_, .f32⟩
  | .hbm, ⟨25, _⟩ => ⟨S8x8x4096, .f32⟩
  | .hbm, ⟨26, _⟩ => ⟨S8x8x4096x1, .f32⟩
  | .hbm, ⟨27, _⟩ => ⟨S8x8x4096x4096, .f32⟩
  | .hbm, ⟨28, _⟩ => ⟨S8x8x4096x4096, .f32⟩
  | .hbm, ⟨29, _⟩ => ⟨S8x8x128x4096, .f32⟩
  | .hbm, ⟨30, _⟩ => ⟨S8x4096x8x128, .f32⟩
  | .hbm, ⟨31, _⟩ => ⟨S32768x1024, .f32⟩
  | .hbm, ⟨32, _⟩ => ⟨S32768x1024, .bf16⟩
  | .hbm, ⟨33, _⟩ => ⟨S32768x1024, .f32⟩
  | .hbm, ⟨34, _⟩ => ⟨S32768x1024, .f32⟩
  | .hbm, ⟨35, _⟩ => ⟨S32768x1024, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== KernelS.lean ====
abbrev S32768x2048 : Shape := ⟨2, ![32768, 2048]⟩
abbrev S1x2048 : Shape := ⟨2, ![1, 2048]⟩
abbrev S2048x3456 : Shape := ⟨2, ![2048, 3456]⟩
abbrev S256x2048 : Shape := ⟨2, ![256, 2048]⟩
abbrev S1x512 : Shape := ⟨2, ![1, 512]⟩
abbrev S512x2048 : Shape := ⟨2, ![512, 2048]⟩
abbrev S1x256 : Shape := ⟨2, ![1, 256]⟩
abbrev S256x1024 : Shape := ⟨2, ![256, 1024]⟩
abbrev S1024x256 : Shape := ⟨2, ![1024, 256]⟩
abbrev S1x128 : Shape := ⟨2, ![1, 128]⟩
abbrev S4096x128 : Shape := ⟨2, ![4096, 128]⟩
abbrev S1152x32768 : Shape := ⟨2, ![1152, 32768]⟩
abbrev S32768x1024 : Shape := ⟨2, ![32768, 1024]⟩
abbrev S32768x256 : Shape := ⟨2, ![32768, 256]⟩
abbrev S288x32768 : Shape := ⟨2, ![288, 32768]⟩
abbrev S512x128 : Shape := ⟨2, ![512, 128]⟩
abbrev S1152x512 : Shape := ⟨2, ![1152, 512]⟩
abbrev S512x1024 : Shape := ⟨2, ![512, 1024]⟩
abbrev S512x256 : Shape := ⟨2, ![512, 256]⟩
abbrev S288x512 : Shape := ⟨2, ![288, 512]⟩
abbrev S512 : Shape := ⟨1, ![512]⟩
abbrev S512x1 : Shape := ⟨2, ![512, 1]⟩
abbrev S512x3456 : Shape := ⟨2, ![512, 3456]⟩
abbrev S16x512 : Shape := ⟨2, ![16, 512]⟩
abbrev S512x512 : Shape := ⟨2, ![512, 512]⟩
abbrev S1024x512 : Shape := ⟨2, ![1024, 512]⟩
abbrev S128x512 : Shape := ⟨2, ![128, 512]⟩
abbrev S256x512 : Shape := ⟨2, ![256, 512]⟩

abbrev nBuf : Space → Nat
  | .hbm => 23
  | .vmem => 36
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x3456, .bf16⟩
  | .hbm, ⟨3, _⟩ => ⟨S256x2048, .bf16⟩
  | .hbm, ⟨4, _⟩ => ⟨S1x512, .f32⟩
  | .hbm, ⟨5, _⟩ => ⟨S512x2048, .bf16⟩
  | .hbm, ⟨6, _⟩ => ⟨S1x256, .f32⟩
  | .hbm, ⟨7, _⟩ => ⟨S256x1024, .bf16⟩
  | .hbm, ⟨8, _⟩ => ⟨S1024x256, .bf16⟩
  | .hbm, ⟨9, _⟩ => ⟨S1x128, .f32⟩
  | .hbm, ⟨10, _⟩ => ⟨S1x128, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S32768x2048, .bf16⟩
  | .hbm, ⟨16, _⟩ => ⟨S32768x2048, .bf16⟩
  | .hbm, ⟨17, _⟩ => ⟨S32768x2048, .bf16⟩
  | .hbm, ⟨18, _⟩ => ⟨S1152x32768, .bf16⟩
  | .hbm, ⟨19, _⟩ => ⟨S32768x1024, .bf16⟩
  | .hbm, ⟨20, _⟩ => ⟨S32768x256, .bf16⟩
  | .hbm, ⟨21, _⟩ => ⟨S288x32768, .bf16⟩
  | .hbm, ⟨22, _⟩ => ⟨S32768x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3456, .bf16⟩
  | .local _ .vmem, ⟨4, _⟩ => ⟨S256x2048, .bf16⟩
  | .local _ .vmem, ⟨5, _⟩ => ⟨S1x512, .f32⟩
  | .local _ .vmem, ⟨6, _⟩ => ⟨S512x2048, .bf16⟩
  | .local _ .vmem, ⟨7, _⟩ => ⟨S1x256, .f32⟩
  | .local _ .vmem, ⟨8, _⟩ => ⟨S256x1024, .bf16⟩
  | .local _ .vmem, ⟨9, _⟩ => ⟨S1024x256, .bf16⟩
  | .local _ .vmem, ⟨10, _⟩ => ⟨S1x128, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S1152x512, .bf16⟩
  | .local _ .vmem, ⟨27, _⟩ => ⟨S1152x512, .bf16⟩
  | .local _ .vmem, ⟨28, _⟩ => ⟨S512x1024, .bf16⟩
  | .local _ .vmem, ⟨29, _⟩ => ⟨S512x1024, .bf16⟩
  | .local _ .vmem, ⟨30, _⟩ => ⟨S512x256, .bf16⟩
  | .local _ .vmem, ⟨31, _⟩ => ⟨S512x256, .bf16⟩
  | .local _ .vmem, ⟨32, _⟩ => ⟨S288x512, .bf16⟩
  | .local _ .vmem, ⟨33, _⟩ => ⟨S288x512, .bf16⟩
  | .local _ .vmem, ⟨34, _⟩ => ⟨S512x1024, .bf16⟩
  | .local _ .vmem, ⟨35, _⟩ => ⟨S512x1024, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1152x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S288x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceSIdeal.lean ====
abbrev S32768x2048 : Shape := ⟨2, ![32768, 2048]⟩
abbrev S1x2048 : Shape := ⟨2, ![1, 2048]⟩
abbrev S2048x3456 : Shape := ⟨2, ![2048, 3456]⟩
abbrev S256x2048 : Shape := ⟨2, ![256, 2048]⟩
abbrev S1x512 : Shape := ⟨2, ![1, 512]⟩
abbrev S512x2048 : Shape := ⟨2, ![512, 2048]⟩
abbrev S1x256 : Shape := ⟨2, ![1, 256]⟩
abbrev S256x1024 : Shape := ⟨2, ![256, 1024]⟩
abbrev S1024x256 : Shape := ⟨2, ![1024, 256]⟩
abbrev S1x128 : Shape := ⟨2, ![1, 128]⟩
abbrev S4096x128 : Shape := ⟨2, ![4096, 128]⟩
abbrev S_ : Shape := ⟨0, ![]⟩
abbrev S32768 : Shape := ⟨1, ![32768]⟩
abbrev S32768x1 : Shape := ⟨2, ![32768, 1]⟩
abbrev S32768x3456 : Shape := ⟨2, ![32768, 3456]⟩
abbrev S32768x512 : Shape := ⟨2, ![32768, 512]⟩
abbrev S32768x256 : Shape := ⟨2, ![32768, 256]⟩
abbrev S32768x128 : Shape := ⟨2, ![32768, 128]⟩
abbrev S32768x1024 : Shape := ⟨2, ![32768, 1024]⟩
abbrev S32768x8x256 : Shape := ⟨3, ![32768, 8, 256]⟩
abbrev S32768x8x128 : Shape := ⟨3, ![32768, 8, 128]⟩
abbrev S32768x32x2x16 : Shape := ⟨4, ![32768, 32, 2, 16]⟩
abbrev S32768x32x1x16 : Shape := ⟨4, ![32768, 32, 1, 16]⟩
abbrev S1x4096x128 : Shape := ⟨3, ![1, 4096, 128]⟩
abbrev S8x4096x128 : Shape := ⟨3, ![8, 4096, 128]⟩
abbrev S32768x1x128 : Shape := ⟨3, ![32768, 1, 128]⟩
abbrev S32768x4x2x16 : Shape := ⟨4, ![32768, 4, 2, 16]⟩
abbrev S32768x4x1x16 : Shape := ⟨4, ![32768, 4, 1, 16]⟩
abbrev S32768x8 : Shape := ⟨2, ![32768, 8]⟩
abbrev S32768x8x1 : Shape := ⟨3, ![32768, 8, 1]⟩
abbrev S1x1x128 : Shape := ⟨3, ![1, 1, 128]⟩
abbrev S32768x16x2x32 : Shape := ⟨4, ![32768, 16, 2, 32]⟩
abbrev S32768x16x1x32 : Shape := ⟨4, ![32768, 16, 1, 32]⟩
abbrev S32768x2x128 : Shape := ⟨3, ![32768, 2, 128]⟩
abbrev S32768x2 : Shape := ⟨2, ![32768, 2]⟩
abbrev S32768x2x1 : Shape := ⟨3, ![32768, 2, 1]⟩
abbrev S32768x4x2x32 : Shape := ⟨4, ![32768, 4, 2, 32]⟩
abbrev S32768x4x1x32 : Shape := ⟨4, ![32768, 4, 1, 32]⟩
abbrev S2048x256 : Shape := ⟨2, ![2048, 256]⟩
abbrev S1024x32768 : Shape := ⟨2, ![1024, 32768]⟩
abbrev S8x128x32768 : Shape := ⟨3, ![8, 128, 32768]⟩
abbrev S8x16x32768 : Shape := ⟨3, ![8, 16, 32768]⟩
abbrev S8x144x32768 : Shape := ⟨3, ![8, 144, 32768]⟩
abbrev S1152x32768 : Shape := ⟨2, ![1152, 32768]⟩
abbrev S256x32768 : Shape := ⟨2, ![256, 32768]⟩
abbrev S2x128x32768 : Shape := ⟨3, ![2, 128, 32768]⟩
abbrev S2x16x32768 : Shape := ⟨3, ![2, 16, 32768]⟩
abbrev S2x144x32768 : Shape := ⟨3, ![2, 144, 32768]⟩
abbrev S288x32768 : Shape := ⟨2, ![288, 32768]⟩

abbrev nBuf : Space → Nat
  | .hbm => 207
  | .vmem => 0
  | .smem => 0
  | _ => 0

abbrev hbmTy0_0 (i : Nat) : BufTy := match i % 128 with
  | 0 => ⟨S32768x2048, .f32⟩
  | 1 => ⟨S1x2048, .f32⟩
  | 2 => ⟨S2048x3456, .bf16⟩
  | 3 => ⟨S256x2048, .bf16⟩
  | 4 => ⟨S1x512, .f32⟩
  | 5 => ⟨S512x2048, .bf16⟩
  | 6 => ⟨S1x256, .f32⟩
  | 7 => ⟨S256x1024, .bf16⟩
  | 8 => ⟨S1024x256, .bf16⟩
  | 9 => ⟨S1x128, .f32⟩
  | 10 => ⟨S1x128, .f32⟩
  | 11 => ⟨S4096x128, .f32⟩
  | 12 => ⟨S4096x128, .f32⟩
  | 13 => ⟨S4096x128, .f32⟩
  | 14 => ⟨S4096x128, .f32⟩
  | 15 => ⟨S32768x2048, .f32⟩
  | 16 => ⟨S_, .f32⟩
  | 17 => ⟨S32768, .f32⟩
  | 18 => ⟨S32768x1, .f32⟩
  | 19 => ⟨S_, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x2048, .f32⟩
  | 27 => ⟨S32768x2048, .f32⟩
  | 28 => ⟨S32768x2048, .f32⟩
  | 29 => ⟨S32768x2048, .f32⟩
  | 30 => ⟨S32768x2048, .bf16⟩
  | 31 => ⟨S32768x2048, .f32⟩
  | 32 => ⟨S2048x3456, .f32⟩
  | 33 => ⟨S32768x3456, .f32⟩
  | 34 => ⟨S32768x512, .f32⟩
  | 35 => ⟨S32768x256, .f32⟩
  | 36 => ⟨S32768x128, .f32⟩
  | 37 => ⟨S32768x1024, .f32⟩
  | 38 => ⟨S32768x256, .f32⟩
  | 39 => ⟨S32768x1024, .f32⟩
  | 40 => ⟨S32768x512, .f32⟩
  | 41 => ⟨S_, .f32⟩
  | 42 => ⟨S32768, .f32⟩
  | 43 => ⟨S32768x1, .f32⟩
  | 44 => ⟨S_, .f32⟩
  | 45 => ⟨S32768x1, .f32⟩
  | 46 => ⟨S32768x1, .f32⟩
  | 47 => ⟨S_, .f32⟩
  | 48 => ⟨S32768x1, .f32⟩
  | 49 => ⟨S32768x1, .f32⟩
  | 50 => ⟨S32768x1, .f32⟩
  | 51 => ⟨S32768x512, .f32⟩
  | 52 => ⟨S32768x512, .f32⟩
  | 53 => ⟨S32768x512, .f32⟩
  | 54 => ⟨S32768x512, .f32⟩
  | 55 => ⟨S512x2048, .f32⟩
  | 56 => ⟨S32768x2048, .f32⟩
  | 57 => ⟨S32768x8x256, .f32⟩
  | 58 => ⟨S32768x8x128, .f32⟩
  | 59 => ⟨S32768x32x2x16, .f32⟩
  | 60 => ⟨S32768x32x1x16, .f32⟩
  | 61 => ⟨S32768x32x1x16, .f32⟩
  | 62 => ⟨S32768x32x2x16, .f32⟩
  | 63 => ⟨S32768x8x128, .f32⟩
  | 64 => ⟨S1x4096x128, .f32⟩
  | 65 => ⟨S8x4096x128, .f32⟩
  | 66 => ⟨S32768x1x128, .f32⟩
  | 67 => ⟨S1x4096x128, .f32⟩
  | 68 => ⟨S8x4096x128, .f32⟩
  | 69 => ⟨S32768x1x128, .f32⟩
  | 70 => ⟨S32768x8x128, .f32⟩
  | 71 => ⟨S32768x8x128, .f32⟩
  | 72 => ⟨S32768x8x128, .f32⟩
  | 73 => ⟨S32768x8x128, .f32⟩
  | 74 => ⟨S32768x8x128, .f32⟩
  | 75 => ⟨S32768x8x128, .f32⟩
  | 76 => ⟨S32768x8x256, .f32⟩
  | 77 => ⟨S32768x2048, .f32⟩
  | 78 => ⟨S32768x256, .f32⟩
  | 79 => ⟨S_, .f32⟩
  | 80 => ⟨S32768, .f32⟩
  | 81 => ⟨S32768x1, .f32⟩
  | 82 => ⟨S_, .f32⟩
  | 83 => ⟨S32768x1, .f32⟩
  | 84 => ⟨S32768x1, .f32⟩
  | 85 => ⟨S_, .f32⟩
  | 86 => ⟨S32768x1, .f32⟩
  | 87 => ⟨S32768x1, .f32⟩
  | 88 => ⟨S32768x1, .f32⟩
  | 89 => ⟨S32768x256, .f32⟩
  | 90 => ⟨S32768x256, .f32⟩
  | 91 => ⟨S32768x256, .f32⟩
  | 92 => ⟨S32768x256, .f32⟩
  | 93 => ⟨S256x1024, .f32⟩
  | 94 => ⟨S32768x1024, .f32⟩
  | 95 => ⟨S32768x8x128, .f32⟩
  | 96 => ⟨S32768x1x128, .f32⟩
  | 97 => ⟨S32768x4x2x16, .f32⟩
  | 98 => ⟨S32768x4x1x16, .f32⟩
  | 99 => ⟨S32768x4x1x16, .f32⟩
  | 100 => ⟨S32768x4x2x16, .f32⟩
  | 101 => ⟨S32768x1x128, .f32⟩
  | 102 => ⟨S1x4096x128, .f32⟩
  | 103 => ⟨S8x4096x128, .f32⟩
  | 104 => ⟨S32768x1x128, .f32⟩
  | 105 => ⟨S1x4096x128, .f32⟩
  | 106 => ⟨S8x4096x128, .f32⟩
  | 107 => ⟨S32768x1x128, .f32⟩
  | 108 => ⟨S32768x1x128, .f32⟩
  | 109 => ⟨S32768x1x128, .f32⟩
  | 110 => ⟨S32768x1x128, .f32⟩
  | 111 => ⟨S32768x8x128, .f32⟩
  | 112 => ⟨S32768x8x256, .f32⟩
  | 113 => ⟨S32768x2048, .f32⟩
  | 114 => ⟨S1024x256, .f32⟩
  | 115 => ⟨S256x1024, .f32⟩
  | 116 => ⟨S32768x1024, .f32⟩
  | 117 => ⟨S32768x8x128, .f32⟩
  | 118 => ⟨S32768x8x128, .f32⟩
  | 119 => ⟨S_, .f32⟩
  | 120 => ⟨S32768x8, .f32⟩
  | 121 => ⟨S32768x8x1, .f32⟩
  | 122 => ⟨S_, .f32⟩
  | 123 => ⟨S32768x8x1, .f32⟩
  | 124 => ⟨S32768x8x1, .f32⟩
  | 125 => ⟨S_, .f32⟩
  | 126 => ⟨S32768x8x1, .f32⟩
  | 127 => ⟨S32768x8x1, .f32⟩
  | _ => ⟨S32768x2048, .f32⟩

abbrev hbmTy0_1 (i : Nat) : BufTy := match i % 128 with
  | 0 => ⟨S32768x8x1, .f32⟩
  | 1 => ⟨S32768x8x128, .f32⟩
  | 2 => ⟨S32768x8x128, .f32⟩
  | 3 => ⟨S1x1x128, .f32⟩
  | 4 => ⟨S32768x8x128, .f32⟩
  | 5 => ⟨S32768x8x128, .f32⟩
  | 6 => ⟨S32768x16x2x32, .f32⟩
  | 7 => ⟨S32768x16x1x32, .f32⟩
  | 8 => ⟨S32768x16x1x32, .f32⟩
  | 9 => ⟨S32768x16x2x32, .f32⟩
  | 10 => ⟨S32768x8x128, .f32⟩
  | 11 => ⟨S1x4096x128, .f32⟩
  | 12 => ⟨S8x4096x128, .f32⟩
  | 13 => ⟨S32768x1x128, .f32⟩
  | 14 => ⟨S1x4096x128, .f32⟩
  | 15 => ⟨S8x4096x128, .f32⟩
  | 16 => ⟨S32768x1x128, .f32⟩
  | 17 => ⟨S32768x8x128, .f32⟩
  | 18 => ⟨S32768x8x128, .f32⟩
  | 19 => ⟨S32768x8x128, .f32⟩
  | 20 => ⟨S32768x8x128, .f32⟩
  | 21 => ⟨S32768x8x128, .f32⟩
  | 22 => ⟨S32768x2x128, .f32⟩
  | 23 => ⟨S32768x2x128, .f32⟩
  | 24 => ⟨S_, .f32⟩
  | 25 => ⟨S32768x2, .f32⟩
  | 26 => ⟨S32768x2x1, .f32⟩
  | 27 => ⟨S_, .f32⟩
  | 28 => ⟨S32768x2x1, .f32⟩
  | 29 => ⟨S32768x2x1, .f32⟩
  | 30 => ⟨S_, .f32⟩
  | 31 => ⟨S32768x2x1, .f32⟩
  | 32 => ⟨S32768x2x1, .f32⟩
  | 33 => ⟨S32768x2x1, .f32⟩
  | 34 => ⟨S32768x2x128, .f32⟩
  | 35 => ⟨S32768x2x128, .f32⟩
  | 36 => ⟨S1x1x128, .f32⟩
  | 37 => ⟨S32768x2x128, .f32⟩
  | 38 => ⟨S32768x2x128, .f32⟩
  | 39 => ⟨S32768x4x2x32, .f32⟩
  | 40 => ⟨S32768x4x1x32, .f32⟩
  | 41 => ⟨S32768x4x1x32, .f32⟩
  | 42 => ⟨S32768x4x2x32, .f32⟩
  | 43 => ⟨S32768x2x128, .f32⟩
  | 44 => ⟨S1x4096x128, .f32⟩
  | 45 => ⟨S8x4096x128, .f32⟩
  | 46 => ⟨S32768x1x128, .f32⟩
  | 47 => ⟨S1x4096x128, .f32⟩
  | 48 => ⟨S8x4096x128, .f32⟩
  | 49 => ⟨S32768x1x128, .f32⟩
  | 50 => ⟨S32768x2x128, .f32⟩
  | 51 => ⟨S32768x2x128, .f32⟩
  | 52 => ⟨S32768x2x128, .f32⟩
  | 53 => ⟨S32768x2x128, .f32⟩
  | 54 => ⟨S32768x2x128, .f32⟩
  | 55 => ⟨S256x2048, .f32⟩
  | 56 => ⟨S2048x256, .f32⟩
  | 57 => ⟨S32768x256, .f32⟩
  | 58 => ⟨S32768x2048, .bf16⟩
  | 59 => ⟨S32768x2048, .bf16⟩
  | 60 => ⟨S1024x32768, .f32⟩
  | 61 => ⟨S8x128x32768, .f32⟩
  | 62 => ⟨S_, .f32⟩
  | 63 => ⟨S8x16x32768, .f32⟩
  | 64 => ⟨S8x144x32768, .f32⟩
  | 65 => ⟨S1152x32768, .f32⟩
  | 66 => ⟨S1152x32768, .bf16⟩
  | 67 => ⟨S32768x1024, .f32⟩
  | 68 => ⟨S32768x1024, .bf16⟩
  | 69 => ⟨S32768x256, .f32⟩
  | 70 => ⟨S32768x256, .bf16⟩
  | 71 => ⟨S256x32768, .f32⟩
  | 72 => ⟨S2x128x32768, .f32⟩
  | 73 => ⟨S_, .f32⟩
  | 74 => ⟨S2x16x32768, .f32⟩
  | 75 => ⟨S2x144x32768, .f32⟩
  | 76 => ⟨S288x32768, .f32⟩
  | 77 => ⟨S288x32768, .bf16⟩
  | 78 => ⟨S32768x1024, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_8 : Ref sig .tc := ⟨.hbm, 119, rfl⟩
abbrev main_v95 : Ref sig .tc := ⟨.hbm, 120, rfl⟩
abbrev main_v96 : Ref sig .tc := ⟨.hbm, 121, rfl⟩
abbrev main_cst_9 : Ref sig .tc := ⟨.hbm, 122, rfl⟩
abbrev main_v97 : Ref sig .tc := ⟨.hbm, 123, rfl⟩
abbrev main_v98 : Ref sig .tc := ⟨.hbm, 124, rfl⟩
abbrev main_cst_10 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_11 : Ref sig .tc := ⟨.hbm, 152, rfl⟩
abbrev main_v125 : Ref sig .tc := ⟨.hbm, 153, rfl⟩
abbrev main_v126 : Ref sig .tc := ⟨.hbm, 154, rfl⟩
abbrev main_cst_12 : Ref sig .tc := ⟨.hbm, 155, rfl⟩
abbrev main_v127 : Ref sig .tc := ⟨.hbm, 156, rfl⟩
abbrev main_v128 : Ref sig .tc := ⟨.hbm, 157, rfl⟩
abbrev main_cst_13 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_cst_14 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_cst_15 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩

abbrev nD : Nat := 1
abbrev τ : Topo := Topo.v7x

variable {F : FTy → Type} [FloatOps F]
-- ==== KernelZ.lean ====
abbrev S32768x2048 : Shape := ⟨2, ![32768, 2048]⟩
abbrev S2048x3072 : Shape := ⟨2, ![2048, 3072]⟩
abbrev S32768x3072 : Shape := ⟨2, ![32768, 3072]⟩
abbrev S1024x2048 : Shape := ⟨2, ![1024, 2048]⟩
abbrev S2048x1536 : Shape := ⟨2, ![2048, 1536]⟩
abbrev S1024x1536 : Shape := ⟨2, ![1024, 1536]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .bf16⟩
  | .hbm, ⟨2, _⟩ => ⟨S32768x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZIdeal.lean ====
abbrev S32768x2048 : Shape := ⟨2, ![32768, 2048]⟩
abbrev S2048x3072 : Shape := ⟨2, ![2048, 3072]⟩
abbrev S32768x3072 : Shape := ⟨2, ![32768, 3072]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x3072, .bf16⟩
  | .hbm, ⟨2, _⟩ => ⟨S32768x2048, .f32⟩
  | .hbm, ⟨3, _⟩ => ⟨S2048x3072, .f32⟩
  | .hbm, ⟨4, _⟩ => ⟨S32768x3072, .f32⟩
  | .hbm, ⟨5, _⟩ => ⟨S32768x3072, .f32⟩
  | .hbm, ⟨6, _⟩ => ⟨S32768x3072, .f32⟩
  | .hbm, ⟨7, _⟩ => ⟨S_, .f32⟩
  | .hbm, ⟨8, _⟩ => ⟨S32768x3072, .f32⟩
  | .hbm, ⟨9, _⟩ => ⟨S32768x3072, .f32⟩
  | .hbm, ⟨10, _⟩ => ⟨S_, .f32⟩
  | .hbm, ⟨11, _⟩ => ⟨S32768x3072, .f32⟩
  | .hbm, ⟨12, _⟩ => ⟨S32768x3072, .f32⟩
  | .hbm, ⟨13, _⟩ => ⟨S32768x3072, .f32⟩
  | .hbm, ⟨14, _⟩ => ⟨S32768x3072, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== KernelG.lean ====
abbrev S32768x2048 : Shape := ⟨2, ![32768, 2048]⟩
abbrev S2048x6144 : Shape := ⟨2, ![2048, 6144]⟩
abbrev S32768x6144 : Shape := ⟨2, ![32768, 6144]⟩
abbrev S1024x2048 : Shape := ⟨2, ![1024, 2048]⟩
abbrev S2048x1536 : Shape := ⟨2, ![2048, 1536]⟩
abbrev S1024x1536 : Shape := ⟨2, ![1024, 1536]⟩
abbrev S2048x256 : Shape := ⟨2, ![2048, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .bf16⟩
  | .hbm, ⟨2, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGIdeal.lean ====
abbrev S32768x2048 : Shape := ⟨2, ![32768, 2048]⟩
abbrev S2048x6144 : Shape := ⟨2, ![2048, 6144]⟩
abbrev S32768x6144 : Shape := ⟨2, ![32768, 6144]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .bf16⟩
  | .hbm, ⟨2, _⟩ => ⟨S32768x2048, .f32⟩
  | .hbm, ⟨3, _⟩ => ⟨S2048x6144, .f32⟩
  | .hbm, ⟨4, _⟩ => ⟨S32768x6144, .f32⟩
  | .hbm, ⟨5, _⟩ => ⟨S32768x6144, .f32⟩
  | .hbm, ⟨6, _⟩ => ⟨S32768x6144, .f32⟩
  | .hbm, ⟨7, _⟩ => ⟨S_, .f32⟩
  | .hbm, ⟨8, _⟩ => ⟨S32768x6144, .f32⟩
  | .hbm, ⟨9, _⟩ => ⟨S32768x6144, .f32⟩
  | .hbm, ⟨10, _⟩ => ⟨S_, .f32⟩
  | .hbm, ⟨11, _⟩ => ⟨S32768x6144, .f32⟩
  | .hbm, ⟨12, _⟩ => ⟨S32768x6144, .f32⟩
  | .hbm, ⟨13, _⟩ => ⟨S32768x6144, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelM.lean ====
abbrev S32768x1024 : Shape := ⟨2, ![32768, 1024]⟩
abbrev S32768x6144 : Shape := ⟨2, ![32768, 6144]⟩
abbrev S3x1024x2048 : Shape := ⟨3, ![3, 1024, 2048]⟩
abbrev S32768x2048 : Shape := ⟨2, ![32768, 2048]⟩
abbrev S512x1024 : Shape := ⟨2, ![512, 1024]⟩
abbrev S512x6144 : Shape := ⟨2, ![512, 6144]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 6
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x6144, .bf16⟩
  | .hbm, ⟨4, _⟩ => ⟨S3x1024x2048, .bf16⟩
  | .hbm, ⟨5, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x6144, .bf16⟩
  | .local _ .vmem, ⟨7, _⟩ => ⟨S512x6144, .bf16⟩
  | .local _ .vmem, ⟨8, _⟩ => ⟨S3x1024x2048, .bf16⟩
  | .local _ .vmem, ⟨9, _⟩ => ⟨S512x2048, .bf16⟩
  | .local _ .vmem, ⟨10, _⟩ => ⟨S512x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceMIdeal.lean ====
abbrev S32768x1024 : Shape := ⟨2, ![32768, 1024]⟩
abbrev S32768x6144 : Shape := ⟨2, ![32768, 6144]⟩
abbrev S3x1024x2048 : Shape := ⟨3, ![3, 1024, 2048]⟩
abbrev S32768x3x2048 : Shape := ⟨3, ![32768, 3, 2048]⟩
abbrev S1x32768x1024 : Shape := ⟨3, ![1, 32768, 1024]⟩
abbrev S3x32768x1024 : Shape := ⟨3, ![3, 32768, 1024]⟩
abbrev S3x2048x32768 : Shape := ⟨3, ![3, 2048, 32768]⟩
abbrev S_ : Shape := ⟨0, ![]⟩
abbrev S32768x2048 : Shape := ⟨2, ![32768, 2048]⟩

abbrev nBuf : Space → Nat
  | .hbm => 19
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x6144, .bf16⟩
  | .hbm, ⟨4, _⟩ => ⟨S3x1024x2048, .bf16⟩
  | .hbm, ⟨5, _⟩ => ⟨S32768x6144, .f32⟩
  | .hbm, ⟨6, _⟩ => ⟨S32768x3x2048, .f32⟩
  | .hbm, ⟨7, _⟩ => ⟨S1x32768x1024, .bf16⟩
  | .hbm, ⟨8, _⟩ => ⟨S1x32768x1024, .bf16⟩
  | .hbm, ⟨9, _⟩ => ⟨S1x32768x1024, .bf16⟩
  | .hbm, ⟨10, _⟩ => ⟨S3x32768x1024, .bf16⟩
  | .hbm, ⟨11, _⟩ => ⟨S3x32768x1024, .f32⟩
  | .hbm, ⟨12, _⟩ => ⟨S3x1024x2048, .f32⟩
  | .hbm, ⟨13, _⟩ => ⟨S3x2048x32768, .f32⟩
  | .hbm, ⟨14, _⟩ => ⟨S32768x3x2048, .f32⟩
  | .hbm, ⟨15, _⟩ => ⟨S32768x3x2048, .f32⟩
  | .hbm, ⟨16, _⟩ => ⟨S_, .f32⟩
  | .hbm, ⟨17, _⟩ => ⟨S32768x2048, .f32⟩
  | .hbm, ⟨18, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== KernelO.lean ====
abbrev S32768x2048 : Shape := ⟨2, ![32768, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x2048, .bf16⟩
  | .hbm, ⟨3, _⟩ => ⟨S1x2048, .f32⟩
  | .hbm, ⟨4, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceOIdeal.lean ====
abbrev S32768x2048 : Shape := ⟨2, ![32768, 2048]⟩
abbrev S2048x2048 : Shape := ⟨2, ![2048, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x2048, .bf16⟩
  | .hbm, ⟨3, _⟩ => ⟨S1x2048, .f32⟩
  | .hbm, ⟨4, _⟩ => ⟨S32768x2048, .f32⟩
  | .hbm, ⟨5, _⟩ => ⟨S2048x2048, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelK.lean ====
abbrev S2048x2048 : Shape := ⟨2, ![2048, 2048]⟩
abbrev S1x2048 : Shape := ⟨2, ![1, 2048]⟩
abbrev S2048x1024 : Shape := ⟨2, ![2048, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x1024, .bf16⟩
  | .hbm, ⟨4, _⟩ => ⟨S2048x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceKIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x1024, .f32⟩
  | .hbm, ⟨21, _⟩ => ⟨S2048x1024, .bf16⟩
  | .hbm, ⟨22, _⟩ => ⟨S2048x1024, .f32⟩
  | .hbm, ⟨23, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== KernelC.lean ====
abbrev S32768x1024 : Shape := ⟨2, ![32768, 1024]⟩
abbrev S2048x1024 : Shape := ⟨2, ![2048, 1024]⟩
abbrev S32768x3072 : Shape := ⟨2, ![32768, 3072]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S2048x1024, .bf16⟩
  | .hbm, ⟨2, _⟩ => ⟨S2048x1024, .bf16⟩
  | .hbm, ⟨3, _⟩ => ⟨S32768x3072, .bf16⟩
  | .hbm, ⟨4, _⟩ => ⟨S32768x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelCIdeal.lean ====
variable {F : FTy → Type} [FloatOps F] [Named F]
def κ : String → Option EReal := fun
  | "mem_scale" => some (((Real.log 2)⁻¹ * (Real.sqrt 256)⁻¹ : ℝ) : EReal)
  | _ => none
-- ==== ReferenceCIdeal.lean ====
abbrev S32768x1024 : Shape := ⟨2, ![32768, 1024]⟩
abbrev S2048x1024 : Shape := ⟨2, ![2048, 1024]⟩
abbrev S32768x3072 : Shape := ⟨2, ![32768, 3072]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S2048x1024, .bf16⟩
  | .hbm, ⟨2, _⟩ => ⟨S2048x1024, .bf16⟩
  | .hbm, ⟨3, _⟩ => ⟨S32768x3072, .bf16⟩
  | .hbm, ⟨4, _⟩ => ⟨S32768x1024, .f32⟩
  | .hbm, ⟨5, _⟩ => ⟨S8x4096x4x256, .f32⟩
  | .hbm, ⟨6, _⟩ => ⟨S2048x1024, .f32⟩
  | .hbm, ⟨7, _⟩ => ⟨S8x256x4x256, .f32⟩
  | .hbm, ⟨8, _⟩ => ⟨S2048x1024, .f32⟩
  | .hbm, ⟨9, _⟩ => ⟨S8x256x4x256, .f32⟩
  | .hbm, ⟨10, _⟩ => ⟨S8x4x4096x256, .f32⟩
  | .hbm, ⟨11, _⟩ => ⟨S_, .f32⟩
  | .hbm, ⟨12, _⟩ => ⟨S_, .f32⟩
  | .hbm, ⟨13, _⟩ => ⟨S8x4x4096x256, .f32⟩
  | .hbm, ⟨14, _⟩ => ⟨S8x4x4096x256, .f32⟩
  | .hbm, ⟨15, _⟩ => ⟨S_, .f32⟩
  | .hbm, ⟨16, _⟩ => ⟨S8x4x4096, .f32⟩
  | .hbm, ⟨17, _⟩ => ⟨S_, .f32⟩
  | .hbm, ⟨18, _⟩ => ⟨S8x4x4096, .f32⟩
  | .hbm, ⟨19, _⟩ => ⟨S8x4x4096, .f32⟩
  | .hbm, ⟨20, _⟩ => ⟨S8x4x4096x1, .f32⟩
  | .hbm, ⟨21, _⟩ => ⟨S8x4x4096x256, .f32⟩
  | .hbm, ⟨22, _⟩ => ⟨S8x4x4096x256, .f32⟩
  | .hbm, ⟨23, _⟩ => ⟨S8x4x4096x256, .f32⟩
  | .hbm, ⟨24, _⟩ => ⟨S_, .f32⟩
  | .hbm, ⟨25, _⟩ => ⟨S8x4x4096, .f32⟩
  | .hbm, ⟨26, _⟩ => ⟨S8x4x4096x1, .f32⟩
  | .hbm, ⟨27, _⟩ => ⟨S8x4x4096x256, .f32⟩
  | .hbm, ⟨28, _⟩ => ⟨S8x4x4096x256, .f32⟩
  | .hbm, ⟨29, _⟩ => ⟨S8x4x256x4096, .f32⟩
  | .hbm, ⟨30, _⟩ => ⟨S8x4096x4x256, .f32⟩
  | .hbm, ⟨31, _⟩ => ⟨S32768x1024, .f32⟩
  | .hbm, ⟨32, _⟩ => ⟨S32768x1024, .bf16⟩
  | .hbm, ⟨33, _⟩ => ⟨S32768x1024, .f32⟩
  | .hbm, ⟨34, _⟩ => ⟨S32768x1024, .f32⟩
  | .hbm, ⟨35, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Whole.lean ====
/- Buffers that are stored to as a whole: only the last such store is seen. -/
module

public import Idealize.ShloMosaic.Lib.Pipeline.FrameBody
public import Idealize.ShloMosaic.Lib.Pipeline.Value
public import Idealize.ShloMosaic.Lib.Pipeline.ValueKit
public import Idealize.ShloMosaic.Lib.Tactic

@[expose] public section

noncomputable section

namespace Cert.Whole

open Idealize.ShloMosaic Idealize.ShloMosaic.TcCoe

variable {sig : RefSig} {Val : EltTy → Type} [∀ e, Inhabited (Val e)]

/-- A buffer read after a store to all of it holds what was stored. -/
theorem read_over {S : Shape} {e : EltTy} {sp : Space} (v : View sig .tc sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩)]
  exact View.canon_cons_unit_zero h inb w L

/-- A load of the whole buffer after a store to all of it reads what was stored. -/
theorem cov_over {S : Shape} {e : EltTy} {sp : Space} (v : View sig .tc sp S e)
    {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w :=
  (View.ld_unit_zero h inb _).trans (read_over v v.junk h inb w L)

/-- Two lists of stores that read the same leave a whole buffer the same. -/
theorem same {S : Shape} {e : EltTy} {sp : Space} (M : Memref sig .tc sp S e) (hM : M.IsWhole) (f : M.view.ty.Contents Val)
    (L L' : List (View.Piece Val S e)) (h : M.view.read Val (M.view.writes Val f L) = M.view.read Val (M.view.writes Val f L')) :
    M.view.writes Val f L = M.view.writes Val f L' :=
  (hM.eq_unread h).trans (hM.eq_unread rfl).symm

/-- What was stored before a store to the whole buffer may be left out. -/
theorem last {S : Shape} {e : EltTy} {sp : Space} (M : Memref sig .tc sp S e) (hM : M.IsWhole) (f : M.view.ty.Contents Val)
    {off : Fin S.rank → Nat} (h : off = fun _ => 0) (inb : ∀ a, off a + S.size a ≤ S.size a) (w : S.Idx → Val e)
    (L : List (View.Piece Val S e)) :
    M.view.writes Val f ((⟨Rect.unit off S.size inb, w⟩ : View.Piece Val S e) :: L)
      = M.view.writes Val f [(⟨Rect.unit off S.size inb, w⟩ : View.Piece Val S e)] :=
  same M hM f _ _ ((read_over _ _ h _ _ _).trans (read_over _ _ h _ _ _).symm)

end Cert.Whole
end
-- ==== Proof.PlainRunA.lean ====
/- The run of the body of `Kernel` in one case of its branch, with the budget that this body needs. -/
module

public import proofs.«01_k».proof.Proof.Gen.Kernel.Frame.Runs
public import proofs.«01_k».proof.Proof.Whole

@[expose] public section

-- membership in a rectangle of production extents (`View.cover_of_tiled`): the elaborator's structural look
-- recurses once per coordinate of the long axes
set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_A (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) :
    Σ' (LS0 : List (View.Piece (Elt F) S4096x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0_attn_gqa i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_attn_gqa_eq_skeleton]; unfold cc0_attn_gqa_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    rw [Cert.Whole.last arg9 harg9 _ (by decide) inb_S4096x512_S4096x512_0_0, Cert.Whole.last arg11 harg11 _ (by decide) inb_S1x512_S1x512_0_0]
    isplitl [HS0]; · iexists _; iexact HS0
    isplitl [HS1]
    · iexists _, _; isplitr; swap; · iexact HS1
      ipureintro; rfl
    isplitl [HS2]; · iexists _; iexact HS2
    iexists _, _; isplitr; swap; · iexact HS3
    ipureintro; rfl

end Cert.Kernel.Own

end
-- ==== Proof.PlainRunB.lean ====
/- The run of the body of `Kernel` in one case of its branch, with the budget that this body needs. -/
module

public import proofs.«01_k».proof.Proof.Gen.Kernel.Frame.Runs
public import proofs.«01_k».proof.Proof.Whole

@[expose] public section

-- membership in a rectangle of production extents (`View.cover_of_tiled`): the elaborator's structural look
-- recurses once per coordinate of the long axes
set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_B (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) :
    Σ' (LS0 : List (View.Piece (Elt F) S4096x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0_attn_gqa i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_attn_gqa_eq_skeleton]; unfold cc0_attn_gqa_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg11.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    rw [Cert.Whole.last arg9 harg9 _ (by decide) inb_S4096x512_S4096x512_0_0, Cert.Whole.last arg11 harg11 _ (by decide) inb_S1x512_S1x512_0_0]
    isplitl [HS0]; · iexists _; iexact HS0
    isplitl [HS1]
    · iexists _, _; isplitr; swap; · iexact HS1
      ipureintro; rfl
    isplitl [HS2]; · iexists _; iexact HS2
    iexists _, _; isplitr; swap; · iexact HS3
    ipureintro; rfl

end Cert.Kernel.Own

end
-- ==== Proof.PlainFrame.lean ====
/- The frame of `Kernel` over the runs of `PlainRunA` and `PlainRunB`. -/
module

public import proofs.«01_k».proof.Proof.PlainRunA
public import proofs.«01_k».proof.Proof.PlainRunB
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 5 pieces of `S4096x512` tiling it (Lib/Ring.lean `Piece.tiledL`). -/
theorem scover0_A_0 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (y : S4096x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).1 S4096x512.size (by sl_kernel_rfl) y

/-- What case A leaves in scratch `arg9`: its pieces read back over junk. -/
def sout0_A_0 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) : Vec F S4096x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5).1)

/-- Case A's pieces for scratch `arg11`, which the kernel carries between points, cover it: 5 pieces of `S1x512` tiling it (Lib/Ring.lean `Piece.tiledL`). -/
theorem scover0_A_2 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.1 S1x512.size (by sl_kernel_rfl) y

/-- What case A leaves in scratch `arg11`: its pieces read back over junk. -/
def sout0_A_2 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) : Vec F S1x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.1)

/-- Case B's pieces for scratch `arg9`, which the kernel carries between points, cover it: 4 pieces of `S4096x512` tiling it (Lib/Ring.lean `Piece.tiledL`). -/
theorem scover0_B_0 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) (y : S4096x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1 S4096x512.size (by sl_kernel_rfl) y

/-- What case B leaves in scratch `arg9`: its pieces read back over junk. -/
def sout0_B_0 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) : Vec F S4096x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1)

/-- Case B's pieces for scratch `arg11`, which the kernel carries between points, cover it: 4 pieces of `S1x512` tiling it (Lib/Ring.lean `Piece.tiledL`). -/
theorem scover0_B_2 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1 S1x512.size (by sl_kernel_rfl) y

/-- What case B leaves in scratch `arg11`: its pieces read back over junk. -/
def sout0_B_2 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) : Vec F S1x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4096x512 .f32 × Vec F S1x512 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 64 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 64 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ (∃ d, owns (c : Thread nD τ) scM0_1 fullShare d) ∗ owns (c : Thread nD τ) scM0_2 fullShare ((outsAt0 m c n hn).2) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ owns (c : Thread nD τ) scM0_2 fullShare ((outsAt0 m c n hn).2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ owns (c : Thread nD τ) scM0_2 fullShare ((outsAt0 m c (n - 1) (by omega)).2) ∗ (∃ d, owns (c : Thread nD τ) scM0_3 fullShare d)) ∗ (∃ r, prngReg c r)) := by
  cases n with
  | zero => exact absurd rfl hz
  | succ n => rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold sout0_A_0 sout0_A_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, HS1, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          isplitl [HS1]
          · iexact HS1
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold sout0_B_0 sout0_B_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, HS1, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          isplitl [HS1]
          · iexact HS1
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged whenever the windows over them are given as inputs, whatever is said of the
    forgotten output. -/
theorem args_of (rd : (c : Dev nD) → Pipeline.RDat τ (Elt F) Unit ℕ (UR sig nD τ) ℕ (cfgs 0) c)
    (hA : ∀ c w, (rd c).A w = V m c (Pipeline.arrRef spec0 w))
    (h : θ_run defs (onTc (τ := τ) (main (F := F))) (s₀ m ρ) (Pipeline.RDat.FramePost (cfgs 0) rd (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    have e2 := Pipeline.RDat.FramePost.arr_in h c 2 rfl
    have e3 := Pipeline.RDat.FramePost.arr_in h c 3 rfl
    have e5 := Pipeline.RDat.FramePost.arr_in h c 5 rfl
    exact ⟨e2.trans ((hA c 2).trans (V_main_arg0 m c)), e3.trans ((hA c 3).trans (V_main_arg1 m c)),
      ((h c).2 main_arg2 (Pipeline.mem_restRefs_of main_arg2 (by decide) (by decide))).trans (V_main_arg2 m c),
      e5.trans ((hA c 5).trans (V_main_arg3 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Own

end
-- ==== Proof.GqaTrip.lean ====
module

public import proofs.«01_k».proof.Proof.Gen.KernelIdeal.Loops
public import proofs.«01_k».proof.Proof.Gen.KernelIdeal
public import Idealize.ShloMosaic.Lib.Pipeline.FrameBody
public import Idealize.ShloMosaic.Lib.Pipeline.Value
public import Idealize.ShloMosaic.Lib.Pipeline.ValueKit

@[expose] public section

set_option maxRecDepth 16384
set_option maxHeartbeats 1000000

noncomputable section

namespace Cert.KernelIdeal.Attn

open Idealize.ShloMosaic Idealize.ShloMosaic.TcCoe Idealize.ShloMosaic.Tactic Cert.KernelIdeal Cert.KernelIdeal.Gen
variable {F : FTy → Type} [FloatOps F] [Named F]

/-- The scores of one block of queries against all keys, keys down the rows. -/
abbrev sc (q : Vec F S512x128 .bf16) (k : Vec F S4096x128 .bf16) : Vec F S4096x512 .f32 := k0_pay3 q k

/-- The largest score of each query of the block. -/
abbrev mx (q : Vec F S512x128 .bf16) (k : Vec F S4096x128 .bf16) : Vec F S1x512 .f32 := k0_pay4 q k

/-- What the kernel makes of a block's scores: weights, weighted values, the quotient, the gate. -/
abbrev fin (s : Vec F S4096x512 .f32) (m : Vec F S1x512 .f32) (vt : Vec F S144x4096 .bf16) (sz : Vec F S512x128 .bf16) :
    Vec F S512x128 .bf16 := k0_pay6 (k0_pay5 s m vt) sz

/-- Rows `512 t …` of a block of 4096 rows. -/
def rows (x : Vec F S4096x128 .bf16) (t : Nat) : Vec F S512x128 .bf16 :=
  fun j => x (ix2 (Fin.ofNat 4096 (512 * t + (j 0).val)) (j 1))

/-- The scores that query block `t` of a head is finished from: of the first block those that were made before
    (`s`), of the others its own. -/
def scAt (s : Vec F S4096x512 .f32) (q k : Vec F S4096x128 .bf16) (t : Nat) : Vec F S4096x512 .f32 :=
  if t = 0 then s else sc (rows q t) k

/-- The largest scores that query block `t` of a head is finished from. -/
def mxAt (m : Vec F S1x512 .f32) (q k : Vec F S4096x128 .bf16) (t : Nat) : Vec F S1x512 .f32 :=
  if t = 0 then m else mx (rows q t) k

theorem scAt_own (q k : Vec F S4096x128 .bf16) (t : Nat) : scAt (sc (rows q 0) k) q k t = sc (rows q t) k := by
  unfold scAt; split <;> rename_i h
  · rw [h]
  · rfl

theorem mxAt_own (q k : Vec F S4096x128 .bf16) (t : Nat) : mxAt (mx (rows q 0) k) q k t = mx (rows q t) k := by
  unfold mxAt; split <;> rename_i h
  · rw [h]
  · rfl

/-- The output block of one head: each group of 512 rows is the finished block of its queries. -/
def blk (s : Vec F S4096x512 .f32) (m : Vec F S1x512 .f32) (q k : Vec F S4096x128 .bf16) (vt : Vec F S144x4096 .bf16)
    (sz : Vec F S4096x128 .bf16) : Vec F S4096x128 .bf16 :=
  fun y => fin (scAt s q k ((y 0).val / 512)) (mxAt m q k ((y 0).val / 512)) vt (rows sz ((y 0).val / 512))
    (ix2 (Fin.ofNat 512 (y 0).val) (y 1))

theorem hz : (![0, 0] : Fin 2 → Nat) = fun _ => 0 := funext fun a => by fin_cases a <;> rfl

theorem ld_rows (x : Vec F S4096x128 .bf16) (off : Fin 2 → Nat) (t : Nat) (ht : t < 8) (h : off = ![512 * t, 0])
    (inb : ∀ a, off a + S512x128.size a ≤ S4096x128.size a) :
    View.ld x (Rect.unit (s := S4096x128) off S512x128.size inb) = rows x t := by
  subst h
  funext j
  show x _ = x _
  congr 1
  funext a
  apply Fin.ext
  have h0 : (j 0).val < 512 := (j 0).isLt
  match a with
  | 0 => show 512 * t + 1 * (j 0).val = (512 * t + (j 0).val) % 4096; omega
  | 1 => show 0 + 1 * (j 1).val = (j 1).val; omega

theorem piece_blk (s : Vec F S4096x512 .f32) (m : Vec F S1x512 .f32) (q k : Vec F S4096x128 .bf16) (vt : Vec F S144x4096 .bf16) (sz : Vec F S4096x128 .bf16)
    (off : Fin 2 → Nat) (t : Nat) (h : off = ![512 * t, 0])
    (inb : ∀ a, off a + S512x128.size a ≤ S4096x128.size a) (w : Vec F S512x128 .bf16)
    (hw : w = fin (scAt s q k t) (mxAt m q k t) vt (rows sz t)) (x : S512x128.Idx) :
    w x = blk s m q k vt sz ((Rect.unit (s := S4096x128) off S512x128.size inb).emb x) := by
  subst h hw
  have h0 : (x 0).val < 512 := (x 0).isLt
  have e0 : (((Rect.unit (s := S4096x128) ![512 * t, 0] S512x128.size inb).emb x) 0).val = 512 * t + (x 0).val := by
    show 512 * t + 1 * (x 0).val = _; omega
  have e1 : (((Rect.unit (s := S4096x128) ![512 * t, 0] S512x128.size inb).emb x) 1).val = (x 1).val := by
    show 0 + 1 * (x 1).val = _; omega
  unfold blk
  rw [e0, show (512 * t + (x 0).val) / 512 = t by omega]
  congr 1
  funext a
  apply Fin.ext
  match a with
  | 0 => show (x 0).val = (512 * t + (x 0).val) % 512; omega
  | 1 => exact e1.symm

theorem off1_eq (k : Fin k0_t1_loop.trips) : k0_off1 k 1#32 = ![512 * (2 * k.val + 1), 0] := by
  revert k; decide +kernel
theorem off1_eq' (k : Fin k0_t1_loop.trips) : k0_off1 k 2#32 = ![512 * (2 * k.val + 2), 0] := by
  revert k; decide +kernel
theorem off2_eq (k : Fin k0_t1_loop.trips) : k0_off2 k = ![512 * (2 * k.val), 0] := by
  revert k; decide +kernel
theorem trips_eq : k0_t1_loop.trips = 3 := by decide +kernel

section Loop
variable (𝒱 : Variants) (c : Dev nD) (bd : Option 𝒱.V) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S144x4096 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x512 .f32) (harg9 : arg9.IsWhole)
  (arg10 : Memref sig .tc .vmem S4096x512 .f32) (harg10 : arg10.IsWhole)
  (arg11 : Memref sig .tc .vmem S1x512 .f32) (harg11 : arg11.IsWhole)
  (arg12 : Memref sig .tc .vmem S1x512 .f32) (harg12 : arg12.IsWhole)
  (X2 : BufTy.Contents (Elt F) arg2.view.ty) (X3 : BufTy.Contents (Elt F) arg3.view.ty) (X6 : BufTy.Contents (Elt F) arg6.view.ty) (X7 : BufTy.Contents (Elt F) arg7.view.ty)

/-- The pieces one trip of the loop writes: two output blocks and the two score slots. -/
theorem tripL_eq (k : Fin k0_t1_loop.trips) (f8 : BufTy.Contents (Elt F) arg8.view.ty) (f9 : BufTy.Contents (Elt F) arg9.view.ty)
    (f10 : BufTy.Contents (Elt F) arg10.view.ty) (f11 : BufTy.Contents (Elt F) arg11.view.ty) (f12 : BufTy.Contents (Elt F) arg12.view.ty) :
    tripL_k0_t1 (F := F) 𝒱 c bd i arg2 harg2 arg3 harg3 arg4 harg4 arg5 harg5 arg6 harg6 arg7 harg7 arg8 harg8 arg9 harg9 arg10 harg10 arg11 harg11 arg12 harg12 X2 X3 X6 X7 k f8 f9 f10 f11 f12
      = ([⟨Rect.unit (k0_off1 k 1#32) S512x128.size (k0_off1_inb k 0),
            fin (sc (rows (arg2.view.read (Elt F) X2) (2 * k.val + 1)) (arg3.view.read (Elt F) X3)) (mx (rows (arg2.view.read (Elt F) X2) (2 * k.val + 1)) (arg3.view.read (Elt F) X3)) (arg6.view.read (Elt F) X6) (rows (arg7.view.read (Elt F) X7) (2 * k.val + 1))⟩,
          ⟨Rect.unit (k0_off2 k) S512x128.size (k0_off2_inb k),
            fin (arg9.view.read (Elt F) f9) (arg11.view.read (Elt F) f11) (arg6.view.read (Elt F) X6) (rows (arg7.view.read (Elt F) X7) (2 * k.val))⟩],
         [⟨Rect.unit ![0, 0] S4096x512.size inb_S4096x512_S4096x512_0_0, sc (rows (arg2.view.read (Elt F) X2) (2 * k.val + 2)) (arg3.view.read (Elt F) X3)⟩],
         [⟨Rect.unit ![0, 0] S4096x512.size inb_S4096x512_S4096x512_0_0, sc (rows (arg2.view.read (Elt F) X2) (2 * k.val + 1)) (arg3.view.read (Elt F) X3)⟩],
         [⟨Rect.unit ![0, 0] S1x512.size inb_S1x512_S1x512_0_0, mx (rows (arg2.view.read (Elt F) X2) (2 * k.val + 2)) (arg3.view.read (Elt F) X3)⟩],
         [⟨Rect.unit ![0, 0] S1x512.size inb_S1x512_S1x512_0_0, mx (rows (arg2.view.read (Elt F) X2) (2 * k.val + 1)) (arg3.view.read (Elt F) X3)⟩]) := by
  have hk : k.val < 3 := Nat.lt_of_lt_of_le k.isLt k0_t1_abs.2.1
  have a1 : arg2.view.readAt (Elt F) (Rect.unit (k0_off1 k 1#32) ![512, 128] (k0_off1_inb k 0)).toLoadRect X2 = _ :=
    ld_rows (arg2.view.read (Elt F) X2) _ (2 * k.val + 1) (by omega) (off1_eq k) (k0_off1_inb k 0)
  have a2 : arg2.view.readAt (Elt F) (Rect.unit (k0_off1 k 2#32) ![512, 128] (k0_off1_inb k 1)).toLoadRect X2 = _ :=
    ld_rows (arg2.view.read (Elt F) X2) _ (2 * k.val + 2) (by omega) (off1_eq' k) (k0_off1_inb k 1)
  have a3 : arg7.view.readAt (Elt F) (Rect.unit (k0_off1 k 1#32) ![512, 128] (k0_off1_inb k 0)).toLoadRect X7 = _ :=
    ld_rows (arg7.view.read (Elt F) X7) _ (2 * k.val + 1) (by omega) (off1_eq k) (k0_off1_inb k 0)
  have a4 : arg7.view.readAt (Elt F) (Rect.unit (k0_off2 k) ![512, 128] (k0_off2_inb k)).toLoadRect X7 = _ :=
    ld_rows (arg7.view.read (Elt F) X7) _ (2 * k.val) (by omega) (off2_eq k) (k0_off2_inb k)
  have b3 : arg3.view.readAt (Elt F) (Rect.unit ![0, 0] ![4096, 128] inb_S4096x128_S4096x128_0_0).toLoadRect X3 = _ :=
    View.ld_unit_zero (Val := Elt F) hz inb_S4096x128_S4096x128_0_0 (arg3.view.read (Elt F) X3)
  have b6 : arg6.view.readAt (Elt F) (Rect.unit ![0, 0] ![144, 4096] inb_S144x4096_S144x4096_0_0).toLoadRect X6 = _ :=
    View.ld_unit_zero (Val := Elt F) hz inb_S144x4096_S144x4096_0_0 (arg6.view.read (Elt F) X6)
  have b9 : arg9.view.readAt (Elt F) (Rect.unit ![0, 0] ![4096, 512] inb_S4096x512_S4096x512_0_0).toLoadRect f9 = _ :=
    View.ld_unit_zero (Val := Elt F) hz inb_S4096x512_S4096x512_0_0 (arg9.view.read (Elt F) f9)
  have b11 : arg11.view.readAt (Elt F) (Rect.unit ![0, 0] ![1, 512] inb_S1x512_S1x512_0_0).toLoadRect f11 = _ :=
    View.ld_unit_zero (Val := Elt F) hz inb_S1x512_S1x512_0_0 (arg11.view.read (Elt F) f11)
  have e10 : trip_k0_t1.sl.HW_arg10_1 arg2 arg3 X2 X3 k
      = [⟨Rect.unit ![0, 0] S4096x512.size inb_S4096x512_S4096x512_0_0, sc (rows (arg2.view.read (Elt F) X2) (2 * k.val + 1)) (arg3.view.read (Elt F) X3)⟩] := by
    unfold trip_k0_t1.sl.HW_arg10_1; rw [a1, b3]
  have e12 : trip_k0_t1.sl.HW_arg12_1 arg2 arg3 X2 X3 k
      = [⟨Rect.unit ![0, 0] S1x512.size inb_S1x512_S1x512_0_0, mx (rows (arg2.view.read (Elt F) X2) (2 * k.val + 1)) (arg3.view.read (Elt F) X3)⟩] := by
    unfold trip_k0_t1.sl.HW_arg12_1; rw [a1, b3]
  have e149 : trip_k0_t1.sl.v149 arg2 arg3 arg10 X2 X3 k = sc (rows (arg2.view.read (Elt F) X2) (2 * k.val + 1)) (arg3.view.read (Elt F) X3) := by
    unfold trip_k0_t1.sl.v149; rw [e10]; exact View.readCov_unit_zero _ hz _ _
  have e150 : trip_k0_t1.sl.v150 arg2 arg3 arg12 X2 X3 k = mx (rows (arg2.view.read (Elt F) X2) (2 * k.val + 1)) (arg3.view.read (Elt F) X3) := by
    unfold trip_k0_t1.sl.v150; rw [e12]; exact View.readCov_unit_zero _ hz _ _
  unfold tripL_k0_t1 trip_k0_t1
  dsimp only
  unfold trip_k0_t1.sl.r_1 trip_k0_t1.sl.r
  rw [e10, e12, e149, e150, ← a1, ← a2, ← a3, ← a4, ← b3, ← b6, ← b9, ← b11]
  rfl
end Loop
end Cert.KernelIdeal.Attn
end
-- ==== Proof.GqaLoop.lean ====
module

public import proofs.«01_k».proof.Proof.Gen.KernelIdeal.Loops
public import proofs.«01_k».proof.Proof.Gen.KernelIdeal
public import proofs.«01_k».proof.Proof.GqaTrip
public import proofs.«01_k».proof.Proof.Whole
public import Idealize.ShloMosaic.Lib.Pipeline.FrameBody
public import Idealize.ShloMosaic.Lib.Pipeline.Value
public import Idealize.ShloMosaic.Lib.Pipeline.ValueKit

@[expose] public section

set_option maxRecDepth 16384
set_option maxHeartbeats 1000000

noncomputable section

namespace Cert.KernelIdeal.Attn

open Idealize.ShloMosaic Idealize.ShloMosaic.TcCoe Idealize.ShloMosaic.Tactic Cert.KernelIdeal Cert.KernelIdeal.Gen
variable {F : FTy → Type} [FloatOps F] [Named F]

/-- A row belongs to the group of 512 rows that its number names. -/
theorem mem_rows (off : Fin 2 → Nat) (t : Nat) (h : off = ![512 * t, 0]) (inb : ∀ a, off a + S512x128.size a ≤ S4096x128.size a)
    (y : S4096x128.Idx) (hy : (y 0).val / 512 = t) : y ∈ (Rect.unit (s := S4096x128) off S512x128.size inb).set := by
  subst h
  rw [Rect.mem_set_unit]
  intro a
  have h1 : (y 1).val < 128 := (y 1).isLt
  match a with
  | 0 => show 512 * t ≤ (y 0).val ∧ (y 0).val < 512 * t + 512; omega
  | 1 => show 0 ≤ (y 1).val ∧ (y 1).val < 0 + 128; omega

section Loop
variable (𝒱 : Variants) (c : Dev nD) (bd : Option 𝒱.V) (i : grid0.Coords)
  (arg2 : Memref sig .tc .vmem S4096x128 .bf16) (harg2 : arg2.IsWhole)
  (arg3 : Memref sig .tc .vmem S4096x128 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S144x4096 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x512 .f32) (harg9 : arg9.IsWhole)
  (arg10 : Memref sig .tc .vmem S4096x512 .f32) (harg10 : arg10.IsWhole)
  (arg11 : Memref sig .tc .vmem S1x512 .f32) (harg11 : arg11.IsWhole)
  (arg12 : Memref sig .tc .vmem S1x512 .f32) (harg12 : arg12.IsWhole)
  (X2 : BufTy.Contents (Elt F) arg2.view.ty) (X3 : BufTy.Contents (Elt F) arg3.view.ty) (X6 : BufTy.Contents (Elt F) arg6.view.ty) (X7 : BufTy.Contents (Elt F) arg7.view.ty)

  (G8 : BufTy.Contents (Elt F) arg8.view.ty) (G9 : BufTy.Contents (Elt F) arg9.view.ty) (G10 : BufTy.Contents (Elt F) arg10.view.ty)
  (G11 : BufTy.Contents (Elt F) arg11.view.ty) (G12 : BufTy.Contents (Elt F) arg12.view.ty)

/-- After `n` trips every output piece is a block of the finished head, and the first slot holds the
    scores of query block `2 n`. -/
theorem loop_inv (s : Vec F S4096x512 .f32) (m : Vec F S1x512 .f32) (h9 : arg9.view.read (Elt F) G9 = s) (h11 : arg11.view.read (Elt F) G11 = m) :
    ∀ n : Nat, n ≤ 3 →
      (∀ p ∈ (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).1, ∀ x, p.2 x = blk s m (arg2.view.read (Elt F) X2) (arg3.view.read (Elt F) X3) (arg6.view.read (Elt F) X6) (arg7.view.read (Elt F) X7) (p.1.emb x))
      ∧ arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.1) = scAt s (arg2.view.read (Elt F) X2) (arg3.view.read (Elt F) X3) (2 * n)
      ∧ arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.2.2.1) = mxAt m (arg2.view.read (Elt F) X2) (arg3.view.read (Elt F) X3) (2 * n)
  | 0, _ => by
    rw [pb_k0_t1.eq_1]
    exact ⟨fun p hp => absurd hp List.not_mem_nil, h9.trans (if_pos rfl).symm, h11.trans (if_pos rfl).symm⟩
  | n + 1, hn => by
    obtain ⟨i1, i2, i3⟩ := loop_inv s m h9 h11 n (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 ⟨n, by rw [trips_eq]; omega⟩
    rw [tripL_eq] at hs
    dsimp only at hs
    rw [i2, i3] at hs
    rw [hs]
    dsimp only
    refine ⟨fun p hp => ?_, (Cert.Whole.read_over _ _ hz _ _ _).trans (if_neg (by omega)).symm, (Cert.Whole.read_over _ _ hz _ _ _).trans (if_neg (by omega)).symm⟩
    rcases List.mem_append.mp hp with h | h
    · rcases List.mem_cons.mp h with rfl | h
      · exact piece_blk s m _ _ _ _ _ _ (off1_eq ⟨n, _⟩) (k0_off1_inb _ 0) _ (by rw [scAt, mxAt, if_neg (by omega), if_neg (by omega)])
      · rcases List.mem_cons.mp h with rfl | h
        · exact piece_blk s m _ _ _ _ _ _ (off2_eq ⟨n, _⟩) (k0_off2_inb _) _ rfl
        · exact absurd h List.not_mem_nil
    · exact i1 p h

/-- The rows that the loop's pieces cover after `n` trips. -/
theorem loop_cov (y : S4096x128.Idx) :
    ∀ n : Nat, n ≤ 3 → (y 0).val < 1024 * n → ∃ p ∈ (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).1, y ∈ p.1.set
  | 0, _, h => absurd h (by omega)
  | n + 1, hn, h => by
    have hs := pb_k0_t1_succ (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 ⟨n, by rw [trips_eq]; omega⟩
    rw [tripL_eq] at hs
    dsimp only at hs
    rw [hs]
    dsimp only
    by_cases h1 : (y 0).val < 1024 * n
    · obtain ⟨p, hp, hy⟩ := loop_cov y n (by omega) h1
      exact ⟨p, List.mem_append_right _ hp, hy⟩
    by_cases h2 : (y 0).val < 1024 * n + 512
    · exact ⟨_, List.mem_append_left _ (List.mem_cons_of_mem _ List.mem_cons_self),
        mem_rows _ (2 * n) (off2_eq ⟨n, _⟩) (k0_off2_inb _) y (by omega)⟩
    · exact ⟨_, List.mem_append_left _ List.mem_cons_self,
        mem_rows _ (2 * n + 1) (off1_eq ⟨n, _⟩) (k0_off1_inb _ 0) y (by omega)⟩

/-- All the pieces of the output block together, those of the loop and the two after it, read as the head's block. -/
theorem out_read (s : Vec F S4096x512 .f32) (m : Vec F S1x512 .f32) (h9 : arg9.view.read (Elt F) G9 = s) (h11 : arg11.view.read (Elt F) G11 = m)
    (f : BufTy.Contents (Elt F) arg8.view.ty) (w6 w7 : Vec F S512x128 .bf16) (n : Nat) (hn : n = 3)
    (hw6 : w6 = fin (scAt s (arg2.view.read (Elt F) X2) (arg3.view.read (Elt F) X3) 6) (mxAt m (arg2.view.read (Elt F) X2) (arg3.view.read (Elt F) X3) 6) (arg6.view.read (Elt F) X6) (rows (arg7.view.read (Elt F) X7) 6))
    (hw7 : w7 = fin (scAt s (arg2.view.read (Elt F) X2) (arg3.view.read (Elt F) X3) 7) (mxAt m (arg2.view.read (Elt F) X2) (arg3.view.read (Elt F) X3) 7) (arg6.view.read (Elt F) X6) (rows (arg7.view.read (Elt F) X7) 7)) :
    arg8.view.read (Elt F) (arg8.view.writes (Elt F) f
      (⟨Rect.unit ![3584, 0] ![512, 128] inb_S4096x128_S512x128_3584_0, w7⟩ ::
        ⟨Rect.unit ![3072, 0] S512x128.size inb_S4096x128_S512x128_3072_0, w6⟩ :: (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).1))
      = blk s m (arg2.view.read (Elt F) X2) (arg3.view.read (Elt F) X3) (arg6.view.read (Elt F) X6) (arg7.view.read (Elt F) X7) := by
  subst hn
  have hcov : ∀ y : S4096x128.Idx, ∃ p ∈ ((⟨Rect.unit ![3584, 0] ![512, 128] inb_S4096x128_S512x128_3584_0, w7⟩ ::
        ⟨Rect.unit ![3072, 0] S512x128.size inb_S4096x128_S512x128_3072_0, w6⟩ :: (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 3).1) : List (View.Piece (Elt F) S4096x128 .bf16)), y ∈ p.1.set := by
    intro y
    have hy : (y 0).val < 4096 := (y 0).isLt
    by_cases h1 : (y 0).val < 1024 * 3
    · obtain ⟨p, hp, hy⟩ := loop_cov 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 y 3 (by omega) h1
      exact ⟨p, List.mem_cons_of_mem _ (List.mem_cons_of_mem _ hp), hy⟩
    by_cases h2 : (y 0).val < 3584
    · exact ⟨_, List.mem_cons_of_mem _ List.mem_cons_self, mem_rows _ 6 rfl inb_S4096x128_S512x128_3072_0 y (by omega)⟩
    · exact ⟨_, List.mem_cons_self, mem_rows _ 7 rfl inb_S4096x128_S512x128_3584_0 y (by omega)⟩
  rw [View.read_writes_eq_canon _ f _ hcov]
  funext y
  refine View.canon_apply_of_pieces _ _ ?_ y (hcov y)
  intro p hp x
  rcases List.mem_cons.mp hp with rfl | hp
  · exact piece_blk s m _ _ _ _ _ 7 rfl inb_S4096x128_S512x128_3584_0 _ hw7 x
  rcases List.mem_cons.mp hp with rfl | hp
  · exact piece_blk s m _ _ _ _ _ 6 rfl inb_S4096x128_S512x128_3072_0 _ hw6 x
  · exact (loop_inv 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 s m h9 h11 3 le_rfl).1 p hp x

/-- After the loop the first slot holds the scores of query block 6. -/
theorem slot_sc (s : Vec F S4096x512 .f32) (m : Vec F S1x512 .f32) (h9 : arg9.view.read (Elt F) G9 = s) (h11 : arg11.view.read (Elt F) G11 = m)
    (n : Nat) (hn : n = 3) :
    arg9.view.readAt (Elt F) (Rect.unit ![0, 0] S4096x512.size inb_S4096x512_S4096x512_0_0).toLoadRect (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.1)
      = scAt s (arg2.view.read (Elt F) X2) (arg3.view.read (Elt F) X3) 6 := by
  subst hn
  exact (View.ld_unit_zero (Val := Elt F) hz _ _).trans (loop_inv 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 s m h9 h11 3 le_rfl).2.1

/-- The same where the slot was filled by the stores `L` of the same step. -/
theorem slot_sc_cov (s : Vec F S4096x512 .f32) (m : Vec F S1x512 .f32) (h9 : arg9.view.read (Elt F) G9 = s) (h11 : arg11.view.read (Elt F) G11 = m)
    (n : Nat) (hn : n = 3) (L : List (View.Piece (Elt F) S4096x512 .f32)) (hL : G9 = arg9.view.writes (Elt F) arg9.view.junk L) :
    arg9.view.readCov (Val := Elt F) ((pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.1 ++ L) (Rect.unit ![0, 0] S4096x512.size inb_S4096x512_S4096x512_0_0).toLoadRect
      = scAt s (arg2.view.read (Elt F) X2) (arg3.view.read (Elt F) X3) 6 := by
  refine Eq.trans ?_ (slot_sc 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 s m h9 h11 n hn)
  unfold View.readCov
  rw [View.writes_append, ← hL]

/-- After the loop the second slot holds the largest scores of query block 6. -/
theorem slot_mx (s : Vec F S4096x512 .f32) (m : Vec F S1x512 .f32) (h9 : arg9.view.read (Elt F) G9 = s) (h11 : arg11.view.read (Elt F) G11 = m)
    (n : Nat) (hn : n = 3) :
    arg11.view.readAt (Elt F) (Rect.unit ![0, 0] S1x512.size inb_S1x512_S1x512_0_0).toLoadRect (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.2.2.1)
      = mxAt m (arg2.view.read (Elt F) X2) (arg3.view.read (Elt F) X3) 6 := by
  subst hn
  exact (View.ld_unit_zero (Val := Elt F) hz _ _).trans (loop_inv 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 s m h9 h11 3 le_rfl).2.2

/-- The same where the slot was filled by the stores `L` of the same step. -/
theorem slot_mx_cov (s : Vec F S4096x512 .f32) (m : Vec F S1x512 .f32) (h9 : arg9.view.read (Elt F) G9 = s) (h11 : arg11.view.read (Elt F) G11 = m)
    (n : Nat) (hn : n = 3) (L : List (View.Piece (Elt F) S1x512 .f32)) (hL : G11 = arg11.view.writes (Elt F) arg11.view.junk L) :
    arg11.view.readCov (Val := Elt F) ((pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.2.2.1 ++ L) (Rect.unit ![0, 0] S1x512.size inb_S1x512_S1x512_0_0).toLoadRect
      = mxAt m (arg2.view.read (Elt F) X2) (arg3.view.read (Elt F) X3) 6 := by
  refine Eq.trans ?_ (slot_mx 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 s m h9 h11 n hn)
  unfold View.readCov
  rw [View.writes_append, ← hL]

/-- The scores made from the rows of block `t` and all keys. -/
theorem own_sc (s : Vec F S4096x512 .f32) (t : Nat) (h0 : t ≠ 0) (ht : t < 8) (off : Fin 2 → Nat) (h : off = ![512 * t, 0])
    (inb : ∀ a, off a + S512x128.size a ≤ S4096x128.size a) :
    k0_pay3 (arg2.view.readAt (Elt F) (Rect.unit (s := S4096x128) off S512x128.size inb).toLoadRect X2)
        (arg3.view.readAt (Elt F) (Rect.unit ![0, 0] S4096x128.size inb_S4096x128_S4096x128_0_0).toLoadRect X3)
      = scAt s (arg2.view.read (Elt F) X2) (arg3.view.read (Elt F) X3) t :=
  (congrArg₂ k0_pay3 (ld_rows _ off t ht h inb) (View.ld_unit_zero (Val := Elt F) hz _ _)).trans (if_neg h0).symm

/-- The largest scores, made from the rows of block `t` and all keys. -/
theorem own_mx (m : Vec F S1x512 .f32) (t : Nat) (h0 : t ≠ 0) (ht : t < 8) (off : Fin 2 → Nat) (h : off = ![512 * t, 0])
    (inb : ∀ a, off a + S512x128.size a ≤ S4096x128.size a) :
    k0_pay4 (arg2.view.readAt (Elt F) (Rect.unit (s := S4096x128) off S512x128.size inb).toLoadRect X2)
        (arg3.view.readAt (Elt F) (Rect.unit ![0, 0] S4096x128.size inb_S4096x128_S4096x128_0_0).toLoadRect X3)
      = mxAt m (arg2.view.read (Elt F) X2) (arg3.view.read (Elt F) X3) t :=
  (congrArg₂ k0_pay4 (ld_rows _ off t ht h inb) (View.ld_unit_zero (Val := Elt F) hz _ _)).trans (if_neg h0).symm

/-- A finished block from equal scores, values and gates. -/
theorem fin_congr {s s' : Vec F S4096x512 .f32} {m m' : Vec F S1x512 .f32} {vt vt' : Vec F S144x4096 .bf16} {z z' : Vec F S512x128 .bf16}
    (hs : s = s') (hm : m = m') (hv : vt = vt') (h : z = z') : fin s m vt z = fin s' m' vt' z' := by
  rw [hs, hm, hv, h]

theorem pay17_eq : @k0_pay17 F _ _ = @k0_pay4 F _ _ := rfl
theorem pay13_eq : @k0_pay13 F _ _ = @k0_pay4 F _ _ := rfl
theorem pay22_eq : @k0_pay22 F _ _ = @k0_pay4 F _ _ := rfl
theorem pay16_eq : @k0_pay16 F _ _ = @k0_pay3 F _ _ := rfl
theorem pay12_eq : @k0_pay12 F _ _ = @k0_pay3 F _ _ := rfl
theorem pay21_eq : @k0_pay21 F _ _ = @k0_pay3 F _ _ := rfl
theorem pay19_eq (s : Vec F S4096x512 .f32) (m : Vec F S1x512 .f32) (vt : Vec F S144x4096 .bf16) (z : Vec F S512x128 .bf16) :
    k0_pay19 (k0_pay18 s m) vt z = fin s m vt z := rfl
theorem pay1_eq (s : Vec F S4096x512 .f32) (m : Vec F S1x512 .f32) (vt : Vec F S144x4096 .bf16) (z : Vec F S512x128 .bf16) :
    k0_pay1 (k0_pay23 s m) vt z = fin s m vt z := rfl
end Loop
end Cert.KernelIdeal.Attn
end
-- ==== Proof.NamedRunA.lean ====
/- The run of the body of `KernelIdeal` in one case of its branch, with the budget that this body needs. -/
module

public import proofs.«01_k».proof.Proof.Gen.KernelIdeal.Frame.Runs
public import proofs.«01_k».proof.Proof.GqaLoop

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) :
    Σ' (L6 : List (View.Piece (Elt F) S4096x128 .bf16)), Σ' (LS0 : List (View.Piece (Elt F) S4096x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0_attn_gqa i arg2 harg2 arg3 harg3 arg4 harg4 arg5 harg5 arg6 harg6 arg7 harg7 arg8 harg8 arg9 harg9 arg10 harg10 arg11 harg11 arg12 harg12) K } := by
  refine ⟨[⟨Rect.unit ![0, 0] S4096x128.size inb_S4096x128_S4096x128_0_0, Attn.blk (Attn.sc (Attn.rows x0 0) x1) (Attn.mx (Attn.rows x0 0) x1) x0 x1 x4 x5⟩],
    [⟨Rect.unit ![0, 0] S4096x512.size inb_S4096x512_S4096x512_0_0, Attn.sc x2 x3⟩],
    [⟨Rect.unit ![0, 0] S1x512.size inb_S1x512_S1x512_0_0, Attn.mx x2 x3⟩], fun E K => ?run⟩
  case run =>
    simp only [cc0_attn_gqa_eq_skeleton]; unfold cc0_attn_gqa_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    rw [Cert.Whole.last arg9 harg9 _ Attn.hz inb_S4096x512_S4096x512_0_0, Cert.Whole.last arg11 harg11 _ Attn.hz inb_S1x512_S1x512_0_0]
    rw [show k0_pay21 (arg4.view.readAt (Elt F) (Rect.unit ![0, 0] S512x128.size inb_S512x128_S512x128_0_0).toLoadRect (harg4.unread x2)) (arg5.view.readAt (Elt F) (Rect.unit ![0, 0] S4096x128.size inb_S4096x128_S4096x128_0_0).toLoadRect (harg5.unread x3)) = Attn.sc x2 x3 from
        congrArg₂ k0_pay3 ((View.ld_unit_zero (Val := Elt F) Attn.hz _ _).trans (harg4.read_unread _)) ((View.ld_unit_zero (Val := Elt F) Attn.hz _ _).trans (harg5.read_unread _)),
      show k0_pay22 (arg4.view.readAt (Elt F) (Rect.unit ![0, 0] S512x128.size inb_S512x128_S512x128_0_0).toLoadRect (harg4.unread x2)) (arg5.view.readAt (Elt F) (Rect.unit ![0, 0] S4096x128.size inb_S4096x128_S4096x128_0_0).toLoadRect (harg5.unread x3)) = Attn.mx x2 x3 from
        congrArg₂ k0_pay4 ((View.ld_unit_zero (Val := Elt F) Attn.hz _ _).trans (harg4.read_unread _)) ((View.ld_unit_zero (Val := Elt F) Attn.hz _ _).trans (harg5.read_unread _))]
    have first9 : arg9.view.read (Elt F) (arg9.view.writes (Elt F) arg9.view.junk (kernelRun0_A.sl.HS0_1 c arg2 harg2 arg3 harg3 x0 x1))
        = Attn.sc (Attn.rows (arg2.view.read (Elt F) (harg2.unread x0)) 0) (arg3.view.read (Elt F) (harg3.unread x1)) := by
      unfold kernelRun0_A.sl.HS0_1
      rw [Cert.Whole.read_over _ _ Attn.hz, Attn.pay12_eq]
      exact congrArg₂ k0_pay3 (Attn.ld_rows _ _ 0 (by omega) rfl _) (View.ld_unit_zero (Val := Elt F) Attn.hz _ _)
    have first11 : arg11.view.read (Elt F) (arg11.view.writes (Elt F) arg11.view.junk (kernelRun0_A.sl.HS2_1 c arg2 harg2 arg3 harg3 x0 x1))
        = Attn.mx (Attn.rows (arg2.view.read (Elt F) (harg2.unread x0)) 0) (arg3.view.read (Elt F) (harg3.unread x1)) := by
      unfold kernelRun0_A.sl.HS2_1
      rw [Cert.Whole.read_over _ _ Attn.hz, Attn.pay13_eq]
      exact congrArg₂ k0_pay4 (Attn.ld_rows _ _ 0 (by omega) rfl _) (View.ld_unit_zero (Val := Elt F) Attn.hz _ _)
    rw [Cert.Whole.same arg8 harg8 f6 _ [⟨Rect.unit ![0, 0] S4096x128.size inb_S4096x128_S4096x128_0_0, Attn.blk (Attn.sc (Attn.rows x0 0) x1) (Attn.mx (Attn.rows x0 0) x1) x0 x1 x4 x5⟩] ?out]
    case out =>
      refine Eq.trans ?_ (Cert.Whole.read_over _ _ Attn.hz _ _ _).symm
      refine (Attn.out_read (h9 := first9) (h11 := first11) (hn := Attn.trips_eq) (hw6 := ?_) (hw7 := ?_) ..).trans ?_
      · unfold kernelRun0_A.sl.r kernelRun0_A.sl.r_1
        rw [Attn.pay19_eq]
        refine Attn.fin_congr ?_ ?_ (View.ld_unit_zero (Val := Elt F) Attn.hz _ _) (Attn.ld_rows _ ![3072, 0] 6 (by omega) rfl inb_S4096x128_S512x128_3072_0)
        · unfold kernelRun0_A.sl.v23
          exact Attn.slot_sc_cov (h9 := first9) (h11 := first11) (hn := Attn.trips_eq) (hL := rfl) ..
        · unfold kernelRun0_A.sl.v24
          exact Attn.slot_mx_cov (h9 := first9) (h11 := first11) (hn := Attn.trips_eq) (hL := rfl) ..
      · unfold kernelRun0_A.sl.r_2
        rw [Attn.pay1_eq]
        refine Attn.fin_congr ?_ ?_ (View.ld_unit_zero (Val := Elt F) Attn.hz _ _) (Attn.ld_rows _ ![3584, 0] 7 (by omega) rfl inb_S4096x128_S512x128_3584_0)
        · unfold kernelRun0_A.sl.v61 kernelRun0_A.sl.HS1_1
          rw [Cert.Whole.cov_over _ Attn.hz, Attn.pay16_eq]
          exact Attn.own_sc arg2 arg3 (harg2.unread x0) (harg3.unread x1) _ 7 (by omega) (by omega) ![3584, 0] rfl inb_S4096x128_S512x128_3584_0
        · unfold kernelRun0_A.sl.v62 kernelRun0_A.sl.HS3_1
          rw [Cert.Whole.cov_over _ Attn.hz, Attn.pay17_eq]
          exact Attn.own_mx arg2 arg3 (harg2.unread x0) (harg3.unread x1) _ 7 (by omega) (by omega) ![3584, 0] rfl inb_S4096x128_S512x128_3584_0
      · rw [harg2.read_unread, harg3.read_unread, harg6.read_unread, harg7.read_unread]
    isplitl [H6]; · iexists _; iexact H6
    isplitl [HS0]; · iexists _; iexact HS0
    isplitl [HS1]
    · iexists _, _; isplitr; swap; · iexact HS1
      ipureintro; rfl
    isplitl [HS2]; · iexists _; iexact HS2
    iexists _, _; isplitr; swap; · iexact HS3
    ipureintro; rfl

end Cert.KernelIdeal.Own

end
-- ==== Proof.NamedRunB.lean ====
/- The run of the body of `KernelIdeal` in one case of its branch, with the budget that this body needs. -/
module

public import proofs.«01_k».proof.Proof.Gen.KernelIdeal.Frame.Runs
public import proofs.«01_k».proof.Proof.GqaLoop

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) :
    Σ' (L6 : List (View.Piece (Elt F) S4096x128 .bf16)), Σ' (LS0 : List (View.Piece (Elt F) S4096x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0_attn_gqa i arg2 harg2 arg3 harg3 arg4 harg4 arg5 harg5 arg6 harg6 arg7 harg7 arg8 harg8 arg9 harg9 arg10 harg10 arg11 harg11 arg12 harg12) K } := by
  refine ⟨[⟨Rect.unit ![0, 0] S4096x128.size inb_S4096x128_S4096x128_0_0, Attn.blk xs0 xs2 x0 x1 x4 x5⟩],
    [⟨Rect.unit ![0, 0] S4096x512.size inb_S4096x512_S4096x512_0_0, Attn.sc x2 x3⟩],
    [⟨Rect.unit ![0, 0] S1x512.size inb_S1x512_S1x512_0_0, Attn.mx x2 x3⟩], fun E K => ?run⟩
  case run =>
    simp only [cc0_attn_gqa_eq_skeleton]; unfold cc0_attn_gqa_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg11.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    rw [Cert.Whole.last arg9 harg9 _ Attn.hz inb_S4096x512_S4096x512_0_0, Cert.Whole.last arg11 harg11 _ Attn.hz inb_S1x512_S1x512_0_0]
    rw [show k0_pay21 (arg4.view.readAt (Elt F) (Rect.unit ![0, 0] S512x128.size inb_S512x128_S512x128_0_0).toLoadRect (harg4.unread x2)) (arg5.view.readAt (Elt F) (Rect.unit ![0, 0] S4096x128.size inb_S4096x128_S4096x128_0_0).toLoadRect (harg5.unread x3)) = Attn.sc x2 x3 from
        congrArg₂ k0_pay3 ((View.ld_unit_zero (Val := Elt F) Attn.hz _ _).trans (harg4.read_unread _)) ((View.ld_unit_zero (Val := Elt F) Attn.hz _ _).trans (harg5.read_unread _)),
      show k0_pay22 (arg4.view.readAt (Elt F) (Rect.unit ![0, 0] S512x128.size inb_S512x128_S512x128_0_0).toLoadRect (harg4.unread x2)) (arg5.view.readAt (Elt F) (Rect.unit ![0, 0] S4096x128.size inb_S4096x128_S4096x128_0_0).toLoadRect (harg5.unread x3)) = Attn.mx x2 x3 from
        congrArg₂ k0_pay4 ((View.ld_unit_zero (Val := Elt F) Attn.hz _ _).trans (harg4.read_unread _)) ((View.ld_unit_zero (Val := Elt F) Attn.hz _ _).trans (harg5.read_unread _))]
    rw [Cert.Whole.same arg8 harg8 f6 _ [⟨Rect.unit ![0, 0] S4096x128.size inb_S4096x128_S4096x128_0_0, Attn.blk xs0 xs2 x0 x1 x4 x5⟩] ?out]
    case out =>
      refine Eq.trans ?_ (Cert.Whole.read_over _ _ Attn.hz _ _ _).symm
      refine (Attn.out_read (h9 := (harg9.read_unread _)) (h11 := (harg11.read_unread _)) (hn := Attn.trips_eq) (hw6 := ?_) (hw7 := ?_) ..).trans ?_
      · unfold kernelRun0_B.sl.r kernelRun0_B.sl.r_1
        rw [Attn.pay19_eq]
        refine Attn.fin_congr ?_ ?_ (View.ld_unit_zero (Val := Elt F) Attn.hz _ _) (Attn.ld_rows _ ![3072, 0] 6 (by omega) rfl inb_S4096x128_S512x128_3072_0)
        · unfold kernelRun0_B.sl.v23
          exact Attn.slot_sc (h9 := (harg9.read_unread _)) (h11 := (harg11.read_unread _)) (hn := Attn.trips_eq) ..
        · unfold kernelRun0_B.sl.v24
          exact Attn.slot_mx (h9 := (harg9.read_unread _)) (h11 := (harg11.read_unread _)) (hn := Attn.trips_eq) ..
      · unfold kernelRun0_B.sl.r_2
        rw [Attn.pay1_eq]
        refine Attn.fin_congr ?_ ?_ (View.ld_unit_zero (Val := Elt F) Attn.hz _ _) (Attn.ld_rows _ ![3584, 0] 7 (by omega) rfl inb_S4096x128_S512x128_3584_0)
        · unfold kernelRun0_B.sl.v61 kernelRun0_B.sl.HS1_1
          rw [Cert.Whole.cov_over _ Attn.hz, Attn.pay16_eq]
          exact Attn.own_sc arg2 arg3 (harg2.unread x0) (harg3.unread x1) xs0 7 (by omega) (by omega) ![3584, 0] rfl inb_S4096x128_S512x128_3584_0
        · unfold kernelRun0_B.sl.v62 kernelRun0_B.sl.HS3_1
          rw [Cert.Whole.cov_over _ Attn.hz, Attn.pay17_eq]
          exact Attn.own_mx arg2 arg3 (harg2.unread x0) (harg3.unread x1) xs2 7 (by omega) (by omega) ![3584, 0] rfl inb_S4096x128_S512x128_3584_0
      · rw [harg2.read_unread, harg3.read_unread, harg6.read_unread, harg7.read_unread]
    isplitl [H6]; · iexists _; iexact H6
    isplitl [HS0]; · iexists _; iexact HS0
    isplitl [HS1]
    · iexists _, _; isplitr; swap; · iexact HS1
      ipureintro; rfl
    isplitl [HS2]; · iexists _; iexact HS2
    iexists _, _; isplitr; swap; · iexact HS3
    ipureintro; rfl

end Cert.KernelIdeal.Own

end
-- ==== Proof.NamedFrame.lean ====
/- The frame of `KernelIdeal` over the runs of `NamedRunA` and `NamedRunB`. -/
module

public import proofs.«01_k».proof.Proof.NamedRunA
public import proofs.«01_k».proof.Proof.NamedRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 6 tile its block (8 stores of `S512x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).1 S4096x128.size (by sl_kernel_rfl) y

/-- What case A leaves in output 6's staging buffer: its pieces read back over junk. -/
def out0_A_6 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) : Vec F S4096x128 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 x0 x1 x2 x3 x4 x5).1)

/-- Case A's pieces for scratch `arg9`, which the kernel carries between points, cover it: 5 pieces of `S4096x512` tiling it (Lib/Ring.lean `Piece.tiledL`). -/
theorem scover0_A_0 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (y : S4096x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.1 S4096x512.size (by sl_kernel_rfl) y

/-- What case A leaves in scratch `arg9`: its pieces read back over junk. -/
def sout0_A_0 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) : Vec F S4096x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.1)

/-- Case A's pieces for scratch `arg11`, which the kernel carries between points, cover it: 5 pieces of `S1x512` tiling it (Lib/Ring.lean `Piece.tiledL`). -/
theorem scover0_A_2 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1 S1x512.size (by sl_kernel_rfl) y

/-- What case A leaves in scratch `arg11`: its pieces read back over junk. -/
def sout0_A_2 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) : Vec F S1x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1)

/-- Case B's pieces for output 6 tile its block (8 stores of `S512x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) (y : S4096x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1 S4096x128.size (by sl_kernel_rfl) y

/-- What case B leaves in output 6's staging buffer: its pieces read back over junk. -/
def out0_B_6 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) : Vec F S4096x128 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1)

/-- Case B's pieces for scratch `arg9`, which the kernel carries between points, cover it: 4 pieces of `S4096x512` tiling it (Lib/Ring.lean `Piece.tiledL`). -/
theorem scover0_B_0 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) (y : S4096x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1 S4096x512.size (by sl_kernel_rfl) y

/-- What case B leaves in scratch `arg9`: its pieces read back over junk. -/
def sout0_B_0 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) : Vec F S4096x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1)

/-- Case B's pieces for scratch `arg11`, which the kernel carries between points, cover it: 4 pieces of `S1x512` tiling it (Lib/Ring.lean `Piece.tiledL`). -/
theorem scover0_B_2 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.2.1 S1x512.size (by sl_kernel_rfl) y

/-- What case B leaves in scratch `arg11`: its pieces read back over junk. -/
def sout0_B_2 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x128 .bf16) (x1 : Vec F S4096x128 .bf16) (x2 : Vec F S512x128 .bf16) (x3 : Vec F S4096x128 .bf16) (x4 : Vec F S144x4096 .bf16) (x5 : Vec F S4096x128 .bf16) (xs0 : Vec F S4096x512 .f32) (xs2 : Vec F S1x512 .f32) : Vec F S1x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4096x128 .bf16 × Vec F S4096x512 .f32 × Vec F S1x512 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 64 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 64 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ owns (c : Thread nD τ) scM0_2 fullShare ((outsAt0 m c (n - 1) (by omega)).2.2) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_6 sout0_A_0 sout0_A_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, HS1, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          isplitl [HS1]
          · iexact HS1
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_6 sout0_B_0 sout0_B_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, HS1, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          isplitl [HS1]
          · iexact HS1
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Own

end
-- ==== Proof.NamedValue.lean ====
/- The result array of `KernelIdeal` as the fold of what its grid points leave. -/
module

public import proofs.«01_k».proof.Proof.NamedFrame
public import Idealize.ShloMosaic.Lib.Pipeline.Value

@[expose] public section

noncomputable section

namespace Cert.KernelIdeal.OwnValue

open Cert.KernelIdeal Cert.KernelIdeal.Gen Cert.KernelIdeal.Own Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 64 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 64 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed6, outsAt0_B m c t h0]

/-- The index map sends distinct grid points to distinct block indices (decided over the 64 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S32768x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v5) = (dats m 0 c).arrAt 6 cfg0.N :=
  (h c).1 6

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post6 m r h c,
      kept_main_arg0 m r h c,
      kept_main_arg1 m r h c,
      kept_main_arg2 m r h c,
      kept_main_arg3 m r h c⟩)
    (run_main m ρ)

/-! ## Carried scratch 0: what each point leaves in it, and its fold -/

/-- What a point leaves depends on its number alone. -/
theorem outs_congr (c : Dev nD) (j : ℕ) (h : j < cfg0.N) (j' : ℕ) (h' : j' < cfg0.N) (hj : j = j') : outsAt0 m c j h = outsAt0 m c j' h' := by
  subst hj; rfl

/-! ## Output window 6 -/

/-- The block of the array that holds index `i`, numbered in the order the points write the blocks back (one per point),
    `i`'s place in it, and the point that writes it back. -/
abbrev run6Of (i : S32768x1024.Idx) : ℕ := 8 * ((i 0).val / 4096 - 0) + 1 * ((i 1).val / 128 - 0)
set_option backward.proofsInPublic true in
abbrev loc6Of (i : S32768x1024.Idx) : S4096x128.Idx := fun a => match a with
  | ⟨0, _⟩ => ⟨(i 0).val % 4096, Nat.mod_lt _ (by decide)⟩
  | ⟨1, _⟩ => ⟨(i 1).val % 128, Nat.mod_lt _ (by decide)⟩
abbrev pt6Of (i : S32768x1024.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v5) := fun i =>
  if h : pt6Of i < cfg0.N then
    (outsAt0 m c (pt6Of i) h).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 7
    ∧ 0 ≤ win0_6.index t (1 : Fin 2) ∧ win0_6.index t (1 : Fin 2) ≤ 7
    ∧ 8 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 8) (q1 : Fin 8) : Fin grid0.N :=
  ⟨8 * q0.val + 1 * q1.val, lt_of_lt_of_eq (by omega) N_0.symm⟩
theorem idx_onto6 : ∀ (q0 : Fin 8) (q1 : Fin 8), ∃ t : Fin cfg0.N, (cfg0.win 6).flush t = true ∧ win0_6.index t = ![q0.val + 0, q1.val + 0] :=
  fun q0 q1 => ⟨onto6Pt q0 q1, (by decide +kernel : ∀ (q0 : Fin 8) (q1 : Fin 8), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6]
  obtain ⟨e0, e1, e2⟩ := idx_facts6 t
  funext y
  have hy0 : (y 0).val < 4096 := (y 0).isLt
  have hy1 : (y 1).val < 128 := (y 1).isLt
  have hb0 : (((cfg0.win 6).blk t).view.emb y 0).val = win0_6.index t (0 : Fin 2) * 4096 + 1 * (y 0).val := rfl
  have hb1 : (((cfg0.win 6).blk t).view.emb y 1).val = win0_6.index t (1 : Fin 2) * 128 + 1 * (y 1).val := rfl
  have hr : run6Of (((cfg0.win 6).blk t).view.emb y) = t.val := by
    show 8 * ((((cfg0.win 6).blk t).view.emb y 0).val / 4096 - 0) + 1 * ((((cfg0.win 6).blk t).view.emb y 1).val / 128 - 0) = _
    rw [hb0, hb1]
    rw [show (win0_6.index t (0 : Fin 2) * 4096 + 1 * (y 0).val) / 4096 = win0_6.index t (0 : Fin 2) from by omega]; rw [show (win0_6.index t (1 : Fin 2) * 128 + 1 * (y 1).val) / 128 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 4096 = (y 0).val; rw [hb0]; omega
    | ⟨1, _⟩ => show (((cfg0.win 6).blk t).view.emb y 1).val % 128 = (y 1).val; rw [hb1]; omega
  have hp : pt6Of (((cfg0.win 6).blk t).view.emb y) = t.val := by
    exact hr
  show (outsAt0 m c t.val _).1 ((cfg0.win 6).xinj (grid0.coords t) y) = G6 m c (((cfg0.win 6).blk t).view.emb y)
  unfold G6
  rw [dif_pos (by rw [hp]; exact t.isLt), hl, outs_congr m c _ _ _ _ hp.symm]

/-- An index of the array is in point `t`'s block iff each coordinate is in the block's range on its axis. -/
theorem mem_blk6 (t : Fin cfg0.N) (i : S32768x1024.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v5).slice (win0_6.rect t)).set ↔ _
  rw [View.set_slice_whole, Rect.mem_set_unit]
  exact Iff.rfl

/-- THE COVERED INDICES: in some flushing point's block iff inside the box those blocks fill. -/
theorem covered_iff6 (i : S32768x1024.Idx) :
    (∃ t : Fin cfg0.N, (cfg0.win 6).flush t = true ∧ i ∈ ((cfg0.win 6).blk t).view.set) ↔ 0 ≤ (i 0).val ∧ (i 0).val < 32768 ∧ 0 ≤ (i 1).val ∧ (i 1).val < 1024 := by
  constructor
  · rintro ⟨t, -, hi⟩
    rw [mem_blk6] at hi
    have b0 : win0_6.index t (0 : Fin 2) * 4096 ≤ (i 0).val ∧ (i 0).val < win0_6.index t (0 : Fin 2) * 4096 + 4096 := hi 0
    have b1 : win0_6.index t (1 : Fin 2) * 128 ≤ (i 1).val ∧ (i 1).val < win0_6.index t (1 : Fin 2) * 128 + 128 := hi 1
    obtain ⟨e0, e1, e2⟩ := idx_facts6 t
    omega
  · intro h
    have hi0 : (i 0).val < 32768 := (i 0).isLt
    have hi1 : (i 1).val < 1024 := (i 1).isLt
    obtain ⟨t, hft, ht⟩ := idx_onto6 ⟨(i 0).val / 4096 - 0, by omega⟩ ⟨(i 1).val / 128 - 0, by omega⟩
    have q0 : win0_6.index t (0 : Fin 2) = (i 0).val / 4096 - 0 + 0 := congrFun ht 0
    have q1 : win0_6.index t (1 : Fin 2) = (i 1).val / 128 - 0 + 0 := congrFun ht 1
    refine ⟨t, hft, ?_⟩
    rw [mem_blk6]
    intro a
    match a with
    | ⟨0, _⟩ => show win0_6.index t (0 : Fin 2) * 4096 ≤ (i 0).val ∧ (i 0).val < win0_6.index t (0 : Fin 2) * 4096 + 4096; omega
    | ⟨1, _⟩ => show win0_6.index t (1 : Fin 2) * 128 ≤ (i 1).val ∧ (i 1).val < win0_6.index t (1 : Fin 2) * 128 + 128; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 32768 := (i 0).isLt; have h1 : (i 1).val < 1024 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v5) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post6 m r h c).trans (final6 m c),
      kept_main_arg0 m r h c,
      kept_main_arg1 m r h c,
      kept_main_arg2 m r h c,
      kept_main_arg3 m r h c⟩)
    (run_main m ρ)

end Cert.KernelIdeal.OwnValue

end
-- ==== Proof.GqaGrid.lean ====
/- What the call's grid steps leave: every step finishes one head's block from that step's own blocks alone. -/
module

public import proofs.«01_k».proof.Proof.NamedValue

@[expose] public section

set_option maxRecDepth 16384

noncomputable section

namespace Cert.KernelIdeal.Attn

open Idealize.ShloMosaic Idealize.ShloMosaic.TcCoe Idealize.ShloMosaic.Tactic Idealize.SL.Sem Cert.KernelIdeal Cert.KernelIdeal.Gen Cert.KernelIdeal.Own
variable {F : FTy → Type} [FloatOps F] [Named F]
variable (m : (ℓ : Loc nD τ sig) → Buf (Elt F) ℓ)

/-- A head's block, from its queries, keys, values and gates. -/
def head (q k : Vec F S4096x128 .bf16) (vt : Vec F S144x4096 .bf16) (sz : Vec F S4096x128 .bf16) : Vec F S4096x128 .bf16 :=
  blk (sc (rows q 0) k) (mx (rows q 0) k) q k vt sz

/-- The kernel's transposed values, with sixteen rows of ones below each key head. -/
def vtOf (v : Vec F S32768x256 .bf16) : Vec F S288x32768 .bf16 :=
  shapeCast S288x32768 (concatenate S2x144x32768 1 [⟨S2x128x32768, shapeCast S2x128x32768 (transpose S256x32768 [1, 0] v transposes_S32768x256_S256x32768_1_0) shapeCasts_S256x32768_S2x128x32768⟩, ⟨S2x16x32768, broadcastInDim S2x16x32768 ![] bcast_S_S2x16x32768 (constant S_ .bf16 0x3F80#16)⟩] concatenates_S2x128x32768_S2x16x32768_S2x144x32768_d1) shapeCasts_S2x144x32768_S288x32768

theorem V_vt (c : Dev nD) : V m c main_v4 = vtOf (m ((c : Thread nD τ).loc main_arg2)) := by
  unfold V hostOps0
  after_results
  rfl

theorem idx0 : ∀ t : Fin cfg0.N, win0_0.index t = ![t.val / 8, t.val % 8] :=
  (by decide +kernel : ∀ t : Fin grid0.N, _)
theorem idx1 : ∀ t : Fin cfg0.N, win0_1.index t = ![t.val / 8, t.val % 8 / 4] :=
  (by decide +kernel : ∀ t : Fin grid0.N, _)
theorem idx2 : ∀ t : Fin cfg0.N, t.val < 63 → win0_2.index t = ![8 * ((t.val + 1) / 8), (t.val + 1) % 8] :=
  (by decide +kernel : ∀ t : Fin grid0.N, _)
theorem idx3 : ∀ t : Fin cfg0.N, t.val < 63 → win0_3.index t = ![(t.val + 1) / 8, (t.val + 1) % 8 / 4] :=
  (by decide +kernel : ∀ t : Fin grid0.N, _)
theorem idx4 : ∀ t : Fin cfg0.N, win0_4.index t = ![t.val % 8 / 4, t.val / 8] :=
  (by decide +kernel : ∀ t : Fin grid0.N, _)
theorem idx5 : ∀ t : Fin cfg0.N, win0_5.index t = ![t.val / 8, 8 + t.val % 8] :=
  (by decide +kernel : ∀ t : Fin grid0.N, _)

/-- A rectangle of an array, from row `r` and column `s` on. -/
def cut {R C : Nat} (h w : Nat) (x : FVec F ⟨2, ![R, C]⟩ .bf16) (r s : Nat) (hr : r + h ≤ R) (hs : s + w ≤ C) : FVec F ⟨2, ![h, w]⟩ .bf16 :=
  fun y => x (ix2 ⟨r + (y 0).val, Nat.lt_of_lt_of_le (Nat.add_lt_add_left (y 0).isLt r) hr⟩ ⟨s + (y 1).val, Nat.lt_of_lt_of_le (Nat.add_lt_add_left (y 1).isLt s) hs⟩)

/-- Equal corners cut equal rectangles. -/
theorem cut_congr {R C : Nat} (h w : Nat) (x : FVec F ⟨2, ![R, C]⟩ .bf16) {r s r' s' : Nat} (hr hs hr' hs') (er : r = r') (es : s = s') :
    cut h w x r s hr hs = cut h w x r' s' hr' hs' := by
  subst er es; rfl

theorem lt64 (t : Fin cfg0.N) : t.val < 64 := lt_of_lt_of_eq t.isLt N_0

theorem iblk0 (c : Dev nD) (t : Fin cfg0.N) : iblk m c 0 t = cut (R := 32768) (C := 1024) 4096 128 (m ((c : Thread nD τ).loc main_arg0)) (4096 * (t.val / 8)) (128 * (t.val % 8))
    (by have := lt64 t; omega) (by have := lt64 t; omega) := by
  have e := idx0 t
  have ht := lt64 t
  funext y
  show V m c main_arg0 (((cfg0.win 0).blk t).view.emb y) = _
  rw [V_main_arg0]
  unfold cut
  congr 1
  funext a
  apply Fin.ext
  match a with
  | 0 =>
    show win0_0.index t 0 * 4096 + 1 * (y 0).val = 4096 * (t.val / 8) + (y 0).val
    rw [e]
    show (t.val / 8) * 4096 + 1 * (y 0).val = _
    omega
  | 1 =>
    show win0_0.index t 1 * 128 + 1 * (y 1).val = 128 * (t.val % 8) + (y 1).val
    rw [e]
    show (t.val % 8) * 128 + 1 * (y 1).val = _
    omega

theorem iblk1 (c : Dev nD) (t : Fin cfg0.N) : iblk m c 1 t = cut (R := 32768) (C := 256) 4096 128 (m ((c : Thread nD τ).loc main_arg1)) (4096 * (t.val / 8)) (128 * (t.val % 8 / 4))
    (by have := lt64 t; omega) (by have := lt64 t; omega) := by
  have e := idx1 t
  have ht := lt64 t
  funext y
  show V m c main_arg1 (((cfg0.win 1).blk t).view.emb y) = _
  rw [V_main_arg1]
  unfold cut
  congr 1
  funext a
  apply Fin.ext
  match a with
  | 0 =>
    show win0_1.index t 0 * 4096 + 1 * (y 0).val = 4096 * (t.val / 8) + (y 0).val
    rw [e]
    show (t.val / 8) * 4096 + 1 * (y 0).val = _
    omega
  | 1 =>
    show win0_1.index t 1 * 128 + 1 * (y 1).val = 128 * (t.val % 8 / 4) + (y 1).val
    rw [e]
    show (t.val % 8 / 4) * 128 + 1 * (y 1).val = _
    omega

theorem iblk2 (c : Dev nD) (t : Fin cfg0.N) (ht : t.val < 63) : iblk m c 2 t = cut (R := 32768) (C := 1024) 512 128 (m ((c : Thread nD τ).loc main_arg0)) (4096 * ((t.val + 1) / 8)) (128 * ((t.val + 1) % 8))
    (by have := lt64 t; omega) (by have := lt64 t; omega) := by
  have e := idx2 t ht
  have ht := lt64 t
  funext y
  show V m c main_arg0 (((cfg0.win 2).blk t).view.emb y) = _
  rw [V_main_arg0]
  unfold cut
  congr 1
  funext a
  apply Fin.ext
  match a with
  | 0 =>
    show win0_2.index t 0 * 512 + 1 * (y 0).val = 4096 * ((t.val + 1) / 8) + (y 0).val
    rw [e]
    show 8 * ((t.val + 1) / 8) * 512 + 1 * (y 0).val = _
    omega
  | 1 =>
    show win0_2.index t 1 * 128 + 1 * (y 1).val = 128 * ((t.val + 1) % 8) + (y 1).val
    rw [e]
    show ((t.val + 1) % 8) * 128 + 1 * (y 1).val = _
    omega

theorem iblk3 (c : Dev nD) (t : Fin cfg0.N) (ht : t.val < 63) : iblk m c 3 t = cut (R := 32768) (C := 256) 4096 128 (m ((c : Thread nD τ).loc main_arg1)) (4096 * ((t.val + 1) / 8)) (128 * ((t.val + 1) % 8 / 4))
    (by have := lt64 t; omega) (by have := lt64 t; omega) := by
  have e := idx3 t ht
  have ht := lt64 t
  funext y
  show V m c main_arg1 (((cfg0.win 3).blk t).view.emb y) = _
  rw [V_main_arg1]
  unfold cut
  congr 1
  funext a
  apply Fin.ext
  match a with
  | 0 =>
    show win0_3.index t 0 * 4096 + 1 * (y 0).val = 4096 * ((t.val + 1) / 8) + (y 0).val
    rw [e]
    show ((t.val + 1) / 8) * 4096 + 1 * (y 0).val = _
    omega
  | 1 =>
    show win0_3.index t 1 * 128 + 1 * (y 1).val = 128 * ((t.val + 1) % 8 / 4) + (y 1).val
    rw [e]
    show ((t.val + 1) % 8 / 4) * 128 + 1 * (y 1).val = _
    omega

theorem iblk4 (c : Dev nD) (t : Fin cfg0.N) : iblk m c 4 t = cut (R := 288) (C := 32768) 144 4096 (vtOf (m ((c : Thread nD τ).loc main_arg2))) (144 * (t.val % 8 / 4)) (4096 * (t.val / 8))
    (by have := lt64 t; omega) (by have := lt64 t; omega) := by
  have e := idx4 t
  have ht := lt64 t
  funext y
  show V m c main_v4 (((cfg0.win 4).blk t).view.emb y) = _
  rw [V_vt]
  unfold cut
  congr 1
  funext a
  apply Fin.ext
  match a with
  | 0 =>
    show win0_4.index t 0 * 144 + 1 * (y 0).val = 144 * (t.val % 8 / 4) + (y 0).val
    rw [e]
    show (t.val % 8 / 4) * 144 + 1 * (y 0).val = _
    omega
  | 1 =>
    show win0_4.index t 1 * 4096 + 1 * (y 1).val = 4096 * (t.val / 8) + (y 1).val
    rw [e]
    show (t.val / 8) * 4096 + 1 * (y 1).val = _
    omega

theorem iblk5 (c : Dev nD) (t : Fin cfg0.N) : iblk m c 5 t = cut (R := 32768) (C := 3072) 4096 128 (m ((c : Thread nD τ).loc main_arg3)) (4096 * (t.val / 8)) (128 * (8 + t.val % 8))
    (by have := lt64 t; omega) (by have := lt64 t; omega) := by
  have e := idx5 t
  have ht := lt64 t
  funext y
  show V m c main_arg3 (((cfg0.win 5).blk t).view.emb y) = _
  rw [V_main_arg3]
  unfold cut
  congr 1
  funext a
  apply Fin.ext
  match a with
  | 0 =>
    show win0_5.index t 0 * 4096 + 1 * (y 0).val = 4096 * (t.val / 8) + (y 0).val
    rw [e]
    show (t.val / 8) * 4096 + 1 * (y 0).val = _
    omega
  | 1 =>
    show win0_5.index t 1 * 128 + 1 * (y 1).val = 128 * (8 + t.val % 8) + (y 1).val
    rw [e]
    show (8 + t.val % 8) * 128 + 1 * (y 1).val = _
    omega

/-- The first rows of a head's queries. -/
theorem rows_cut (x : FVec F ⟨2, ![32768, 1024]⟩ .bf16) (r s : Nat) (hr hs hr') :
    rows (cut 4096 128 x r s hr hs) 0 = cut 512 128 x r s hr' hs := by
  funext j
  have h0 : (j 0).val < 512 := (j 0).isLt
  unfold rows cut
  congr 1
  funext a
  apply Fin.ext
  match a with
  | 0 => show r + (512 * 0 + (j 0).val) % 4096 = r + (j 0).val; omega
  | 1 => rfl

/-- The queries fetched ahead are the first rows of the next step's. -/
theorem ahead_q (c : Dev nD) (n : ℕ) (h : n + 1 < cfg0.N) :
    iblk m c 2 ⟨n, Nat.lt_of_succ_lt h⟩ = rows (iblk m c 0 ⟨n + 1, h⟩) 0 := by
  have h64 : n + 1 < 64 := lt_of_lt_of_eq h N_0
  rw [iblk2 m c ⟨n, _⟩ (by show n < 63; omega), iblk0, rows_cut]

/-- The keys fetched ahead are the next step's. -/
theorem ahead_k (c : Dev nD) (n : ℕ) (h : n + 1 < cfg0.N) :
    iblk m c 3 ⟨n, Nat.lt_of_succ_lt h⟩ = iblk m c 1 ⟨n + 1, h⟩ := by
  have h64 : n + 1 < 64 := lt_of_lt_of_eq h N_0
  rw [iblk3 m c ⟨n, _⟩ (by show n < 63; omega), iblk1]

/-- Every step leaves its head's block, and in the slots the scores of the block fetched ahead. -/
theorem outs_eq (c : Dev nD) : ∀ (n : ℕ) (hn : n < cfg0.N), outsAt0 m c n hn
    = (head (iblk m c 0 ⟨n, hn⟩) (iblk m c 1 ⟨n, hn⟩) (iblk m c 4 ⟨n, hn⟩) (iblk m c 5 ⟨n, hn⟩),
        sc (iblk m c 2 ⟨n, hn⟩) (iblk m c 3 ⟨n, hn⟩), mx (iblk m c 2 ⟨n, hn⟩) (iblk m c 3 ⟨n, hn⟩))
  | 0, hn => by
    refine (outsAt0_A m c ⟨0, hn⟩ rfl).trans ?_
    unfold out0_A_6 sout0_A_0 sout0_A_2 kernelRun0_A
    dsimp only
    rw [Cert.Whole.read_over VO0_6 _ hz _ _ _, Cert.Whole.read_over VS0_0 _ hz _ _ _, Cert.Whole.read_over VS0_2 _ hz _ _ _]
    rfl
  | n + 1, hn => by
    have h64 : n + 1 < 64 := lt_of_lt_of_eq hn N_0
    have ih := outs_eq c n (Nat.lt_of_succ_lt hn)
    refine (outsAt0_B m c ⟨n + 1, hn⟩ (by show ¬(n + 1) % 64 = 0; omega)).trans ?_
    unfold out0_B_6 sout0_B_0 sout0_B_2 kernelRun0_B
    dsimp only
    rw [Cert.Whole.read_over VO0_6 _ hz _ _ _, Cert.Whole.read_over VS0_0 _ hz _ _ _, Cert.Whole.read_over VS0_2 _ hz _ _ _]
    show (blk (outsAt0 m c n (Nat.lt_of_succ_lt hn)).2.1 (outsAt0 m c n (Nat.lt_of_succ_lt hn)).2.2 _ _ _ _, _, _) = _
    rw [ih]
    dsimp only
    rw [ahead_q, ahead_k]
    rfl

end Cert.KernelIdeal.Attn
end
-- ==== Proof.GqaHead.lean ====
/- What one head's block holds, entry by entry, at exact arithmetic. -/
module

public import proofs.«01_k».proof.Proof.GqaGrid
public import Idealize.ShloMosaic.Lib.Pointwise
public import Idealize.ShloMosaic.Lib.IdealHost

@[expose] public section

set_option maxRecDepth 16384

noncomputable section

namespace Cert.KernelIdeal.Attn

open Idealize.ShloMosaic Idealize.ShloMosaic.TcCoe Idealize.SL.Sem Cert.KernelIdeal Cert.KernelIdeal.Gen Cert.KernelIdeal.Own Cert.KernelIdeal.OwnValue

/-- The scale that the queries are multiplied by: `log₂ e / √128`. -/
def scale : EReal := (((Real.log 2)⁻¹ * (Real.sqrt 128)⁻¹ : ℝ) : EReal)

theorem named_scale : (Named.named κ "gqa_scale" 1040356334#32 : Ideal .f32) = scale := rfl

theorem sc_apply (q : FVec Ideal S512x128 .bf16) (k : FVec Ideal S4096x128 .bf16) (t : Fin 4096) (r : Fin 512) :
    sc (F := Ideal) q k (ix2 t r) = (∑ e : Fin 128, k (ix2 t e) * (q (ix2 r e) * scale) : EReal) := by
  rw [← named_scale]
  pointwise [sc, k0_pay3, k0_pay2]

theorem mx_apply (q : FVec Ideal S512x128 .bf16) (k : FVec Ideal S4096x128 .bf16) (r : Fin 512) :
    mx (F := Ideal) q k (ix2 0 r) = Finset.fold max (Ideal.ofBits .f32 4286578688#32) (fun y : Fin 4096 => ∑ e : Fin 128, k (ix2 y e) * (q (ix2 r e) * scale)) Finset.univ := by
  rw [← named_scale]
  pointwise [mx, k0_pay4, k0_pay2]

theorem fin_apply (s : FVec Ideal S4096x512 .f32) (m : FVec Ideal S1x512 .f32) (vt : FVec Ideal S144x4096 .bf16) (sz : FVec Ideal S512x128 .bf16)
    (x : Fin 512) (d : Fin 128) :
    fin (F := Ideal) s m vt sz (ix2 x d) = Ideal.div (∑ y : Fin 4096, vt (ix2 ⟨d.val, by omega⟩ y) * Ideal.exp2 (s (ix2 y x) - m (ix2 0 x)))
      (∑ y : Fin 4096, vt (ix2 128 y) * Ideal.exp2 (s (ix2 y x) - m (ix2 0 x))) * sz (ix2 x d) := by
  pointwise [fin, k0_pay5, k0_pay6]
  rfl

theorem rows_apply (a : FVec Ideal S4096x128 .bf16) (x : Fin 4096) (r : Fin 512) (hr : r.val = x.val % 512) (e : Fin 128) :
    rows (F := Ideal) a (x.val / 512) (ix2 r e) = a (ix2 x e) := by
  unfold rows
  refine congrArg a (congrArg (fun z => ix2 z e) (Fin.ext ?_))
  show (512 * (x.val / 512) + r.val) % 4096 = x.val
  omega

/-- The scaled score of query `x` and key `y` of a head. -/
def score (q k : FVec Ideal S4096x128 .bf16) (x y : Fin 4096) : EReal := ∑ e : Fin 128, k (ix2 y e) * (q (ix2 x e) * scale)

/-- The weight of key `y` for query `x`, not yet divided by the weights' sum. -/
def weight (q k : FVec Ideal S4096x128 .bf16) (x y : Fin 4096) : EReal :=
  Ideal.exp2 (score q k x y - Finset.fold max (Ideal.ofBits .f32 4286578688#32) (fun z => score q k x z) Finset.univ)

theorem head_apply (q k : FVec Ideal S4096x128 .bf16) (vt : FVec Ideal S144x4096 .bf16) (sz : FVec Ideal S4096x128 .bf16) (x : Fin 4096) (d : Fin 128) :
    head (F := Ideal) q k vt sz (ix2 x d) = Ideal.div (∑ y : Fin 4096, vt (ix2 ⟨d.val, by omega⟩ y) * weight q k x y)
      (∑ y : Fin 4096, vt (ix2 128 y) * weight q k x y) * sz (ix2 x d) := by
  have hr : (Fin.ofNat 512 x.val).val = x.val % 512 := rfl
  show fin (F := Ideal) (scAt (sc (rows q 0) k) q k (x.val / 512)) (mxAt (mx (rows q 0) k) q k (x.val / 512)) vt (rows sz (x.val / 512))
    (ix2 (Fin.ofNat 512 x.val) d) = _
  rw [scAt_own, mxAt_own, fin_apply, rows_apply sz x _ hr]
  simp only [sc_apply, mx_apply, rows_apply q x _ hr]
  rfl

/-- A row of the transposed values that holds values. -/
theorem vtOf_val (v : FVec Ideal S32768x256 .bf16) (g : Fin 2) (d : Fin 128) (y : Fin 32768) :
    vtOf (F := Ideal) v (ix2 ⟨144 * g.val + d.val, by omega⟩ y) = v (ix2 y ⟨g.val * 128 + d.val, by omega⟩) := by
  pointwise [vtOf]
  have e : (144 * g.val + d.val) % 144 = d.val := by omega
  rw [dif_pos (by omega)]
  congr 3
  rw [e]

/-- A row of the transposed values that holds ones. -/
theorem vtOf_one (v : FVec Ideal S32768x256 .bf16) (g : Fin 2) (y : Fin 32768) :
    vtOf (F := Ideal) v (ix2 ⟨144 * g.val + 128, by omega⟩ y) = 1 := by
  pointwise [vtOf]
  rw [dif_neg (by omega)]

end Cert.KernelIdeal.Attn
end
-- ==== Proof.GqaRef.lean ====
module

public import proofs.«01_k».proof.Proof.Gen.ReferenceIdeal
public import Idealize.ShloMosaic.Lib.Pointwise
public import Idealize.ShloMosaic.Lib.IdealHost

@[expose] public section

set_option maxRecDepth 16384

noncomputable section

namespace Cert.ReferenceIdeal.Attn

open Cert.ReferenceIdeal
open Cert.ReferenceIdeal Cert.ReferenceIdeal.Gen Idealize.ShloMosaic Idealize.ShloMosaic.TcCoe Idealize.SL.Sem Idealize.ShloMosaic.StableHlo

/-- The reference's scaled scores: batch, key head, head of the group, query, key. -/
def refS (q : FVec Ideal S32768x1024 .bf16) (k : FVec Ideal S32768x256 .bf16) : FVec Ideal S8x2x4x4096x4096 .f32 :=
  Host.divf (transpose S8x2x4x4096x4096 [0, 1, 4, 3, 2] (Host.dotGeneral dot_S8x4096x2x128_S8x4096x2x4x128_S8x2x4096x4096x4_3_4_1_13_02_02 none (shapeCast _ (extf .f32 k bitsLt_bf16_f32) shapeCasts_S32768x256_S8x4096x2x128) (shapeCast _ (extf .f32 q bitsLt_bf16_f32) shapeCasts_S32768x1024_S8x4096x2x4x128)) transposes_S8x2x4096x4096x4_S8x2x4x4096x4096_0_1_4_3_2) (broadcastInDim S8x2x4x4096x4096 ![] bcast_S_S8x2x4x4096x4096 (Host.sqrt (constant S_ .f32 0x43000000#32)))

/-- Each query's largest score. -/
def refM (s : FVec Ideal S8x2x4x4096x4096 .f32) : FVec Ideal S8x2x4x4096 .f32 :=
  Host.reduce FloatOps.maximumf s (constant S_ .f32 0xFF800000#32) reducesTo_S8x2x4x4096x4096_S8x2x4x4096_d4 h_S_

/-- The same with a last axis of size one, joined with the lower bound. -/
def refX (m : FVec Ideal S8x2x4x4096 .f32) : FVec Ideal S8x2x4x4096x1 .f32 :=
  broadcastInDim S8x2x4x4096x1 ![0, 1, 2, 3] bcast_S8x2x4x4096_S8x2x4x4096x1_0_1_2_3 (maximumf (broadcastInDim S8x2x4x4096 ![] bcast_S_S8x2x4x4096 (constant S_ .f32 0xFF800000#32)) m)

/-- The exponentials of the scores, each less its query's largest. -/
def refE (s : FVec Ideal S8x2x4x4096x4096 .f32) : FVec Ideal S8x2x4x4096x4096 .f32 :=
  Host.exp (subf s (broadcastInDim S8x2x4x4096x4096 ![0, 1, 2, 3, 4] bcast_S8x2x4x4096x1_S8x2x4x4096x4096_0_1_2_3_4 (refX (refM s))))

/-- The weighted values. -/
def refO (v : FVec Ideal S32768x256 .bf16) (e : FVec Ideal S8x2x4x4096x4096 .f32) : FVec Ideal S8x2x128x4x4096 .f32 :=
  Host.dotGeneral dot_S8x4096x2x128_S8x2x4x4096x4096_S8x2x128x4x4096_1_4_3_23_02_01 none (shapeCast _ (extf .f32 v bitsLt_bf16_f32) shapeCasts_S32768x256_S8x4096x2x128) (Host.divf e (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (Host.reduceAdd e (constant S_ .f32 0x00000000#32) reducesTo_S8x2x4x4096x4096_S8x2x4x4096_d4 h_S_))))

/-- The reference's result as a function of its four arguments. -/
def refVal (q : FVec Ideal S32768x1024 .bf16) (k v : FVec Ideal S32768x256 .bf16) (sz : FVec Ideal S32768x3072 .bf16) : FVec Ideal S32768x1024 .bf16 :=
  truncf .bf16 (mulf (shapeCast _ (transpose S8x4096x2x4x128 [0, 4, 1, 3, 2] (refO v (refE (refS q k))) transposes_S8x2x128x4x4096_S8x4096x2x4x128_0_4_1_3_2) shapeCasts_S8x4096x2x4x128_S32768x1024) (extf .f32 (extractStridedSlice S32768x1024 ![0, 1024] sz slices_S32768x3072_S32768x1024_0_1024) bitsLt_bf16_f32)) bitsLt_bf16_f32

theorem refS_apply (q : FVec Ideal S32768x1024 .bf16) (k : FVec Ideal S32768x256 .bf16) (b : Fin 8) (g : Fin 2) (h : Fin 4) (x y : Fin 4096) :
    refS q k (ix5 b g h x y) = Ideal.div (∑ d : Fin 128, k (ix2 ⟨b.val * 4096 + y.val, by omega⟩ ⟨g.val * 128 + d.val, by omega⟩)
      * q (ix2 ⟨b.val * 4096 + x.val, by omega⟩ ⟨g.val * 512 + h.val * 128 + d.val, by omega⟩)) (Ideal.sqrt (Ideal.ofBits .f32 1124073472#32)) := by
  pointwise [refS]

/-- The largest of the last coordinate's entries. -/
theorem fold_last {a b c d e : Nat} (x : (⟨5, ![a, b, c, d, e]⟩ : Shape).Idx → EReal) (init : (⟨0, ![]⟩ : Shape).Idx → EReal)
    (h' : (⟨5, ![a, b, c, d, e]⟩ : Shape).ReducesTo [4] ⟨4, ![a, b, c, d]⟩) (hu) (i0 : Fin a) (i1 : Fin b) (i2 : Fin c) (i3 : Fin d) :
    Host.reduce max x init h' hu (ix4 i0 i1 i2 i3) = Finset.fold max (init (Shape.Idx.first hu)) (fun y : Fin e => x (ix5 i0 i1 i2 i3 y)) Finset.univ := by
  have h : (⟨5, ![a, b, c, d, e]⟩ : Shape).Reduces [4] ⟨4, ![a, b, c, d]⟩ := ⟨h'.1, Nat.succ_pos 3, h'.2⟩
  rw [Host.reduce_eq_fold_single max x init h' h hu]
  refine congrArg (fun f => Finset.fold max _ f Finset.univ) (funext fun y => ?_)
  show x (h.lift (ix4 i0 i1 i2 i3) y) = _
  rw [← h.lift_drop (ix5 i0 i1 i2 i3 y)]
  refine congrArg (fun j => x (h.lift j y)) (funext fun t => ?_)
  match t with
  | 0 => rfl
  | 1 => rfl
  | 2 => rfl
  | 3 => rfl

theorem refM_apply (s : FVec Ideal S8x2x4x4096x4096 .f32) (b : Fin 8) (g : Fin 2) (h : Fin 4) (x : Fin 4096) :
    refM s (ix4 b g h x) = Finset.fold max (Ideal.ofBits .f32 4286578688#32) (fun y : Fin 4096 => s (ix5 b g h x y)) Finset.univ :=
  fold_last s _ _ _ b g h x

theorem refX_apply (m : FVec Ideal S8x2x4x4096 .f32) (b : Fin 8) (g : Fin 2) (h : Fin 4) (x : Fin 4096) :
    refX m (ix5 b g h x 0) = max (Ideal.ofBits .f32 4286578688#32) (m (ix4 b g h x)) := by
  pointwise [refX]

theorem refE_apply (s : FVec Ideal S8x2x4x4096x4096 .f32) (b : Fin 8) (g : Fin 2) (h : Fin 4) (x y : Fin 4096) :
    refE s (ix5 b g h x y) = Ideal.exp (s (ix5 b g h x y) - refX (refM s) (ix5 b g h x 0)) := by
  pointwise [refE]

/-- One weight, not yet divided by the weights' sum. -/
theorem refE_entry (s : FVec Ideal S8x2x4x4096x4096 .f32) (b : Fin 8) (g : Fin 2) (h : Fin 4) (x y : Fin 4096) :
    refE s (ix5 b g h x y) = Ideal.exp (s (ix5 b g h x y) - max (Ideal.ofBits .f32 4286578688#32)
      (Finset.fold max (Ideal.ofBits .f32 4286578688#32) (fun z : Fin 4096 => s (ix5 b g h x z)) Finset.univ)) := by
  rw [refE_apply, refX_apply, refM_apply]

theorem refO_apply (v : FVec Ideal S32768x256 .bf16) (e : FVec Ideal S8x2x4x4096x4096 .f32) (b : Fin 8) (g : Fin 2) (d : Fin 128) (h : Fin 4) (x : Fin 4096) :
    refO v e (ix5 b g d h x) = ∑ y : Fin 4096, v (ix2 ⟨b.val * 4096 + y.val, by omega⟩ ⟨g.val * 128 + d.val, by omega⟩)
      * Ideal.div (e (ix5 b g h x y)) (∑ z : Fin 4096, e (ix5 b g h x z)) := by
  pointwise [refO]

theorem refVal_apply (q : FVec Ideal S32768x1024 .bf16) (k v : FVec Ideal S32768x256 .bf16) (sz : FVec Ideal S32768x3072 .bf16) (r : Fin 32768) (j : Fin 1024) :
    refVal q k v sz (ix2 r j) = refO v (refE (refS q k)) (ix5 ⟨r.val / 4096, by omega⟩ ⟨j.val / 512, by omega⟩ ⟨j.val % 128, by omega⟩
      ⟨j.val / 128 % 4, by omega⟩ ⟨r.val % 4096, by omega⟩) * sz (ix2 r ⟨1024 + j.val, by omega⟩) := by
  pointwise [refVal]

end Cert.ReferenceIdeal.Attn

end
-- ==== Proof.Softmax.lean ====
module

public import Idealize.ShloMosaic.Lib.IdealHost
public import Mathlib.Analysis.SpecialFunctions.Pow.Real

@[expose] public section

noncomputable section

/-! Softmax over the extended reals: real scores, values of any kind.

A base-two exponential of scores scaled by `1 / log 2` is the natural exponential of the unscaled
scores; and a weighted sum divided once by the sum of the weights is the sum weighted by the
divided weights. -/

namespace Cert.Softmax

open Idealize.ShloMosaic

/-- The maximum of a family of reals, started from `⊥`, is the real maximum. -/
theorem fold_max_coe {n : Nat} (f : Fin (n + 1) → ℝ) :
    Finset.fold max (⊥ : EReal) (fun x => ((f x : ℝ) : EReal)) Finset.univ
      = ((Finset.univ.sup' Finset.univ_nonempty f : ℝ) : EReal) := by
  apply le_antisymm
  · rw [Finset.fold_max_le]
    exact ⟨bot_le, fun x _ => EReal.coe_le_coe_iff.mpr (Finset.le_sup' f (Finset.mem_univ x))⟩
  · obtain ⟨x, _, hx⟩ := Finset.exists_mem_eq_sup' Finset.univ_nonempty f
    rw [hx, Finset.le_fold_max]
    exact Or.inr ⟨x, Finset.mem_univ x, le_rfl⟩

/-- The maximum of a family scaled by a nonnegative real is the scaled maximum. -/
theorem sup_scale {n : Nat} (f : Fin (n + 1) → ℝ) {c : ℝ} (hc : 0 ≤ c) :
    Finset.univ.sup' Finset.univ_nonempty (fun x => f x * c) = Finset.univ.sup' Finset.univ_nonempty f * c := by
  apply le_antisymm
  · exact Finset.sup'_le _ _ fun x _ => mul_le_mul_of_nonneg_right (Finset.le_sup' f (Finset.mem_univ x)) hc
  · obtain ⟨x, _, hx⟩ := Finset.exists_mem_eq_sup' Finset.univ_nonempty f
    rw [hx]
    exact Finset.le_sup' (fun x => f x * c) (Finset.mem_univ x)

/-- A sum of reals, read as extended reals. -/
theorem coe_sum {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

/-- A real nonnegative factor goes through any sum of extended reals. -/
theorem sum_mul_coe {ι : Type} (s : Finset ι) (f : ι → EReal) {c : ℝ} (hc : 0 ≤ c) :
    (∑ x ∈ s, f x) * (c : EReal) = ∑ x ∈ s, f x * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

theorem exp2_scaled (a s : ℝ) : Real.rpow 2 (a * ((Real.log 2)⁻¹ * s⁻¹)) = Real.exp (a / s) := by
  have hl : Real.log 2 ≠ 0 := (Real.log_pos (by norm_num)).ne'
  rw [Real.rpow_eq_pow]
  rw [Real.rpow_def_of_pos (by norm_num)]
  congr 1
  field_simp

/-- The two forms of the softmax-weighted sum agree: `a` the real dot products of the query with the keys,
    `s` the scale's denominator, `v` the values. -/
theorem weighted {n : Nat} (a : Fin (n + 1) → ℝ) (v : Fin (n + 1) → EReal) {s : ℝ} (hs : 0 < s) :
    Ideal.div
        (∑ x, v x * Ideal.exp2 (((a x * ((Real.log 2)⁻¹ * s⁻¹) : ℝ) : EReal)
          - Finset.fold max (⊥ : EReal) (fun y => ((a y * ((Real.log 2)⁻¹ * s⁻¹) : ℝ) : EReal)) Finset.univ))
        (∑ x, Ideal.exp2 (((a x * ((Real.log 2)⁻¹ * s⁻¹) : ℝ) : EReal)
          - Finset.fold max (⊥ : EReal) (fun y => ((a y * ((Real.log 2)⁻¹ * s⁻¹) : ℝ) : EReal)) Finset.univ))
      = ∑ x, v x * Ideal.div
          (Ideal.exp (((a x / s : ℝ) : EReal) - Finset.fold max (⊥ : EReal) (fun y => ((a y / s : ℝ) : EReal)) Finset.univ))
          (∑ z, Ideal.exp (((a z / s : ℝ) : EReal) - Finset.fold max (⊥ : EReal) (fun y => ((a y / s : ℝ) : EReal)) Finset.univ)) := by
  have hl : 0 < Real.log 2 := Real.log_pos (by norm_num)
  have hc : 0 ≤ (Real.log 2)⁻¹ * s⁻¹ := by positivity
  have hc' : 0 ≤ s⁻¹ := by positivity
  set M : ℝ := Finset.univ.sup' Finset.univ_nonempty a with hM
  have e1 : Finset.fold max (⊥ : EReal) (fun y => ((a y * ((Real.log 2)⁻¹ * s⁻¹) : ℝ) : EReal)) Finset.univ
      = ((M * ((Real.log 2)⁻¹ * s⁻¹) : ℝ) : EReal) := by
    rw [fold_max_coe (fun y => a y * ((Real.log 2)⁻¹ * s⁻¹)), sup_scale a hc]
  have e2 : Finset.fold max (⊥ : EReal) (fun y => ((a y / s : ℝ) : EReal)) Finset.univ = ((M / s : ℝ) : EReal) := by
    rw [fold_max_coe (fun y => a y / s)]
    simp only [div_eq_mul_inv]
    rw [sup_scale a hc']
  set E : Fin (n + 1) → ℝ := fun x => Real.exp ((a x - M) / s) with hE
  have k1 : ∀ x, Ideal.exp2 (((a x * ((Real.log 2)⁻¹ * s⁻¹) : ℝ) : EReal) - ((M * ((Real.log 2)⁻¹ * s⁻¹) : ℝ) : EReal))
      = ((E x : ℝ) : EReal) := by
    intro x
    rw [← EReal.coe_sub, ← sub_mul, Ideal.exp2_coe, exp2_scaled]
  have k2 : ∀ x, Ideal.exp (((a x / s : ℝ) : EReal) - ((M / s : ℝ) : EReal)) = ((E x : ℝ) : EReal) := by
    intro x
    rw [← EReal.coe_sub, ← sub_div, Ideal.exp_coe]
  rw [e1, e2]
  simp only [k1, k2]
  rw [coe_sum]
  have hD : 0 < ∑ x, E x := Finset.sum_pos (fun x _ => Real.exp_pos _) Finset.univ_nonempty
  have hDi : 0 ≤ 1 / ∑ x, E x := by positivity
  rw [Ideal.div_coe hD.ne', sum_mul_coe _ _ hDi]
  refine Finset.sum_congr rfl fun x _ => ?_
  rw [Ideal.div_coe hD.ne', mul_assoc]

end Cert.Softmax

end
-- ==== Proof.GqaEq.lean ====
/- The equality of the two forms of one entry of the attention. -/
module

public import proofs.«01_k».proof.Proof.Softmax
public import Idealize.ShloMosaic.Lib.IdealHost

@[expose] public section

noncomputable section

namespace Cert.Softmax

open Idealize.ShloMosaic

theorem ofBits_bot : Ideal.ofBits .f32 4286578688#32 = (⊥ : EReal) := by
  simp [Ideal.ofBits, Ideal.ieee]

theorem ofBits_128 : Ideal.ofBits .f32 1124073472#32 = ((128 : ℝ) : EReal) := by
  simp [Ideal.ofBits, Ideal.ieee, -EReal.coe_mul]
  norm_num

theorem ofBits_one : Ideal.ofBits .bf16 0x3F80#16 = (1 : EReal) := by
  exact Ideal.ofBits_one_bf16

theorem ofBits_top : Ideal.ofBits .f32 0x7F800000#32 = (⊤ : EReal) := by
  simp [Ideal.ofBits, Ideal.ieee]

theorem sqrt_128 : Ideal.sqrt ((128 : ℝ) : EReal) = ((Real.sqrt 128 : ℝ) : EReal) := by
  rw [Ideal.sqrt_coe, if_neg (by norm_num)]

/-- A number below infinity in absolute value is a real one. -/
theorem real_of_abs (x : EReal) (h : max x (-x) < ⊤) : ∃ r : ℝ, x = r := by
  induction x with
  | bot => simp at h
  | top => simp at h
  | coe r => exact ⟨r, rfl⟩

/-- One entry: the kernel's form, with base two and one division at the end, is the softmax's. -/
theorem entry {n d : Nat} (k : Fin (n + 1) → Fin d → EReal) (q : Fin d → EReal) (v : Fin (n + 1) → EReal)
    (hk : ∀ y e, ∃ r : ℝ, k y e = r) (hq : ∀ e, ∃ r : ℝ, q e = r) {s : ℝ} (hs : 0 < s) :
    Ideal.div
        (∑ y, v y * Ideal.exp2 ((∑ e, k y e * (q e * (((Real.log 2)⁻¹ * s⁻¹ : ℝ) : EReal)))
          - Finset.fold max (⊥ : EReal) (fun z => ∑ e, k z e * (q e * (((Real.log 2)⁻¹ * s⁻¹ : ℝ) : EReal))) Finset.univ))
        (∑ y, 1 * Ideal.exp2 ((∑ e, k y e * (q e * (((Real.log 2)⁻¹ * s⁻¹ : ℝ) : EReal)))
          - Finset.fold max (⊥ : EReal) (fun z => ∑ e, k z e * (q e * (((Real.log 2)⁻¹ * s⁻¹ : ℝ) : EReal))) Finset.univ))
      = ∑ y, v y * Ideal.div
          (Ideal.exp (Ideal.div (∑ e, k y e * q e) (s : EReal)
            - Finset.fold max (⊥ : EReal) (fun z => Ideal.div (∑ e, k z e * q e) (s : EReal)) Finset.univ))
          (∑ x, Ideal.exp (Ideal.div (∑ e, k x e * q e) (s : EReal)
            - Finset.fold max (⊥ : EReal) (fun z => Ideal.div (∑ e, k z e * q e) (s : EReal)) Finset.univ)) := by
  choose rk hk using hk
  choose rq hq using hq
  have hl : ∀ y, (∑ e, k y e * (q e * (((Real.log 2)⁻¹ * s⁻¹ : ℝ) : EReal)))
      = (((∑ e, rk y e * rq e) * ((Real.log 2)⁻¹ * s⁻¹) : ℝ) : EReal) := by
    intro y
    simp only [hk, hq, ← EReal.coe_mul, coe_sum, Finset.sum_mul, mul_assoc]
  have hr : ∀ y, Ideal.div (∑ e, k y e * q e) (s : EReal) = (((∑ e, rk y e * rq e) / s : ℝ) : EReal) := by
    intro y
    rw [Ideal.div_coe hs.ne']
    simp only [hk, hq, ← EReal.coe_mul, coe_sum]
    rw [mul_one_div]
  simp only [hl, hr, one_mul]
  exact weighted (fun y => ∑ e, rk y e * rq e) v hs

end Cert.Softmax
end
-- ==== Proof.GqaValue.lean ====
/- The call's result is the reference's: the two read at one entry, with real queries and keys. -/
module

public import proofs.«01_k».proof.Proof.GqaHead
public import proofs.«01_k».proof.Proof.GqaRef
public import proofs.«01_k».proof.Proof.GqaEq
public import proofs.«01_k».proof.Proof.Gen.Pre_finite_qk

@[expose] public section

set_option maxRecDepth 16384

noncomputable section

namespace Cert.Gqa

open Idealize.ShloMosaic Idealize.ShloMosaic.TcCoe Idealize.SL.Sem Cert.KernelIdeal Cert.KernelIdeal.Gen Cert.KernelIdeal.Own Cert.KernelIdeal.OwnValue
open Cert.KernelIdeal.Attn Cert.ReferenceIdeal.Attn Cert.Softmax

/-- Every entry of an array is a real number. -/
def AllReal {S : Shape} (x : FVec Ideal S .bf16) : Prop := ∀ i, ∃ r : ℝ, (x i : EReal) = r

/-- The grid step of row `r` and column `j`, read at their place in its block, from the four arguments. -/
def step (q : FVec Ideal ⟨2, ![32768, 1024]⟩ .bf16) (k v : FVec Ideal ⟨2, ![32768, 256]⟩ .bf16) (sz : FVec Ideal ⟨2, ![32768, 3072]⟩ .bf16)
    (n : Nat) (hn : n < 64) : FVec Ideal ⟨2, ![4096, 128]⟩ .bf16 :=
  head (F := Ideal) (cut 4096 128 q (4096 * (n / 8)) (128 * (n % 8)) (by omega) (by omega))
    (cut 4096 128 k (4096 * (n / 8)) (128 * (n % 8 / 4)) (by omega) (by omega))
    (cut (F := Ideal) (R := 288) (C := 32768) 144 4096 (vtOf (F := Ideal) v) (144 * (n % 8 / 4)) (4096 * (n / 8)) (by omega) (by omega))
    (cut 4096 128 sz (4096 * (n / 8)) (128 * (8 + n % 8)) (by omega) (by omega))

theorem cut_apply {R C : Nat} (h w : Nat) (x : FVec Ideal ⟨2, ![R, C]⟩ .bf16) (r s : Nat) (hr hs) (a : Fin h) (b : Fin w)
    (i : Fin R) (j : Fin C) (ei : i.val = r + a.val) (ej : j.val = s + b.val) :
    cut h w x r s hr hs (ix2 a b) = x (ix2 i j) := by
  have e1 : i = ⟨r + a.val, ei ▸ i.isLt⟩ := Fin.ext ei
  have e2 : j = ⟨s + b.val, ej ▸ j.isLt⟩ := Fin.ext ej
  rw [e1, e2]
  rfl

/-- One entry of the call's result is the reference's. -/
theorem step_eq (q : FVec Ideal ⟨2, ![32768, 1024]⟩ .bf16) (k v : FVec Ideal ⟨2, ![32768, 256]⟩ .bf16) (sz : FVec Ideal ⟨2, ![32768, 3072]⟩ .bf16)
    (hq : AllReal q) (hk : AllReal k) (r : Fin 32768) (j : Fin 1024) (n : Nat) (hn : n < 64) (e : n = 8 * (r.val / 4096) + j.val / 128) :
    step q k v sz n hn (ix2 ⟨r.val % 4096, by omega⟩ ⟨j.val % 128, by omega⟩) = refVal q k v sz (ix2 r j) := by
  have e1 : n / 8 = r.val / 4096 := by omega
  have e2 : n % 8 = j.val / 128 := by omega
  have e3 : n % 8 / 4 = j.val / 512 := by omega
  unfold step
  rw [head_apply, refVal_apply, refO_apply]
  rw [cut_apply (R := 32768) (C := 3072) 4096 128 sz _ _ _ _ _ _ r ⟨1024 + j.val, by omega⟩ (by show r.val = 4096 * (n / 8) + r.val % 4096; omega)
    (by show 1024 + j.val = 128 * (8 + n % 8) + j.val % 128; omega)]
  refine congrArg (· * _) ?_
  have hv : ∀ y : Fin 4096, cut (F := Ideal) (R := 288) (C := 32768) 144 4096 (vtOf (F := Ideal) v) (144 * (n % 8 / 4)) (4096 * (n / 8)) (by omega) (by omega) (ix2 ⟨j.val % 128, by omega⟩ y)
      = v (ix2 ⟨r.val / 4096 * 4096 + y.val, by omega⟩ ⟨j.val / 512 * 128 + j.val % 128, by omega⟩) := fun y =>
    (cut_apply _ _ _ _ _ _ _ _ _ ⟨144 * (j.val / 512) + j.val % 128, by omega⟩ ⟨r.val / 4096 * 4096 + y.val, by omega⟩
      (by show 144 * (j.val / 512) + j.val % 128 = 144 * (n % 8 / 4) + j.val % 128; omega)
      (by show r.val / 4096 * 4096 + y.val = 4096 * (n / 8) + y.val; omega)).trans
      (vtOf_val v ⟨j.val / 512, by omega⟩ ⟨j.val % 128, by omega⟩ _)
  have h1 : ∀ y : Fin 4096, cut (F := Ideal) (R := 288) (C := 32768) 144 4096 (vtOf (F := Ideal) v) (144 * (n % 8 / 4)) (4096 * (n / 8)) (by omega) (by omega) (ix2 128 y)
      = (1 : EReal) := fun y =>
    (cut_apply _ _ _ _ _ _ _ _ _ ⟨144 * (j.val / 512) + 128, by omega⟩ ⟨r.val / 4096 * 4096 + y.val, by omega⟩
      (by show 144 * (j.val / 512) + 128 = 144 * (n % 8 / 4) + 128; omega)
      (by show r.val / 4096 * 4096 + y.val = 4096 * (n / 8) + y.val; omega)).trans
      (vtOf_one v ⟨j.val / 512, by omega⟩ _)
  have hqc : ∀ d : Fin 128, cut (F := Ideal) (R := 32768) (C := 1024) 4096 128 q (4096 * (n / 8)) (128 * (n % 8)) (by omega) (by omega) (ix2 ⟨r.val % 4096, by omega⟩ d)
      = q (ix2 ⟨r.val / 4096 * 4096 + r.val % 4096, by omega⟩ ⟨j.val / 512 * 512 + j.val / 128 % 4 * 128 + d.val, by omega⟩) := fun d =>
    cut_apply _ _ _ _ _ _ _ _ _ _ _ (by show r.val / 4096 * 4096 + r.val % 4096 = 4096 * (n / 8) + r.val % 4096; omega)
      (by show j.val / 512 * 512 + j.val / 128 % 4 * 128 + d.val = 128 * (n % 8) + d.val; omega)
  have hkc : ∀ (y : Fin 4096) (d : Fin 128), cut (F := Ideal) (R := 32768) (C := 256) 4096 128 k (4096 * (n / 8)) (128 * (n % 8 / 4)) (by omega) (by omega) (ix2 y d)
      = k (ix2 ⟨r.val / 4096 * 4096 + y.val, by omega⟩ ⟨j.val / 512 * 128 + d.val, by omega⟩) := fun y d =>
    cut_apply _ _ _ _ _ _ _ _ _ _ _ (by show r.val / 4096 * 4096 + y.val = 4096 * (n / 8) + y.val; omega)
      (by show j.val / 512 * 128 + d.val = 128 * (n % 8 / 4) + d.val; omega)
  simp only [weight, score, hv, h1, hqc, hkc, refE_entry, refS_apply, ofBits_bot, ofBits_128, sqrt_128, max_bot_left]
  exact entry (fun (y : Fin 4096) (d : Fin 128) => k (ix2 ⟨r.val / 4096 * 4096 + y.val, by omega⟩ ⟨j.val / 512 * 128 + d.val, by omega⟩))
    (fun d : Fin 128 => q (ix2 ⟨r.val / 4096 * 4096 + r.val % 4096, by omega⟩ ⟨j.val / 512 * 512 + j.val / 128 % 4 * 128 + d.val, by omega⟩))
    (fun y : Fin 4096 => v (ix2 ⟨r.val / 4096 * 4096 + y.val, by omega⟩ ⟨j.val / 512 * 128 + j.val % 128, by omega⟩))
    (fun _ _ => hk _) (fun _ => hq _) (Real.sqrt_pos.mpr (by norm_num))

/-- What the precondition says: every query and every key is a real number. -/
theorem real_args (q : FVec Ideal ⟨2, ![32768, 1024]⟩ .bf16) (k v : FVec Ideal ⟨2, ![32768, 256]⟩ .bf16) (sz : FVec Ideal ⟨2, ![32768, 3072]⟩ .bf16)
    (h1 : (Cert.Pre_finite_qk.fn (F := Ideal) q k v sz).1 = fun _ => 1#1) (h2 : (Cert.Pre_finite_qk.fn (F := Ideal) q k v sz).2 = fun _ => 1#1) :
    AllReal q ∧ AllReal k := by
  constructor
  · intro i
    have h := congrFun h1 i
    change Ideal.cmp .olt (max (q i) (-(q i))) (Ideal.ofBits .f32 0x7F800000#32) = 1#1 at h
    rw [ofBits_top] at h
    refine real_of_abs _ (by_contra fun hc => ?_)
    simp only [Ideal.cmp, decide_eq_false hc] at h
    exact absurd h (by decide)
  · intro i
    have h := congrFun h2 i
    change Ideal.cmp .olt (max (k i) (-(k i))) (Ideal.ofBits .f32 0x7F800000#32) = 1#1 at h
    rw [ofBits_top] at h
    refine real_of_abs _ (by_contra fun hc => ?_)
    simp only [Ideal.cmp, decide_eq_false hc] at h
    exact absurd h (by decide)

/-- The array that the call leaves, as the reference's function of the arguments. -/
theorem G6_eq (m : (ℓ : Loc nD τ sig) → Buf (Elt Ideal) ℓ) (c : Dev nD)
    (hq : AllReal (S := ⟨2, ![32768, 1024]⟩) (m ((c : Thread nD τ).loc main_arg0)))
    (hk : AllReal (S := ⟨2, ![32768, 256]⟩) (m ((c : Thread nD τ).loc main_arg1))) :
    G6 m c = refVal (m ((c : Thread nD τ).loc main_arg0)) (m ((c : Thread nD τ).loc main_arg1)) (m ((c : Thread nD τ).loc main_arg2)) (m ((c : Thread nD τ).loc main_arg3)) := by
  funext i
  have h0 : (i 0).val < 32768 := (i 0).isLt
  have h1 : (i 1).val < 1024 := (i 1).isLt
  have hn : pt6Of i < cfg0.N := lt_of_lt_of_eq (by show 8 * ((i 0).val / 4096 - 0) + 1 * ((i 1).val / 128 - 0) < 64; omega) N_0.symm
  unfold G6
  rw [dif_pos hn, outs_eq]
  dsimp only
  rw [iblk0, iblk1, iblk4, iblk5]
  have hi : i = ix2 (i 0) (i 1) := funext fun a => by match a with
    | 0 => rfl
    | 1 => rfl
  have hl : loc6Of i = ix2 ⟨(i 0).val % 4096, Nat.mod_lt _ (by decide)⟩ ⟨(i 1).val % 128, Nat.mod_lt _ (by decide)⟩ := funext fun a => by match a with
    | 0 => rfl
    | 1 => rfl
  rw [hl]
  refine (step_eq _ _ _ _ hq hk (i 0) (i 1) (pt6Of i) (lt_of_lt_of_eq hn N_0) (by show 8 * ((i 0).val / 4096 - 0) + 1 * ((i 1).val / 128 - 0) = _; omega)).trans ?_
  exact congrArg _ hi.symm

end Cert.Gqa
end
-- ==== Proof.MlaPlainRunA.lean ====
/- The run of the body of `KernelA` in one case of its branch, with the budget that this body needs. -/
module

public import proofs.«01_k».proof.Proof.Gen.KernelA.Frame.Runs
public import proofs.«01_k».proof.Proof.Whole

@[expose] public section

-- membership in a rectangle of production extents (`View.cover_of_tiled`): the elaborator's structural look
-- recurses once per coordinate of the long axes
set_option maxRecDepth 16384

noncomputable section

namespace Cert.KernelA.Own

open Cert.KernelA Cert.KernelA.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_A (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) :
    Σ' (LS0 : List (View.Piece (Elt F) S4096x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0_attn_mla i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_attn_mla_eq_skeleton]; unfold cc0_attn_mla_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    rw [Cert.Whole.last arg9 harg9 _ (by decide) inb_S4096x512_S4096x512_0_0, Cert.Whole.last arg11 harg11 _ (by decide) inb_S1x512_S1x512_0_0]
    isplitl [HS0]; · iexists _; iexact HS0
    isplitl [HS1]
    · iexists _, _; isplitr; swap; · iexact HS1
      ipureintro; rfl
    isplitl [HS2]; · iexists _; iexact HS2
    iexists _, _; isplitr; swap; · iexact HS3
    ipureintro; rfl

end Cert.KernelA.Own

end
-- ==== Proof.MlaPlainRunB.lean ====
/- The run of the body of `KernelA` in one case of its branch, with the budget that this body needs. -/
module

public import proofs.«01_k».proof.Proof.Gen.KernelA.Frame.Runs
public import proofs.«01_k».proof.Proof.Whole

@[expose] public section

-- membership in a rectangle of production extents (`View.cover_of_tiled`): the elaborator's structural look
-- recurses once per coordinate of the long axes
set_option maxRecDepth 16384

noncomputable section

namespace Cert.KernelA.Own

open Cert.KernelA Cert.KernelA.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_B (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) :
    Σ' (LS0 : List (View.Piece (Elt F) S4096x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0_attn_mla i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_attn_mla_eq_skeleton]; unfold cc0_attn_mla_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg11.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    rw [Cert.Whole.last arg9 harg9 _ (by decide) inb_S4096x512_S4096x512_0_0, Cert.Whole.last arg11 harg11 _ (by decide) inb_S1x512_S1x512_0_0]
    isplitl [HS0]; · iexists _; iexact HS0
    isplitl [HS1]
    · iexists _, _; isplitr; swap; · iexact HS1
      ipureintro; rfl
    isplitl [HS2]; · iexists _; iexact HS2
    iexists _, _; isplitr; swap; · iexact HS3
    ipureintro; rfl

end Cert.KernelA.Own

end
-- ==== Proof.MlaPlainFrame.lean ====
/- The frame of `KernelA` over the runs of `PlainRunA` and `PlainRunB`. -/
module

public import proofs.«01_k».proof.Proof.MlaPlainRunA
public import proofs.«01_k».proof.Proof.MlaPlainRunB
public import Idealize.ShloMosaic.Lib.Claim

@[expose] public section

-- membership in a rectangle of production extents (`View.cover_of_tiled`): the elaborator's structural look
-- recurses once per coordinate of the long axes
set_option maxRecDepth 16384

noncomputable section

namespace Cert.KernelA.Own

open Cert.KernelA Cert.KernelA.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 5 pieces of `S4096x512` tiling it (Lib/Ring.lean `Piece.tiledL`). -/
theorem scover0_A_0 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (y : S4096x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).1 S4096x512.size (by sl_kernel_rfl) y

/-- What case A leaves in scratch `arg9`: its pieces read back over junk. -/
def sout0_A_0 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) : Vec F S4096x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5).1)

/-- Case A's pieces for scratch `arg11`, which the kernel carries between points, cover it: 5 pieces of `S1x512` tiling it (Lib/Ring.lean `Piece.tiledL`). -/
theorem scover0_A_2 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.1 S1x512.size (by sl_kernel_rfl) y

/-- What case A leaves in scratch `arg11`: its pieces read back over junk. -/
def sout0_A_2 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) : Vec F S1x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.1)

/-- Case B's pieces for scratch `arg9`, which the kernel carries between points, cover it: 4 pieces of `S4096x512` tiling it (Lib/Ring.lean `Piece.tiledL`). -/
theorem scover0_B_0 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) (y : S4096x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1 S4096x512.size (by sl_kernel_rfl) y

/-- What case B leaves in scratch `arg9`: its pieces read back over junk. -/
def sout0_B_0 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) : Vec F S4096x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1)

/-- Case B's pieces for scratch `arg11`, which the kernel carries between points, cover it: 4 pieces of `S1x512` tiling it (Lib/Ring.lean `Piece.tiledL`). -/
theorem scover0_B_2 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1 S1x512.size (by sl_kernel_rfl) y

/-- What case B leaves in scratch `arg11`: its pieces read back over junk. -/
def sout0_B_2 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) : Vec F S1x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4096x512 .f32 × Vec F S1x512 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 64 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 64 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ (∃ d, owns (c : Thread nD τ) scM0_1 fullShare d) ∗ owns (c : Thread nD τ) scM0_2 fullShare ((outsAt0 m c n hn).2) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ (∃ d, owns (c : Thread nD τ) scM0_1 fullShare d) ∗ owns (c : Thread nD τ) scM0_2 fullShare ((outsAt0 m c n hn).2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ (∃ d, owns (c : Thread nD τ) scM0_1 fullShare d) ∗ owns (c : Thread nD τ) scM0_2 fullShare ((outsAt0 m c (n - 1) (by omega)).2) ∗ (∃ d, owns (c : Thread nD τ) scM0_3 fullShare d)) ∗ (∃ r, prngReg c r)) := by
  cases n with
  | zero => exact absurd rfl hz
  | succ n => rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold sout0_A_0 sout0_A_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, HS1, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          isplitl [HS1]
          · iexact HS1
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold sout0_B_0 sout0_B_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, HS1, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          isplitl [HS1]
          · iexact HS1
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged whenever the windows over them are given as inputs, whatever is said of the
    forgotten output. -/
theorem args_of (rd : (c : Dev nD) → Pipeline.RDat τ (Elt F) Unit ℕ (UR sig nD τ) ℕ (cfgs 0) c)
    (hA : ∀ c w, (rd c).A w = V m c (Pipeline.arrRef spec0 w))
    (h : θ_run defs (onTc (τ := τ) (main (F := F))) (s₀ m ρ) (Pipeline.RDat.FramePost (cfgs 0) rd (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    have e5 := Pipeline.RDat.FramePost.arr_in h c 5 rfl
    exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      e5.trans ((hA c 5).trans (V_main_arg3 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  args_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.KernelA.Gen.facts, fun m ρ _ => Cert.KernelA.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelA.Own

end
-- ==== Proof.MlaTrip.lean ====
module

public import proofs.«01_k».proof.Proof.Gen.KernelAIdeal.Loops
public import proofs.«01_k».proof.Proof.Gen.KernelAIdeal
public import Idealize.ShloMosaic.Lib.Pipeline.FrameBody
public import Idealize.ShloMosaic.Lib.Pipeline.Value
public import Idealize.ShloMosaic.Lib.Pipeline.ValueKit

@[expose] public section

set_option maxRecDepth 16384
set_option maxHeartbeats 1000000

noncomputable section

namespace Cert.KernelAIdeal.Attn

open Idealize.ShloMosaic Idealize.ShloMosaic.TcCoe Idealize.ShloMosaic.Tactic Cert.KernelAIdeal Cert.KernelAIdeal.Gen
variable {F : FTy → Type} [FloatOps F] [Named F]

/-- The scores of one block of queries against all keys, keys down the rows. -/
abbrev sc (q : Vec F S512x256 .bf16) (k : Vec F S4096x256 .bf16) : Vec F S4096x512 .f32 := k0_pay3 q k

/-- The largest score of each query of the block. -/
abbrev mx (q : Vec F S512x256 .bf16) (k : Vec F S4096x256 .bf16) : Vec F S1x512 .f32 := k0_pay4 q k

/-- What the kernel makes of a block's scores: weights, weighted values, the quotient, the gate. -/
abbrev fin (s : Vec F S4096x512 .f32) (m : Vec F S1x512 .f32) (vt : Vec F S144x4096 .bf16) (sz : Vec F S512x128 .bf16) :
    Vec F S512x128 .bf16 := k0_pay6 (k0_pay5 s m vt) sz

/-- Rows `512 t …` of a block of 4096 rows of `n` columns. -/
def rows {n : Nat} (x : Vec F ⟨2, ![4096, n]⟩ .bf16) (t : Nat) : Vec F ⟨2, ![512, n]⟩ .bf16 :=
  fun j => x (ix2 (Fin.ofNat 4096 (512 * t + (j 0).val)) (j 1))

/-- The scores that query block `t` of a head is finished from: of the first block those that were made before
    (`s`), of the others its own. -/
def scAt (s : Vec F S4096x512 .f32) (q k : Vec F S4096x256 .bf16) (t : Nat) : Vec F S4096x512 .f32 :=
  if t = 0 then s else sc (rows q t) k

/-- The largest scores that query block `t` of a head is finished from. -/
def mxAt (m : Vec F S1x512 .f32) (q k : Vec F S4096x256 .bf16) (t : Nat) : Vec F S1x512 .f32 :=
  if t = 0 then m else mx (rows q t) k

theorem scAt_own (q k : Vec F S4096x256 .bf16) (t : Nat) : scAt (sc (rows q 0) k) q k t = sc (rows q t) k := by
  unfold scAt; split <;> rename_i h
  · rw [h]
  · rfl

theorem mxAt_own (q k : Vec F S4096x256 .bf16) (t : Nat) : mxAt (mx (rows q 0) k) q k t = mx (rows q t) k := by
  unfold mxAt; split <;> rename_i h
  · rw [h]
  · rfl

/-- The output block of one head: each group of 512 rows is the finished block of its queries. -/
def blk (s : Vec F S4096x512 .f32) (m : Vec F S1x512 .f32) (q k : Vec F S4096x256 .bf16) (vt : Vec F S144x4096 .bf16)
    (sz : Vec F S4096x128 .bf16) : Vec F S4096x128 .bf16 :=
  fun y => fin (scAt s q k ((y 0).val / 512)) (mxAt m q k ((y 0).val / 512)) vt (rows sz ((y 0).val / 512))
    (ix2 (Fin.ofNat 512 (y 0).val) (y 1))

theorem hz : (![0, 0] : Fin 2 → Nat) = fun _ => 0 := funext fun a => by fin_cases a <;> rfl

theorem ld_rows {n : Nat} (x : Vec F ⟨2, ![4096, n]⟩ .bf16) (off : Fin 2 → Nat) (t : Nat) (ht : t < 8) (h : off = ![512 * t, 0])
    (inb : ∀ a, off a + (![512, n] : Fin 2 → Nat) a ≤ (![4096, n] : Fin 2 → Nat) a) :
    View.ld x (Rect.unit (s := ⟨2, ![4096, n]⟩) off ![512, n] inb) = rows x t := by
  subst h
  funext j
  show x _ = x _
  congr 1
  funext a
  apply Fin.ext
  have h0 : (j 0).val < 512 := (j 0).isLt
  match a with
  | 0 => show 512 * t + 1 * (j 0).val = (512 * t + (j 0).val) % 4096; omega
  | 1 => show 0 + 1 * (j 1).val = (j 1).val; omega

theorem piece_blk (s : Vec F S4096x512 .f32) (m : Vec F S1x512 .f32) (q k : Vec F S4096x256 .bf16) (vt : Vec F S144x4096 .bf16) (sz : Vec F S4096x128 .bf16)
    (off : Fin 2 → Nat) (t : Nat) (h : off = ![512 * t, 0])
    (inb : ∀ a, off a + S512x128.size a ≤ S4096x128.size a) (w : Vec F S512x128 .bf16)
    (hw : w = fin (scAt s q k t) (mxAt m q k t) vt (rows sz t)) (x : S512x128.Idx) :
    w x = blk s m q k vt sz ((Rect.unit (s := S4096x128) off S512x128.size inb).emb x) := by
  subst h hw
  have h0 : (x 0).val < 512 := (x 0).isLt
  have e0 : (((Rect.unit (s := S4096x128) ![512 * t, 0] S512x128.size inb).emb x) 0).val = 512 * t + (x 0).val := by
    show 512 * t + 1 * (x 0).val = _; omega
  have e1 : (((Rect.unit (s := S4096x128) ![512 * t, 0] S512x128.size inb).emb x) 1).val = (x 1).val := by
    show 0 + 1 * (x 1).val = _; omega
  unfold blk
  rw [e0, show (512 * t + (x 0).val) / 512 = t by omega]
  congr 1
  funext a
  apply Fin.ext
  match a with
  | 0 => show (x 0).val = (512 * t + (x 0).val) % 512; omega
  | 1 => exact e1.symm

theorem off1_eq (k : Fin k0_t1_loop.trips) : k0_off1 k 1#32 = ![512 * (2 * k.val + 1), 0] := by
  revert k; decide +kernel
theorem off1_eq' (k : Fin k0_t1_loop.trips) : k0_off1 k 2#32 = ![512 * (2 * k.val + 2), 0] := by
  revert k; decide +kernel
theorem off2_eq (k : Fin k0_t1_loop.trips) : k0_off2 k = ![512 * (2 * k.val), 0] := by
  revert k; decide +kernel
theorem off3_eq (k : Fin k0_t1_loop.trips) : k0_off3 k = ![512 * (2 * k.val + 1), 0] := by
  revert k; decide +kernel
theorem trips_eq : k0_t1_loop.trips = 3 := by decide +kernel

section Loop
variable (𝒱 : Variants) (c : Dev nD) (bd : Option 𝒱.V) (i : grid0.Coords)
  (arg2 : Memref sig .tc .vmem S4096x256 .bf16) (harg2 : arg2.IsWhole)
  (arg3 : Memref sig .tc .vmem S4096x256 .bf16) (harg3 : arg3.IsWhole)
  (arg4 : Memref sig .tc .vmem S512x256 .bf16) (harg4 : arg4.IsWhole)
  (arg5 : Memref sig .tc .vmem S4096x256 .bf16) (harg5 : arg5.IsWhole)
  (arg6 : Memref sig .tc .vmem S144x4096 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x512 .f32) (harg9 : arg9.IsWhole)
  (arg10 : Memref sig .tc .vmem S4096x512 .f32) (harg10 : arg10.IsWhole)
  (arg11 : Memref sig .tc .vmem S1x512 .f32) (harg11 : arg11.IsWhole)
  (arg12 : Memref sig .tc .vmem S1x512 .f32) (harg12 : arg12.IsWhole)
  (X2 : BufTy.Contents (Elt F) arg2.view.ty) (X3 : BufTy.Contents (Elt F) arg3.view.ty) (X6 : BufTy.Contents (Elt F) arg6.view.ty) (X7 : BufTy.Contents (Elt F) arg7.view.ty)

/-- The pieces one trip of the loop writes: two output blocks and the two score slots. -/
theorem tripL_eq (k : Fin k0_t1_loop.trips) (f8 : BufTy.Contents (Elt F) arg8.view.ty) (f9 : BufTy.Contents (Elt F) arg9.view.ty)
    (f10 : BufTy.Contents (Elt F) arg10.view.ty) (f11 : BufTy.Contents (Elt F) arg11.view.ty) (f12 : BufTy.Contents (Elt F) arg12.view.ty) :
    tripL_k0_t1 (F := F) 𝒱 c bd i arg2 harg2 arg3 harg3 arg4 harg4 arg5 harg5 arg6 harg6 arg7 harg7 arg8 harg8 arg9 harg9 arg10 harg10 arg11 harg11 arg12 harg12 X2 X3 X6 X7 k f8 f9 f10 f11 f12
      = ([⟨Rect.unit (k0_off3 k) S512x128.size (k0_off3_inb k),
            fin (sc (rows (arg2.view.read (Elt F) X2) (2 * k.val + 1)) (arg3.view.read (Elt F) X3)) (mx (rows (arg2.view.read (Elt F) X2) (2 * k.val + 1)) (arg3.view.read (Elt F) X3)) (arg6.view.read (Elt F) X6) (rows (arg7.view.read (Elt F) X7) (2 * k.val + 1))⟩,
          ⟨Rect.unit (k0_off2 k) S512x128.size (k0_off2_inb k),
            fin (arg9.view.read (Elt F) f9) (arg11.view.read (Elt F) f11) (arg6.view.read (Elt F) X6) (rows (arg7.view.read (Elt F) X7) (2 * k.val))⟩],
         [⟨Rect.unit ![0, 0] S4096x512.size inb_S4096x512_S4096x512_0_0, sc (rows (arg2.view.read (Elt F) X2) (2 * k.val + 2)) (arg3.view.read (Elt F) X3)⟩],
         [⟨Rect.unit ![0, 0] S4096x512.size inb_S4096x512_S4096x512_0_0, sc (rows (arg2.view.read (Elt F) X2) (2 * k.val + 1)) (arg3.view.read (Elt F) X3)⟩],
         [⟨Rect.unit ![0, 0] S1x512.size inb_S1x512_S1x512_0_0, mx (rows (arg2.view.read (Elt F) X2) (2 * k.val + 2)) (arg3.view.read (Elt F) X3)⟩],
         [⟨Rect.unit ![0, 0] S1x512.size inb_S1x512_S1x512_0_0, mx (rows (arg2.view.read (Elt F) X2) (2 * k.val + 1)) (arg3.view.read (Elt F) X3)⟩]) := by
  have hk : k.val < 3 := Nat.lt_of_lt_of_le k.isLt k0_t1_abs.2.1
  have a1 : arg2.view.readAt (Elt F) (Rect.unit (k0_off1 k 1#32) ![512, 256] (k0_off1_inb k 0)).toLoadRect X2 = _ :=
    ld_rows (arg2.view.read (Elt F) X2) _ (2 * k.val + 1) (by omega) (off1_eq k) (k0_off1_inb k 0)
  have a2 : arg2.view.readAt (Elt F) (Rect.unit (k0_off1 k 2#32) ![512, 256] (k0_off1_inb k 1)).toLoadRect X2 = _ :=
    ld_rows (arg2.view.read (Elt F) X2) _ (2 * k.val + 2) (by omega) (off1_eq' k) (k0_off1_inb k 1)
  have a3 : arg7.view.readAt (Elt F) (Rect.unit (k0_off3 k) ![512, 128] (k0_off3_inb k)).toLoadRect X7 = _ :=
    ld_rows (arg7.view.read (Elt F) X7) _ (2 * k.val + 1) (by omega) (off3_eq k) (k0_off3_inb k)
  have a4 : arg7.view.readAt (Elt F) (Rect.unit (k0_off2 k) ![512, 128] (k0_off2_inb k)).toLoadRect X7 = _ :=
    ld_rows (arg7.view.read (Elt F) X7) _ (2 * k.val) (by omega) (off2_eq k) (k0_off2_inb k)
  have b3 : arg3.view.readAt (Elt F) (Rect.unit ![0, 0] ![4096, 256] inb_S4096x256_S4096x256_0_0).toLoadRect X3 = _ :=
    View.ld_unit_zero (Val := Elt F) hz inb_S4096x256_S4096x256_0_0 (arg3.view.read (Elt F) X3)
  have b6 : arg6.view.readAt (Elt F) (Rect.unit ![0, 0] ![144, 4096] inb_S144x4096_S144x4096_0_0).toLoadRect X6 = _ :=
    View.ld_unit_zero (Val := Elt F) hz inb_S144x4096_S144x4096_0_0 (arg6.view.read (Elt F) X6)
  have b9 : arg9.view.readAt (Elt F) (Rect.unit ![0, 0] ![4096, 512] inb_S4096x512_S4096x512_0_0).toLoadRect f9 = _ :=
    View.ld_unit_zero (Val := Elt F) hz inb_S4096x512_S4096x512_0_0 (arg9.view.read (Elt F) f9)
  have b11 : arg11.view.readAt (Elt F) (Rect.unit ![0, 0] ![1, 512] inb_S1x512_S1x512_0_0).toLoadRect f11 = _ :=
    View.ld_unit_zero (Val := Elt F) hz inb_S1x512_S1x512_0_0 (arg11.view.read (Elt F) f11)
  have e10 : trip_k0_t1.sl.HW_arg10_1 arg2 arg3 X2 X3 k
      = [⟨Rect.unit ![0, 0] S4096x512.size inb_S4096x512_S4096x512_0_0, sc (rows (arg2.view.read (Elt F) X2) (2 * k.val + 1)) (arg3.view.read (Elt F) X3)⟩] := by
    unfold trip_k0_t1.sl.HW_arg10_1; rw [a1, b3]
  have e12 : trip_k0_t1.sl.HW_arg12_1 arg2 arg3 X2 X3 k
      = [⟨Rect.unit ![0, 0] S1x512.size inb_S1x512_S1x512_0_0, mx (rows (arg2.view.read (Elt F) X2) (2 * k.val + 1)) (arg3.view.read (Elt F) X3)⟩] := by
    unfold trip_k0_t1.sl.HW_arg12_1; rw [a1, b3]
  have e149 : trip_k0_t1.sl.v157 arg2 arg3 arg10 X2 X3 k = sc (rows (arg2.view.read (Elt F) X2) (2 * k.val + 1)) (arg3.view.read (Elt F) X3) := by
    unfold trip_k0_t1.sl.v157; rw [e10]; exact View.readCov_unit_zero _ hz _ _
  have e150 : trip_k0_t1.sl.v158 arg2 arg3 arg12 X2 X3 k = mx (rows (arg2.view.read (Elt F) X2) (2 * k.val + 1)) (arg3.view.read (Elt F) X3) := by
    unfold trip_k0_t1.sl.v158; rw [e12]; exact View.readCov_unit_zero _ hz _ _
  unfold tripL_k0_t1 trip_k0_t1
  dsimp only
  unfold trip_k0_t1.sl.r_1 trip_k0_t1.sl.r
  rw [e10, e12, e149, e150, ← a1, ← a2, ← a3, ← a4, ← b3, ← b6, ← b9, ← b11]
  rfl
end Loop
end Cert.KernelAIdeal.Attn
end
-- ==== Proof.MlaLoop.lean ====
module

public import proofs.«01_k».proof.Proof.Gen.KernelAIdeal.Loops
public import proofs.«01_k».proof.Proof.Gen.KernelAIdeal
public import proofs.«01_k».proof.Proof.MlaTrip
public import proofs.«01_k».proof.Proof.Whole
public import Idealize.ShloMosaic.Lib.Pipeline.FrameBody
public import Idealize.ShloMosaic.Lib.Pipeline.Value
public import Idealize.ShloMosaic.Lib.Pipeline.ValueKit

@[expose] public section

set_option maxRecDepth 16384
set_option maxHeartbeats 1000000

noncomputable section

namespace Cert.KernelAIdeal.Attn

open Idealize.ShloMosaic Idealize.ShloMosaic.TcCoe Idealize.ShloMosaic.Tactic Cert.KernelAIdeal Cert.KernelAIdeal.Gen
variable {F : FTy → Type} [FloatOps F] [Named F]

/-- A row belongs to the group of 512 rows that its number names. -/
theorem mem_rows (off : Fin 2 → Nat) (t : Nat) (h : off = ![512 * t, 0]) (inb : ∀ a, off a + S512x128.size a ≤ S4096x128.size a)
    (y : S4096x128.Idx) (hy : (y 0).val / 512 = t) : y ∈ (Rect.unit (s := S4096x128) off S512x128.size inb).set := by
  subst h
  rw [Rect.mem_set_unit]
  intro a
  have h1 : (y 1).val < 128 := (y 1).isLt
  match a with
  | 0 => show 512 * t ≤ (y 0).val ∧ (y 0).val < 512 * t + 512; omega
  | 1 => show 0 ≤ (y 1).val ∧ (y 1).val < 0 + 128; omega

/-- The whole of an output block lies in it. -/
theorem inb_out : ∀ a, (![0, 0] : Fin 2 → Nat) a + S4096x128.size a ≤ S4096x128.size a := by decide

section Loop
variable (𝒱 : Variants) (c : Dev nD) (bd : Option 𝒱.V) (i : grid0.Coords)
  (arg2 : Memref sig .tc .vmem S4096x256 .bf16) (harg2 : arg2.IsWhole)
  (arg3 : Memref sig .tc .vmem S4096x256 .bf16) (harg3 : arg3.IsWhole)
  (arg4 : Memref sig .tc .vmem S512x256 .bf16) (harg4 : arg4.IsWhole)
  (arg5 : Memref sig .tc .vmem S4096x256 .bf16) (harg5 : arg5.IsWhole)
  (arg6 : Memref sig .tc .vmem S144x4096 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x512 .f32) (harg9 : arg9.IsWhole)
  (arg10 : Memref sig .tc .vmem S4096x512 .f32) (harg10 : arg10.IsWhole)
  (arg11 : Memref sig .tc .vmem S1x512 .f32) (harg11 : arg11.IsWhole)
  (arg12 : Memref sig .tc .vmem S1x512 .f32) (harg12 : arg12.IsWhole)
  (X2 : BufTy.Contents (Elt F) arg2.view.ty) (X3 : BufTy.Contents (Elt F) arg3.view.ty) (X6 : BufTy.Contents (Elt F) arg6.view.ty) (X7 : BufTy.Contents (Elt F) arg7.view.ty)

  (G8 : BufTy.Contents (Elt F) arg8.view.ty) (G9 : BufTy.Contents (Elt F) arg9.view.ty) (G10 : BufTy.Contents (Elt F) arg10.view.ty)
  (G11 : BufTy.Contents (Elt F) arg11.view.ty) (G12 : BufTy.Contents (Elt F) arg12.view.ty)

/-- After `n` trips every output piece is a block of the finished head, and the first slot holds the
    scores of query block `2 n`. -/
theorem loop_inv (s : Vec F S4096x512 .f32) (m : Vec F S1x512 .f32) (h9 : arg9.view.read (Elt F) G9 = s) (h11 : arg11.view.read (Elt F) G11 = m) :
    ∀ n : Nat, n ≤ 3 →
      (∀ p ∈ (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).1, ∀ x, p.2 x = blk s m (arg2.view.read (Elt F) X2) (arg3.view.read (Elt F) X3) (arg6.view.read (Elt F) X6) (arg7.view.read (Elt F) X7) (p.1.emb x))
      ∧ arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.1) = scAt s (arg2.view.read (Elt F) X2) (arg3.view.read (Elt F) X3) (2 * n)
      ∧ arg11.view.read (Elt F) (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.2.2.1) = mxAt m (arg2.view.read (Elt F) X2) (arg3.view.read (Elt F) X3) (2 * n)
  | 0, _ => by
    rw [pb_k0_t1.eq_1]
    exact ⟨fun p hp => absurd hp List.not_mem_nil, h9.trans (if_pos rfl).symm, h11.trans (if_pos rfl).symm⟩
  | n + 1, hn => by
    obtain ⟨i1, i2, i3⟩ := loop_inv s m h9 h11 n (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 ⟨n, by rw [trips_eq]; omega⟩
    rw [tripL_eq] at hs
    dsimp only at hs
    rw [i2, i3] at hs
    rw [hs]
    dsimp only
    refine ⟨fun p hp => ?_, (Cert.Whole.read_over _ _ hz _ _ _).trans (if_neg (by omega)).symm, (Cert.Whole.read_over _ _ hz _ _ _).trans (if_neg (by omega)).symm⟩
    rcases List.mem_append.mp hp with h | h
    · rcases List.mem_cons.mp h with rfl | h
      · exact piece_blk s m _ _ _ _ _ _ (off3_eq ⟨n, _⟩) (k0_off3_inb _) _ (by rw [scAt, mxAt, if_neg (by omega), if_neg (by omega)])
      · rcases List.mem_cons.mp h with rfl | h
        · exact piece_blk s m _ _ _ _ _ _ (off2_eq ⟨n, _⟩) (k0_off2_inb _) _ rfl
        · exact absurd h List.not_mem_nil
    · exact i1 p h

/-- The rows that the loop's pieces cover after `n` trips. -/
theorem loop_cov (y : S4096x128.Idx) :
    ∀ n : Nat, n ≤ 3 → (y 0).val < 1024 * n → ∃ p ∈ (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).1, y ∈ p.1.set
  | 0, _, h => absurd h (by omega)
  | n + 1, hn, h => by
    have hs := pb_k0_t1_succ (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 ⟨n, by rw [trips_eq]; omega⟩
    rw [tripL_eq] at hs
    dsimp only at hs
    rw [hs]
    dsimp only
    by_cases h1 : (y 0).val < 1024 * n
    · obtain ⟨p, hp, hy⟩ := loop_cov y n (by omega) h1
      exact ⟨p, List.mem_append_right _ hp, hy⟩
    by_cases h2 : (y 0).val < 1024 * n + 512
    · exact ⟨_, List.mem_append_left _ (List.mem_cons_of_mem _ List.mem_cons_self),
        mem_rows _ (2 * n) (off2_eq ⟨n, _⟩) (k0_off2_inb _) y (by omega)⟩
    · exact ⟨_, List.mem_append_left _ List.mem_cons_self,
        mem_rows _ (2 * n + 1) (off3_eq ⟨n, _⟩) (k0_off3_inb _) y (by omega)⟩

/-- All the pieces of the output block together, those of the loop and the two after it, read as the head's block. -/
theorem out_read (s : Vec F S4096x512 .f32) (m : Vec F S1x512 .f32) (h9 : arg9.view.read (Elt F) G9 = s) (h11 : arg11.view.read (Elt F) G11 = m)
    (f : BufTy.Contents (Elt F) arg8.view.ty) (w6 w7 : Vec F S512x128 .bf16) (n : Nat) (hn : n = 3)
    (hw6 : w6 = fin (scAt s (arg2.view.read (Elt F) X2) (arg3.view.read (Elt F) X3) 6) (mxAt m (arg2.view.read (Elt F) X2) (arg3.view.read (Elt F) X3) 6) (arg6.view.read (Elt F) X6) (rows (arg7.view.read (Elt F) X7) 6))
    (hw7 : w7 = fin (scAt s (arg2.view.read (Elt F) X2) (arg3.view.read (Elt F) X3) 7) (mxAt m (arg2.view.read (Elt F) X2) (arg3.view.read (Elt F) X3) 7) (arg6.view.read (Elt F) X6) (rows (arg7.view.read (Elt F) X7) 7)) :
    arg8.view.read (Elt F) (arg8.view.writes (Elt F) f
      (⟨Rect.unit ![3584, 0] ![512, 128] inb_S4096x128_S512x128_3584_0, w7⟩ ::
        ⟨Rect.unit ![3072, 0] S512x128.size inb_S4096x128_S512x128_3072_0, w6⟩ :: (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).1))
      = blk s m (arg2.view.read (Elt F) X2) (arg3.view.read (Elt F) X3) (arg6.view.read (Elt F) X6) (arg7.view.read (Elt F) X7) := by
  subst hn
  have hcov : ∀ y : S4096x128.Idx, ∃ p ∈ ((⟨Rect.unit ![3584, 0] ![512, 128] inb_S4096x128_S512x128_3584_0, w7⟩ ::
        ⟨Rect.unit ![3072, 0] S512x128.size inb_S4096x128_S512x128_3072_0, w6⟩ :: (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 3).1) : List (View.Piece (Elt F) S4096x128 .bf16)), y ∈ p.1.set := by
    intro y
    have hy : (y 0).val < 4096 := (y 0).isLt
    by_cases h1 : (y 0).val < 1024 * 3
    · obtain ⟨p, hp, hy⟩ := loop_cov 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 y 3 (by omega) h1
      exact ⟨p, List.mem_cons_of_mem _ (List.mem_cons_of_mem _ hp), hy⟩
    by_cases h2 : (y 0).val < 3584
    · exact ⟨_, List.mem_cons_of_mem _ List.mem_cons_self, mem_rows _ 6 rfl inb_S4096x128_S512x128_3072_0 y (by omega)⟩
    · exact ⟨_, List.mem_cons_self, mem_rows _ 7 rfl inb_S4096x128_S512x128_3584_0 y (by omega)⟩
  rw [View.read_writes_eq_canon _ f _ hcov]
  funext y
  refine View.canon_apply_of_pieces _ _ ?_ y (hcov y)
  intro p hp x
  rcases List.mem_cons.mp hp with rfl | hp
  · exact piece_blk s m _ _ _ _ _ 7 rfl inb_S4096x128_S512x128_3584_0 _ hw7 x
  rcases List.mem_cons.mp hp with rfl | hp
  · exact piece_blk s m _ _ _ _ _ 6 rfl inb_S4096x128_S512x128_3072_0 _ hw6 x
  · exact (loop_inv 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 s m h9 h11 3 le_rfl).1 p hp x

/-- After the loop the first slot holds the scores of query block 6. -/
theorem slot_sc (s : Vec F S4096x512 .f32) (m : Vec F S1x512 .f32) (h9 : arg9.view.read (Elt F) G9 = s) (h11 : arg11.view.read (Elt F) G11 = m)
    (n : Nat) (hn : n = 3) :
    arg9.view.readAt (Elt F) (Rect.unit ![0, 0] S4096x512.size inb_S4096x512_S4096x512_0_0).toLoadRect (arg9.view.writes (Elt F) G9 (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.1)
      = scAt s (arg2.view.read (Elt F) X2) (arg3.view.read (Elt F) X3) 6 := by
  subst hn
  exact (View.ld_unit_zero (Val := Elt F) hz _ _).trans (loop_inv 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 s m h9 h11 3 le_rfl).2.1

/-- The same where the slot was filled by the stores `L` of the same step. -/
theorem slot_sc_cov (s : Vec F S4096x512 .f32) (m : Vec F S1x512 .f32) (h9 : arg9.view.read (Elt F) G9 = s) (h11 : arg11.view.read (Elt F) G11 = m)
    (n : Nat) (hn : n = 3) (L : List (View.Piece (Elt F) S4096x512 .f32)) (hL : G9 = arg9.view.writes (Elt F) arg9.view.junk L) :
    arg9.view.readCov (Val := Elt F) ((pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.1 ++ L) (Rect.unit ![0, 0] S4096x512.size inb_S4096x512_S4096x512_0_0).toLoadRect
      = scAt s (arg2.view.read (Elt F) X2) (arg3.view.read (Elt F) X3) 6 := by
  refine Eq.trans ?_ (slot_sc 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 s m h9 h11 n hn)
  unfold View.readCov
  rw [View.writes_append, ← hL]

/-- After the loop the second slot holds the largest scores of query block 6. -/
theorem slot_mx (s : Vec F S4096x512 .f32) (m : Vec F S1x512 .f32) (h9 : arg9.view.read (Elt F) G9 = s) (h11 : arg11.view.read (Elt F) G11 = m)
    (n : Nat) (hn : n = 3) :
    arg11.view.readAt (Elt F) (Rect.unit ![0, 0] S1x512.size inb_S1x512_S1x512_0_0).toLoadRect (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.2.2.1)
      = mxAt m (arg2.view.read (Elt F) X2) (arg3.view.read (Elt F) X3) 6 := by
  subst hn
  exact (View.ld_unit_zero (Val := Elt F) hz _ _).trans (loop_inv 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 s m h9 h11 3 le_rfl).2.2

/-- The same where the slot was filled by the stores `L` of the same step. -/
theorem slot_mx_cov (s : Vec F S4096x512 .f32) (m : Vec F S1x512 .f32) (h9 : arg9.view.read (Elt F) G9 = s) (h11 : arg11.view.read (Elt F) G11 = m)
    (n : Nat) (hn : n = 3) (L : List (View.Piece (Elt F) S1x512 .f32)) (hL : G11 = arg11.view.writes (Elt F) arg11.view.junk L) :
    arg11.view.readCov (Val := Elt F) ((pb_k0_t1 (F := F) 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 n).2.2.2.1 ++ L) (Rect.unit ![0, 0] S1x512.size inb_S1x512_S1x512_0_0).toLoadRect
      = mxAt m (arg2.view.read (Elt F) X2) (arg3.view.read (Elt F) X3) 6 := by
  refine Eq.trans ?_ (slot_mx 𝒱 c bd i arg2 harg2 arg3 harg3 arg4 harg4 arg5 harg5 arg6 harg6 arg7 harg7 arg8 harg8 arg9 harg9 arg10 harg10 arg11 harg11 arg12 harg12 X2 X3 X6 X7 G8 G9 G10 G11 G12 s m h9 h11 n hn)
  unfold View.readCov
  rw [View.writes_append, ← hL]

/-- The scores made from the rows of block `t` and all keys. -/
theorem own_sc (s : Vec F S4096x512 .f32) (t : Nat) (h0 : t ≠ 0) (ht : t < 8) (off : Fin 2 → Nat) (h : off = ![512 * t, 0])
    (inb : ∀ a, off a + S512x256.size a ≤ S4096x256.size a) :
    k0_pay3 (arg2.view.readAt (Elt F) (Rect.unit (s := S4096x256) off S512x256.size inb).toLoadRect X2)
        (arg3.view.readAt (Elt F) (Rect.unit ![0, 0] S4096x256.size inb_S4096x256_S4096x256_0_0).toLoadRect X3)
      = scAt s (arg2.view.read (Elt F) X2) (arg3.view.read (Elt F) X3) t :=
  (congrArg₂ k0_pay3 (ld_rows _ off t ht h inb) (View.ld_unit_zero (Val := Elt F) hz _ _)).trans (if_neg h0).symm

/-- The largest scores, made from the rows of block `t` and all keys. -/
theorem own_mx (m : Vec F S1x512 .f32) (t : Nat) (h0 : t ≠ 0) (ht : t < 8) (off : Fin 2 → Nat) (h : off = ![512 * t, 0])
    (inb : ∀ a, off a + S512x256.size a ≤ S4096x256.size a) :
    k0_pay4 (arg2.view.readAt (Elt F) (Rect.unit (s := S4096x256) off S512x256.size inb).toLoadRect X2)
        (arg3.view.readAt (Elt F) (Rect.unit ![0, 0] S4096x256.size inb_S4096x256_S4096x256_0_0).toLoadRect X3)
      = mxAt m (arg2.view.read (Elt F) X2) (arg3.view.read (Elt F) X3) t :=
  (congrArg₂ k0_pay4 (ld_rows _ off t ht h inb) (View.ld_unit_zero (Val := Elt F) hz _ _)).trans (if_neg h0).symm

/-- A finished block from equal scores, values and gates. -/
theorem fin_congr {s s' : Vec F S4096x512 .f32} {m m' : Vec F S1x512 .f32} {vt vt' : Vec F S144x4096 .bf16} {z z' : Vec F S512x128 .bf16}
    (hs : s = s') (hm : m = m') (hv : vt = vt') (h : z = z') : fin s m vt z = fin s' m' vt' z' := by
  rw [hs, hm, hv, h]

theorem pay17_eq : @k0_pay17 F _ _ = @k0_pay4 F _ _ := rfl
theorem pay13_eq : @k0_pay13 F _ _ = @k0_pay4 F _ _ := rfl
theorem pay22_eq : @k0_pay22 F _ _ = @k0_pay4 F _ _ := rfl
theorem pay16_eq : @k0_pay16 F _ _ = @k0_pay3 F _ _ := rfl
theorem pay12_eq : @k0_pay12 F _ _ = @k0_pay3 F _ _ := rfl
theorem pay21_eq : @k0_pay21 F _ _ = @k0_pay3 F _ _ := rfl
theorem pay19_eq (s : Vec F S4096x512 .f32) (m : Vec F S1x512 .f32) (vt : Vec F S144x4096 .bf16) (z : Vec F S512x128 .bf16) :
    k0_pay19 (k0_pay18 s m) vt z = fin s m vt z := rfl
theorem pay1_eq (s : Vec F S4096x512 .f32) (m : Vec F S1x512 .f32) (vt : Vec F S144x4096 .bf16) (z : Vec F S512x128 .bf16) :
    k0_pay1 s m vt z = fin s m vt z := rfl
end Loop
end Cert.KernelAIdeal.Attn
end
-- ==== Proof.MlaNamedRunA.lean ====
/- The run of the body of `KernelAIdeal` in one case of its branch, with the budget that this body needs. -/
module

public import proofs.«01_k».proof.Proof.Gen.KernelAIdeal.Frame.Runs
public import proofs.«01_k».proof.Proof.MlaLoop

@[expose] public section

-- membership in a rectangle of production extents (`View.cover_of_tiled`): the elaborator's structural look
-- recurses once per coordinate of the long axes
set_option maxRecDepth 16384

noncomputable section

namespace Cert.KernelAIdeal.Own

open Cert.KernelAIdeal Cert.KernelAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) :
    Σ' (L6 : List (View.Piece (Elt F) S4096x128 .bf16)), Σ' (LS0 : List (View.Piece (Elt F) S4096x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0_attn_mla i arg2 harg2 arg3 harg3 arg4 harg4 arg5 harg5 arg6 harg6 arg7 harg7 arg8 harg8 arg9 harg9 arg10 harg10 arg11 harg11 arg12 harg12) K } := by
  refine ⟨[⟨Rect.unit ![0, 0] S4096x128.size Attn.inb_out, Attn.blk (Attn.sc (Attn.rows x0 0) x1) (Attn.mx (Attn.rows x0 0) x1) x0 x1 x4 x5⟩],
    [⟨Rect.unit ![0, 0] S4096x512.size inb_S4096x512_S4096x512_0_0, Attn.sc x2 x3⟩],
    [⟨Rect.unit ![0, 0] S1x512.size inb_S1x512_S1x512_0_0, Attn.mx x2 x3⟩], fun E K => ?run⟩
  case run =>
    simp only [cc0_attn_mla_eq_skeleton]; unfold cc0_attn_mla_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    rw [Cert.Whole.last arg9 harg9 _ Attn.hz inb_S4096x512_S4096x512_0_0, Cert.Whole.last arg11 harg11 _ Attn.hz inb_S1x512_S1x512_0_0]
    rw [show k0_pay21 (arg4.view.readAt (Elt F) (Rect.unit ![0, 0] S512x256.size inb_S512x256_S512x256_0_0).toLoadRect (harg4.unread x2)) (arg5.view.readAt (Elt F) (Rect.unit ![0, 0] S4096x256.size inb_S4096x256_S4096x256_0_0).toLoadRect (harg5.unread x3)) = Attn.sc x2 x3 from
        congrArg₂ k0_pay3 ((View.ld_unit_zero (Val := Elt F) Attn.hz _ _).trans (harg4.read_unread _)) ((View.ld_unit_zero (Val := Elt F) Attn.hz _ _).trans (harg5.read_unread _)),
      show k0_pay22 (arg4.view.readAt (Elt F) (Rect.unit ![0, 0] S512x256.size inb_S512x256_S512x256_0_0).toLoadRect (harg4.unread x2)) (arg5.view.readAt (Elt F) (Rect.unit ![0, 0] S4096x256.size inb_S4096x256_S4096x256_0_0).toLoadRect (harg5.unread x3)) = Attn.mx x2 x3 from
        congrArg₂ k0_pay4 ((View.ld_unit_zero (Val := Elt F) Attn.hz _ _).trans (harg4.read_unread _)) ((View.ld_unit_zero (Val := Elt F) Attn.hz _ _).trans (harg5.read_unread _))]
    have first9 : arg9.view.read (Elt F) (arg9.view.writes (Elt F) arg9.view.junk (kernelRun0_A.sl.HS0_1 c arg2 harg2 arg3 harg3 x0 x1))
        = Attn.sc (Attn.rows (arg2.view.read (Elt F) (harg2.unread x0)) 0) (arg3.view.read (Elt F) (harg3.unread x1)) := by
      unfold kernelRun0_A.sl.HS0_1
      rw [Cert.Whole.read_over _ _ Attn.hz, Attn.pay12_eq]
      exact congrArg₂ k0_pay3 (Attn.ld_rows _ _ 0 (by omega) rfl _) (View.ld_unit_zero (Val := Elt F) Attn.hz _ _)
    have first11 : arg11.view.read (Elt F) (arg11.view.writes (Elt F) arg11.view.junk (kernelRun0_A.sl.HS2_1 c arg2 harg2 arg3 harg3 x0 x1))
        = Attn.mx (Attn.rows (arg2.view.read (Elt F) (harg2.unread x0)) 0) (arg3.view.read (Elt F) (harg3.unread x1)) := by
      unfold kernelRun0_A.sl.HS2_1
      rw [Cert.Whole.read_over _ _ Attn.hz, Attn.pay13_eq]
      exact congrArg₂ k0_pay4 (Attn.ld_rows _ _ 0 (by omega) rfl _) (View.ld_unit_zero (Val := Elt F) Attn.hz _ _)
    rw [Cert.Whole.same arg8 harg8 f6 _ [⟨Rect.unit ![0, 0] S4096x128.size Attn.inb_out, Attn.blk (Attn.sc (Attn.rows x0 0) x1) (Attn.mx (Attn.rows x0 0) x1) x0 x1 x4 x5⟩] ?out]
    case out =>
      refine Eq.trans ?_ (Cert.Whole.read_over _ _ Attn.hz _ _ _).symm
      refine (Attn.out_read (h9 := first9) (h11 := first11) (hn := Attn.trips_eq) (hw6 := ?_) (hw7 := ?_) ..).trans ?_
      · unfold kernelRun0_A.sl.r
        rw [Attn.pay19_eq]
        refine Attn.fin_congr ?_ ?_ (View.ld_unit_zero (Val := Elt F) Attn.hz _ _) (Attn.ld_rows _ ![3072, 0] 6 (by omega) rfl inb_S4096x128_S512x128_3072_0)
        · unfold kernelRun0_A.sl.v25
          exact Attn.slot_sc_cov (h9 := first9) (h11 := first11) (hn := Attn.trips_eq) (hL := rfl) ..
        · unfold kernelRun0_A.sl.v26
          exact Attn.slot_mx_cov (h9 := first9) (h11 := first11) (hn := Attn.trips_eq) (hL := rfl) ..
      · rw [Attn.pay1_eq]
        refine Attn.fin_congr ?_ ?_ (View.ld_unit_zero (Val := Elt F) Attn.hz _ _) (Attn.ld_rows _ ![3584, 0] 7 (by omega) rfl inb_S4096x128_S512x128_3584_0)
        · unfold kernelRun0_A.sl.v65 kernelRun0_A.sl.HS1_1
          rw [Cert.Whole.cov_over _ Attn.hz, Attn.pay16_eq]
          exact Attn.own_sc arg2 arg3 (harg2.unread x0) (harg3.unread x1) _ 7 (by omega) (by omega) ![3584, 0] rfl inb_S4096x256_S512x256_3584_0
        · unfold kernelRun0_A.sl.v66 kernelRun0_A.sl.HS3_1
          rw [Cert.Whole.cov_over _ Attn.hz, Attn.pay17_eq]
          exact Attn.own_mx arg2 arg3 (harg2.unread x0) (harg3.unread x1) _ 7 (by omega) (by omega) ![3584, 0] rfl inb_S4096x256_S512x256_3584_0
      · rw [harg2.read_unread, harg3.read_unread, harg6.read_unread, harg7.read_unread]
    isplitl [H6]; · iexists _; iexact H6
    isplitl [HS0]; · iexists _; iexact HS0
    isplitl [HS1]
    · iexists _, _; isplitr; swap; · iexact HS1
      ipureintro; rfl
    isplitl [HS2]; · iexists _; iexact HS2
    iexists _, _; isplitr; swap; · iexact HS3
    ipureintro; rfl

end Cert.KernelAIdeal.Own

end
-- ==== Proof.MlaNamedRunB.lean ====
/- The run of the body of `KernelAIdeal` in one case of its branch, with the budget that this body needs. -/
module

public import proofs.«01_k».proof.Proof.Gen.KernelAIdeal.Frame.Runs
public import proofs.«01_k».proof.Proof.MlaLoop

@[expose] public section

-- membership in a rectangle of production extents (`View.cover_of_tiled`): the elaborator's structural look
-- recurses once per coordinate of the long axes
set_option maxRecDepth 16384

noncomputable section

namespace Cert.KernelAIdeal.Own

open Cert.KernelAIdeal Cert.KernelAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) :
    Σ' (L6 : List (View.Piece (Elt F) S4096x128 .bf16)), Σ' (LS0 : List (View.Piece (Elt F) S4096x512 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ d, owns (c : Thread nD τ) arg10 fullShare d) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0_attn_mla i arg2 harg2 arg3 harg3 arg4 harg4 arg5 harg5 arg6 harg6 arg7 harg7 arg8 harg8 arg9 harg9 arg10 harg10 arg11 harg11 arg12 harg12) K } := by
  refine ⟨[⟨Rect.unit ![0, 0] S4096x128.size Attn.inb_out, Attn.blk xs0 xs2 x0 x1 x4 x5⟩],
    [⟨Rect.unit ![0, 0] S4096x512.size inb_S4096x512_S4096x512_0_0, Attn.sc x2 x3⟩],
    [⟨Rect.unit ![0, 0] S1x512.size inb_S1x512_S1x512_0_0, Attn.mx x2 x3⟩], fun E K => ?run⟩
  case run =>
    simp only [cc0_attn_mla_eq_skeleton]; unfold cc0_attn_mla_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg11.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    rw [Cert.Whole.last arg9 harg9 _ Attn.hz inb_S4096x512_S4096x512_0_0, Cert.Whole.last arg11 harg11 _ Attn.hz inb_S1x512_S1x512_0_0]
    rw [show k0_pay21 (arg4.view.readAt (Elt F) (Rect.unit ![0, 0] S512x256.size inb_S512x256_S512x256_0_0).toLoadRect (harg4.unread x2)) (arg5.view.readAt (Elt F) (Rect.unit ![0, 0] S4096x256.size inb_S4096x256_S4096x256_0_0).toLoadRect (harg5.unread x3)) = Attn.sc x2 x3 from
        congrArg₂ k0_pay3 ((View.ld_unit_zero (Val := Elt F) Attn.hz _ _).trans (harg4.read_unread _)) ((View.ld_unit_zero (Val := Elt F) Attn.hz _ _).trans (harg5.read_unread _)),
      show k0_pay22 (arg4.view.readAt (Elt F) (Rect.unit ![0, 0] S512x256.size inb_S512x256_S512x256_0_0).toLoadRect (harg4.unread x2)) (arg5.view.readAt (Elt F) (Rect.unit ![0, 0] S4096x256.size inb_S4096x256_S4096x256_0_0).toLoadRect (harg5.unread x3)) = Attn.mx x2 x3 from
        congrArg₂ k0_pay4 ((View.ld_unit_zero (Val := Elt F) Attn.hz _ _).trans (harg4.read_unread _)) ((View.ld_unit_zero (Val := Elt F) Attn.hz _ _).trans (harg5.read_unread _))]
    rw [Cert.Whole.same arg8 harg8 f6 _ [⟨Rect.unit ![0, 0] S4096x128.size Attn.inb_out, Attn.blk xs0 xs2 x0 x1 x4 x5⟩] ?out]
    case out =>
      refine Eq.trans ?_ (Cert.Whole.read_over _ _ Attn.hz _ _ _).symm
      refine (Attn.out_read (h9 := (harg9.read_unread _)) (h11 := (harg11.read_unread _)) (hn := Attn.trips_eq) (hw6 := ?_) (hw7 := ?_) ..).trans ?_
      · unfold kernelRun0_B.sl.r
        rw [Attn.pay19_eq]
        refine Attn.fin_congr ?_ ?_ (View.ld_unit_zero (Val := Elt F) Attn.hz _ _) (Attn.ld_rows _ ![3072, 0] 6 (by omega) rfl inb_S4096x128_S512x128_3072_0)
        · unfold kernelRun0_B.sl.v25
          exact Attn.slot_sc (h9 := (harg9.read_unread _)) (h11 := (harg11.read_unread _)) (hn := Attn.trips_eq) ..
        · unfold kernelRun0_B.sl.v26
          exact Attn.slot_mx (h9 := (harg9.read_unread _)) (h11 := (harg11.read_unread _)) (hn := Attn.trips_eq) ..
      · rw [Attn.pay1_eq]
        refine Attn.fin_congr ?_ ?_ (View.ld_unit_zero (Val := Elt F) Attn.hz _ _) (Attn.ld_rows _ ![3584, 0] 7 (by omega) rfl inb_S4096x128_S512x128_3584_0)
        · unfold kernelRun0_B.sl.v65 kernelRun0_B.sl.HS1_1
          rw [Cert.Whole.cov_over _ Attn.hz, Attn.pay16_eq]
          exact Attn.own_sc arg2 arg3 (harg2.unread x0) (harg3.unread x1) xs0 7 (by omega) (by omega) ![3584, 0] rfl inb_S4096x256_S512x256_3584_0
        · unfold kernelRun0_B.sl.v66 kernelRun0_B.sl.HS3_1
          rw [Cert.Whole.cov_over _ Attn.hz, Attn.pay17_eq]
          exact Attn.own_mx arg2 arg3 (harg2.unread x0) (harg3.unread x1) xs2 7 (by omega) (by omega) ![3584, 0] rfl inb_S4096x256_S512x256_3584_0
      · rw [harg2.read_unread, harg3.read_unread, harg6.read_unread, harg7.read_unread]
    isplitl [H6]; · iexists _; iexact H6
    isplitl [HS0]; · iexists _; iexact HS0
    isplitl [HS1]
    · iexists _, _; isplitr; swap; · iexact HS1
      ipureintro; rfl
    isplitl [HS2]; · iexists _; iexact HS2
    iexists _, _; isplitr; swap; · iexact HS3
    ipureintro; rfl

end Cert.KernelAIdeal.Own

end
-- ==== Proof.MlaNamedFrame.lean ====
/- The frame of `KernelAIdeal` over the runs of `NamedRunA` and `NamedRunB`. -/
module

public import proofs.«01_k».proof.Proof.MlaNamedRunA
public import proofs.«01_k».proof.Proof.MlaNamedRunB
public import Idealize.ShloMosaic.Lib.Claim

@[expose] public section

-- membership in a rectangle of production extents (`View.cover_of_tiled`): the elaborator's structural look
-- recurses once per coordinate of the long axes
set_option maxRecDepth 16384

noncomputable section

namespace Cert.KernelAIdeal.Own

open Cert.KernelAIdeal Cert.KernelAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 6 tile its block (8 stores of `S512x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).1 S4096x128.size (by sl_kernel_rfl) y

/-- What case A leaves in output 6's staging buffer: its pieces read back over junk. -/
def out0_A_6 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) : Vec F S4096x128 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 x0 x1 x2 x3 x4 x5).1)

/-- Case A's pieces for scratch `arg9`, which the kernel carries between points, cover it: 5 pieces of `S4096x512` tiling it (Lib/Ring.lean `Piece.tiledL`). -/
theorem scover0_A_0 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (y : S4096x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.1 S4096x512.size (by sl_kernel_rfl) y

/-- What case A leaves in scratch `arg9`: its pieces read back over junk. -/
def sout0_A_0 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) : Vec F S4096x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.1)

/-- Case A's pieces for scratch `arg11`, which the kernel carries between points, cover it: 5 pieces of `S1x512` tiling it (Lib/Ring.lean `Piece.tiledL`). -/
theorem scover0_A_2 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1 S1x512.size (by sl_kernel_rfl) y

/-- What case A leaves in scratch `arg11`: its pieces read back over junk. -/
def sout0_A_2 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) : Vec F S1x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1)

/-- Case B's pieces for output 6 tile its block (8 stores of `S512x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) (y : S4096x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1 S4096x128.size (by sl_kernel_rfl) y

/-- What case B leaves in output 6's staging buffer: its pieces read back over junk. -/
def out0_B_6 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) : Vec F S4096x128 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).1)

/-- Case B's pieces for scratch `arg9`, which the kernel carries between points, cover it: 4 pieces of `S4096x512` tiling it (Lib/Ring.lean `Piece.tiledL`). -/
theorem scover0_B_0 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) (y : S4096x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1 S4096x512.size (by sl_kernel_rfl) y

/-- What case B leaves in scratch `arg9`: its pieces read back over junk. -/
def sout0_B_0 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) : Vec F S4096x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.1)

/-- Case B's pieces for scratch `arg11`, which the kernel carries between points, cover it: 4 pieces of `S1x512` tiling it (Lib/Ring.lean `Piece.tiledL`). -/
theorem scover0_B_2 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.2.1 S1x512.size (by sl_kernel_rfl) y

/-- What case B leaves in scratch `arg11`: its pieces read back over junk. -/
def sout0_B_2 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S512x256 .bf16) (harg4 : arg4.IsWhole) (arg5 : Memref sig .tc .vmem S4096x256 .bf16) (harg5 : arg5.IsWhole) (arg6 : Memref sig .tc .vmem S144x4096 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i)
    (x0 : Vec F S4096x256 .bf16) (x1 : Vec F S4096x256 .bf16) (x2 : Vec F S512x256 .bf16) (x3 : Vec F S4096x256 .bf16) (x4 : Vec F S144x4096 .bf16) (x5 : Vec F S4096x128 .bf16) (xs0 : Vec F S4096x512 .f32) (xs2 : Vec F S1x512 .f32) : Vec F S1x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 x0 x1 x2 x3 x4 x5 xs0 xs2).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4096x128 .bf16 × Vec F S4096x512 .f32 × Vec F S1x512 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 64 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 64 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ owns (c : Thread nD τ) scM0_2 fullShare ((outsAt0 m c (n - 1) (by omega)).2.2) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_6 sout0_A_0 sout0_A_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, HS1, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          isplitl [HS1]
          · iexact HS1
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_6 sout0_B_0 sout0_B_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, HS1, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          isplitl [HS1]
          · iexact HS1
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelAIdeal`'s statement (Defs.lean) at any `F` — Proof.lean cites it at `Bits`:
    `theorem Cert.Proof.claim : Cert.Claim := ⟨Cert.KernelAIdeal.Gen.facts, fun m ρ _ => Cert.KernelAIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelAIdeal.Own

end
-- ==== Proof.MlaNamedValue.lean ====
/- The result array of `KernelAIdeal` as the fold of what its grid points leave. -/
module

public import proofs.«01_k».proof.Proof.MlaNamedFrame
public import Idealize.ShloMosaic.Lib.Pipeline.Value

@[expose] public section

noncomputable section

namespace Cert.KernelAIdeal.OwnValue

open Cert.KernelAIdeal Cert.KernelAIdeal.Gen Cert.KernelAIdeal.Own Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 64 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 64 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed6, outsAt0_B m c t h0]

/-- The index map sends distinct grid points to distinct block indices (decided over the 64 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S32768x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v12) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v12) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post6 m r h c,
      kept_main_arg0 m r h c,
      kept_main_arg1 m r h c,
      kept_main_arg2 m r h c,
      kept_main_arg3 m r h c⟩)
    (run_main m ρ)

/-! ## Carried scratch 0: what each point leaves in it, and its fold -/

/-- What a point leaves depends on its number alone. -/
theorem outs_congr (c : Dev nD) (j : ℕ) (h : j < cfg0.N) (j' : ℕ) (h' : j' < cfg0.N) (hj : j = j') : outsAt0 m c j h = outsAt0 m c j' h' := by
  subst hj; rfl

/-! ## Output window 6 -/

/-- The block of the array that holds index `i`, numbered in the order the points write the blocks back (one per point),
    `i`'s place in it, and the point that writes it back. -/
abbrev run6Of (i : S32768x1024.Idx) : ℕ := 8 * ((i 0).val / 4096 - 0) + 1 * ((i 1).val / 128 - 0)
set_option backward.proofsInPublic true in
abbrev loc6Of (i : S32768x1024.Idx) : S4096x128.Idx := fun a => match a with
  | ⟨0, _⟩ => ⟨(i 0).val % 4096, Nat.mod_lt _ (by decide)⟩
  | ⟨1, _⟩ => ⟨(i 1).val % 128, Nat.mod_lt _ (by decide)⟩
abbrev pt6Of (i : S32768x1024.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v12) := fun i =>
  if h : pt6Of i < cfg0.N then
    (outsAt0 m c (pt6Of i) h).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 7
    ∧ 0 ≤ win0_6.index t (1 : Fin 2) ∧ win0_6.index t (1 : Fin 2) ≤ 7
    ∧ 8 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 8) (q1 : Fin 8) : Fin grid0.N :=
  ⟨8 * q0.val + 1 * q1.val, lt_of_lt_of_eq (by omega) N_0.symm⟩
theorem idx_onto6 : ∀ (q0 : Fin 8) (q1 : Fin 8), ∃ t : Fin cfg0.N, (cfg0.win 6).flush t = true ∧ win0_6.index t = ![q0.val + 0, q1.val + 0] :=
  fun q0 q1 => ⟨onto6Pt q0 q1, (by decide +kernel : ∀ (q0 : Fin 8) (q1 : Fin 8), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6]
  obtain ⟨e0, e1, e2⟩ := idx_facts6 t
  funext y
  have hy0 : (y 0).val < 4096 := (y 0).isLt
  have hy1 : (y 1).val < 128 := (y 1).isLt
  have hb0 : (((cfg0.win 6).blk t).view.emb y 0).val = win0_6.index t (0 : Fin 2) * 4096 + 1 * (y 0).val := rfl
  have hb1 : (((cfg0.win 6).blk t).view.emb y 1).val = win0_6.index t (1 : Fin 2) * 128 + 1 * (y 1).val := rfl
  have hr : run6Of (((cfg0.win 6).blk t).view.emb y) = t.val := by
    show 8 * ((((cfg0.win 6).blk t).view.emb y 0).val / 4096 - 0) + 1 * ((((cfg0.win 6).blk t).view.emb y 1).val / 128 - 0) = _
    rw [hb0, hb1]
    rw [show (win0_6.index t (0 : Fin 2) * 4096 + 1 * (y 0).val) / 4096 = win0_6.index t (0 : Fin 2) from by omega]; rw [show (win0_6.index t (1 : Fin 2) * 128 + 1 * (y 1).val) / 128 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 4096 = (y 0).val; rw [hb0]; omega
    | ⟨1, _⟩ => show (((cfg0.win 6).blk t).view.emb y 1).val % 128 = (y 1).val; rw [hb1]; omega
  have hp : pt6Of (((cfg0.win 6).blk t).view.emb y) = t.val := by
    exact hr
  show (outsAt0 m c t.val _).1 ((cfg0.win 6).xinj (grid0.coords t) y) = G6 m c (((cfg0.win 6).blk t).view.emb y)
  unfold G6
  rw [dif_pos (by rw [hp]; exact t.isLt), hl, outs_congr m c _ _ _ _ hp.symm]

/-- An index of the array is in point `t`'s block iff each coordinate is in the block's range on its axis. -/
theorem mem_blk6 (t : Fin cfg0.N) (i : S32768x1024.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v12).slice (win0_6.rect t)).set ↔ _
  rw [View.set_slice_whole, Rect.mem_set_unit]
  exact Iff.rfl

/-- THE COVERED INDICES: in some flushing point's block iff inside the box those blocks fill. -/
theorem covered_iff6 (i : S32768x1024.Idx) :
    (∃ t : Fin cfg0.N, (cfg0.win 6).flush t = true ∧ i ∈ ((cfg0.win 6).blk t).view.set) ↔ 0 ≤ (i 0).val ∧ (i 0).val < 32768 ∧ 0 ≤ (i 1).val ∧ (i 1).val < 1024 := by
  constructor
  · rintro ⟨t, -, hi⟩
    rw [mem_blk6] at hi
    have b0 : win0_6.index t (0 : Fin 2) * 4096 ≤ (i 0).val ∧ (i 0).val < win0_6.index t (0 : Fin 2) * 4096 + 4096 := hi 0
    have b1 : win0_6.index t (1 : Fin 2) * 128 ≤ (i 1).val ∧ (i 1).val < win0_6.index t (1 : Fin 2) * 128 + 128 := hi 1
    obtain ⟨e0, e1, e2⟩ := idx_facts6 t
    omega
  · intro h
    have hi0 : (i 0).val < 32768 := (i 0).isLt
    have hi1 : (i 1).val < 1024 := (i 1).isLt
    obtain ⟨t, hft, ht⟩ := idx_onto6 ⟨(i 0).val / 4096 - 0, by omega⟩ ⟨(i 1).val / 128 - 0, by omega⟩
    have q0 : win0_6.index t (0 : Fin 2) = (i 0).val / 4096 - 0 + 0 := congrFun ht 0
    have q1 : win0_6.index t (1 : Fin 2) = (i 1).val / 128 - 0 + 0 := congrFun ht 1
    refine ⟨t, hft, ?_⟩
    rw [mem_blk6]
    intro a
    match a with
    | ⟨0, _⟩ => show win0_6.index t (0 : Fin 2) * 4096 ≤ (i 0).val ∧ (i 0).val < win0_6.index t (0 : Fin 2) * 4096 + 4096; omega
    | ⟨1, _⟩ => show win0_6.index t (1 : Fin 2) * 128 ≤ (i 1).val ∧ (i 1).val < win0_6.index t (1 : Fin 2) * 128 + 128; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 32768 := (i 0).isLt; have h1 : (i 1).val < 1024 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v12) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post6 m r h c).trans (final6 m c),
      kept_main_arg0 m r h c,
      kept_main_arg1 m r h c,
      kept_main_arg2 m r h c,
      kept_main_arg3 m r h c⟩)
    (run_main m ρ)

end Cert.KernelAIdeal.OwnValue

end
-- ==== Proof.MlaGrid.lean ====
/- What the grid steps of the attention with padded heads leave: every step finishes one head's block from that
   step's own blocks alone. -/
module

public import proofs.«01_k».proof.Proof.MlaNamedValue
public import proofs.«01_k».proof.Proof.GqaGrid

@[expose] public section

set_option maxRecDepth 16384

noncomputable section

namespace Cert.KernelAIdeal.Attn

open Idealize.ShloMosaic Idealize.ShloMosaic.TcCoe Idealize.ShloMosaic.Tactic Idealize.SL.Sem Cert.KernelAIdeal Cert.KernelAIdeal.Gen Cert.KernelAIdeal.Own
open Cert.KernelIdeal.Attn (cut)
variable {F : FTy → Type} [FloatOps F] [Named F]
variable (m : (ℓ : Loc nD τ sig) → Buf (Elt F) ℓ)

/-- A head's block, from its queries, keys, values and gates. -/
def head (q k : Vec F S4096x256 .bf16) (vt : Vec F S144x4096 .bf16) (sz : Vec F S4096x128 .bf16) : Vec F S4096x128 .bf16 :=
  blk (sc (rows q 0) k) (mx (rows q 0) k) q k vt sz

/-- The kernel's queries or keys: each head's 192 columns and then 64 columns of zeros. -/
def padOf (x : Vec F S32768x1536 .bf16) : Vec F S32768x2048 .bf16 :=
  shapeCast S32768x2048 (concatenate S32768x8x256 2 [⟨S32768x8x192, shapeCast S32768x8x192 x shapeCasts_S32768x1536_S32768x8x192⟩, ⟨S32768x8x64, broadcastInDim S32768x8x64 ![] bcast_S_S32768x8x64 (constant S_ .bf16 0x0000#16)⟩] concatenates_S32768x8x192_S32768x8x64_S32768x8x256_d2) shapeCasts_S32768x8x256_S32768x2048

/-- The kernel's transposed values, with sixteen rows of ones below each head. -/
def vtOf (v : Vec F S32768x1024 .bf16) : Vec F S1152x32768 .bf16 :=
  shapeCast S1152x32768 (concatenate S8x144x32768 1 [⟨S8x128x32768, shapeCast S8x128x32768 (transpose S1024x32768 [1, 0] v transposes_S32768x1024_S1024x32768_1_0) shapeCasts_S1024x32768_S8x128x32768⟩, ⟨S8x16x32768, broadcastInDim S8x16x32768 ![] bcast_S_S8x16x32768 (constant S_ .bf16 0x3F80#16)⟩] concatenates_S8x128x32768_S8x16x32768_S8x144x32768_d1) shapeCasts_S8x144x32768_S1152x32768

theorem V_q (c : Dev nD) : V m c main_v3 = padOf (m ((c : Thread nD τ).loc main_arg0)) := by
  unfold V hostOps0
  after_results
  rfl

theorem V_k (c : Dev nD) : V m c main_v6 = padOf (m ((c : Thread nD τ).loc main_arg1)) := by
  unfold V hostOps0
  after_results
  rfl

theorem V_vt (c : Dev nD) : V m c main_v11 = vtOf (m ((c : Thread nD τ).loc main_arg2)) := by
  unfold V hostOps0
  after_results
  rfl

theorem idx0 : ∀ t : Fin cfg0.N, win0_0.index t = ![t.val / 8, t.val % 8] :=
  (by decide +kernel : ∀ t : Fin grid0.N, _)
theorem idx1 : ∀ t : Fin cfg0.N, win0_1.index t = ![t.val / 8, t.val % 8] :=
  (by decide +kernel : ∀ t : Fin grid0.N, _)
theorem idx2 : ∀ t : Fin cfg0.N, t.val < 63 → win0_2.index t = ![8 * ((t.val + 1) / 8), (t.val + 1) % 8] :=
  (by decide +kernel : ∀ t : Fin grid0.N, _)
theorem idx3 : ∀ t : Fin cfg0.N, t.val < 63 → win0_3.index t = ![(t.val + 1) / 8, (t.val + 1) % 8] :=
  (by decide +kernel : ∀ t : Fin grid0.N, _)
theorem idx4 : ∀ t : Fin cfg0.N, win0_4.index t = ![t.val % 8, t.val / 8] :=
  (by decide +kernel : ∀ t : Fin grid0.N, _)
theorem idx5 : ∀ t : Fin cfg0.N, win0_5.index t = ![t.val / 8, t.val % 8] :=
  (by decide +kernel : ∀ t : Fin grid0.N, _)

theorem lt64 (t : Fin cfg0.N) : t.val < 64 := lt_of_lt_of_eq t.isLt N_0

/-- An entry of an array at a place of a rectangle is the rectangle's. -/
theorem at_cut {R C h w : Nat} (x : FVec F ⟨2, ![R, C]⟩ .bf16) (i : (⟨2, ![R, C]⟩ : Shape).Idx) (y : (⟨2, ![h, w]⟩ : Shape).Idx) (r s : Nat)
    (hr : r + h ≤ R) (hs : s + w ≤ C) (e0 : (i 0).val = r + (y 0).val) (e1 : (i 1).val = s + (y 1).val) :
    x i = cut h w x r s hr hs y := by
  unfold cut
  congr 1
  funext a
  apply Fin.ext
  match a with
  | 0 => exact e0
  | 1 => exact e1

/-- A block's entry lies at the block's number times its size, plus the place in the block. -/
theorem off_eq {i : Fin 2 → Nat} {a b : Nat} (h : i = ![a, b]) (n w y z : Nat) :
    i 0 * n + 1 * y = n * a + y ∧ i 1 * w + 1 * z = w * b + z := by
  subst h
  constructor
  · show a * n + 1 * y = n * a + y
    rw [Nat.mul_comm, Nat.one_mul]
  · show b * w + 1 * z = w * b + z
    rw [Nat.mul_comm, Nat.one_mul]

theorem iblk0 (c : Dev nD) (t : Fin cfg0.N) : iblk m c 0 t = cut (R := 32768) (C := 2048) 4096 256 (padOf (m ((c : Thread nD τ).loc main_arg0))) (4096 * (t.val / 8)) (256 * (t.val % 8))
    (by have := lt64 t; omega) (by have := lt64 t; omega) := by
  funext y
  show V m c main_v3 (((cfg0.win 0).blk t).view.emb y) = _
  rw [V_q]
  exact at_cut _ _ y _ _ _ _ (off_eq (idx0 t) 4096 256 (y 0).val (y 1).val).1 (off_eq (idx0 t) 4096 256 (y 0).val (y 1).val).2

theorem iblk1 (c : Dev nD) (t : Fin cfg0.N) : iblk m c 1 t = cut (R := 32768) (C := 2048) 4096 256 (padOf (m ((c : Thread nD τ).loc main_arg1))) (4096 * (t.val / 8)) (256 * (t.val % 8))
    (by have := lt64 t; omega) (by have := lt64 t; omega) := by
  funext y
  show V m c main_v6 (((cfg0.win 1).blk t).view.emb y) = _
  rw [V_k]
  exact at_cut _ _ y _ _ _ _ (off_eq (idx1 t) 4096 256 (y 0).val (y 1).val).1 (off_eq (idx1 t) 4096 256 (y 0).val (y 1).val).2

theorem iblk2 (c : Dev nD) (t : Fin cfg0.N) (ht : t.val < 63) : iblk m c 2 t = cut (R := 32768) (C := 2048) 512 256 (padOf (m ((c : Thread nD τ).loc main_arg0))) (512 * (8 * ((t.val + 1) / 8))) (256 * ((t.val + 1) % 8))
    (by omega) (by omega) := by
  funext y
  show V m c main_v3 (((cfg0.win 2).blk t).view.emb y) = _
  rw [V_q]
  exact at_cut _ _ y _ _ _ _ (off_eq (idx2 t ht) 512 256 (y 0).val (y 1).val).1 (off_eq (idx2 t ht) 512 256 (y 0).val (y 1).val).2

theorem iblk3 (c : Dev nD) (t : Fin cfg0.N) (ht : t.val < 63) : iblk m c 3 t = cut (R := 32768) (C := 2048) 4096 256 (padOf (m ((c : Thread nD τ).loc main_arg1))) (4096 * ((t.val + 1) / 8)) (256 * ((t.val + 1) % 8))
    (by omega) (by omega) := by
  funext y
  show V m c main_v6 (((cfg0.win 3).blk t).view.emb y) = _
  rw [V_k]
  exact at_cut _ _ y _ _ _ _ (off_eq (idx3 t ht) 4096 256 (y 0).val (y 1).val).1 (off_eq (idx3 t ht) 4096 256 (y 0).val (y 1).val).2

theorem iblk4 (c : Dev nD) (t : Fin cfg0.N) : iblk m c 4 t = cut (R := 1152) (C := 32768) 144 4096 (vtOf (m ((c : Thread nD τ).loc main_arg2))) (144 * (t.val % 8)) (4096 * (t.val / 8))
    (by have := lt64 t; omega) (by have := lt64 t; omega) := by
  funext y
  show V m c main_v11 (((cfg0.win 4).blk t).view.emb y) = _
  rw [V_vt]
  exact at_cut _ _ y _ _ _ _ (off_eq (idx4 t) 144 4096 (y 0).val (y 1).val).1 (off_eq (idx4 t) 144 4096 (y 0).val (y 1).val).2

theorem iblk5 (c : Dev nD) (t : Fin cfg0.N) : iblk m c 5 t = cut (R := 32768) (C := 3072) 4096 128 (m ((c : Thread nD τ).loc main_arg3)) (4096 * (t.val / 8)) (128 * (t.val % 8))
    (by have := lt64 t; omega) (by have := lt64 t; omega) := by
  funext y
  show V m c main_arg3 (((cfg0.win 5).blk t).view.emb y) = _
  rw [V_main_arg3]
  exact at_cut _ _ y _ _ _ _ (off_eq (idx5 t) 4096 128 (y 0).val (y 1).val).1 (off_eq (idx5 t) 4096 128 (y 0).val (y 1).val).2

/-- The first rows of a head's queries. -/
theorem rows_cut {C w : Nat} (x : FVec F ⟨2, ![32768, C]⟩ .bf16) (r r' s : Nat) (hr hs hr') (e : r = r') :
    rows (n := w) (cut 4096 w x r s hr hs) 0 = cut 512 w x r' s hr' hs := by
  subst e
  funext j
  have h0 : (j 0).val < 512 := (j 0).isLt
  unfold rows
  refine at_cut x _ j r s hr' hs ?_ rfl
  show r + (512 * 0 + (j 0).val) % 4096 = r + (j 0).val
  omega

/-- The queries fetched ahead are the first rows of the next step's. -/
theorem ahead_q (c : Dev nD) (n : ℕ) (h : n + 1 < cfg0.N) :
    iblk m c 2 ⟨n, Nat.lt_of_succ_lt h⟩ = rows (iblk m c 0 ⟨n + 1, h⟩) 0 := by
  have h64 : n + 1 < 64 := lt_of_lt_of_eq h N_0
  rw [iblk2 m c ⟨n, _⟩ (by show n < 63; omega), iblk0]
  exact (rows_cut _ _ _ _ _ _ _ (by show 4096 * ((n + 1) / 8) = 512 * (8 * ((n + 1) / 8)); omega)).symm

/-- The keys fetched ahead are the next step's. -/
theorem ahead_k (c : Dev nD) (n : ℕ) (h : n + 1 < cfg0.N) :
    iblk m c 3 ⟨n, Nat.lt_of_succ_lt h⟩ = iblk m c 1 ⟨n + 1, h⟩ := by
  have h64 : n + 1 < 64 := lt_of_lt_of_eq h N_0
  rw [iblk3 m c ⟨n, _⟩ (by show n < 63; omega), iblk1]

/-- Every step leaves its head's block, and in the slots the scores of the block fetched ahead. -/
theorem outs_eq (c : Dev nD) : ∀ (n : ℕ) (hn : n < cfg0.N), outsAt0 m c n hn
    = (head (iblk m c 0 ⟨n, hn⟩) (iblk m c 1 ⟨n, hn⟩) (iblk m c 4 ⟨n, hn⟩) (iblk m c 5 ⟨n, hn⟩),
        sc (iblk m c 2 ⟨n, hn⟩) (iblk m c 3 ⟨n, hn⟩), mx (iblk m c 2 ⟨n, hn⟩) (iblk m c 3 ⟨n, hn⟩))
  | 0, hn => by
    refine (outsAt0_A m c ⟨0, hn⟩ rfl).trans ?_
    unfold out0_A_6 sout0_A_0 sout0_A_2 kernelRun0_A
    dsimp only
    rw [Cert.Whole.read_over VO0_6 _ hz _ _ _, Cert.Whole.read_over VS0_0 _ hz _ _ _, Cert.Whole.read_over VS0_2 _ hz _ _ _]
    rfl
  | n + 1, hn => by
    have h64 : n + 1 < 64 := lt_of_lt_of_eq hn N_0
    have ih := outs_eq c n (Nat.lt_of_succ_lt hn)
    refine (outsAt0_B m c ⟨n + 1, hn⟩ (by show ¬(n + 1) % 64 = 0; omega)).trans ?_
    unfold out0_B_6 sout0_B_0 sout0_B_2 kernelRun0_B
    dsimp only
    rw [Cert.Whole.read_over VO0_6 _ hz _ _ _, Cert.Whole.read_over VS0_0 _ hz _ _ _, Cert.Whole.read_over VS0_2 _ hz _ _ _]
    show (blk (outsAt0 m c n (Nat.lt_of_succ_lt hn)).2.1 (outsAt0 m c n (Nat.lt_of_succ_lt hn)).2.2 _ _ _ _, _, _) = _
    rw [ih]
    dsimp only
    rw [ahead_q, ahead_k]
    rfl

end Cert.KernelAIdeal.Attn
end
-- ==== Proof.MlaHead.lean ====
/- What one head's block holds, entry by entry, at exact arithmetic, where heads are padded. -/
module

public import proofs.«01_k».proof.Proof.MlaGrid
public import Idealize.ShloMosaic.Lib.Pointwise
public import Idealize.ShloMosaic.Lib.IdealHost

@[expose] public section

set_option maxRecDepth 16384

noncomputable section

namespace Cert.KernelAIdeal.Attn

open Idealize.ShloMosaic Idealize.ShloMosaic.TcCoe Idealize.SL.Sem Cert.KernelAIdeal Cert.KernelAIdeal.Gen Cert.KernelAIdeal.Own Cert.KernelAIdeal.OwnValue

/-- The scale that the queries are multiplied by: `log₂ e / √192`. -/
def scale : EReal := (((Real.log 2)⁻¹ * (Real.sqrt 192)⁻¹ : ℝ) : EReal)

theorem named_scale : (Named.named κ "mla_scale" 0x3DD53B95#32 : Ideal .f32) = scale := rfl

theorem sc_apply (q : FVec Ideal S512x256 .bf16) (k : FVec Ideal S4096x256 .bf16) (t : Fin 4096) (r : Fin 512) :
    sc (F := Ideal) q k (ix2 t r) = (∑ e : Fin 256, k (ix2 t e) * (q (ix2 r e) * scale) : EReal) := by
  rw [← named_scale]
  pointwise [sc, k0_pay3, k0_pay2]

theorem mx_apply (q : FVec Ideal S512x256 .bf16) (k : FVec Ideal S4096x256 .bf16) (r : Fin 512) :
    mx (F := Ideal) q k (ix2 0 r) = Finset.fold max (Ideal.ofBits .f32 4286578688#32) (fun y : Fin 4096 => ∑ e : Fin 256, k (ix2 y e) * (q (ix2 r e) * scale)) Finset.univ := by
  rw [← named_scale]
  pointwise [mx, k0_pay4, k0_pay2]

theorem fin_apply (s : FVec Ideal S4096x512 .f32) (m : FVec Ideal S1x512 .f32) (vt : FVec Ideal S144x4096 .bf16) (sz : FVec Ideal S512x128 .bf16)
    (x : Fin 512) (d : Fin 128) :
    fin (F := Ideal) s m vt sz (ix2 x d) = Ideal.div (∑ y : Fin 4096, vt (ix2 ⟨d.val, by omega⟩ y) * Ideal.exp2 (s (ix2 y x) - m (ix2 0 x)))
      (∑ y : Fin 4096, vt (ix2 128 y) * Ideal.exp2 (s (ix2 y x) - m (ix2 0 x))) * sz (ix2 x d) := by
  pointwise [fin, k0_pay5, k0_pay6]
  rfl

theorem rows_apply {n : Nat} (a : FVec Ideal ⟨2, ![4096, n]⟩ .bf16) (x : Fin 4096) (r : Fin 512) (hr : r.val = x.val % 512) (e : Fin n) :
    rows (F := Ideal) a (x.val / 512) (ix2 r e) = a (ix2 x e) := by
  unfold rows
  refine congrArg a (congrArg (fun z => ix2 z e) (Fin.ext ?_))
  show (512 * (x.val / 512) + r.val) % 4096 = x.val
  omega

/-- The scaled score of query `x` and key `y` of a head. -/
def score (q k : FVec Ideal S4096x256 .bf16) (x y : Fin 4096) : EReal := ∑ e : Fin 256, k (ix2 y e) * (q (ix2 x e) * scale)

/-- The weight of key `y` for query `x`, not yet divided by the weights' sum. -/
def weight (q k : FVec Ideal S4096x256 .bf16) (x y : Fin 4096) : EReal :=
  Ideal.exp2 (score q k x y - Finset.fold max (Ideal.ofBits .f32 4286578688#32) (fun z => score q k x z) Finset.univ)

theorem head_apply (q k : FVec Ideal S4096x256 .bf16) (vt : FVec Ideal S144x4096 .bf16) (sz : FVec Ideal S4096x128 .bf16) (x : Fin 4096) (d : Fin 128) :
    head (F := Ideal) q k vt sz (ix2 x d) = Ideal.div (∑ y : Fin 4096, vt (ix2 ⟨d.val, by omega⟩ y) * weight q k x y)
      (∑ y : Fin 4096, vt (ix2 128 y) * weight q k x y) * sz (ix2 x d) := by
  have hr : (Fin.ofNat 512 x.val).val = x.val % 512 := rfl
  show fin (F := Ideal) (scAt (sc (rows q 0) k) q k (x.val / 512)) (mxAt (mx (rows q 0) k) q k (x.val / 512)) vt (rows sz (x.val / 512))
    (ix2 (Fin.ofNat 512 x.val) d) = _
  rw [scAt_own, mxAt_own, fin_apply, rows_apply sz x _ hr]
  simp only [sc_apply, mx_apply, rows_apply q x _ hr]
  rfl

/-- A column of a head that holds the argument's. -/
theorem padOf_val (x : FVec Ideal S32768x1536 .bf16) (r : Fin 32768) (h : Fin 8) (d : Fin 192) :
    padOf (F := Ideal) x (ix2 r ⟨256 * h.val + d.val, by omega⟩) = x (ix2 r ⟨h.val * 192 + d.val, by omega⟩) := by
  pointwise [padOf]
  have e : (256 * h.val + d.val) % 256 = d.val := by omega
  rw [dif_pos (by omega)]
  congr 3
  rw [e]

/-- A column of a head that holds zeros. -/
theorem padOf_zero (x : FVec Ideal S32768x1536 .bf16) (r : Fin 32768) (h : Fin 8) (d : Fin 64) :
    padOf (F := Ideal) x (ix2 r ⟨256 * h.val + (192 + d.val), by omega⟩) = (0 : EReal) := by
  pointwise [padOf]
  rw [dif_neg (by omega)]

/-- A row of the transposed values that holds values. -/
theorem vtOf_val (v : FVec Ideal S32768x1024 .bf16) (g : Fin 8) (d : Fin 128) (y : Fin 32768) :
    vtOf (F := Ideal) v (ix2 ⟨144 * g.val + d.val, by omega⟩ y) = v (ix2 y ⟨g.val * 128 + d.val, by omega⟩) := by
  pointwise [vtOf]
  have e : (144 * g.val + d.val) % 144 = d.val := by omega
  rw [dif_pos (by omega)]
  congr 3
  rw [e]

/-- A row of the transposed values that holds ones. -/
theorem vtOf_one (v : FVec Ideal S32768x1024 .bf16) (g : Fin 8) (y : Fin 32768) :
    vtOf (F := Ideal) v (ix2 ⟨144 * g.val + 128, by omega⟩ y) = 1 := by
  pointwise [vtOf]
  rw [dif_neg (by omega)]

end Cert.KernelAIdeal.Attn
end
-- ==== Proof.MlaRef.lean ====
/- The reference of the attention with 192 query and key columns per head, entry by entry. -/
module

public import proofs.«01_k».proof.Proof.Gen.ReferenceAIdeal
public import Idealize.ShloMosaic.Lib.Pointwise
public import Idealize.ShloMosaic.Lib.IdealHost

@[expose] public section

set_option maxRecDepth 16384

noncomputable section

namespace Cert.ReferenceAIdeal.Attn

open Cert.ReferenceAIdeal Cert.ReferenceAIdeal.Gen Idealize.ShloMosaic Idealize.ShloMosaic.TcCoe Idealize.SL.Sem Idealize.ShloMosaic.StableHlo

/-- The reference's scaled scores: batch, head, query, key. -/
def refS (q k : FVec Ideal S32768x1536 .bf16) : FVec Ideal S8x8x4096x4096 .f32 :=
  Host.divf (Host.dotGeneral dot_S8x4096x8x192_S8x4096x8x192_S8x8x4096x4096_3_3_1_1_02_02 none (shapeCast _ (extf .f32 q bitsLt_bf16_f32) shapeCasts_S32768x1536_S8x4096x8x192) (shapeCast _ (extf .f32 k bitsLt_bf16_f32) shapeCasts_S32768x1536_S8x4096x8x192)) (broadcastInDim S8x8x4096x4096 ![] bcast_S_S8x8x4096x4096 (Host.sqrt (constant S_ .f32 0x43400000#32)))

/-- Each query's largest score. -/
def refM (s : FVec Ideal S8x8x4096x4096 .f32) : FVec Ideal S8x8x4096 .f32 :=
  Host.reduce FloatOps.maximumf s (constant S_ .f32 0xFF800000#32) reducesTo_S8x8x4096x4096_S8x8x4096_d3 h_S_

/-- The same with a last axis of size one, joined with the lower bound. -/
def refX (m : FVec Ideal S8x8x4096 .f32) : FVec Ideal S8x8x4096x1 .f32 :=
  broadcastInDim S8x8x4096x1 ![0, 1, 2] bcast_S8x8x4096_S8x8x4096x1_0_1_2 (maximumf (broadcastInDim S8x8x4096 ![] bcast_S_S8x8x4096 (constant S_ .f32 0xFF800000#32)) m)

/-- The exponentials of the scores, each less its query's largest. -/
def refE (s : FVec Ideal S8x8x4096x4096 .f32) : FVec Ideal S8x8x4096x4096 .f32 :=
  Host.exp (subf s (broadcastInDim S8x8x4096x4096 ![0, 1, 2, 3] bcast_S8x8x4096x1_S8x8x4096x4096_0_1_2_3 (refX (refM s))))

/-- The weighted values. -/
def refO (v : FVec Ideal S32768x1024 .bf16) (e : FVec Ideal S8x8x4096x4096 .f32) : FVec Ideal S8x8x128x4096 .f32 :=
  Host.dotGeneral dot_S8x4096x8x128_S8x8x4096x4096_S8x8x128x4096_1_3_3_2_02_01 none (shapeCast _ (extf .f32 v bitsLt_bf16_f32) shapeCasts_S32768x1024_S8x4096x8x128) (Host.divf e (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd e (constant S_ .f32 0x00000000#32) reducesTo_S8x8x4096x4096_S8x8x4096_d3 h_S_))))

/-- The reference's result as a function of its four arguments. -/
def refVal (q k : FVec Ideal S32768x1536 .bf16) (v : FVec Ideal S32768x1024 .bf16) (sz : FVec Ideal S32768x3072 .bf16) : FVec Ideal S32768x1024 .bf16 :=
  truncf .bf16 (mulf (shapeCast _ (transpose S8x4096x8x128 [0, 3, 1, 2] (refO v (refE (refS q k))) transposes_S8x8x128x4096_S8x4096x8x128_0_3_1_2) shapeCasts_S8x4096x8x128_S32768x1024) (extf .f32 (extractStridedSlice S32768x1024 ![0, 0] sz slices_S32768x3072_S32768x1024_0_0) bitsLt_bf16_f32)) bitsLt_bf16_f32

theorem refS_apply (q k : FVec Ideal S32768x1536 .bf16) (b h : Fin 8) (x y : Fin 4096) :
    refS q k (ix4 b h x y) = Ideal.div (∑ d : Fin 192, q (ix2 ⟨b.val * 4096 + x.val, by omega⟩ ⟨h.val * 192 + d.val, by omega⟩)
      * k (ix2 ⟨b.val * 4096 + y.val, by omega⟩ ⟨h.val * 192 + d.val, by omega⟩)) (Ideal.sqrt (Ideal.ofBits .f32 1128267776#32)) := by
  pointwise [refS]

/-- The largest of the last coordinate's entries. -/
theorem fold_last {a b c d : Nat} (x : (⟨4, ![a, b, c, d]⟩ : Shape).Idx → EReal) (init : (⟨0, ![]⟩ : Shape).Idx → EReal)
    (h' : (⟨4, ![a, b, c, d]⟩ : Shape).ReducesTo [3] ⟨3, ![a, b, c]⟩) (hu) (i0 : Fin a) (i1 : Fin b) (i2 : Fin c) :
    Host.reduce max x init h' hu (ix3 i0 i1 i2) = Finset.fold max (init (Shape.Idx.first hu)) (fun y : Fin d => x (ix4 i0 i1 i2 y)) Finset.univ := by
  have h : (⟨4, ![a, b, c, d]⟩ : Shape).Reduces [3] ⟨3, ![a, b, c]⟩ := ⟨h'.1, Nat.succ_pos 2, h'.2⟩
  rw [Host.reduce_eq_fold_single max x init h' h hu]
  refine congrArg (fun f => Finset.fold max _ f Finset.univ) (funext fun y => ?_)
  show x (h.lift (ix3 i0 i1 i2) y) = _
  rw [← h.lift_drop (ix4 i0 i1 i2 y)]
  refine congrArg (fun j => x (h.lift j y)) (funext fun t => ?_)
  match t with
  | 0 => rfl
  | 1 => rfl
  | 2 => rfl

theorem refM_apply (s : FVec Ideal S8x8x4096x4096 .f32) (b h : Fin 8) (x : Fin 4096) :
    refM s (ix3 b h x) = Finset.fold max (Ideal.ofBits .f32 4286578688#32) (fun y : Fin 4096 => s (ix4 b h x y)) Finset.univ :=
  fold_last s _ _ _ b h x

theorem refX_apply (m : FVec Ideal S8x8x4096 .f32) (b h : Fin 8) (x : Fin 4096) :
    refX m (ix4 b h x 0) = max (Ideal.ofBits .f32 4286578688#32) (m (ix3 b h x)) := by
  pointwise [refX]

theorem refE_apply (s : FVec Ideal S8x8x4096x4096 .f32) (b h : Fin 8) (x y : Fin 4096) :
    refE s (ix4 b h x y) = Ideal.exp (s (ix4 b h x y) - refX (refM s) (ix4 b h x 0)) := by
  pointwise [refE]

/-- One weight, not yet divided by the weights' sum. -/
theorem refE_entry (s : FVec Ideal S8x8x4096x4096 .f32) (b h : Fin 8) (x y : Fin 4096) :
    refE s (ix4 b h x y) = Ideal.exp (s (ix4 b h x y) - max (Ideal.ofBits .f32 4286578688#32)
      (Finset.fold max (Ideal.ofBits .f32 4286578688#32) (fun z : Fin 4096 => s (ix4 b h x z)) Finset.univ)) := by
  rw [refE_apply, refX_apply, refM_apply]

theorem refO_apply (v : FVec Ideal S32768x1024 .bf16) (e : FVec Ideal S8x8x4096x4096 .f32) (b h : Fin 8) (d : Fin 128) (x : Fin 4096) :
    refO v e (ix4 b h d x) = ∑ y : Fin 4096, v (ix2 ⟨b.val * 4096 + y.val, by omega⟩ ⟨h.val * 128 + d.val, by omega⟩)
      * Ideal.div (e (ix4 b h x y)) (∑ z : Fin 4096, e (ix4 b h x z)) := by
  pointwise [refO]

theorem refVal_apply (q k : FVec Ideal S32768x1536 .bf16) (v : FVec Ideal S32768x1024 .bf16) (sz : FVec Ideal S32768x3072 .bf16) (r : Fin 32768) (j : Fin 1024) :
    refVal q k v sz (ix2 r j) = refO v (refE (refS q k)) (ix4 ⟨r.val / 4096, by omega⟩ ⟨j.val / 128, by omega⟩ ⟨j.val % 128, by omega⟩
      ⟨r.val % 4096, by omega⟩) * sz (ix2 r ⟨j.val, by omega⟩) := by
  pointwise [refVal]

end Cert.ReferenceAIdeal.Attn

end
-- ==== Proof.MlaValue.lean ====
/- The result of the attention with padded heads is its reference's: the two read at one entry, with real queries
   and keys. -/
module

public import proofs.«01_k».proof.Proof.MlaHead
public import proofs.«01_k».proof.Proof.MlaRef
public import proofs.«01_k».proof.Proof.GqaValue
public import proofs.«01_k».proof.Proof.Gen.Pre_finite_qk_mla
public import proofs.«01_k».proof.Proof.Gen.ReferenceAIdeal.Run
public import proofs.«01_k».proof.Defs

@[expose] public section

set_option maxRecDepth 16384

noncomputable section

namespace Cert.Mla

open Idealize.ShloMosaic Idealize.ShloMosaic.TcCoe Idealize.SL.Sem Cert.KernelAIdeal Cert.KernelAIdeal.Gen Cert.KernelAIdeal.Own Cert.KernelAIdeal.OwnValue
open Cert.KernelAIdeal.Attn Cert.ReferenceAIdeal.Attn Cert.Softmax
open Cert.KernelIdeal.Attn (cut)
open Cert.Gqa (AllReal cut_apply)

theorem ofBits_192 : Ideal.ofBits .f32 1128267776#32 = ((192 : ℝ) : EReal) := by
  simp [Ideal.ofBits, Ideal.ieee, -EReal.coe_mul]
  norm_num

theorem sqrt_192 : Ideal.sqrt ((192 : ℝ) : EReal) = ((Real.sqrt 192 : ℝ) : EReal) := by
  rw [Ideal.sqrt_coe, if_neg (by norm_num)]

/-- A sum over a padded head's columns is the sum over the head's own, where the padding's terms are zero. -/
theorem sum_head (f : Fin 256 → EReal) (h : ∀ d : Fin 64, f ⟨192 + d.val, by omega⟩ = 0) :
    ∑ e, f e = ∑ d : Fin 192, f ⟨d.val, by omega⟩ := by
  refine (Fin.sum_univ_add (a := 192) (b := 64) f).trans ?_
  exact (congrArg _ (Finset.sum_eq_zero fun d _ => h d)).trans (add_zero _)

/-- The grid step `n`, from the four arguments. -/
def step (q k : FVec Ideal ⟨2, ![32768, 1536]⟩ .bf16) (v : FVec Ideal ⟨2, ![32768, 1024]⟩ .bf16) (sz : FVec Ideal ⟨2, ![32768, 3072]⟩ .bf16)
    (n : Nat) (hn : n < 64) : FVec Ideal ⟨2, ![4096, 128]⟩ .bf16 :=
  head (F := Ideal) (cut (F := Ideal) (R := 32768) (C := 2048) 4096 256 (padOf (F := Ideal) q) (4096 * (n / 8)) (256 * (n % 8)) (by omega) (by omega))
    (cut (F := Ideal) (R := 32768) (C := 2048) 4096 256 (padOf (F := Ideal) k) (4096 * (n / 8)) (256 * (n % 8)) (by omega) (by omega))
    (cut (F := Ideal) (R := 1152) (C := 32768) 144 4096 (vtOf (F := Ideal) v) (144 * (n % 8)) (4096 * (n / 8)) (by omega) (by omega))
    (cut 4096 128 sz (4096 * (n / 8)) (128 * (n % 8)) (by omega) (by omega))

/-- A head's column of its own, read at its place. -/
theorem cut_val (x : FVec Ideal ⟨2, ![32768, 1536]⟩ .bf16) (b h : Fin 8) (r s : Nat) (hr hs) (er : r = 4096 * b.val) (es : s = 256 * h.val)
    (y : Fin 4096) (d : Fin 192) :
    cut (F := Ideal) (R := 32768) (C := 2048) 4096 256 (padOf (F := Ideal) x) r s hr hs (ix2 y ⟨d.val, by omega⟩)
      = x (ix2 ⟨b.val * 4096 + y.val, by omega⟩ ⟨h.val * 192 + d.val, by omega⟩) :=
  (cut_apply _ _ _ _ _ _ _ y ⟨d.val, by omega⟩ ⟨b.val * 4096 + y.val, by omega⟩ ⟨256 * h.val + d.val, by omega⟩
    (by show b.val * 4096 + y.val = r + y.val; omega) (by show 256 * h.val + d.val = s + d.val; omega)).trans (padOf_val x _ h d)

/-- A head's column of the padding is zero. -/
theorem cut_pad (x : FVec Ideal ⟨2, ![32768, 1536]⟩ .bf16) (b h : Fin 8) (r s : Nat) (hr hs) (er : r = 4096 * b.val) (es : s = 256 * h.val)
    (y : Fin 4096) (d : Fin 64) :
    cut (F := Ideal) (R := 32768) (C := 2048) 4096 256 (padOf (F := Ideal) x) r s hr hs (ix2 y ⟨192 + d.val, by omega⟩) = (0 : EReal) :=
  (cut_apply _ _ _ _ _ _ _ y ⟨192 + d.val, by omega⟩ ⟨b.val * 4096 + y.val, by omega⟩ ⟨256 * h.val + (192 + d.val), by omega⟩
    (by show b.val * 4096 + y.val = r + y.val; omega) (by show 256 * h.val + (192 + d.val) = s + (192 + d.val); omega)).trans (padOf_zero x _ h d)

/-- A padded head's score is the score over the head's own columns. -/
theorem score_eq (q k : FVec Ideal ⟨2, ![32768, 1536]⟩ .bf16) (b h : Fin 8) (r s : Nat) (hr hs) (er : r = 4096 * b.val) (es : s = 256 * h.val)
    (x y : Fin 4096) :
    score (cut (F := Ideal) (R := 32768) (C := 2048) 4096 256 (padOf (F := Ideal) q) r s hr hs)
        (cut (F := Ideal) (R := 32768) (C := 2048) 4096 256 (padOf (F := Ideal) k) r s hr hs) x y
      = ∑ d : Fin 192, k (ix2 ⟨b.val * 4096 + y.val, by omega⟩ ⟨h.val * 192 + d.val, by omega⟩)
          * (q (ix2 ⟨b.val * 4096 + x.val, by omega⟩ ⟨h.val * 192 + d.val, by omega⟩) * scale) := by
  unfold score
  rw [sum_head _ fun d => by rw [cut_pad k b h r s hr hs er es, zero_mul]]
  simp only [cut_val _ b h r s hr hs er es]

/-- One entry of the call's result is the reference's. -/
theorem step_eq (q k : FVec Ideal ⟨2, ![32768, 1536]⟩ .bf16) (v : FVec Ideal ⟨2, ![32768, 1024]⟩ .bf16) (sz : FVec Ideal ⟨2, ![32768, 3072]⟩ .bf16)
    (hq : AllReal q) (hk : AllReal k) (r : Fin 32768) (j : Fin 1024) (n : Nat) (hn : n < 64) (e : n = 8 * (r.val / 4096) + j.val / 128) :
    step q k v sz n hn (ix2 ⟨r.val % 4096, by omega⟩ ⟨j.val % 128, by omega⟩) = refVal q k v sz (ix2 r j) := by
  have e1 : n / 8 = r.val / 4096 := by omega
  have e2 : n % 8 = j.val / 128 := by omega
  unfold step
  rw [head_apply, refVal_apply, refO_apply]
  rw [cut_apply (R := 32768) (C := 3072) 4096 128 sz _ _ _ _ _ _ r ⟨j.val, by omega⟩ (by show r.val = 4096 * (n / 8) + r.val % 4096; omega)
    (by show j.val = 128 * (n % 8) + j.val % 128; omega)]
  refine congrArg (· * _) ?_
  have hv : ∀ y : Fin 4096, cut (F := Ideal) (R := 1152) (C := 32768) 144 4096 (vtOf (F := Ideal) v) (144 * (n % 8)) (4096 * (n / 8)) (by omega) (by omega) (ix2 ⟨j.val % 128, by omega⟩ y)
      = v (ix2 ⟨r.val / 4096 * 4096 + y.val, by omega⟩ ⟨j.val / 128 * 128 + j.val % 128, by omega⟩) := fun y =>
    (cut_apply _ _ _ _ _ _ _ _ _ ⟨144 * (j.val / 128) + j.val % 128, by omega⟩ ⟨r.val / 4096 * 4096 + y.val, by omega⟩
      (by show 144 * (j.val / 128) + j.val % 128 = 144 * (n % 8) + j.val % 128; omega)
      (by show r.val / 4096 * 4096 + y.val = 4096 * (n / 8) + y.val; omega)).trans
      (vtOf_val v ⟨j.val / 128, by omega⟩ ⟨j.val % 128, by omega⟩ _)
  have h1 : ∀ y : Fin 4096, cut (F := Ideal) (R := 1152) (C := 32768) 144 4096 (vtOf (F := Ideal) v) (144 * (n % 8)) (4096 * (n / 8)) (by omega) (by omega) (ix2 128 y)
      = (1 : EReal) := fun y =>
    (cut_apply _ _ _ _ _ _ _ _ _ ⟨144 * (j.val / 128) + 128, by omega⟩ ⟨r.val / 4096 * 4096 + y.val, by omega⟩
      (by show 144 * (j.val / 128) + 128 = 144 * (n % 8) + 128; omega)
      (by show r.val / 4096 * 4096 + y.val = 4096 * (n / 8) + y.val; omega)).trans
      (vtOf_one v ⟨j.val / 128, by omega⟩ _)
  have hs := score_eq q k ⟨r.val / 4096, by omega⟩ ⟨j.val / 128, by omega⟩ (4096 * (n / 8)) (256 * (n % 8)) (by omega) (by omega)
    (by show 4096 * (n / 8) = 4096 * (r.val / 4096); omega) (by show 256 * (n % 8) = 256 * (j.val / 128); omega)
  have hr : ∀ x y : Fin 4096, refS q k (ix4 ⟨r.val / 4096, by omega⟩ ⟨j.val / 128, by omega⟩ x y)
      = Ideal.div (∑ d : Fin 192, k (ix2 ⟨r.val / 4096 * 4096 + y.val, by omega⟩ ⟨j.val / 128 * 192 + d.val, by omega⟩)
          * q (ix2 ⟨r.val / 4096 * 4096 + x.val, by omega⟩ ⟨j.val / 128 * 192 + d.val, by omega⟩)) ((Real.sqrt 192 : ℝ) : EReal) := fun x y => by
    rw [refS_apply, ofBits_192, sqrt_192]
    exact congrArg (Ideal.div · _) (Finset.sum_congr rfl fun d _ => mul_comm _ _)
  simp only [weight, hs, hv, h1, refE_entry, hr, ofBits_bot, max_bot_left]
  exact entry (fun (y : Fin 4096) (d : Fin 192) => k (ix2 ⟨r.val / 4096 * 4096 + y.val, by omega⟩ ⟨j.val / 128 * 192 + d.val, by omega⟩))
    (fun d : Fin 192 => q (ix2 ⟨r.val / 4096 * 4096 + r.val % 4096, by omega⟩ ⟨j.val / 128 * 192 + d.val, by omega⟩))
    (fun y : Fin 4096 => v (ix2 ⟨r.val / 4096 * 4096 + y.val, by omega⟩ ⟨j.val / 128 * 128 + j.val % 128, by omega⟩))
    (fun _ _ => hk _) (fun _ => hq _) (Real.sqrt_pos.mpr (by norm_num))

/-- An entry whose absolute value compares below infinity is a real number. -/
theorem real_of_cmp (x : EReal) (h : Ideal.cmp .olt (max x (-x)) (Ideal.ofBits .f32 0x7F800000#32) = 1#1) : ∃ r : ℝ, x = r := by
  rw [ofBits_top] at h
  refine real_of_abs _ (by_contra fun hc => ?_)
  simp only [Ideal.cmp, decide_eq_false hc] at h
  exact absurd h (by decide)

/-- What the precondition says: every query and every key is a real number. -/
theorem real_args (q k : FVec Ideal ⟨2, ![32768, 1536]⟩ .bf16) (v : FVec Ideal ⟨2, ![32768, 1024]⟩ .bf16) (sz : FVec Ideal ⟨2, ![32768, 3072]⟩ .bf16)
    (h1 : (Cert.Pre_finite_qk_mla.fn (F := Ideal) q k v sz).1 = fun _ => 1#1) (h2 : (Cert.Pre_finite_qk_mla.fn (F := Ideal) q k v sz).2 = fun _ => 1#1) :
    AllReal q ∧ AllReal k :=
  ⟨fun i => real_of_cmp _ (congrFun h1 i), fun i => real_of_cmp _ (congrFun h2 i)⟩

/-- The array that the call leaves, as the reference's function of the arguments. -/
theorem G6_eq (m : (ℓ : Loc nD τ sig) → Buf (Elt Ideal) ℓ) (c : Dev nD)
    (hq : AllReal (S := ⟨2, ![32768, 1536]⟩) (m ((c : Thread nD τ).loc main_arg0)))
    (hk : AllReal (S := ⟨2, ![32768, 1536]⟩) (m ((c : Thread nD τ).loc main_arg1))) :
    G6 m c = refVal (m ((c : Thread nD τ).loc main_arg0)) (m ((c : Thread nD τ).loc main_arg1)) (m ((c : Thread nD τ).loc main_arg2)) (m ((c : Thread nD τ).loc main_arg3)) := by
  funext i
  have h0 : (i 0).val < 32768 := (i 0).isLt
  have h1 : (i 1).val < 1024 := (i 1).isLt
  have hn : pt6Of i < cfg0.N := lt_of_lt_of_eq (by show 8 * ((i 0).val / 4096 - 0) + 1 * ((i 1).val / 128 - 0) < 64; omega) N_0.symm
  unfold G6
  rw [dif_pos hn, outs_eq]
  dsimp only
  rw [iblk0, iblk1, iblk4, iblk5]
  have hi : i = ix2 (i 0) (i 1) := funext fun a => by match a with
    | 0 => rfl
    | 1 => rfl
  have hl : loc6Of i = ix2 ⟨(i 0).val % 4096, Nat.mod_lt _ (by decide)⟩ ⟨(i 1).val % 128, Nat.mod_lt _ (by decide)⟩ := funext fun a => by match a with
    | 0 => rfl
    | 1 => rfl
  rw [hl]
  refine (step_eq _ _ _ _ hq hk (i 0) (i 1) (pt6Of i) (lt_of_lt_of_eq hn N_0) (by show 8 * ((i 0).val / 4096 - 0) + 1 * ((i 1).val / 128 - 0) = _; omega)).trans ?_
  exact congrArg _ hi.symm

/-- The call and its reference leave equal arrays, where every query and every key is a real number. -/
theorem value : Cert.algebraic_KernelAIdeal_ReferenceAIdeal_pre_finite_qk_mla (hKernelAIdeal := Cert.KernelAIdeal.Gen.facts)
    (hReferenceAIdeal := Cert.ReferenceAIdeal.Gen.facts) (hPre_finite_qk_mla := Cert.Pre_finite_qk_mla.Gen.facts) := by
  intro m g m' g' hpre hargs
  refine ⟨fun c => G6 m c, run m g, ?_⟩
  refine (θ_run Cert.ReferenceAIdeal.defs _ _).mono (fun r h c => ⟨(h c).1.trans ?_, (h c).2⟩) (Cert.ReferenceAIdeal.Value.run m' g')
  obtain ⟨e0, e1, e2, e3⟩ := hargs c
  obtain ⟨p1, p2⟩ := hpre c
  obtain ⟨hq, hk⟩ := real_args _ _ _ _ p1 p2
  rw [e0, e1, e2, e3]
  refine Eq.trans ?_ (G6_eq m c hq hk).symm
  unfold refVal refO refE refX refM refS
  rfl

end Cert.Mla
end
-- ==== Proof.SmallRow.lean ====
/- The call `small_proj`, row by row: what each of its eight results holds in one row, as a function of that row of
`x`, of the weights and of one row of the rotary tables. -/
module

public import Idealize.ShloMosaic.Lib.Pipeline.ValueKit
public import Idealize.ShloMosaic.Lib.Pointwise
public import Idealize.ShloMosaic.Lib.IdealHost

@[expose] public section

set_option maxRecDepth 16384

noncomputable section

namespace Cert.Small

open Idealize.ShloMosaic

/-- A row divided by its root mean square (the float32 word `k` is its length) and multiplied by a gain. -/
def nrm {n : Nat} (k : BitVec 32) (y g : Fin n → EReal) (j : Fin n) : EReal :=
  y j * Ideal.rsqrt (Ideal.div (∑ e : Fin n, y e * y e) (Ideal.ofBits .f32 k) + Ideal.ofBits .f32 0x358637BD#32) * g j

/-- The lane that lane `j` is paired with: `h` further in the first half of each `2 h` lanes, `h` back in the second. -/
def partner (h : Nat) (j : Fin 128) : Fin 128 :=
  ⟨(if j.val % (2 * h) < h then j.val + h else j.val + (128 - h)) % 128, Nat.mod_lt _ (by decide)⟩

/-- The rotary embedding of 128 lanes, the sign of the sine being in the table. -/
def turn (h : Nat) (v C S : Fin 128 → EReal) (j : Fin 128) : EReal := v j * C j + v (partner h j) * S j

/-- Consecutive lanes of a row. -/
def seg {n : Nat} (a : Fin n → EReal) (k off : Nat) (h : off + k ≤ n) (j : Fin k) : EReal :=
  a ⟨off + j.val, lt_of_lt_of_le (Nat.add_lt_add_left j.isLt off) h⟩

/-- What one row of the results depends on. -/
structure Row where
  x : Fin 2048 → EReal
  gx : Fin 2048 → EReal
  w : Fin 2048 → Fin 3456 → EReal
  wv : Fin 256 → Fin 2048 → EReal
  gq : Fin 512 → EReal
  wq : Fin 512 → Fin 2048 → EReal
  gkv : Fin 256 → EReal
  wk : Fin 256 → Fin 1024 → EReal
  wvb : Fin 1024 → Fin 256 → EReal
  gqg : Fin 128 → EReal
  gkg : Fin 128 → EReal
  cm : Fin 128 → EReal
  sm : Fin 128 → EReal
  cg : Fin 128 → EReal
  sg : Fin 128 → EReal

namespace Row
variable (R : Row)

/-- The normalised input. -/
def h : Fin 2048 → EReal := nrm 0x45000000#32 R.x R.gx
/-- Its projection. -/
def acc (j : Fin 3456) : EReal := ∑ e : Fin 2048, R.h e * R.w e j
/-- The normalised latent query. -/
def cq : Fin 512 → EReal := nrm 0x44000000#32 (seg R.acc 512 0 (by decide)) R.gq
/-- The queries of all heads. -/
def q (j : Fin 2048) : EReal := ∑ e : Fin 512, R.cq e * R.wq e j
/-- The normalised latent key and value. -/
def ckv : Fin 256 → EReal := nrm 0x43800000#32 (seg R.acc 256 512 (by decide)) R.gkv
/-- The keys of all heads. -/
def kn (j : Fin 1024) : EReal := ∑ e : Fin 256, R.ckv e * R.wk e j
/-- The values of all heads. -/
def vt (i : Fin 1024) : EReal := ∑ e : Fin 256, R.wvb i e * R.ckv e
/-- The grouped-query values. -/
def vgt (i : Fin 256) : EReal := ∑ e : Fin 2048, R.wv i e * R.h e

/-- A latent query head: 128 lanes as they are, 128 lanes with positions. -/
def qmla (j : Fin 2048) : EReal :=
  if j.val % 256 < 128 then R.q j
  else turn 16 (seg R.q 128 (j.val / 256 * 256 + 128) (by omega)) R.cm R.sm ⟨j.val % 128, Nat.mod_lt _ (by decide)⟩

/-- A latent key head: 128 lanes of its own, 128 lanes with positions that the heads share. -/
def kmla (j : Fin 2048) : EReal :=
  if j.val % 256 < 128 then R.kn ⟨j.val / 256 * 128 + j.val % 128, by omega⟩
  else turn 16 (seg R.acc 128 768 (by decide)) R.cm R.sm ⟨j.val % 128, Nat.mod_lt _ (by decide)⟩

/-- The values of a latent head, and under them rows of ones. -/
def vmla (i : Fin 1152) : EReal :=
  if hi : i.val % 144 < 128 then R.vt ⟨i.val / 144 * 128 + i.val % 144, by omega⟩ else 1

/-- A normalised grouped-query head of the projection, with positions. -/
def head (off : Nat) (ho : off + 128 ≤ 3456) (g : Fin 128 → EReal) : Fin 128 → EReal :=
  turn 32 (nrm 0x43000000#32 (seg R.acc 128 off ho) g) R.cg R.sg

def qg (j : Fin 1024) : EReal := R.head (896 + j.val / 128 * 128) (by omega) R.gqg ⟨j.val % 128, Nat.mod_lt _ (by decide)⟩
def kg (j : Fin 256) : EReal := R.head (1920 + j.val / 128 * 128) (by omega) R.gkg ⟨j.val % 128, Nat.mod_lt _ (by decide)⟩

/-- The grouped-query values, and under each head rows of ones. -/
def vg (i : Fin 288) : EReal :=
  if hi : i.val % 144 < 128 then R.vgt ⟨i.val / 144 * 128 + i.val % 144, by omega⟩ else 1

/-- The memory queries. -/
def qm (j : Fin 1024) : EReal := R.acc ⟨2432 + j.val, by omega⟩

/-! The heads one by one. -/

theorem qmla_plain (k : Nat) (hk : k < 8) (l : Fin 128) (j : Fin 2048) (hj : j.val = k * 256 + l.val) : R.qmla j = R.q j := by
  unfold qmla; rw [if_pos (by omega)]

theorem seg_congr {n : Nat} (a : Fin n → EReal) (k o o' : Nat) (h : o + k ≤ n) (h' : o' + k ≤ n) (e : o = o') : seg a k o h = seg a k o' h' := by
  subst e; rfl

theorem qmla_turn (k : Nat) (hk : k < 8) (l : Fin 128) (j : Fin 2048) (hj : j.val = k * 256 + 128 + l.val) :
    R.qmla j = turn 16 (seg R.q 128 (k * 256 + 128) (by omega)) R.cm R.sm l := by
  unfold qmla
  rw [if_neg (by omega), seg_congr R.q 128 (j.val / 256 * 256 + 128) (k * 256 + 128) (by omega) (by omega) (by omega)]
  exact congrArg _ (Fin.ext (by show j.val % 128 = l.val; omega))

theorem kmla_own (k : Nat) (hk : k < 8) (l : Fin 128) (j : Fin 2048) (hj : j.val = k * 256 + l.val) :
    R.kmla j = R.kn ⟨k * 128 + l.val, by omega⟩ := by
  unfold kmla
  rw [if_pos (by omega)]
  exact congrArg _ (Fin.ext (by show j.val / 256 * 128 + j.val % 128 = k * 128 + l.val; omega))

theorem kmla_turn (k : Nat) (hk : k < 8) (l : Fin 128) (j : Fin 2048) (hj : j.val = k * 256 + 128 + l.val) :
    R.kmla j = turn 16 (seg R.acc 128 768 (by decide)) R.cm R.sm l := by
  unfold kmla
  rw [if_neg (by omega)]
  exact congrArg _ (Fin.ext (by show j.val % 128 = l.val; omega))

theorem vmla_own (k : Nat) (hk : k < 8) (l : Fin 128) (i : Fin 1152) (hi : i.val = k * 144 + l.val) :
    R.vmla i = R.vt ⟨k * 128 + l.val, by omega⟩ := by
  unfold vmla
  rw [dif_pos (by omega)]
  exact congrArg _ (Fin.ext (by show i.val / 144 * 128 + i.val % 144 = k * 128 + l.val; omega))

theorem vmla_one (k : Nat) (hk : k < 8) (l : Fin 16) (i : Fin 1152) (hi : i.val = k * 144 + 128 + l.val) : R.vmla i = 1 := by
  unfold vmla; rw [dif_neg (by omega)]

theorem vg_own (k : Nat) (hk : k < 2) (l : Fin 128) (i : Fin 288) (hi : i.val = k * 144 + l.val) :
    R.vg i = R.vgt ⟨k * 128 + l.val, by omega⟩ := by
  unfold vg
  rw [dif_pos (by omega)]
  exact congrArg _ (Fin.ext (by show i.val / 144 * 128 + i.val % 144 = k * 128 + l.val; omega))

theorem vg_one (k : Nat) (hk : k < 2) (l : Fin 16) (i : Fin 288) (hi : i.val = k * 144 + 128 + l.val) : R.vg i = 1 := by
  unfold vg; rw [dif_neg (by omega)]

theorem head_congr (o o' : Nat) (h : o + 128 ≤ 3456) (h' : o' + 128 ≤ 3456) (e : o = o') (g : Fin 128 → EReal) : R.head o h g = R.head o' h' g := by
  subst e; rfl

theorem qg_head (k : Nat) (hk : k < 8) (l : Fin 128) (j : Fin 1024) (hj : j.val = k * 128 + l.val) :
    R.qg j = R.head (896 + k * 128) (by omega) R.gqg l := by
  unfold qg
  rw [R.head_congr (896 + j.val / 128 * 128) (896 + k * 128) (by omega) (by omega) (by omega)]
  exact congrArg _ (Fin.ext (by show j.val % 128 = l.val; omega))

theorem kg_head (k : Nat) (hk : k < 2) (l : Fin 128) (j : Fin 256) (hj : j.val = k * 128 + l.val) :
    R.kg j = R.head (1920 + k * 128) (by omega) R.gkg l := by
  unfold kg
  rw [R.head_congr (1920 + j.val / 128 * 128) (1920 + k * 128) (by omega) (by omega) (by omega)]
  exact congrArg _ (Fin.ext (by show j.val % 128 = l.val; omega))

end Row
end Cert.Small
end
-- ==== Proof.SmallPay.lean ====
/- The call `small_proj`: the arithmetic of its body, entry by entry. -/
module

public import proofs.«01_k».proof.Proof.Gen.KernelSIdeal.Skeleton
public import Idealize.ShloMosaic.Lib.KernelVsHost
public import proofs.«01_k».proof.Proof.SmallRow

@[expose] public section

set_option maxRecDepth 16384

noncomputable section

namespace Cert.Small

open Idealize.ShloMosaic Idealize.ShloMosaic.TcCoe Idealize.SL.Sem Cert.KernelSIdeal Cert.KernelSIdeal.Gen

/-- The mask of the latent heads: the first half of each 32 lanes. -/
theorem mask16 (r : Fin 512) (l : Fin 128) : k0_pay4 (ix2 r l) = if l.val % 32 < 16 then 1#1 else 0#1 :=
  (by decide +kernel : ∀ l : Fin 128, k0_pay4 (ix2 (0 : Fin 512) l) = if l.val % 32 < 16 then 1#1 else 0#1) l

/-- The mask of the grouped-query heads: the first half of each 64 lanes. -/
abbrev maskG : IVec S512x128 1 := k0_pay5 (iota .tc S512x128 32 [1] iota_S512x128_d1_w32) 64#32 0#32

theorem mask32 (r : Fin 512) (l : Fin 128) : maskG (ix2 r l) = if l.val % 64 < 32 then 1#1 else 0#1 :=
  (by decide +kernel : ∀ l : Fin 128, maskG (ix2 (0 : Fin 512) l) = if l.val % 64 < 32 then 1#1 else 0#1) l

/-- The body's rotary embedding of 128 lanes: two rotations of the lanes, one taken in each half. -/
def rope (h : Nat) (fwd bwd : BitVec 32) (M : IVec S512x128 1) (v C S : FVec Ideal S512x128 .f32) : FVec Ideal S512x128 .f32 :=
  addf (mulf v C) (mulf (select M (dynamicRotate 1 fwd none v rotates_S512x128_d1) (dynamicRotate 1 bwd none v rotates_S512x128_d1)) S)

theorem rot_apply (sb : BitVec 32) (v : FVec Ideal S512x128 .f32) (r : Fin 512) (l : Fin 128) :
    dynamicRotate 1 sb none v rotates_S512x128_d1 (ix2 r l) = v (ix2 r ⟨(l.val + 128 - sb.toNat % 128) % 128, Nat.mod_lt _ (by decide)⟩) := by
  refine dynamicRotate_apply 1 sb v _ (ix2 r l) _ fun b => ?_
  match b with
  | 0 => rfl
  | 1 => rfl

theorem rope_apply (h : Nat) (fwd bwd : BitVec 32) (M : IVec S512x128 1) (v C S : FVec Ideal S512x128 .f32)
    (hh : h ≤ 128) (hf : fwd.toNat % 128 = 128 - h) (hb : bwd.toNat % 128 = h) (r : Fin 512) (l : Fin 128)
    (hM : M (ix2 r l) = if l.val % (2 * h) < h then 1#1 else 0#1) :
    rope h fwd bwd M v C S (ix2 r l) = turn h (fun e => v (ix2 r e)) (fun e => C (ix2 r e)) (fun e => S (ix2 r e)) l := by
  have e : select M (dynamicRotate 1 fwd none v rotates_S512x128_d1) (dynamicRotate 1 bwd none v rotates_S512x128_d1) (ix2 r l) = v (ix2 r (partner h l)) := by
    show (if M (ix2 r l) = 1#1 then dynamicRotate 1 fwd none v rotates_S512x128_d1 (ix2 r l) else dynamicRotate 1 bwd none v rotates_S512x128_d1 (ix2 r l)) = _
    rw [hM, rot_apply, rot_apply]
    by_cases hl : l.val % (2 * h) < h
    · rw [if_pos hl, if_pos rfl]
      refine congrArg (fun t => v (ix2 r t)) (Fin.ext ?_)
      show (l.val + 128 - fwd.toNat % 128) % 128 = (if l.val % (2 * h) < h then l.val + h else l.val + (128 - h)) % 128
      rw [if_pos hl, hf]
      exact congrArg (· % 128) (by omega)
    · rw [if_neg hl, if_neg (by decide)]
      refine congrArg (fun t => v (ix2 r t)) (Fin.ext ?_)
      show (l.val + 128 - bwd.toNat % 128) % 128 = (if l.val % (2 * h) < h then l.val + h else l.val + (128 - h)) % 128
      rw [if_neg hl, hb]
      exact congrArg (· % 128) (by omega)
  show v (ix2 r l) * C (ix2 r l) + select M (dynamicRotate 1 fwd none v rotates_S512x128_d1) (dynamicRotate 1 bwd none v rotates_S512x128_d1) (ix2 r l) * S (ix2 r l) = _
  rw [e]; rfl

/-- Rotary embedding of a latent head. -/
abbrev rope16 (v C S : FVec Ideal S512x128 .f32) : FVec Ideal S512x128 .f32 := rope 16 112#32 16#32 k0_pay4 v C S
/-- Rotary embedding of a grouped-query head. -/
abbrev rope32 (v C S : FVec Ideal S512x128 .f32) : FVec Ideal S512x128 .f32 := rope 32 96#32 32#32 maskG v C S

theorem rope16_apply (v C S : FVec Ideal S512x128 .f32) (r : Fin 512) (l : Fin 128) :
    rope16 v C S (ix2 r l) = turn 16 (fun e => v (ix2 r e)) (fun e => C (ix2 r e)) (fun e => S (ix2 r e)) l :=
  rope_apply 16 112#32 16#32 k0_pay4 v C S (by decide) (by decide) (by decide) r l (mask16 r l)

theorem rope32_apply (v C S : FVec Ideal S512x128 .f32) (r : Fin 512) (l : Fin 128) :
    rope32 v C S (ix2 r l) = turn 32 (fun e => v (ix2 r e)) (fun e => C (ix2 r e)) (fun e => S (ix2 r e)) l :=
  rope_apply 32 96#32 32#32 maskG v C S (by decide) (by decide) (by decide) r l (mask32 r l)

/-- The body's normalisation of a grouped-query head. -/
def normG (v : FVec Ideal S512x128 .f32) (g : FVec Ideal S1x128 .f32) : FVec Ideal S512x128 .f32 :=
  mulf (mulf v (broadcastTo S512x128 (rsqrt (addf (divf (shapeCast S512x1 (multiReduction .add [1] S512 (mulf v v) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 g broadcasts_S1x128_S512x128)

theorem normG_apply (v : FVec Ideal S512x128 .f32) (g : FVec Ideal S1x128 .f32) (r : Fin 512) (l : Fin 128) :
    normG v g (ix2 r l) = nrm 0x43000000#32 (fun e => v (ix2 r e)) (fun e => g (ix2 0 e)) l := by
  unfold nrm
  pointwise [normG]

theorem pay2_apply (x : FVec Ideal S512x2048 .f32) (g : FVec Ideal S1x2048 .f32) (r : Fin 512) (j : Fin 2048) :
    k0_pay2 (F := Ideal) x g (ix2 r j) = nrm 0x45000000#32 (fun e => x (ix2 r e)) (fun e => g (ix2 0 e)) j := by
  unfold nrm
  pointwise [k0_pay2]

theorem pay3_apply (x : FVec Ideal S512x2048 .f32) (g : FVec Ideal S1x2048 .f32) (w : FVec Ideal S2048x3456 .bf16) (r : Fin 512) (j : Fin 3456) :
    k0_pay3 (F := Ideal) x g w (ix2 r j) = ∑ e : Fin 2048, nrm 0x45000000#32 (fun e => x (ix2 r e)) (fun e => g (ix2 0 e)) e * w (ix2 e j) := by
  unfold k0_pay3
  rw [show matmul dot_S512x2048_S2048x3456_S512x3456_1_0_0_1_n_n none (k0_pay2 (F := Ideal) x g) w (constant S512x3456 .f32 0x00000000#32) (ix2 r j) = ∑ e : Fin 2048, k0_pay2 (F := Ideal) x g (ix2 r e) * w (ix2 e j) from by pointwise]
  simp only [pay2_apply]

theorem pay7_apply (a : FVec Ideal S512x3456 .f32) (g : FVec Ideal S1x512 .f32) (r : Fin 512) (j : Fin 512) :
    k0_pay7 (F := Ideal) a g (ix2 r j) = nrm 0x44000000#32 (seg (fun e => a (ix2 r e)) 512 0 (by decide)) (fun e => g (ix2 0 e)) j := by
  unfold nrm seg
  pointwise [k0_pay7]

theorem pay8_apply (a : FVec Ideal S512x512 .bf16) (w : FVec Ideal S512x2048 .bf16) (r : Fin 512) (j : Fin 2048) :
    k0_pay8 (F := Ideal) a w (ix2 r j) = ∑ e : Fin 512, a (ix2 r e) * w (ix2 e j) := by
  pointwise [k0_pay8]

theorem pay27_apply (a : FVec Ideal S512x3456 .f32) (g : FVec Ideal S1x256 .f32) (r : Fin 512) (j : Fin 256) :
    k0_pay27 (F := Ideal) (k0_pay25 a) (k0_pay26 g) (ix2 r j) = nrm 0x43800000#32 (seg (fun e => a (ix2 r e)) 256 512 (by decide)) (fun e => g (ix2 0 e)) j := by
  unfold nrm seg
  pointwise [k0_pay25, k0_pay26, k0_pay27]

theorem pay28_apply (a b : FVec Ideal S512x256 .f32) (w : FVec Ideal S256x1024 .bf16) (r : Fin 512) (j : Fin 1024) :
    k0_pay28 (F := Ideal) a b w (ix2 r j) = ∑ e : Fin 256, k0_pay27 (F := Ideal) a b (ix2 r e) * w (ix2 e j) := by
  unfold k0_pay28
  pointwise

theorem pay29_apply (a b : FVec Ideal S512x256 .f32) (w : FVec Ideal S1024x256 .bf16) (i : Fin 1024) (r : Fin 512) :
    k0_pay29 (F := Ideal) a b w (ix2 i r) = ∑ e : Fin 256, w (ix2 i e) * k0_pay27 (F := Ideal) a b (ix2 r e) := by
  unfold k0_pay29
  pointwise

theorem pay65_apply (h : FVec Ideal S512x2048 .bf16) (w : FVec Ideal S256x2048 .bf16) (i : Fin 256) (r : Fin 512) :
    k0_pay65 (F := Ideal) h w (ix2 i r) = ∑ e : Fin 2048, w (ix2 i e) * h (ix2 r e) := by
  pointwise [k0_pay65]

end Cert.Small
end
-- ==== Proof.SmallOut.lean ====
/- The call `small_proj`: what one grid step leaves in its eight blocks. -/
module

public import proofs.«01_k».proof.Proof.Gen.KernelSIdeal.Value
public import proofs.«01_k».proof.Proof.SmallPay
public import proofs.«01_k».proof.Proof.GqaEq

@[expose] public section

set_option maxRecDepth 16384

noncomputable section

namespace Cert.Small

open Idealize.ShloMosaic Idealize.ShloMosaic.TcCoe Idealize.SL.Sem Cert.KernelSIdeal Cert.KernelSIdeal.Gen

/-- What one grid step reads. -/
structure Blk where
  x : FVec Ideal S512x2048 .f32
  gx : FVec Ideal S1x2048 .f32
  w : FVec Ideal S2048x3456 .bf16
  wv : FVec Ideal S256x2048 .bf16
  gq : FVec Ideal S1x512 .f32
  wq : FVec Ideal S512x2048 .bf16
  gkv : FVec Ideal S1x256 .f32
  wk : FVec Ideal S256x1024 .bf16
  wvb : FVec Ideal S1024x256 .bf16
  gqg : FVec Ideal S1x128 .f32
  gkg : FVec Ideal S1x128 .f32
  cm : FVec Ideal S512x128 .f32
  sm : FVec Ideal S512x128 .f32
  cg : FVec Ideal S512x128 .f32
  sg : FVec Ideal S512x128 .f32

/-- An array of 512 rows, given row by row. -/
def byRow {n : Nat} (f : Fin 512 → Fin n → EReal) : FVec Ideal ⟨2, ![512, n]⟩ .bf16 := fun i => f (i 0) (i 1)
/-- An array of 512 columns, given column by column. -/
def byCol {n : Nat} (f : Fin 512 → Fin n → EReal) : FVec Ideal ⟨2, ![n, 512]⟩ .bf16 := fun i => f (i 1) (i 0)

/-- A stored block of columns agrees with the whole block. -/
theorem colPiece {n : Nat} (f : Fin 512 → Fin n → EReal) (P : FVec Ideal S512x128 .bf16) (o : Nat)
    (inb : ∀ a, (![0, o] : Fin 2 → Nat) a + ![512, 128] a ≤ (⟨2, ![512, n]⟩ : Shape).size a)
    (h : ∀ (r : Fin 512) (l : Fin 128) (j : Fin n), j.val = o + l.val → P (ix2 r l) = f r j) (z : S512x128.Idx) :
    P z = byRow f ((Rect.unit (s := ⟨2, ![512, n]⟩) ![0, o] ![512, 128] inb).emb z) := by
  obtain ⟨r, l, rfl⟩ : ∃ (r : Fin 512) (l : Fin 128), z = ix2 r l := ⟨z 0, z 1, funext fun a => by match a with
    | 0 => rfl
    | 1 => rfl⟩
  refine (h r l ((Rect.unit (s := ⟨2, ![512, n]⟩) ![0, o] ![512, 128] inb).emb (ix2 r l) 1) (by show o + 1 * l.val = o + l.val; omega)).trans ?_
  exact congrArg (fun t => f t _) (Fin.ext (by show r.val = 0 + 1 * r.val; omega))

/-- A stored block of rows agrees with the whole block. -/
theorem rowPiece {n k : Nat} (f : Fin 512 → Fin n → EReal) (P : FVec Ideal ⟨2, ![k, 512]⟩ .bf16) (o : Nat)
    (inb : ∀ a, (![o, 0] : Fin 2 → Nat) a + ![k, 512] a ≤ (⟨2, ![n, 512]⟩ : Shape).size a)
    (h : ∀ (l : Fin k) (r : Fin 512) (i : Fin n), i.val = o + l.val → P (ix2 l r) = f r i) (z : (⟨2, ![k, 512]⟩ : Shape).Idx) :
    P z = byCol f ((Rect.unit (s := ⟨2, ![n, 512]⟩) ![o, 0] ![k, 512] inb).emb z) := by
  obtain ⟨l, r, rfl⟩ : ∃ (l : Fin k) (r : Fin 512), z = ix2 l r := ⟨z 0, z 1, funext fun a => by match a with
    | 0 => rfl
    | 1 => rfl⟩
  refine (h l r ((Rect.unit (s := ⟨2, ![n, 512]⟩) ![o, 0] ![k, 512] inb).emb (ix2 l r) 0) (by show o + 1 * l.val = o + l.val; omega)).trans ?_
  exact congrArg (fun t => f t _) (Fin.ext (by show r.val = 0 + 1 * r.val; omega))

/-- An entry of some columns. -/
theorem cut_col {N M : Nat} (v : FVec Ideal ⟨2, ![512, N]⟩ .f32) (o : Nat) (hs : (⟨2, ![512, N]⟩ : Shape).Slices ![0, o] ⟨2, ![512, M]⟩)
    (r : Fin 512) (l : Fin M) (j : Fin N) (hj : j.val = o + l.val) : extractStridedSlice ⟨2, ![512, M]⟩ ![0, o] v hs (ix2 r l) = v (ix2 r j) := by
  refine extractStridedSlice_apply _ _ hs _ (ix2 r j) fun a => ?_
  match a with
  | 0 => exact (Nat.zero_add _).symm
  | 1 => exact hj

/-- An entry of some rows. -/
theorem cut_row {N M : Nat} (v : FVec Ideal ⟨2, ![N, 512]⟩ .f32) (o : Nat) (hs : (⟨2, ![N, 512]⟩ : Shape).Slices ![o, 0] ⟨2, ![M, 512]⟩)
    (l : Fin M) (r : Fin 512) (i : Fin N) (hi : i.val = o + l.val) : extractStridedSlice ⟨2, ![M, 512]⟩ ![o, 0] v hs (ix2 l r) = v (ix2 i r) := by
  refine extractStridedSlice_apply _ _ hs _ (ix2 i r) fun a => ?_
  match a with
  | 0 => exact hi
  | 1 => exact (Nat.zero_add _).symm

namespace Blk
variable (B : Blk)

/-- What row `r` of the results depends on. -/
def row (r : Fin 512) : Row where
  x := fun e => B.x (ix2 r e)
  gx := fun e => B.gx (ix2 0 e)
  w := fun e j => B.w (ix2 e j)
  wv := fun i e => B.wv (ix2 i e)
  gq := fun e => B.gq (ix2 0 e)
  wq := fun e j => B.wq (ix2 e j)
  gkv := fun e => B.gkv (ix2 0 e)
  wk := fun e j => B.wk (ix2 e j)
  wvb := fun i e => B.wvb (ix2 i e)
  gqg := fun e => B.gqg (ix2 0 e)
  gkg := fun e => B.gkg (ix2 0 e)
  cm := fun l => B.cm (ix2 r l)
  sm := fun l => B.sm (ix2 r l)
  cg := fun l => B.cg (ix2 r l)
  sg := fun l => B.sg (ix2 r l)

/-! The step's intermediate values. -/

abbrev acc : FVec Ideal S512x3456 .f32 := k0_pay3 (F := Ideal) B.x B.gx B.w
abbrev q : FVec Ideal S512x2048 .f32 := k0_pay8 (F := Ideal) (k0_pay7 B.acc B.gq) B.wq
abbrev kn : FVec Ideal S512x1024 .f32 := k0_pay28 (F := Ideal) (k0_pay25 B.acc) (k0_pay26 B.gkv) B.wk
abbrev vt : FVec Ideal S1024x512 .f32 := k0_pay29 (F := Ideal) (k0_pay25 B.acc) (k0_pay26 B.gkv) B.wvb
abbrev vgt : FVec Ideal S256x512 .f32 := k0_pay65 (F := Ideal) (k0_pay2 B.x B.gx) B.wv

theorem acc_apply (r : Fin 512) (j : Fin 3456) : B.acc (ix2 r j) = (B.row r).acc j := pay3_apply B.x B.gx B.w r j

theorem acc_row (r : Fin 512) : (fun e => B.acc (ix2 r e)) = (B.row r).acc := funext fun e => B.acc_apply r e

theorem q_apply (r : Fin 512) (j : Fin 2048) : B.q (ix2 r j) = (B.row r).q j := by
  refine (pay8_apply _ _ r j).trans (Finset.sum_congr rfl fun e _ => congrArg (· * B.wq (ix2 e j)) ?_)
  rw [pay7_apply, acc_row]; rfl

theorem ckv_apply (r : Fin 512) (j : Fin 256) : k0_pay27 (F := Ideal) (k0_pay25 B.acc) (k0_pay26 B.gkv) (ix2 r j) = (B.row r).ckv j := by
  rw [pay27_apply, acc_row]; rfl

theorem kn_apply (r : Fin 512) (j : Fin 1024) : B.kn (ix2 r j) = (B.row r).kn j :=
  (pay28_apply _ _ _ r j).trans (Finset.sum_congr rfl fun e _ => congrArg (· * B.wk (ix2 e j)) (B.ckv_apply r e))

theorem vt_apply (i : Fin 1024) (r : Fin 512) : B.vt (ix2 i r) = (B.row r).vt i :=
  (pay29_apply _ _ _ i r).trans (Finset.sum_congr rfl fun e _ => congrArg (B.wvb (ix2 i e) * ·) (B.ckv_apply r e))

theorem vgt_apply (i : Fin 256) (r : Fin 512) : B.vgt (ix2 i r) = (B.row r).vgt i :=
  (pay65_apply _ _ i r).trans (Finset.sum_congr rfl fun e _ => congrArg (B.wv (ix2 i e) * ·) (pay2_apply B.x B.gx r e))

/-! The stored pieces, one theorem for each kind. -/

/-- The lanes of latent query head `k` without positions. -/
theorem q_plain (k : Nat) (hk : k < 8) (o : Nat) (ho : o = k * 256) (hs : S512x2048.Slices ![0, o] S512x128)
    (inb : ∀ a, (![0, o] : Fin 2 → Nat) a + ![512, 128] a ≤ S512x2048.size a) (z : S512x128.Idx) :
    truncf .bf16 (extractStridedSlice S512x128 ![0, o] B.q hs) bitsLt_bf16_f32 z
      = byRow (fun r => (B.row r).qmla) ((Rect.unit (s := S512x2048) ![0, o] ![512, 128] inb).emb z) := by
  subst ho
  refine colPiece _ _ _ inb (fun r l j hj => ?_) z
  rw [(B.row r).qmla_plain k hk l j hj, ← q_apply]
  exact cut_col B.q _ hs r l j hj

/-- Its lanes with positions. -/
theorem q_turn (k : Nat) (hk : k < 8) (o : Nat) (ho : o = k * 256 + 128) (hs : S512x2048.Slices ![0, o] S512x128)
    (inb : ∀ a, (![0, o] : Fin 2 → Nat) a + ![512, 128] a ≤ S512x2048.size a) (z : S512x128.Idx) :
    truncf .bf16 (rope16 (extractStridedSlice S512x128 ![0, o] B.q hs) B.cm B.sm) bitsLt_bf16_f32 z
      = byRow (fun r => (B.row r).qmla) ((Rect.unit (s := S512x2048) ![0, o] ![512, 128] inb).emb z) := by
  subst ho
  refine colPiece _ _ _ inb (fun r l j hj => ?_) z
  rw [(B.row r).qmla_turn k hk l j hj]
  refine (rope16_apply _ _ _ r l).trans (congrArg (fun v => turn 16 v (B.row r).cm (B.row r).sm l) (funext fun e => ?_))
  exact (cut_col B.q _ hs r e ⟨k * 256 + 128 + e.val, by omega⟩ rfl).trans (B.q_apply r _)

/-- The own lanes of latent key head `k`. -/
theorem k_own (k : Nat) (hk : k < 8) (o o' : Nat) (ho : o = k * 256) (ho' : o' = k * 128) (hs : S512x1024.Slices ![0, o'] S512x128)
    (inb : ∀ a, (![0, o] : Fin 2 → Nat) a + ![512, 128] a ≤ S512x2048.size a) (z : S512x128.Idx) :
    truncf .bf16 (extractStridedSlice S512x128 ![0, o'] B.kn hs) bitsLt_bf16_f32 z
      = byRow (fun r => (B.row r).kmla) ((Rect.unit (s := S512x2048) ![0, o] ![512, 128] inb).emb z) := by
  subst ho ho'
  refine colPiece _ _ _ inb (fun r l j hj => ?_) z
  rw [(B.row r).kmla_own k hk l j hj, ← kn_apply]
  exact cut_col B.kn _ hs r l _ rfl

theorem pay30_apply (a : FVec Ideal S512x3456 .f32) (C S : FVec Ideal S512x128 .f32) (r : Fin 512) (l : Fin 128) :
    k0_pay30 (F := Ideal) a k0_pay4 C S (ix2 r l)
      = turn 16 (seg (fun e => a (ix2 r e)) 128 768 (by decide)) (fun e => C (ix2 r e)) (fun e => S (ix2 r e)) l := by
  refine (rope16_apply (extractStridedSlice S512x128 ![0, 768] a slices_S512x3456_o0_768_S512x128) C S r l).trans
    (congrArg (fun v => turn 16 v (fun e => C (ix2 r e)) (fun e => S (ix2 r e)) l) (funext fun e => ?_))
  exact cut_col a 768 slices_S512x3456_o0_768_S512x128 r e ⟨768 + e.val, by omega⟩ rfl

/-- The lanes that all latent key heads share. -/
theorem k_turn (k : Nat) (hk : k < 8) (o : Nat) (ho : o = k * 256 + 128)
    (inb : ∀ a, (![0, o] : Fin 2 → Nat) a + ![512, 128] a ≤ S512x2048.size a) (z : S512x128.Idx) :
    k0_pay30 (F := Ideal) B.acc k0_pay4 B.cm B.sm z
      = byRow (fun r => (B.row r).kmla) ((Rect.unit (s := S512x2048) ![0, o] ![512, 128] inb).emb z) := by
  subst ho
  refine colPiece _ _ _ inb (fun r l j hj => ?_) z
  rw [(B.row r).kmla_turn k hk l j hj]
  refine (pay30_apply B.acc B.cm B.sm r l).trans ?_
  rw [acc_row]; rfl

/-- The values of latent head `k`. -/
theorem v_own (k : Nat) (hk : k < 8) (o o' : Nat) (ho : o = k * 144) (ho' : o' = k * 128) (hs : S1024x512.Slices ![o', 0] S128x512)
    (inb : ∀ a, (![o, 0] : Fin 2 → Nat) a + ![128, 512] a ≤ S1152x512.size a) (z : S128x512.Idx) :
    truncf .bf16 (extractStridedSlice S128x512 ![o', 0] B.vt hs) bitsLt_bf16_f32 z
      = byCol (fun r => (B.row r).vmla) ((Rect.unit (s := S1152x512) ![o, 0] ![128, 512] inb).emb z) := by
  subst ho ho'
  refine rowPiece _ _ _ inb (fun l r i hi => ?_) z
  rw [(B.row r).vmla_own k hk l i hi, ← vt_apply]
  exact cut_row B.vt _ hs l r _ rfl

theorem ones (z : S16x512.Idx) : k0_pay6 (F := Ideal) z = 1 := Cert.Softmax.ofBits_one

/-- The rows of ones under them. -/
theorem v_one (k : Nat) (hk : k < 8) (o : Nat) (ho : o = k * 144 + 128)
    (inb : ∀ a, (![o, 0] : Fin 2 → Nat) a + ![16, 512] a ≤ S1152x512.size a) (z : S16x512.Idx) :
    k0_pay6 (F := Ideal) z = byCol (fun r => (B.row r).vmla) ((Rect.unit (s := S1152x512) ![o, 0] ![16, 512] inb).emb z) := by
  subst ho
  refine rowPiece _ _ _ inb (fun l r i hi => ?_) z
  rw [(B.row r).vmla_one k hk l i hi, ones]

/-- The values of grouped-query head `k`. -/
theorem vg_own (k : Nat) (hk : k < 2) (o o' : Nat) (ho : o = k * 144) (ho' : o' = k * 128) (hs : S256x512.Slices ![o', 0] S128x512)
    (inb : ∀ a, (![o, 0] : Fin 2 → Nat) a + ![128, 512] a ≤ S288x512.size a) (z : S128x512.Idx) :
    truncf .bf16 (extractStridedSlice S128x512 ![o', 0] B.vgt hs) bitsLt_bf16_f32 z
      = byCol (fun r => (B.row r).vg) ((Rect.unit (s := S288x512) ![o, 0] ![128, 512] inb).emb z) := by
  subst ho ho'
  refine rowPiece _ _ _ inb (fun l r i hi => ?_) z
  rw [(B.row r).vg_own k hk l i hi, ← vgt_apply]
  exact cut_row B.vgt _ hs l r _ rfl

/-- The rows of ones under them. -/
theorem vg_one (k : Nat) (hk : k < 2) (o : Nat) (ho : o = k * 144 + 128)
    (inb : ∀ a, (![o, 0] : Fin 2 → Nat) a + ![16, 512] a ≤ S288x512.size a) (z : S16x512.Idx) :
    k0_pay6 (F := Ideal) z = byCol (fun r => (B.row r).vg) ((Rect.unit (s := S288x512) ![o, 0] ![16, 512] inb).emb z) := by
  subst ho
  refine rowPiece _ _ _ inb (fun l r i hi => ?_) z
  rw [(B.row r).vg_one k hk l i hi, ones]

/-- A grouped-query head, 128 columns of some columns of the projection, normalised and with positions. -/
theorem head_apply {N : Nat} (v : FVec Ideal ⟨2, ![512, N]⟩ .f32) (g : FVec Ideal S1x128 .f32) (p o : Nat) (hp : p + o + 128 ≤ 3456)
    (hs : (⟨2, ![512, N]⟩ : Shape).Slices ![0, o] S512x128) (hN : o + 128 ≤ N)
    (hv : ∀ (r : Fin 512) (e : Fin N) (j : Fin 3456), j.val = p + e.val → v (ix2 r e) = (B.row r).acc j) (r : Fin 512) (l : Fin 128) :
    rope32 (normG (extractStridedSlice S512x128 ![0, o] v hs) g) B.cg B.sg (ix2 r l) = (B.row r).head (p + o) hp (fun e => g (ix2 0 e)) l := by
  refine (rope32_apply _ _ _ r l).trans (congrArg (fun v => turn 32 v (B.row r).cg (B.row r).sg l) (funext fun e => ?_))
  refine (normG_apply _ g r e).trans (congrArg (fun v => nrm 0x43000000#32 v (fun e => g (ix2 0 e)) e) (funext fun e => ?_))
  exact (cut_col v o hs r e ⟨o + e.val, by omega⟩ rfl).trans (hv r _ _ (by show p + o + e.val = p + (o + e.val); omega))

/-- Grouped query head `k`. -/
theorem qg_head (k : Nat) (hk : k < 8) (o : Nat) (ho : o = k * 128) (hs : S512x1024.Slices ![0, o] S512x128)
    (inb : ∀ a, (![0, o] : Fin 2 → Nat) a + ![512, 128] a ≤ S512x1024.size a) (z : S512x128.Idx) :
    truncf .bf16 (rope32 (normG (extractStridedSlice S512x128 ![0, o] (k0_pay47 (F := Ideal) B.acc) hs) B.gqg) B.cg B.sg) bitsLt_bf16_f32 z
      = byRow (fun r => (B.row r).qg) ((Rect.unit (s := S512x1024) ![0, o] ![512, 128] inb).emb z) := by
  subst ho
  refine colPiece _ _ _ inb (fun r l j hj => ?_) z
  rw [(B.row r).qg_head k hk l j hj]
  exact B.head_apply _ B.gqg 896 (k * 128) _ hs (by omega)
    (fun r e j hj => (cut_col B.acc 896 slices_S512x3456_o0_896_S512x1024 r e j hj).trans (B.acc_apply r j)) r l

/-- Grouped key head `k`. -/
theorem kg_head (k : Nat) (hk : k < 2) (o : Nat) (ho : o = k * 128) (hs : S512x256.Slices ![0, o] S512x128)
    (inb : ∀ a, (![0, o] : Fin 2 → Nat) a + ![512, 128] a ≤ S512x256.size a) (z : S512x128.Idx) :
    truncf .bf16 (rope32 (normG (extractStridedSlice S512x128 ![0, o] (k0_pay64 (F := Ideal) B.acc) hs) B.gkg) B.cg B.sg) bitsLt_bf16_f32 z
      = byRow (fun r => (B.row r).kg) ((Rect.unit (s := S512x256) ![0, o] ![512, 128] inb).emb z) := by
  subst ho
  refine colPiece _ _ _ inb (fun r l j hj => ?_) z
  rw [(B.row r).kg_head k hk l j hj]
  exact B.head_apply _ B.gkg 1920 (k * 128) _ hs (by omega)
    (fun r e j hj => (cut_col B.acc 1920 slices_S512x3456_o0_1920_S512x256 r e j hj).trans (B.acc_apply r j)) r l

end Blk

variable (m : (ℓ : Loc nD τ sig) → Buf (Elt Ideal) ℓ) (ρ : Dev nD → PrngReg)

/-- The blocks that grid step `t` reads. -/
def blk (c : Dev nD) (t : Fin cfg0.N) : Blk :=
  ⟨iblk m c 0 t, iblk m c 1 t, iblk m c 2 t, iblk m c 3 t, iblk m c 4 t, iblk m c 5 t, iblk m c 6 t, iblk m c 7 t, iblk m c 8 t,
    iblk m c 9 t, iblk m c 10 t, iblk m c 11 t, iblk m c 12 t, iblk m c 13 t, iblk m c 14 t⟩

/-! What grid step `t` leaves. -/

theorem out15 (c : Dev nD) (t : Fin cfg0.N) : (dats m 0 c).flushed 15 t = byRow (fun r => ((blk m c t).row r).h) := by
  rw [Value.flushed15_A]
  frame_out
  funext i
  obtain ⟨r, j, rfl⟩ : ∃ (r : Fin 512) (j : Fin 2048), i = ix2 r j := ⟨i 0, i 1, funext fun a => by match a with
    | 0 => rfl
    | 1 => rfl⟩
  exact pay2_apply _ _ r j

theorem out22 (c : Dev nD) (t : Fin cfg0.N) : (dats m 0 c).flushed 22 t = byRow (fun r => ((blk m c t).row r).qm) := by
  rw [Value.flushed22_A]
  frame_out
  funext i
  obtain ⟨r, j, rfl⟩ : ∃ (r : Fin 512) (j : Fin 1024), i = ix2 r j := ⟨i 0, i 1, funext fun a => by match a with
    | 0 => rfl
    | 1 => rfl⟩
  exact (cut_col (blk m c t).acc 2432 slices_S512x3456_o0_2432_S512x1024 r j ⟨2432 + j.val, by omega⟩ rfl).trans ((blk m c t).acc_apply r _)

set_option maxHeartbeats 4000000 in
theorem out16 (c : Dev nD) (t : Fin cfg0.N) : (dats m 0 c).flushed 16 t = byRow (fun r => ((blk m c t).row r).qmla) := by
  rw [Value.flushed16_A]
  frame_out
  funext y
  refine View.canon_apply_of_pieces (Val := Elt Ideal) (S := S512x2048) (e := .bf16) (byRow (fun r => ((blk m c t).row r).qmla)) _ ?_ y (View.cover_of_tiledL (s := S512x2048) _ S512x128.size (by sl_kernel_rfl) y)
  intro p hp z
  simp only [List.mem_cons, List.mem_nil_iff, or_false] at hp
  rcases hp with rfl | rfl | rfl | rfl | rfl | rfl | rfl | rfl | rfl | rfl | rfl | rfl | rfl | rfl | rfl | rfl
  · exact (blk m c t).q_turn 7 (by decide) 1920 rfl slices_S512x2048_o0_1920_S512x128 inb_S512x2048_S512x128_0_1920 z
  · exact (blk m c t).q_plain 7 (by decide) 1792 rfl slices_S512x2048_o0_1792_S512x128 inb_S512x2048_S512x128_0_1792 z
  · exact (blk m c t).q_turn 6 (by decide) 1664 rfl slices_S512x2048_o0_1664_S512x128 inb_S512x2048_S512x128_0_1664 z
  · exact (blk m c t).q_plain 6 (by decide) 1536 rfl slices_S512x2048_o0_1536_S512x128 inb_S512x2048_S512x128_0_1536 z
  · exact (blk m c t).q_turn 5 (by decide) 1408 rfl slices_S512x2048_o0_1408_S512x128 inb_S512x2048_S512x128_0_1408 z
  · exact (blk m c t).q_plain 5 (by decide) 1280 rfl slices_S512x2048_o0_1280_S512x128 inb_S512x2048_S512x128_0_1280 z
  · exact (blk m c t).q_turn 4 (by decide) 1152 rfl slices_S512x2048_o0_1152_S512x128 inb_S512x2048_S512x128_0_1152 z
  · exact (blk m c t).q_plain 4 (by decide) 1024 rfl slices_S512x2048_o0_1024_S512x128 inb_S512x2048_S512x128_0_1024 z
  · exact (blk m c t).q_turn 3 (by decide) 896 rfl slices_S512x2048_o0_896_S512x128 inb_S512x2048_S512x128_0_896 z
  · exact (blk m c t).q_plain 3 (by decide) 768 rfl slices_S512x2048_o0_768_S512x128 inb_S512x2048_S512x128_0_768 z
  · exact (blk m c t).q_turn 2 (by decide) 640 rfl slices_S512x2048_o0_640_S512x128 inb_S512x2048_S512x128_0_640 z
  · exact (blk m c t).q_plain 2 (by decide) 512 rfl slices_S512x2048_o0_512_S512x128 inb_S512x2048_S512x128_0_512 z
  · exact (blk m c t).q_turn 1 (by decide) 384 rfl slices_S512x2048_o0_384_S512x128 inb_S512x2048_S512x128_0_384 z
  · exact (blk m c t).q_plain 1 (by decide) 256 rfl slices_S512x2048_o0_256_S512x128 inb_S512x2048_S512x128_0_256 z
  · exact (blk m c t).q_turn 0 (by decide) 128 rfl slices_S512x2048_o0_128_S512x128 inb_S512x2048_S512x128_0_128 z
  · exact (blk m c t).q_plain 0 (by decide) 0 rfl slices_S512x2048_o0_0_S512x128 inb_S512x2048_S512x128_0_0 z

set_option maxHeartbeats 4000000 in
theorem out17 (c : Dev nD) (t : Fin cfg0.N) : (dats m 0 c).flushed 17 t = byRow (fun r => ((blk m c t).row r).kmla) := by
  rw [Value.flushed17_A]
  frame_out
  funext y
  refine View.canon_apply_of_pieces (Val := Elt Ideal) (S := S512x2048) (e := .bf16) (byRow (fun r => ((blk m c t).row r).kmla)) _ ?_ y (View.cover_of_tiledL (s := S512x2048) _ S512x128.size (by sl_kernel_rfl) y)
  intro p hp z
  simp only [List.mem_cons, List.mem_nil_iff, or_false] at hp
  rcases hp with rfl | rfl | rfl | rfl | rfl | rfl | rfl | rfl | rfl | rfl | rfl | rfl | rfl | rfl | rfl | rfl
  · exact (blk m c t).k_turn 7 (by decide) 1920 rfl inb_S512x2048_S512x128_0_1920 z
  · exact (blk m c t).k_own 7 (by decide) 1792 896 rfl rfl slices_S512x1024_o0_896_S512x128 inb_S512x2048_S512x128_0_1792 z
  · exact (blk m c t).k_turn 6 (by decide) 1664 rfl inb_S512x2048_S512x128_0_1664 z
  · exact (blk m c t).k_own 6 (by decide) 1536 768 rfl rfl slices_S512x1024_o0_768_S512x128 inb_S512x2048_S512x128_0_1536 z
  · exact (blk m c t).k_turn 5 (by decide) 1408 rfl inb_S512x2048_S512x128_0_1408 z
  · exact (blk m c t).k_own 5 (by decide) 1280 640 rfl rfl slices_S512x1024_o0_640_S512x128 inb_S512x2048_S512x128_0_1280 z
  · exact (blk m c t).k_turn 4 (by decide) 1152 rfl inb_S512x2048_S512x128_0_1152 z
  · exact (blk m c t).k_own 4 (by decide) 1024 512 rfl rfl slices_S512x1024_o0_512_S512x128 inb_S512x2048_S512x128_0_1024 z
  · exact (blk m c t).k_turn 3 (by decide) 896 rfl inb_S512x2048_S512x128_0_896 z
  · exact (blk m c t).k_own 3 (by decide) 768 384 rfl rfl slices_S512x1024_o0_384_S512x128 inb_S512x2048_S512x128_0_768 z
  · exact (blk m c t).k_turn 2 (by decide) 640 rfl inb_S512x2048_S512x128_0_640 z
  · exact (blk m c t).k_own 2 (by decide) 512 256 rfl rfl slices_S512x1024_o0_256_S512x128 inb_S512x2048_S512x128_0_512 z
  · exact (blk m c t).k_turn 1 (by decide) 384 rfl inb_S512x2048_S512x128_0_384 z
  · exact (blk m c t).k_own 1 (by decide) 256 128 rfl rfl slices_S512x1024_o0_128_S512x128 inb_S512x2048_S512x128_0_256 z
  · exact (blk m c t).k_turn 0 (by decide) 128 rfl inb_S512x2048_S512x128_0_128 z
  · exact (blk m c t).k_own 0 (by decide) 0 0 rfl rfl slices_S512x1024_o0_0_S512x128 inb_S512x2048_S512x128_0_0 z

set_option maxHeartbeats 4000000 in
theorem out18 (c : Dev nD) (t : Fin cfg0.N) : (dats m 0 c).flushed 18 t = byCol (fun r => ((blk m c t).row r).vmla) := by
  rw [Value.flushed18_A]
  frame_out
  funext y
  refine View.canon_apply_of_pieces (Val := Elt Ideal) (S := S1152x512) (e := .bf16) (byCol (fun r => ((blk m c t).row r).vmla)) _ ?_ y (View.cover_of_tiledBy (s := S1152x512) _ ![16, 512] (by sl_kernel_rfl) y)
  intro p hp z
  simp only [List.mem_cons, List.mem_nil_iff, or_false] at hp
  rcases hp with rfl | rfl | rfl | rfl | rfl | rfl | rfl | rfl | rfl | rfl | rfl | rfl | rfl | rfl | rfl | rfl
  · exact (blk m c t).v_one 7 (by decide) 1136 rfl inb_S1152x512_S16x512_1136_0 z
  · exact (blk m c t).v_own 7 (by decide) 1008 896 rfl rfl slices_S1024x512_o896_0_S128x512 inb_S1152x512_S128x512_1008_0 z
  · exact (blk m c t).v_one 6 (by decide) 992 rfl inb_S1152x512_S16x512_992_0 z
  · exact (blk m c t).v_own 6 (by decide) 864 768 rfl rfl slices_S1024x512_o768_0_S128x512 inb_S1152x512_S128x512_864_0 z
  · exact (blk m c t).v_one 5 (by decide) 848 rfl inb_S1152x512_S16x512_848_0 z
  · exact (blk m c t).v_own 5 (by decide) 720 640 rfl rfl slices_S1024x512_o640_0_S128x512 inb_S1152x512_S128x512_720_0 z
  · exact (blk m c t).v_one 4 (by decide) 704 rfl inb_S1152x512_S16x512_704_0 z
  · exact (blk m c t).v_own 4 (by decide) 576 512 rfl rfl slices_S1024x512_o512_0_S128x512 inb_S1152x512_S128x512_576_0 z
  · exact (blk m c t).v_one 3 (by decide) 560 rfl inb_S1152x512_S16x512_560_0 z
  · exact (blk m c t).v_own 3 (by decide) 432 384 rfl rfl slices_S1024x512_o384_0_S128x512 inb_S1152x512_S128x512_432_0 z
  · exact (blk m c t).v_one 2 (by decide) 416 rfl inb_S1152x512_S16x512_416_0 z
  · exact (blk m c t).v_own 2 (by decide) 288 256 rfl rfl slices_S1024x512_o256_0_S128x512 inb_S1152x512_S128x512_288_0 z
  · exact (blk m c t).v_one 1 (by decide) 272 rfl inb_S1152x512_S16x512_272_0 z
  · exact (blk m c t).v_own 1 (by decide) 144 128 rfl rfl slices_S1024x512_o128_0_S128x512 inb_S1152x512_S128x512_144_0 z
  · exact (blk m c t).v_one 0 (by decide) 128 rfl inb_S1152x512_S16x512_128_0 z
  · exact (blk m c t).v_own 0 (by decide) 0 0 rfl rfl slices_S1024x512_o0_0_S128x512 inb_S1152x512_S128x512_0_0 z

set_option maxHeartbeats 4000000 in
theorem out19 (c : Dev nD) (t : Fin cfg0.N) : (dats m 0 c).flushed 19 t = byRow (fun r => ((blk m c t).row r).qg) := by
  rw [Value.flushed19_A]
  frame_out
  funext y
  refine View.canon_apply_of_pieces (Val := Elt Ideal) (S := S512x1024) (e := .bf16) (byRow (fun r => ((blk m c t).row r).qg)) _ ?_ y (View.cover_of_tiledL (s := S512x1024) _ S512x128.size (by sl_kernel_rfl) y)
  intro p hp z
  simp only [List.mem_cons, List.mem_nil_iff, or_false] at hp
  rcases hp with rfl | rfl | rfl | rfl | rfl | rfl | rfl | rfl
  · exact (blk m c t).qg_head 7 (by decide) 896 rfl slices_S512x1024_o0_896_S512x128 inb_S512x1024_S512x128_0_896 z
  · exact (blk m c t).qg_head 6 (by decide) 768 rfl slices_S512x1024_o0_768_S512x128 inb_S512x1024_S512x128_0_768 z
  · exact (blk m c t).qg_head 5 (by decide) 640 rfl slices_S512x1024_o0_640_S512x128 inb_S512x1024_S512x128_0_640 z
  · exact (blk m c t).qg_head 4 (by decide) 512 rfl slices_S512x1024_o0_512_S512x128 inb_S512x1024_S512x128_0_512 z
  · exact (blk m c t).qg_head 3 (by decide) 384 rfl slices_S512x1024_o0_384_S512x128 inb_S512x1024_S512x128_0_384 z
  · exact (blk m c t).qg_head 2 (by decide) 256 rfl slices_S512x1024_o0_256_S512x128 inb_S512x1024_S512x128_0_256 z
  · exact (blk m c t).qg_head 1 (by decide) 128 rfl slices_S512x1024_o0_128_S512x128 inb_S512x1024_S512x128_0_128 z
  · exact (blk m c t).qg_head 0 (by decide) 0 rfl slices_S512x1024_o0_0_S512x128 inb_S512x1024_S512x128_0_0 z

set_option maxHeartbeats 4000000 in
theorem out20 (c : Dev nD) (t : Fin cfg0.N) : (dats m 0 c).flushed 20 t = byRow (fun r => ((blk m c t).row r).kg) := by
  rw [Value.flushed20_A]
  frame_out
  funext y
  refine View.canon_apply_of_pieces (Val := Elt Ideal) (S := S512x256) (e := .bf16) (byRow (fun r => ((blk m c t).row r).kg)) _ ?_ y (View.cover_of_tiledL (s := S512x256) _ S512x128.size (by sl_kernel_rfl) y)
  intro p hp z
  simp only [List.mem_cons, List.mem_nil_iff, or_false] at hp
  rcases hp with rfl | rfl
  · exact (blk m c t).kg_head 1 (by decide) 128 rfl slices_S512x256_o0_128_S512x128 inb_S512x256_S512x128_0_128 z
  · exact (blk m c t).kg_head 0 (by decide) 0 rfl slices_S512x256_o0_0_S512x128 inb_S512x256_S512x128_0_0 z

set_option maxHeartbeats 4000000 in
theorem out21 (c : Dev nD) (t : Fin cfg0.N) : (dats m 0 c).flushed 21 t = byCol (fun r => ((blk m c t).row r).vg) := by
  rw [Value.flushed21_A]
  frame_out
  funext y
  refine View.canon_apply_of_pieces (Val := Elt Ideal) (S := S288x512) (e := .bf16) (byCol (fun r => ((blk m c t).row r).vg)) _ ?_ y (View.cover_of_tiledBy (s := S288x512) _ ![16, 512] (by sl_kernel_rfl) y)
  intro p hp z
  simp only [List.mem_cons, List.mem_nil_iff, or_false] at hp
  rcases hp with rfl | rfl | rfl | rfl
  · exact (blk m c t).vg_one 1 (by decide) 272 rfl inb_S288x512_S16x512_272_0 z
  · exact (blk m c t).vg_own 1 (by decide) 144 128 rfl rfl slices_S256x512_o128_0_S128x512 inb_S288x512_S128x512_144_0 z
  · exact (blk m c t).vg_one 0 (by decide) 128 rfl inb_S288x512_S16x512_128_0 z
  · exact (blk m c t).vg_own 0 (by decide) 0 0 rfl rfl slices_S256x512_o0_0_S128x512 inb_S288x512_S128x512_0_0 z

end Cert.Small
end
-- ==== Proof.SmallSwap.lean ====
/- The reference's exchange of the halves of each head's pairs of half-rotations, entry by entry. -/
module

public import proofs.«01_k».proof.Proof.SmallRow

@[expose] public section

set_option maxRecDepth 16384

noncomputable section

namespace Cert.Small

open Idealize.ShloMosaic

/-- `n` heads of 128 lanes cut into pairs of `h` lanes, the two of each pair exchanged: lane `l` holds its partner. -/
theorem swap_apply (n G h : Nat) (hG : G * (2 * h) = n * 128) (hh : h = 16 ∨ h = 32) (v : FVec Ideal ⟨3, ![32768, n, 128]⟩ .f32)
    (hc : (⟨3, ![32768, n, 128]⟩ : Shape).ShapeCasts ⟨4, ![32768, G, 2, h]⟩)
    (h1 : (⟨4, ![32768, G, 2, h]⟩ : Shape).Slices ![0, 0, 1, 0] ⟨4, ![32768, G, 1, h]⟩)
    (h0 : (⟨4, ![32768, G, 2, h]⟩ : Shape).Slices ![0, 0, 0, 0] ⟨4, ![32768, G, 1, h]⟩)
    (hcc : Shape.Concatenates [⟨4, ![32768, G, 1, h]⟩, ⟨4, ![32768, G, 1, h]⟩] ⟨4, ![32768, G, 2, h]⟩ 2)
    (hc' : (⟨4, ![32768, G, 2, h]⟩ : Shape).ShapeCasts ⟨3, ![32768, n, 128]⟩) (r : Fin 32768) (k : Fin n) (l : Fin 128) :
    shapeCast ⟨3, ![32768, n, 128]⟩ (concatenate ⟨4, ![32768, G, 2, h]⟩ 2
        [⟨⟨4, ![32768, G, 1, h]⟩, extractStridedSlice ⟨4, ![32768, G, 1, h]⟩ ![0, 0, 1, 0] (shapeCast ⟨4, ![32768, G, 2, h]⟩ v hc) h1⟩,
          ⟨⟨4, ![32768, G, 1, h]⟩, extractStridedSlice ⟨4, ![32768, G, 1, h]⟩ ![0, 0, 0, 0] (shapeCast ⟨4, ![32768, G, 2, h]⟩ v hc) h0⟩] hcc) hc' (ix3 r k l)
      = v (ix3 r k (partner h l)) := by
  have hp : 0 < h := by omega
  -- the pair, the half and the lane of it at which `l` lies
  have hg : (k.val * 128 + l.val) / (2 * h) < G := by
    rw [Nat.div_lt_iff_lt_mul (by omega), hG]; have := k.isLt; have := l.isLt; omega
  have hs : l.val / h % 2 < 2 := Nat.mod_lt _ (by decide)
  have hu : l.val % h < h := Nat.mod_lt _ hp
  have hrow : ∀ (s : Nat) (a : Nat), a < 128 → (k.val * 128 + a) = ((k.val * 128 + l.val) / (2 * h) * 2 + s) * h + l.val % h →
      (((r.val * G + (k.val * 128 + l.val) / (2 * h)) * 2 + s) * h + l.val % h) = (r.val * n + k.val) * 128 + a := by
    intro s a _ e
    have : (((r.val * G + (k.val * 128 + l.val) / (2 * h)) * 2 + s) * h + l.val % h) = r.val * (G * (2 * h)) + (((k.val * 128 + l.val) / (2 * h) * 2 + s) * h + l.val % h) := by ring
    rw [this, hG, ← e]; ring
  have hl := l.isLt
  have hat : k.val * 128 + l.val = ((k.val * 128 + l.val) / (2 * h) * 2 + l.val / h % 2) * h + l.val % h := by
    rcases hh with rfl | rfl <;> omega
  have hpart : k.val * 128 + (partner h l).val = ((k.val * 128 + l.val) / (2 * h) * 2 + (1 - l.val / h % 2)) * h + l.val % h := by
    show k.val * 128 + (if l.val % (2 * h) < h then l.val + h else l.val + (128 - h)) % 128 = _
    rcases hh with rfl | rfl <;> split <;> omega
  rw [shapeCast_apply _ hc' (ix3 r k l) (ix4 r ⟨_, hg⟩ ⟨_, hs⟩ ⟨_, hu⟩) (by
    rw [Shape.rowMajor_val_four, Shape.rowMajor_val_three]
    exact hrow _ _ hl hat)]
  have inner : ∀ s : Fin 2, s.val = 1 - l.val / h % 2 → shapeCast ⟨4, ![32768, G, 2, h]⟩ v hc (ix4 r ⟨_, hg⟩ s ⟨_, hu⟩) = v (ix3 r k (partner h l)) := by
    intro s es
    refine shapeCast_apply v hc _ (ix3 r k (partner h l)) ?_
    rw [Shape.rowMajor_val_four, Shape.rowMajor_val_three]
    exact (hrow s.val _ (partner h l).isLt (by rw [es]; exact hpart)).symm
  by_cases h2 : l.val / h % 2 = 0
  · rw [concatenate_pair_apply_left (t := ⟨4, ![32768, G, 2, h]⟩) 2 _ _ hcc _ rfl (ix4 r ⟨_, hg⟩ (0 : Fin 1) ⟨_, hu⟩) (by
      intro b
      match b with
      | 0 => rfl
      | 1 => rfl
      | 2 => exact h2.symm
      | 3 => rfl)]
    rw [extractStridedSlice_apply _ _ h1 _ (ix4 r ⟨_, hg⟩ (1 : Fin 2) ⟨_, hu⟩) (by
      intro b
      match b with
      | 0 => exact (Nat.zero_add _).symm
      | 1 => exact (Nat.zero_add _).symm
      | 2 => rfl
      | 3 => exact (Nat.zero_add _).symm)]
    exact inner 1 (by rw [h2]; rfl)
  · have h2' : l.val / h % 2 = 1 := by omega
    rw [concatenate_pair_apply_right (t := ⟨4, ![32768, G, 2, h]⟩) 2 _ _ hcc _ rfl rfl (ix4 r ⟨_, hg⟩ (0 : Fin 1) ⟨_, hu⟩) (by
      intro b hb
      match b with
      | 0 => rfl
      | 1 => rfl
      | 2 => exact absurd rfl hb
      | 3 => rfl) (by exact h2'.symm)]
    rw [extractStridedSlice_apply _ _ h0 _ (ix4 r ⟨_, hg⟩ (0 : Fin 2) ⟨_, hu⟩) (by
      intro b
      match b with
      | 0 => exact (Nat.zero_add _).symm
      | 1 => exact (Nat.zero_add _).symm
      | 2 => rfl
      | 3 => exact (Nat.zero_add _).symm)]
    exact inner 0 (by rw [h2']; rfl)

end Cert.Small
end
-- ==== Proof.SmallRef.lean ====
/- The reference of `small_proj`: each of its eight results, entry by entry. -/
module

public import proofs.«01_k».proof.Proof.Gen.ReferenceSIdeal.Run
public import proofs.«01_k».proof.Proof.SmallSwap

@[expose] public section

set_option maxRecDepth 16384

noncomputable section

namespace Cert.Small

open Idealize.ShloMosaic Idealize.ShloMosaic.TcCoe Idealize.SL.Sem Cert.ReferenceSIdeal Cert.ReferenceSIdeal.Gen

/-- The normalised input. -/
def refH (x : FVec Ideal S32768x2048 .f32) (g : FVec Ideal S1x2048 .f32) : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 g)

/-- The normalised latent query. -/
def refCq (y : FVec Ideal S32768x512 .f32) (g : FVec Ideal S1x512 .f32) : FVec Ideal S32768x512 .f32 :=
  mulf (mulf y (broadcastInDim S32768x512 ![0, 1] bcast_S32768x1_S32768x512_0_1 (Host.rsqrt (addf (Host.divf (broadcastInDim S32768x1 ![0] bcast_S32768_S32768x1_0 (Host.reduceAdd (mulf y y) (constant S_ .f32 0x00000000#32) reducesTo_S32768x512_S32768_d1 h_S_)) (broadcastInDim S32768x1 ![] bcast_S_S32768x1 (constant S_ .f32 0x44000000#32))) (broadcastInDim S32768x1 ![] bcast_S_S32768x1 (constant S_ .f32 0x358637BD#32)))))) (broadcastInDim S32768x512 ![0, 1] bcast_S1x512_S32768x512_0_1 g)

/-- The normalised latent key and value. -/
def refCkv (y : FVec Ideal S32768x256 .f32) (g : FVec Ideal S1x256 .f32) : FVec Ideal S32768x256 .f32 :=
  mulf (mulf y (broadcastInDim S32768x256 ![0, 1] bcast_S32768x1_S32768x256_0_1 (Host.rsqrt (addf (Host.divf (broadcastInDim S32768x1 ![0] bcast_S32768_S32768x1_0 (Host.reduceAdd (mulf y y) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))))) (broadcastInDim S32768x256 ![0, 1] bcast_S1x256_S32768x256_0_1 g)

/-- The normalised heads of the grouped queries. -/
def refNq (y : FVec Ideal S32768x8x128 .f32) (g : FVec Ideal S1x128 .f32) : FVec Ideal S32768x8x128 .f32 :=
  mulf (mulf y (broadcastInDim S32768x8x128 ![0, 1, 2] bcast_S32768x8x1_S32768x8x128_0_1_2 (Host.rsqrt (addf (Host.divf (broadcastInDim S32768x8x1 ![0, 1] bcast_S32768x8_S32768x8x1_0_1 (Host.reduceAdd (mulf y y) (constant S_ .f32 0x00000000#32) reducesTo_S32768x8x128_S32768x8_d2 h_S_)) (broadcastInDim S32768x8x1 ![] bcast_S_S32768x8x1 (constant S_ .f32 0x43000000#32))) (broadcastInDim S32768x8x1 ![] bcast_S_S32768x8x1 (constant S_ .f32 0x358637BD#32)))))) (broadcastInDim S32768x8x128 ![0, 1, 2] bcast_S1x1x128_S32768x8x128_0_1_2 (broadcastInDim S1x1x128 ![1, 2] bcast_S1x128_S1x1x128_1_2 g))

/-- The normalised heads of the grouped keys. -/
def refNk (y : FVec Ideal S32768x2x128 .f32) (g : FVec Ideal S1x128 .f32) : FVec Ideal S32768x2x128 .f32 :=
  mulf (mulf y (broadcastInDim S32768x2x128 ![0, 1, 2] bcast_S32768x2x1_S32768x2x128_0_1_2 (Host.rsqrt (addf (Host.divf (broadcastInDim S32768x2x1 ![0, 1] bcast_S32768x2_S32768x2x1_0_1 (Host.reduceAdd (mulf y y) (constant S_ .f32 0x00000000#32) reducesTo_S32768x2x128_S32768x2_d2 h_S_)) (broadcastInDim S32768x2x1 ![] bcast_S_S32768x2x1 (constant S_ .f32 0x43000000#32))) (broadcastInDim S32768x2x1 ![] bcast_S_S32768x2x1 (constant S_ .f32 0x358637BD#32)))))) (broadcastInDim S32768x2x128 ![0, 1, 2] bcast_S1x1x128_S32768x2x128_0_1_2 (broadcastInDim S1x1x128 ![1, 2] bcast_S1x128_S1x1x128_1_2 g))

/-- A rotary table at every row of the batch. -/
def refTab (T : FVec Ideal S4096x128 .f32) : FVec Ideal S32768x1x128 .f32 :=
  shapeCast S32768x1x128 (broadcastInDim S8x4096x128 ![0, 1, 2] bcast_S1x4096x128_S8x4096x128_0_1_2 (broadcastInDim S1x4096x128 ![1, 2] bcast_S4096x128_S1x4096x128_1_2 T)) shapeCasts_S8x4096x128_S32768x1x128

/-- The rotary embedding of the latent query heads. -/
def refRq (v : FVec Ideal S32768x8x128 .f32) (C S : FVec Ideal S32768x1x128 .f32) : FVec Ideal S32768x8x128 .f32 :=
  addf (mulf v (broadcastInDim S32768x8x128 ![0, 1, 2] bcast_S32768x1x128_S32768x8x128_0_1_2 C)) (mulf (shapeCast S32768x8x128 (concatenate S32768x32x2x16 2 [⟨S32768x32x1x16, extractStridedSlice S32768x32x1x16 ![0, 0, 1, 0] (shapeCast S32768x32x2x16 v shapeCasts_S32768x8x128_S32768x32x2x16) slices_S32768x32x2x16_S32768x32x1x16_0_0_1_0⟩, ⟨S32768x32x1x16, extractStridedSlice S32768x32x1x16 ![0, 0, 0, 0] (shapeCast S32768x32x2x16 v shapeCasts_S32768x8x128_S32768x32x2x16) slices_S32768x32x2x16_S32768x32x1x16_0_0_0_0⟩] concatenates_S32768x32x1x16_S32768x32x1x16_S32768x32x2x16_d2) shapeCasts_S32768x32x2x16_S32768x8x128) (broadcastInDim S32768x8x128 ![0, 1, 2] bcast_S32768x1x128_S32768x8x128_0_1_2 S))

/-- The rotary embedding of the latent key's shared head. -/
def refRk (v C S : FVec Ideal S32768x1x128 .f32) : FVec Ideal S32768x1x128 .f32 :=
  addf (mulf v C) (mulf (shapeCast S32768x1x128 (concatenate S32768x4x2x16 2 [⟨S32768x4x1x16, extractStridedSlice S32768x4x1x16 ![0, 0, 1, 0] (shapeCast S32768x4x2x16 v shapeCasts_S32768x1x128_S32768x4x2x16) slices_S32768x4x2x16_S32768x4x1x16_0_0_1_0⟩, ⟨S32768x4x1x16, extractStridedSlice S32768x4x1x16 ![0, 0, 0, 0] (shapeCast S32768x4x2x16 v shapeCasts_S32768x1x128_S32768x4x2x16) slices_S32768x4x2x16_S32768x4x1x16_0_0_0_0⟩] concatenates_S32768x4x1x16_S32768x4x1x16_S32768x4x2x16_d2) shapeCasts_S32768x4x2x16_S32768x1x128) S)

/-- The rotary embedding of the grouped query heads. -/
def refRqg (v : FVec Ideal S32768x8x128 .f32) (C S : FVec Ideal S32768x1x128 .f32) : FVec Ideal S32768x8x128 .f32 :=
  addf (mulf v (broadcastInDim S32768x8x128 ![0, 1, 2] bcast_S32768x1x128_S32768x8x128_0_1_2 C)) (mulf (shapeCast S32768x8x128 (concatenate S32768x16x2x32 2 [⟨S32768x16x1x32, extractStridedSlice S32768x16x1x32 ![0, 0, 1, 0] (shapeCast S32768x16x2x32 v shapeCasts_S32768x8x128_S32768x16x2x32) slices_S32768x16x2x32_S32768x16x1x32_0_0_1_0⟩, ⟨S32768x16x1x32, extractStridedSlice S32768x16x1x32 ![0, 0, 0, 0] (shapeCast S32768x16x2x32 v shapeCasts_S32768x8x128_S32768x16x2x32) slices_S32768x16x2x32_S32768x16x1x32_0_0_0_0⟩] concatenates_S32768x16x1x32_S32768x16x1x32_S32768x16x2x32_d2) shapeCasts_S32768x16x2x32_S32768x8x128) (broadcastInDim S32768x8x128 ![0, 1, 2] bcast_S32768x1x128_S32768x8x128_0_1_2 S))

/-- The rotary embedding of the grouped key heads. -/
def refRkg (v : FVec Ideal S32768x2x128 .f32) (C S : FVec Ideal S32768x1x128 .f32) : FVec Ideal S32768x2x128 .f32 :=
  addf (mulf v (broadcastInDim S32768x2x128 ![0, 1, 2] bcast_S32768x1x128_S32768x2x128_0_1_2 C)) (mulf (shapeCast S32768x2x128 (concatenate S32768x4x2x32 2 [⟨S32768x4x1x32, extractStridedSlice S32768x4x1x32 ![0, 0, 1, 0] (shapeCast S32768x4x2x32 v shapeCasts_S32768x2x128_S32768x4x2x32) slices_S32768x4x2x32_S32768x4x1x32_0_0_1_0⟩, ⟨S32768x4x1x32, extractStridedSlice S32768x4x1x32 ![0, 0, 0, 0] (shapeCast S32768x4x2x32 v shapeCasts_S32768x2x128_S32768x4x2x32) slices_S32768x4x2x32_S32768x4x1x32_0_0_0_0⟩] concatenates_S32768x4x1x32_S32768x4x1x32_S32768x4x2x32_d2) shapeCasts_S32768x4x2x32_S32768x2x128) (broadcastInDim S32768x2x128 ![0, 1, 2] bcast_S32768x1x128_S32768x2x128_0_1_2 S))

theorem refH_apply (x : FVec Ideal S32768x2048 .f32) (g : FVec Ideal S1x2048 .f32) (r : Fin 32768) (j : Fin 2048) :
    refH x g (ix2 r j) = nrm 0x45000000#32 (fun e => x (ix2 r e)) (fun e => g (ix2 0 e)) j := by
  unfold nrm
  pointwise [refH]

theorem refCq_apply (y : FVec Ideal S32768x512 .f32) (g : FVec Ideal S1x512 .f32) (r : Fin 32768) (j : Fin 512) :
    refCq y g (ix2 r j) = nrm 0x44000000#32 (fun e => y (ix2 r e)) (fun e => g (ix2 0 e)) j := by
  unfold nrm
  pointwise [refCq]

theorem refCkv_apply (y : FVec Ideal S32768x256 .f32) (g : FVec Ideal S1x256 .f32) (r : Fin 32768) (j : Fin 256) :
    refCkv y g (ix2 r j) = nrm 0x43800000#32 (fun e => y (ix2 r e)) (fun e => g (ix2 0 e)) j := by
  unfold nrm
  pointwise [refCkv]

theorem refNq_apply (y : FVec Ideal S32768x8x128 .f32) (g : FVec Ideal S1x128 .f32) (r : Fin 32768) (k : Fin 8) (j : Fin 128) :
    refNq y g (ix3 r k j) = nrm 0x43000000#32 (fun e => y (ix3 r k e)) (fun e => g (ix2 0 e)) j := by
  unfold nrm
  pointwise [refNq]

theorem refNk_apply (y : FVec Ideal S32768x2x128 .f32) (g : FVec Ideal S1x128 .f32) (r : Fin 32768) (k : Fin 2) (j : Fin 128) :
    refNk y g (ix3 r k j) = nrm 0x43000000#32 (fun e => y (ix3 r k e)) (fun e => g (ix2 0 e)) j := by
  unfold nrm
  pointwise [refNk]

theorem refTab_apply (T : FVec Ideal S4096x128 .f32) (r : Fin 32768) (l : Fin 128) :
    refTab T (ix3 r 0 l) = T (ix2 ⟨r.val % 4096, Nat.mod_lt _ (by decide)⟩ l) := by
  unfold refTab
  rw [shapeCast_apply _ _ (ix3 r (0 : Fin 1) l) (ix3 (⟨r.val / 4096, by omega⟩ : Fin 8) (⟨r.val % 4096, Nat.mod_lt _ (by decide)⟩ : Fin 4096) l) (by
    rw [Shape.rowMajor_val_three, Shape.rowMajor_val_three]
    show (r.val / 4096 * 4096 + r.val % 4096) * 128 + l.val = (r.val * 1 + 0) * 128 + l.val
    omega)]
  pointwise

theorem refRq_apply (v : FVec Ideal S32768x8x128 .f32) (C S : FVec Ideal S32768x1x128 .f32) (r : Fin 32768) (k : Fin 8) (l : Fin 128) :
    refRq v C S (ix3 r k l) = turn 16 (fun e => v (ix3 r k e)) (fun e => C (ix3 r 0 e)) (fun e => S (ix3 r 0 e)) l := by
  have hC : broadcastInDim S32768x8x128 ![0, 1, 2] bcast_S32768x1x128_S32768x8x128_0_1_2 C (ix3 r k l) = C (ix3 r 0 l) := by pointwise
  have hS : broadcastInDim S32768x8x128 ![0, 1, 2] bcast_S32768x1x128_S32768x8x128_0_1_2 S (ix3 r k l) = S (ix3 r 0 l) := by pointwise
  refine Eq.trans ?_ (congrArg (fun z : EReal => v (ix3 r k l) * C (ix3 r 0 l) + z * S (ix3 r 0 l)) (swap_apply 8 32 16 (by decide) (.inl rfl) v shapeCasts_S32768x8x128_S32768x32x2x16 slices_S32768x32x2x16_S32768x32x1x16_0_0_1_0 slices_S32768x32x2x16_S32768x32x1x16_0_0_0_0 concatenates_S32768x32x1x16_S32768x32x1x16_S32768x32x2x16_d2 shapeCasts_S32768x32x2x16_S32768x8x128 r k l))
  rw [← hC, ← hS]
  rfl

theorem refRk_apply (v C S : FVec Ideal S32768x1x128 .f32) (r : Fin 32768) (l : Fin 128) :
    refRk v C S (ix3 r 0 l) = turn 16 (fun e => v (ix3 r 0 e)) (fun e => C (ix3 r 0 e)) (fun e => S (ix3 r 0 e)) l := by
  exact congrArg (fun z : EReal => v (ix3 r 0 l) * C (ix3 r 0 l) + z * S (ix3 r 0 l)) (swap_apply 1 4 16 (by decide) (.inl rfl) v shapeCasts_S32768x1x128_S32768x4x2x16 slices_S32768x4x2x16_S32768x4x1x16_0_0_1_0 slices_S32768x4x2x16_S32768x4x1x16_0_0_0_0 concatenates_S32768x4x1x16_S32768x4x1x16_S32768x4x2x16_d2 shapeCasts_S32768x4x2x16_S32768x1x128 r 0 l)

theorem refRqg_apply (v : FVec Ideal S32768x8x128 .f32) (C S : FVec Ideal S32768x1x128 .f32) (r : Fin 32768) (k : Fin 8) (l : Fin 128) :
    refRqg v C S (ix3 r k l) = turn 32 (fun e => v (ix3 r k e)) (fun e => C (ix3 r 0 e)) (fun e => S (ix3 r 0 e)) l := by
  have hC : broadcastInDim S32768x8x128 ![0, 1, 2] bcast_S32768x1x128_S32768x8x128_0_1_2 C (ix3 r k l) = C (ix3 r 0 l) := by pointwise
  have hS : broadcastInDim S32768x8x128 ![0, 1, 2] bcast_S32768x1x128_S32768x8x128_0_1_2 S (ix3 r k l) = S (ix3 r 0 l) := by pointwise
  refine Eq.trans ?_ (congrArg (fun z : EReal => v (ix3 r k l) * C (ix3 r 0 l) + z * S (ix3 r 0 l)) (swap_apply 8 16 32 (by decide) (.inr rfl) v shapeCasts_S32768x8x128_S32768x16x2x32 slices_S32768x16x2x32_S32768x16x1x32_0_0_1_0 slices_S32768x16x2x32_S32768x16x1x32_0_0_0_0 concatenates_S32768x16x1x32_S32768x16x1x32_S32768x16x2x32_d2 shapeCasts_S32768x16x2x32_S32768x8x128 r k l))
  rw [← hC, ← hS]
  rfl

theorem refRkg_apply (v : FVec Ideal S32768x2x128 .f32) (C S : FVec Ideal S32768x1x128 .f32) (r : Fin 32768) (k : Fin 2) (l : Fin 128) :
    refRkg v C S (ix3 r k l) = turn 32 (fun e => v (ix3 r k e)) (fun e => C (ix3 r 0 e)) (fun e => S (ix3 r 0 e)) l := by
  have hC : broadcastInDim S32768x2x128 ![0, 1, 2] bcast_S32768x1x128_S32768x2x128_0_1_2 C (ix3 r k l) = C (ix3 r 0 l) := by pointwise
  have hS : broadcastInDim S32768x2x128 ![0, 1, 2] bcast_S32768x1x128_S32768x2x128_0_1_2 S (ix3 r k l) = S (ix3 r 0 l) := by pointwise
  refine Eq.trans ?_ (congrArg (fun z : EReal => v (ix3 r k l) * C (ix3 r 0 l) + z * S (ix3 r 0 l)) (swap_apply 2 4 32 (by decide) (.inr rfl) v shapeCasts_S32768x2x128_S32768x4x2x32 slices_S32768x4x2x32_S32768x4x1x32_0_0_1_0 slices_S32768x4x2x32_S32768x4x1x32_0_0_0_0 concatenates_S32768x4x1x32_S32768x4x1x32_S32768x4x2x32_d2 shapeCasts_S32768x4x2x32_S32768x2x128 r k l))
  rw [← hC, ← hS]
  rfl

end Cert.Small
end
-- ==== Proof.SmallRes.lean ====
/- The reference of `small_proj`: its eight results are the row functions of `SmallRow`, row by row. -/
module

public import proofs.«01_k».proof.Proof.SmallRef

@[expose] public section

set_option maxRecDepth 16384

noncomputable section

namespace Cert.Small

open Idealize.ShloMosaic Idealize.ShloMosaic.TcCoe Idealize.SL.Sem Cert.ReferenceSIdeal Cert.ReferenceSIdeal.Gen

/-- The arguments of the call. -/
structure Args where
  x : FVec Ideal S32768x2048 .f32
  gx : FVec Ideal S1x2048 .f32
  w : FVec Ideal S2048x3456 .bf16
  wv : FVec Ideal S256x2048 .bf16
  gq : FVec Ideal S1x512 .f32
  wq : FVec Ideal S512x2048 .bf16
  gkv : FVec Ideal S1x256 .f32
  wk : FVec Ideal S256x1024 .bf16
  wvb : FVec Ideal S1024x256 .bf16
  gqg : FVec Ideal S1x128 .f32
  gkg : FVec Ideal S1x128 .f32
  cm : FVec Ideal S4096x128 .f32
  sm : FVec Ideal S4096x128 .f32
  cg : FVec Ideal S4096x128 .f32
  sg : FVec Ideal S4096x128 .f32

namespace Args
variable (A : Args)

/-- What row `r` of the results depends on. -/
def row (r : Fin 32768) : Row where
  x := fun e => A.x (ix2 r e)
  gx := fun e => A.gx (ix2 0 e)
  w := fun e j => A.w (ix2 e j)
  wv := fun i e => A.wv (ix2 i e)
  gq := fun e => A.gq (ix2 0 e)
  wq := fun e j => A.wq (ix2 e j)
  gkv := fun e => A.gkv (ix2 0 e)
  wk := fun e j => A.wk (ix2 e j)
  wvb := fun i e => A.wvb (ix2 i e)
  gqg := fun e => A.gqg (ix2 0 e)
  gkg := fun e => A.gkg (ix2 0 e)
  cm := fun l => A.cm (ix2 ⟨r.val % 4096, Nat.mod_lt _ (by decide)⟩ l)
  sm := fun l => A.sm (ix2 ⟨r.val % 4096, Nat.mod_lt _ (by decide)⟩ l)
  cg := fun l => A.cg (ix2 ⟨r.val % 4096, Nat.mod_lt _ (by decide)⟩ l)
  sg := fun l => A.sg (ix2 ⟨r.val % 4096, Nat.mod_lt _ (by decide)⟩ l)

/-! The eight results. -/

def rH : FVec Ideal S32768x2048 .bf16 := fun i => (A.row (i 0)).h (i 1)
def rQ : FVec Ideal S32768x2048 .bf16 := fun i => (A.row (i 0)).qmla (i 1)
def rK : FVec Ideal S32768x2048 .bf16 := fun i => (A.row (i 0)).kmla (i 1)
def rV : FVec Ideal S1152x32768 .bf16 := fun i => (A.row (i 1)).vmla (i 0)
def rQg : FVec Ideal S32768x1024 .bf16 := fun i => (A.row (i 0)).qg (i 1)
def rKg : FVec Ideal S32768x256 .bf16 := fun i => (A.row (i 0)).kg (i 1)
def rVg : FVec Ideal S288x32768 .bf16 := fun i => (A.row (i 1)).vg (i 0)
def rQm : FVec Ideal S32768x1024 .bf16 := fun i => (A.row (i 0)).qm (i 1)

/-! The reference's intermediate values. -/

/-- The rounded normalised input. -/
def hf : FVec Ideal S32768x2048 .f32 := extf .f32 (truncf .bf16 (refH A.x A.gx) bitsLt_bf16_f32) bitsLt_bf16_f32
/-- Its projection. -/
def proj : FVec Ideal S32768x3456 .f32 := Host.dotGeneral dot_S32768x2048_S2048x3456_S32768x3456_1_0_0_1_n_n none A.hf (extf .f32 A.w bitsLt_bf16_f32)
/-- The normalised latent query. -/
def fcq : FVec Ideal S32768x512 .f32 := refCq (extractStridedSlice S32768x512 ![0, 0] A.proj slices_S32768x3456_S32768x512_0_0) A.gq
/-- The query heads. -/
def fq : FVec Ideal S32768x8x256 .f32 := shapeCast S32768x8x256 (Host.dotGeneral dot_S32768x512_S512x2048_S32768x2048_1_0_0_1_n_n none A.fcq (extf .f32 A.wq bitsLt_bf16_f32)) shapeCasts_S32768x2048_S32768x8x256
/-- The normalised latent key and value. -/
def fckv : FVec Ideal S32768x256 .f32 := refCkv (extractStridedSlice S32768x256 ![0, 512] A.proj slices_S32768x3456_S32768x256_0_512) A.gkv
/-- The shared key head. -/
def fkp : FVec Ideal S32768x1x128 .f32 := shapeCast S32768x1x128 (extractStridedSlice S32768x128 ![0, 768] A.proj slices_S32768x3456_S32768x128_0_768) shapeCasts_S32768x128_S32768x1x128
/-- The grouped query heads. -/
def fqg : FVec Ideal S32768x8x128 .f32 := shapeCast S32768x8x128 (extractStridedSlice S32768x1024 ![0, 896] A.proj slices_S32768x3456_S32768x1024_0_896) shapeCasts_S32768x1024_S32768x8x128
/-- The grouped key heads. -/
def fkg : FVec Ideal S32768x2x128 .f32 := shapeCast S32768x2x128 (extractStridedSlice S32768x256 ![0, 1920] A.proj slices_S32768x3456_S32768x256_0_1920) shapeCasts_S32768x256_S32768x2x128

/-! The reference's results. -/

def oH : FVec Ideal S32768x2048 .bf16 := truncf .bf16 (refH A.x A.gx) bitsLt_bf16_f32
def oQ : FVec Ideal S32768x2048 .bf16 :=
  truncf .bf16 (shapeCast S32768x2048 (concatenate S32768x8x256 2 [⟨S32768x8x128, extractStridedSlice S32768x8x128 ![0, 0, 0] A.fq slices_S32768x8x256_S32768x8x128_0_0_0⟩,
    ⟨S32768x8x128, refRq (extractStridedSlice S32768x8x128 ![0, 0, 128] A.fq slices_S32768x8x256_S32768x8x128_0_0_128) (refTab A.cm) (refTab A.sm)⟩] concatenates_S32768x8x128_S32768x8x128_S32768x8x256_d2) shapeCasts_S32768x8x256_S32768x2048) bitsLt_bf16_f32
def oK : FVec Ideal S32768x2048 .bf16 :=
  truncf .bf16 (shapeCast S32768x2048 (concatenate S32768x8x256 2 [⟨S32768x8x128, shapeCast S32768x8x128 (Host.dotGeneral dot_S32768x256_S256x1024_S32768x1024_1_0_0_1_n_n none A.fckv (extf .f32 A.wk bitsLt_bf16_f32)) shapeCasts_S32768x1024_S32768x8x128⟩,
    ⟨S32768x8x128, broadcastInDim S32768x8x128 ![0, 1, 2] bcast_S32768x1x128_S32768x8x128_0_1_2 (refRk A.fkp (refTab A.cm) (refTab A.sm))⟩] concatenates_S32768x8x128_S32768x8x128_S32768x8x256_d2) shapeCasts_S32768x8x256_S32768x2048) bitsLt_bf16_f32
def oV : FVec Ideal S1152x32768 .bf16 :=
  truncf .bf16 (shapeCast S1152x32768 (concatenate S8x144x32768 1 [⟨S8x128x32768, shapeCast S8x128x32768 (transpose S1024x32768 [1, 0] (Host.dotGeneral dot_S32768x256_S256x1024_S32768x1024_1_0_0_1_n_n none A.fckv (transpose S256x1024 [1, 0] (extf .f32 A.wvb bitsLt_bf16_f32) transposes_S1024x256_S256x1024_1_0)) transposes_S32768x1024_S1024x32768_1_0) shapeCasts_S1024x32768_S8x128x32768⟩,
    ⟨S8x16x32768, broadcastInDim S8x16x32768 ![] bcast_S_S8x16x32768 (constant S_ .f32 0x3F800000#32)⟩] concatenates_S8x128x32768_S8x16x32768_S8x144x32768_d1) shapeCasts_S8x144x32768_S1152x32768) bitsLt_bf16_f32
def oQg : FVec Ideal S32768x1024 .bf16 :=
  truncf .bf16 (shapeCast S32768x1024 (refRqg (refNq A.fqg A.gqg) (refTab A.cg) (refTab A.sg)) shapeCasts_S32768x8x128_S32768x1024) bitsLt_bf16_f32
def oKg : FVec Ideal S32768x256 .bf16 :=
  truncf .bf16 (shapeCast S32768x256 (refRkg (refNk A.fkg A.gkg) (refTab A.cg) (refTab A.sg)) shapeCasts_S32768x2x128_S32768x256) bitsLt_bf16_f32
def oVg : FVec Ideal S288x32768 .bf16 :=
  truncf .bf16 (shapeCast S288x32768 (concatenate S2x144x32768 1 [⟨S2x128x32768, shapeCast S2x128x32768 (transpose S256x32768 [1, 0] (Host.dotGeneral dot_S32768x2048_S2048x256_S32768x256_1_0_0_1_n_n none A.hf (transpose S2048x256 [1, 0] (extf .f32 A.wv bitsLt_bf16_f32) transposes_S256x2048_S2048x256_1_0)) transposes_S32768x256_S256x32768_1_0) shapeCasts_S256x32768_S2x128x32768⟩,
    ⟨S2x16x32768, broadcastInDim S2x16x32768 ![] bcast_S_S2x16x32768 (constant S_ .f32 0x3F800000#32)⟩] concatenates_S2x128x32768_S2x16x32768_S2x144x32768_d1) shapeCasts_S2x144x32768_S288x32768) bitsLt_bf16_f32
def oQm : FVec Ideal S32768x1024 .bf16 := truncf .bf16 (extractStridedSlice S32768x1024 ![0, 2432] A.proj slices_S32768x3456_S32768x1024_0_2432) bitsLt_bf16_f32

/-! Entry by entry. -/

theorem hf_apply (r : Fin 32768) (j : Fin 2048) : A.hf (ix2 r j) = (A.row r).h j := refH_apply A.x A.gx r j

theorem proj_apply (r : Fin 32768) (j : Fin 3456) : A.proj (ix2 r j) = (A.row r).acc j := by
  have e : A.proj (ix2 r j) = ∑ e : Fin 2048, A.hf (ix2 r e) * A.w (ix2 e j) := by pointwise [proj]
  rw [e]
  simp only [hf_apply]
  rfl

/-- A row of some columns of the projection. -/
theorem cols_apply {k : Nat} (o : Nat) (ho : o + k ≤ 3456) (hs : S32768x3456.Slices ![0, o] ⟨2, ![32768, k]⟩) (r : Fin 32768) (j : Fin k) :
    extractStridedSlice ⟨2, ![32768, k]⟩ ![0, o] A.proj hs (ix2 r j) = seg (A.row r).acc k o ho j := by
  refine (extractStridedSlice_apply _ _ hs _ (ix2 r ⟨o + j.val, lt_of_lt_of_le (Nat.add_lt_add_left j.isLt o) ho⟩) fun a => ?_).trans (A.proj_apply r _)
  match a with
  | 0 => exact (Nat.zero_add _).symm
  | 1 => rfl

theorem fcq_apply (r : Fin 32768) (j : Fin 512) : A.fcq (ix2 r j) = (A.row r).cq j := by
  refine (refCq_apply _ A.gq r j).trans ?_
  exact congrArg (fun y => nrm 0x44000000#32 y (A.row r).gq j) (funext fun e => A.cols_apply 0 (by decide) slices_S32768x3456_S32768x512_0_0 r e)

theorem fckv_apply (r : Fin 32768) (j : Fin 256) : A.fckv (ix2 r j) = (A.row r).ckv j := by
  refine (refCkv_apply _ A.gkv r j).trans ?_
  exact congrArg (fun y => nrm 0x43800000#32 y (A.row r).gkv j) (funext fun e => A.cols_apply 512 (by decide) slices_S32768x3456_S32768x256_0_512 r e)

theorem fq_apply (r : Fin 32768) (k : Fin 8) (d : Fin 256) : A.fq (ix3 r k d) = (A.row r).q ⟨k.val * 256 + d.val, by omega⟩ := by
  unfold fq
  rw [shapeCast_apply _ _ (ix3 r k d) (ix2 r (⟨k.val * 256 + d.val, by omega⟩ : Fin 2048)) (by
    rw [Shape.rowMajor_val_two, Shape.rowMajor_val_three]
    show r.val * 2048 + (k.val * 256 + d.val) = (r.val * 8 + k.val) * 256 + d.val
    omega)]
  have e : ∀ j : Fin 2048, Host.dotGeneral dot_S32768x512_S512x2048_S32768x2048_1_0_0_1_n_n none A.fcq (extf .f32 A.wq bitsLt_bf16_f32) (ix2 r j) = ∑ e : Fin 512, A.fcq (ix2 r e) * A.wq (ix2 e j) := fun j => by pointwise
  rw [e]
  simp only [fcq_apply]
  rfl

theorem fkp_apply (r : Fin 32768) (l : Fin 128) : A.fkp (ix3 r 0 l) = seg (A.row r).acc 128 768 (by decide) l := by
  unfold fkp
  rw [shapeCast_apply _ _ (ix3 r (0 : Fin 1) l) (ix2 r l) (by
    rw [Shape.rowMajor_val_two, Shape.rowMajor_val_three]
    show r.val * 128 + l.val = (r.val * 1 + 0) * 128 + l.val
    omega)]
  exact A.cols_apply 768 (by decide) slices_S32768x3456_S32768x128_0_768 r l

theorem fqg_apply (r : Fin 32768) (k : Fin 8) (l : Fin 128) : A.fqg (ix3 r k l) = seg (A.row r).acc 128 (896 + k.val * 128) (by omega) l := by
  unfold fqg
  rw [shapeCast_apply _ _ (ix3 r k l) (ix2 r (⟨k.val * 128 + l.val, by omega⟩ : Fin 1024)) (by
    rw [Shape.rowMajor_val_two, Shape.rowMajor_val_three]
    show r.val * 1024 + (k.val * 128 + l.val) = (r.val * 8 + k.val) * 128 + l.val
    omega)]
  refine (A.cols_apply 896 (by decide) slices_S32768x3456_S32768x1024_0_896 r _).trans ?_
  exact congrArg (A.row r).acc (Fin.ext (by show 896 + (k.val * 128 + l.val) = 896 + k.val * 128 + l.val; omega))

theorem fkg_apply (r : Fin 32768) (k : Fin 2) (l : Fin 128) : A.fkg (ix3 r k l) = seg (A.row r).acc 128 (1920 + k.val * 128) (by omega) l := by
  unfold fkg
  rw [shapeCast_apply _ _ (ix3 r k l) (ix2 r (⟨k.val * 128 + l.val, by omega⟩ : Fin 256)) (by
    rw [Shape.rowMajor_val_two, Shape.rowMajor_val_three]
    show r.val * 256 + (k.val * 128 + l.val) = (r.val * 2 + k.val) * 128 + l.val
    omega)]
  refine (A.cols_apply 1920 (by decide) slices_S32768x3456_S32768x256_0_1920 r _).trans ?_
  exact congrArg (A.row r).acc (Fin.ext (by show 1920 + (k.val * 128 + l.val) = 1920 + k.val * 128 + l.val; omega))

theorem idx2_eq {a b : Nat} (i : (⟨2, ![a, b]⟩ : Shape).Idx) : ∃ (r : Fin a) (j : Fin b), i = ix2 r j :=
  ⟨i 0, i 1, funext fun e => by match e with
    | 0 => rfl
    | 1 => rfl⟩

/-- Two halves of each head's 256 lanes side by side: the first half. -/
theorem join_left (a b : FVec Ideal S32768x8x128 .f32) (r : Fin 32768) (j : Fin 2048) (hj : j.val % 256 < 128) :
    shapeCast S32768x2048 (concatenate S32768x8x256 2 [⟨S32768x8x128, a⟩, ⟨S32768x8x128, b⟩] concatenates_S32768x8x128_S32768x8x128_S32768x8x256_d2) shapeCasts_S32768x8x256_S32768x2048 (ix2 r j)
      = a (ix3 r ⟨j.val / 256, by omega⟩ ⟨j.val % 128, Nat.mod_lt _ (by decide)⟩) := by
  rw [shapeCast_apply _ _ (ix2 r j) (ix3 r (⟨j.val / 256, by omega⟩ : Fin 8) (⟨j.val % 256, Nat.mod_lt _ (by decide)⟩ : Fin 256)) (by
    rw [Shape.rowMajor_val_two, Shape.rowMajor_val_three]
    show (r.val * 8 + j.val / 256) * 256 + j.val % 256 = r.val * 2048 + j.val
    omega)]
  refine concatenate_pair_apply_left (t := S32768x8x256) (s₁ := S32768x8x128) (s₂ := S32768x8x128) 2 a b concatenates_S32768x8x128_S32768x8x128_S32768x8x256_d2 _ rfl _ fun c => ?_
  match c with
  | 0 => rfl
  | 1 => rfl
  | 2 => show j.val % 128 = j.val % 256; omega

/-- The second half. -/
theorem join_right (a b : FVec Ideal S32768x8x128 .f32) (r : Fin 32768) (j : Fin 2048) (hj : ¬ j.val % 256 < 128) :
    shapeCast S32768x2048 (concatenate S32768x8x256 2 [⟨S32768x8x128, a⟩, ⟨S32768x8x128, b⟩] concatenates_S32768x8x128_S32768x8x128_S32768x8x256_d2) shapeCasts_S32768x8x256_S32768x2048 (ix2 r j)
      = b (ix3 r ⟨j.val / 256, by omega⟩ ⟨j.val % 128, Nat.mod_lt _ (by decide)⟩) := by
  rw [shapeCast_apply _ _ (ix2 r j) (ix3 r (⟨j.val / 256, by omega⟩ : Fin 8) (⟨j.val % 256, Nat.mod_lt _ (by decide)⟩ : Fin 256)) (by
    rw [Shape.rowMajor_val_two, Shape.rowMajor_val_three]
    show (r.val * 8 + j.val / 256) * 256 + j.val % 256 = r.val * 2048 + j.val
    omega)]
  refine concatenate_pair_apply_right (t := S32768x8x256) (s₁ := S32768x8x128) (s₂ := S32768x8x128) 2 a b concatenates_S32768x8x128_S32768x8x128_S32768x8x256_d2 _ rfl rfl _ (fun c hc => ?_) ?_
  · match c with
    | 0 => rfl
    | 1 => rfl
    | 2 => exact absurd rfl hc
  · show j.val % 128 + 128 = j.val % 256
    omega

theorem oH_eq : A.oH = A.rH := by
  funext i
  obtain ⟨r, j, rfl⟩ := idx2_eq i
  exact A.hf_apply r j

theorem oQm_eq : A.oQm = A.rQm := by
  funext i
  obtain ⟨r, j, rfl⟩ := idx2_eq i
  exact A.cols_apply 2432 (by decide) slices_S32768x3456_S32768x1024_0_2432 r j

theorem oQ_eq : A.oQ = A.rQ := by
  funext i
  obtain ⟨r, j, rfl⟩ := idx2_eq i
  show oQ A (ix2 r j) = (A.row r).qmla j
  have cut : ∀ (o : Nat) (ho : o ≤ 128) (hs : S32768x8x256.Slices ![0, 0, o] S32768x8x128) (k : Fin 8) (l : Fin 128),
      extractStridedSlice S32768x8x128 ![0, 0, o] A.fq hs (ix3 r k l) = (A.row r).q ⟨k.val * 256 + (o + l.val), by omega⟩ := by
    intro o ho hs k l
    refine (extractStridedSlice_apply _ _ hs _ (ix3 r k (⟨o + l.val, by omega⟩ : Fin 256)) fun a => ?_).trans (A.fq_apply r k _)
    match a with
    | 0 => exact (Nat.zero_add _).symm
    | 1 => exact (Nat.zero_add _).symm
    | 2 => rfl
  by_cases hj : j.val % 256 < 128
  · refine (join_left _ _ r j hj).trans ((cut 0 (by decide) _ _ _).trans ?_)
    rw [(A.row r).qmla_plain (j.val / 256) (by omega) ⟨j.val % 256, hj⟩ j (by show j.val = j.val / 256 * 256 + j.val % 256; omega)]
    exact congrArg (A.row r).q (Fin.ext (by show j.val / 256 * 256 + (0 + j.val % 128) = j.val; omega))
  · refine (join_right _ _ r j hj).trans ((refRq_apply _ _ _ r _ _).trans ?_)
    rw [(A.row r).qmla_turn (j.val / 256) (by omega) ⟨j.val % 128, Nat.mod_lt _ (by decide)⟩ j (by show j.val = j.val / 256 * 256 + 128 + j.val % 128; omega)]
    simp only [cut 128 (by decide), refTab_apply]
    unfold seg
    simp only [Nat.add_assoc]
    rfl

theorem oK_eq : A.oK = A.rK := by
  funext i
  obtain ⟨r, j, rfl⟩ := idx2_eq i
  show oK A (ix2 r j) = (A.row r).kmla j
  by_cases hj : j.val % 256 < 128
  · refine (join_left _ _ r j hj).trans ?_
    rw [(A.row r).kmla_own (j.val / 256) (by omega) ⟨j.val % 128, Nat.mod_lt _ (by decide)⟩ j (by show j.val = j.val / 256 * 256 + j.val % 128; omega)]
    rw [shapeCast_apply _ _ (ix3 r (⟨j.val / 256, by omega⟩ : Fin 8) (⟨j.val % 128, Nat.mod_lt _ (by decide)⟩ : Fin 128)) (ix2 r (⟨j.val / 256 * 128 + j.val % 128, by omega⟩ : Fin 1024)) (by
      rw [Shape.rowMajor_val_two, Shape.rowMajor_val_three]
      show r.val * 1024 + (j.val / 256 * 128 + j.val % 128) = (r.val * 8 + j.val / 256) * 128 + j.val % 128
      omega)]
    have e : ∀ k : Fin 1024, Host.dotGeneral dot_S32768x256_S256x1024_S32768x1024_1_0_0_1_n_n none A.fckv (extf .f32 A.wk bitsLt_bf16_f32) (ix2 r k) = ∑ e : Fin 256, A.fckv (ix2 r e) * A.wk (ix2 e k) := fun k => by pointwise
    rw [e]
    simp only [fckv_apply]
    rfl
  · refine (join_right _ _ r j hj).trans ?_
    rw [(A.row r).kmla_turn (j.val / 256) (by omega) ⟨j.val % 128, Nat.mod_lt _ (by decide)⟩ j (by show j.val = j.val / 256 * 256 + 128 + j.val % 128; omega)]
    have e : ∀ (y : FVec Ideal S32768x1x128 .f32) (k : Fin 8) (l : Fin 128), broadcastInDim S32768x8x128 ![0, 1, 2] bcast_S32768x1x128_S32768x8x128_0_1_2 y (ix3 r k l) = y (ix3 r 0 l) := fun y k l => by pointwise
    rw [e, refRk_apply]
    simp only [fkp_apply, refTab_apply]
    rfl

theorem oQg_eq : A.oQg = A.rQg := by
  funext i
  obtain ⟨r, j, rfl⟩ := idx2_eq i
  show oQg A (ix2 r j) = (A.row r).qg j
  refine (shapeCast_apply _ _ (ix2 r j) (ix3 r (⟨j.val / 128, by omega⟩ : Fin 8) (⟨j.val % 128, Nat.mod_lt _ (by decide)⟩ : Fin 128)) (by
    rw [Shape.rowMajor_val_two, Shape.rowMajor_val_three]
    show (r.val * 8 + j.val / 128) * 128 + j.val % 128 = r.val * 1024 + j.val
    omega)).trans ((refRqg_apply _ _ _ r _ _).trans ?_)
  rw [(A.row r).qg_head (j.val / 128) (by omega) ⟨j.val % 128, Nat.mod_lt _ (by decide)⟩ j (by show j.val = j.val / 128 * 128 + j.val % 128; omega)]
  simp only [refNq_apply, fqg_apply, refTab_apply]
  rfl

theorem oKg_eq : A.oKg = A.rKg := by
  funext i
  obtain ⟨r, j, rfl⟩ := idx2_eq i
  show oKg A (ix2 r j) = (A.row r).kg j
  refine (shapeCast_apply _ _ (ix2 r j) (ix3 r (⟨j.val / 128, by omega⟩ : Fin 2) (⟨j.val % 128, Nat.mod_lt _ (by decide)⟩ : Fin 128)) (by
    rw [Shape.rowMajor_val_two, Shape.rowMajor_val_three]
    show (r.val * 2 + j.val / 128) * 128 + j.val % 128 = r.val * 256 + j.val
    omega)).trans ((refRkg_apply _ _ _ r _ _).trans ?_)
  rw [(A.row r).kg_head (j.val / 128) (by omega) ⟨j.val % 128, Nat.mod_lt _ (by decide)⟩ j (by show j.val = j.val / 128 * 128 + j.val % 128; omega)]
  simp only [refNk_apply, fkg_apply, refTab_apply]
  rfl

/-- Heads of 128 rows with sixteen rows below each: a head's own row. -/
theorem stack_own (n : Nat) (a : FVec Ideal ⟨2, ![n * 128, 32768]⟩ .f32) (b : FVec Ideal ⟨3, ![n, 16, 32768]⟩ .f32)
    (h1 : (⟨2, ![n * 128, 32768]⟩ : Shape).ShapeCasts ⟨3, ![n, 128, 32768]⟩)
    (h2 : Shape.Concatenates [⟨3, ![n, 128, 32768]⟩, ⟨3, ![n, 16, 32768]⟩] ⟨3, ![n, 144, 32768]⟩ 1)
    (h3 : (⟨3, ![n, 144, 32768]⟩ : Shape).ShapeCasts ⟨2, ![n * 144, 32768]⟩) (i : Fin (n * 144)) (r : Fin 32768) (hi : i.val % 144 < 128) :
    shapeCast ⟨2, ![n * 144, 32768]⟩ (concatenate ⟨3, ![n, 144, 32768]⟩ 1 [⟨⟨3, ![n, 128, 32768]⟩, shapeCast ⟨3, ![n, 128, 32768]⟩ a h1⟩, ⟨⟨3, ![n, 16, 32768]⟩, b⟩] h2) h3 (ix2 i r)
      = a (ix2 ⟨i.val / 144 * 128 + i.val % 144, by have := i.isLt; omega⟩ r) := by
  have hn := i.isLt
  rw [shapeCast_apply _ h3 (ix2 i r) (ix3 (⟨i.val / 144, by omega⟩ : Fin n) (⟨i.val % 144, Nat.mod_lt _ (by decide)⟩ : Fin 144) r) (by
    rw [Shape.rowMajor_val_two, Shape.rowMajor_val_three]
    show (i.val / 144 * 144 + i.val % 144) * 32768 + r.val = i.val * 32768 + r.val
    omega)]
  refine (concatenate_pair_apply_left (t := ⟨3, ![n, 144, 32768]⟩) 1 _ _ h2 _ rfl (ix3 (⟨i.val / 144, by omega⟩ : Fin n) (⟨i.val % 144, hi⟩ : Fin 128) r) fun c => ?_).trans ?_
  · match c with
    | 0 => rfl
    | 1 => rfl
    | 2 => rfl
  · refine shapeCast_apply _ h1 _ _ ?_
    rw [Shape.rowMajor_val_two, Shape.rowMajor_val_three]
    rfl

/-- One of the sixteen rows. -/
theorem stack_one (n : Nat) (a : FVec Ideal ⟨3, ![n, 128, 32768]⟩ .f32) (b : FVec Ideal ⟨3, ![n, 16, 32768]⟩ .f32)
    (h2 : Shape.Concatenates [⟨3, ![n, 128, 32768]⟩, ⟨3, ![n, 16, 32768]⟩] ⟨3, ![n, 144, 32768]⟩ 1)
    (h3 : (⟨3, ![n, 144, 32768]⟩ : Shape).ShapeCasts ⟨2, ![n * 144, 32768]⟩) (i : Fin (n * 144)) (r : Fin 32768) (hi : ¬ i.val % 144 < 128)
    (hb : ∀ y, b y = 1) :
    shapeCast ⟨2, ![n * 144, 32768]⟩ (concatenate ⟨3, ![n, 144, 32768]⟩ 1 [⟨⟨3, ![n, 128, 32768]⟩, a⟩, ⟨⟨3, ![n, 16, 32768]⟩, b⟩] h2) h3 (ix2 i r) = 1 := by
  have hn := i.isLt
  rw [shapeCast_apply _ h3 (ix2 i r) (ix3 (⟨i.val / 144, by omega⟩ : Fin n) (⟨i.val % 144, Nat.mod_lt _ (by decide)⟩ : Fin 144) r) (by
    rw [Shape.rowMajor_val_two, Shape.rowMajor_val_three]
    show (i.val / 144 * 144 + i.val % 144) * 32768 + r.val = i.val * 32768 + r.val
    omega)]
  refine (concatenate_pair_apply_right (t := ⟨3, ![n, 144, 32768]⟩) 1 _ _ h2 _ rfl rfl (ix3 (⟨i.val / 144, by omega⟩ : Fin n) (⟨i.val % 144 - 128, by omega⟩ : Fin 16) r) (fun c hc => ?_) ?_).trans (hb _)
  · match c with
    | 0 => rfl
    | 1 => exact absurd rfl hc
    | 2 => rfl
  · show i.val % 144 - 128 + 128 = i.val % 144
    omega

theorem oV_eq : A.oV = A.rV := by
  funext y
  obtain ⟨i, r, rfl⟩ := idx2_eq y
  show oV A (ix2 i r) = (A.row r).vmla i
  by_cases hi : i.val % 144 < 128
  · refine (stack_own 8 _ _ _ concatenates_S8x128x32768_S8x16x32768_S8x144x32768_d1 _ i r hi).trans ?_
    rw [(A.row r).vmla_own (i.val / 144) (by omega) ⟨i.val % 144, hi⟩ i (by show i.val = i.val / 144 * 144 + i.val % 144; omega)]
    have e : ∀ k : Fin 1024, transpose S1024x32768 [1, 0] (Host.dotGeneral dot_S32768x256_S256x1024_S32768x1024_1_0_0_1_n_n none A.fckv (transpose S256x1024 [1, 0] (extf .f32 A.wvb bitsLt_bf16_f32) transposes_S1024x256_S256x1024_1_0)) transposes_S32768x1024_S1024x32768_1_0 (ix2 k r) = ∑ e : Fin 256, A.fckv (ix2 r e) * A.wvb (ix2 k e) := fun k => by pointwise
    refine (e _).trans (Finset.sum_congr rfl fun e _ => ?_)
    rw [fckv_apply, mul_comm]
    rfl
  · rw [(A.row r).vmla_one (i.val / 144) (by omega) ⟨i.val % 144 - 128, by omega⟩ i (by show i.val = i.val / 144 * 144 + 128 + (i.val % 144 - 128); omega)]
    exact stack_one 8 _ _ concatenates_S8x128x32768_S8x16x32768_S8x144x32768_d1 _ i r hi fun y => Ideal.ofBits_one_f32

theorem oVg_eq : A.oVg = A.rVg := by
  funext y
  obtain ⟨i, r, rfl⟩ := idx2_eq y
  show oVg A (ix2 i r) = (A.row r).vg i
  by_cases hi : i.val % 144 < 128
  · refine (stack_own 2 _ _ _ concatenates_S2x128x32768_S2x16x32768_S2x144x32768_d1 _ i r hi).trans ?_
    rw [(A.row r).vg_own (i.val / 144) (by omega) ⟨i.val % 144, hi⟩ i (by show i.val = i.val / 144 * 144 + i.val % 144; omega)]
    have e : ∀ k : Fin 256, transpose S256x32768 [1, 0] (Host.dotGeneral dot_S32768x2048_S2048x256_S32768x256_1_0_0_1_n_n none A.hf (transpose S2048x256 [1, 0] (extf .f32 A.wv bitsLt_bf16_f32) transposes_S256x2048_S2048x256_1_0)) transposes_S32768x256_S256x32768_1_0 (ix2 k r) = ∑ e : Fin 2048, A.hf (ix2 r e) * A.wv (ix2 k e) := fun k => by pointwise
    refine (e _).trans (Finset.sum_congr rfl fun e _ => ?_)
    rw [hf_apply, mul_comm]
    rfl
  · rw [(A.row r).vg_one (i.val / 144) (by omega) ⟨i.val % 144 - 128, by omega⟩ i (by show i.val = i.val / 144 * 144 + 128 + (i.val % 144 - 128); omega)]
    exact stack_one 2 _ _ concatenates_S2x128x32768_S2x16x32768_S2x144x32768_d1 _ i r hi fun y => Ideal.ofBits_one_f32

end Args
end Cert.Small
end
-- ==== Proof.SmallGrid.lean ====
/- The call `small_proj`: its grid. The steps' blocks make up the eight results. -/
module

public import proofs.«01_k».proof.Proof.SmallOut
public import proofs.«01_k».proof.Proof.SmallRes

@[expose] public section

set_option maxRecDepth 16384

noncomputable section

namespace Cert.Small

open Idealize.ShloMosaic Idealize.ShloMosaic.TcCoe Idealize.SL.Sem Cert.KernelSIdeal Cert.KernelSIdeal.Gen

variable (m : (ℓ : Loc nD τ sig) → Buf (Elt Ideal) ℓ) (ρ : Dev nD → PrngReg)

/-- The arguments that the call is given. -/
def args (c : Dev nD) : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10), m ((c : Thread nD τ).loc main_arg11),
    m ((c : Thread nD τ).loc main_arg12), m ((c : Thread nD τ).loc main_arg13), m ((c : Thread nD τ).loc main_arg14)⟩

/-! The inputs that every step reads whole. -/

theorem whole1 (c : Dev nD) (t : Fin cfg0.N) (y : S1x2048.Idx) : iblk m c 1 t y = m ((c : Thread nD τ).loc main_arg1) y :=
  congrArg (m ((c : Thread nD τ).loc main_arg1)) (funext fun a => Fin.ext
    (Pipeline.Window.rect_emb_val_of_index_zero win0_1 t a ((by decide +kernel : ∀ (t : Fin grid0.N) (a : Fin 2), win0_1.index t a = 0) t a) y))

theorem whole2 (c : Dev nD) (t : Fin cfg0.N) (y : S2048x3456.Idx) : iblk m c 2 t y = m ((c : Thread nD τ).loc main_arg2) y :=
  congrArg (m ((c : Thread nD τ).loc main_arg2)) (funext fun a => Fin.ext
    (Pipeline.Window.rect_emb_val_of_index_zero win0_2 t a ((by decide +kernel : ∀ (t : Fin grid0.N) (a : Fin 2), win0_2.index t a = 0) t a) y))

theorem whole3 (c : Dev nD) (t : Fin cfg0.N) (y : S256x2048.Idx) : iblk m c 3 t y = m ((c : Thread nD τ).loc main_arg3) y :=
  congrArg (m ((c : Thread nD τ).loc main_arg3)) (funext fun a => Fin.ext
    (Pipeline.Window.rect_emb_val_of_index_zero win0_3 t a ((by decide +kernel : ∀ (t : Fin grid0.N) (a : Fin 2), win0_3.index t a = 0) t a) y))

theorem whole4 (c : Dev nD) (t : Fin cfg0.N) (y : S1x512.Idx) : iblk m c 4 t y = m ((c : Thread nD τ).loc main_arg4) y :=
  congrArg (m ((c : Thread nD τ).loc main_arg4)) (funext fun a => Fin.ext
    (Pipeline.Window.rect_emb_val_of_index_zero win0_4 t a ((by decide +kernel : ∀ (t : Fin grid0.N) (a : Fin 2), win0_4.index t a = 0) t a) y))

theorem whole5 (c : Dev nD) (t : Fin cfg0.N) (y : S512x2048.Idx) : iblk m c 5 t y = m ((c : Thread nD τ).loc main_arg5) y :=
  congrArg (m ((c : Thread nD τ).loc main_arg5)) (funext fun a => Fin.ext
    (Pipeline.Window.rect_emb_val_of_index_zero win0_5 t a ((by decide +kernel : ∀ (t : Fin grid0.N) (a : Fin 2), win0_5.index t a = 0) t a) y))

theorem whole6 (c : Dev nD) (t : Fin cfg0.N) (y : S1x256.Idx) : iblk m c 6 t y = m ((c : Thread nD τ).loc main_arg6) y :=
  congrArg (m ((c : Thread nD τ).loc main_arg6)) (funext fun a => Fin.ext
    (Pipeline.Window.rect_emb_val_of_index_zero win0_6 t a ((by decide +kernel : ∀ (t : Fin grid0.N) (a : Fin 2), win0_6.index t a = 0) t a) y))

theorem whole7 (c : Dev nD) (t : Fin cfg0.N) (y : S256x1024.Idx) : iblk m c 7 t y = m ((c : Thread nD τ).loc main_arg7) y :=
  congrArg (m ((c : Thread nD τ).loc main_arg7)) (funext fun a => Fin.ext
    (Pipeline.Window.rect_emb_val_of_index_zero win0_7 t a ((by decide +kernel : ∀ (t : Fin grid0.N) (a : Fin 2), win0_7.index t a = 0) t a) y))

theorem whole8 (c : Dev nD) (t : Fin cfg0.N) (y : S1024x256.Idx) : iblk m c 8 t y = m ((c : Thread nD τ).loc main_arg8) y :=
  congrArg (m ((c : Thread nD τ).loc main_arg8)) (funext fun a => Fin.ext
    (Pipeline.Window.rect_emb_val_of_index_zero win0_8 t a ((by decide +kernel : ∀ (t : Fin grid0.N) (a : Fin 2), win0_8.index t a = 0) t a) y))

theorem whole9 (c : Dev nD) (t : Fin cfg0.N) (y : S1x128.Idx) : iblk m c 9 t y = m ((c : Thread nD τ).loc main_arg9) y :=
  congrArg (m ((c : Thread nD τ).loc main_arg9)) (funext fun a => Fin.ext
    (Pipeline.Window.rect_emb_val_of_index_zero win0_9 t a ((by decide +kernel : ∀ (t : Fin grid0.N) (a : Fin 2), win0_9.index t a = 0) t a) y))

theorem whole10 (c : Dev nD) (t : Fin cfg0.N) (y : S1x128.Idx) : iblk m c 10 t y = m ((c : Thread nD τ).loc main_arg10) y :=
  congrArg (m ((c : Thread nD τ).loc main_arg10)) (funext fun a => Fin.ext
    (Pipeline.Window.rect_emb_val_of_index_zero win0_10 t a ((by decide +kernel : ∀ (t : Fin grid0.N) (a : Fin 2), win0_10.index t a = 0) t a) y))

/-! The inputs that a step reads a band of. -/

theorem idx0 : ∀ t : Fin cfg0.N, win0_0.index t = ![t.val, 0] := (by decide +kernel : ∀ t : Fin grid0.N, _)

theorem band0 (c : Dev nD) (t : Fin cfg0.N) (r : Fin 512) (e : Fin 2048) (R : Fin 32768) (hR : R.val = t.val * 512 + r.val) :
    iblk m c 0 t (ix2 r e) = m ((c : Thread nD τ).loc main_arg0) (ix2 R e) := by
  refine congrArg (m ((c : Thread nD τ).loc main_arg0)) (funext fun a => Fin.ext ((Pipeline.Window.rect_emb_val win0_0 t (ix2 r e) a).trans ?_))
  rw [idx0]
  match a with
  | 0 => exact hR.symm
  | 1 => show 0 * 2048 + e.val = e.val; omega

theorem band11 (c : Dev nD) (t : Fin cfg0.N) (r : Fin 512) (l : Fin 128) (R : Fin 4096) (hR : R.val = t.val % 8 * 512 + r.val) :
    iblk m c 11 t (ix2 r l) = m ((c : Thread nD τ).loc main_arg11) (ix2 R l) := by
  refine congrArg (m ((c : Thread nD τ).loc main_arg11)) (funext fun a => Fin.ext ((Pipeline.Window.rect_emb_val win0_11 t (ix2 r l) a).trans ?_))
  rw [(by decide +kernel : ∀ t : Fin grid0.N, win0_11.index t = ![t.val % 8, 0]) t]
  match a with
  | 0 => exact hR.symm
  | 1 => show 0 * 128 + l.val = l.val; omega

theorem band12 (c : Dev nD) (t : Fin cfg0.N) (r : Fin 512) (l : Fin 128) (R : Fin 4096) (hR : R.val = t.val % 8 * 512 + r.val) :
    iblk m c 12 t (ix2 r l) = m ((c : Thread nD τ).loc main_arg12) (ix2 R l) := by
  refine congrArg (m ((c : Thread nD τ).loc main_arg12)) (funext fun a => Fin.ext ((Pipeline.Window.rect_emb_val win0_12 t (ix2 r l) a).trans ?_))
  rw [(by decide +kernel : ∀ t : Fin grid0.N, win0_12.index t = ![t.val % 8, 0]) t]
  match a with
  | 0 => exact hR.symm
  | 1 => show 0 * 128 + l.val = l.val; omega

theorem band13 (c : Dev nD) (t : Fin cfg0.N) (r : Fin 512) (l : Fin 128) (R : Fin 4096) (hR : R.val = t.val % 8 * 512 + r.val) :
    iblk m c 13 t (ix2 r l) = m ((c : Thread nD τ).loc main_arg13) (ix2 R l) := by
  refine congrArg (m ((c : Thread nD τ).loc main_arg13)) (funext fun a => Fin.ext ((Pipeline.Window.rect_emb_val win0_13 t (ix2 r l) a).trans ?_))
  rw [(by decide +kernel : ∀ t : Fin grid0.N, win0_13.index t = ![t.val % 8, 0]) t]
  match a with
  | 0 => exact hR.symm
  | 1 => show 0 * 128 + l.val = l.val; omega

theorem band14 (c : Dev nD) (t : Fin cfg0.N) (r : Fin 512) (l : Fin 128) (R : Fin 4096) (hR : R.val = t.val % 8 * 512 + r.val) :
    iblk m c 14 t (ix2 r l) = m ((c : Thread nD τ).loc main_arg14) (ix2 R l) := by
  refine congrArg (m ((c : Thread nD τ).loc main_arg14)) (funext fun a => Fin.ext ((Pipeline.Window.rect_emb_val win0_14 t (ix2 r l) a).trans ?_))
  rw [(by decide +kernel : ∀ t : Fin grid0.N, win0_14.index t = ![t.val % 8, 0]) t]
  match a with
  | 0 => exact hR.symm
  | 1 => show 0 * 128 + l.val = l.val; omega

/-- A row of a step's blocks is a row of the arguments. -/
theorem row_eq (c : Dev nD) (t : Fin cfg0.N) (r : Fin 512) (R : Fin 32768) (hR : R.val = t.val * 512 + r.val) : (blk m c t).row r = (args m c).row R := by
  have hT : R.val % 4096 = t.val % 8 * 512 + r.val := by omega
  unfold Blk.row Args.row
  rw [Row.mk.injEq]
  exact ⟨funext fun e => band0 m c t r e R hR, funext fun e => whole1 m c t _, funext fun e => funext fun j => whole2 m c t _,
    funext fun i => funext fun e => whole3 m c t _, funext fun e => whole4 m c t _, funext fun e => funext fun j => whole5 m c t _,
    funext fun e => whole6 m c t _, funext fun e => funext fun j => whole7 m c t _, funext fun i => funext fun e => whole8 m c t _,
    funext fun e => whole9 m c t _, funext fun e => whole10 m c t _, funext fun l => band11 m c t r l _ hT, funext fun l => band12 m c t r l _ hT,
    funext fun l => band13 m c t r l _ hT, funext fun l => band14 m c t r l _ hT⟩

theorem entry_eq {n : Nat} (f : Row → Fin n → EReal) (c : Dev nD) (t : Fin cfg0.N) (r : Fin 512) (R : Fin 32768) (j J : Fin n)
    (hR : R.val = t.val * 512 + r.val) (hJ : J.val = j.val) : f ((blk m c t).row r) j = f ((args m c).row R) J := by
  rw [row_eq m c t r R hR, Fin.ext hJ]

/-- A row lies in the band of 512 rows that its number falls into. -/
theorem mem_rows {n : Nat} (off : Fin 2 → Nat) (inb : ∀ a, off a + ![512, n] a ≤ (⟨2, ![32768, n]⟩ : Shape).size a)
    (i : (⟨2, ![32768, n]⟩ : Shape).Idx) (h0 : off 0 = (i 0).val / 512 * 512) (h1 : off 1 = 0) :
    i ∈ (Rect.unit (s := ⟨2, ![32768, n]⟩) off ![512, n] inb).set := by
  rw [Rect.mem_set_unit]
  intro a
  match a with
  | 0 => show off 0 ≤ (i 0).val ∧ (i 0).val < off 0 + 512; omega
  | 1 => show off 1 ≤ (i 1).val ∧ (i 1).val < off 1 + n; have := (i 1).isLt; rw [h1]; exact ⟨Nat.zero_le _, by rw [Nat.zero_add]; exact this⟩

/-- A column lies in the band of 512 columns that its number falls into. -/
theorem mem_cols {n : Nat} (off : Fin 2 → Nat) (inb : ∀ a, off a + ![n, 512] a ≤ (⟨2, ![n, 32768]⟩ : Shape).size a)
    (i : (⟨2, ![n, 32768]⟩ : Shape).Idx) (h0 : off 0 = 0) (h1 : off 1 = (i 1).val / 512 * 512) :
    i ∈ (Rect.unit (s := ⟨2, ![n, 32768]⟩) off ![n, 512] inb).set := by
  rw [Rect.mem_set_unit]
  intro a
  match a with
  | 0 => show off 0 ≤ (i 0).val ∧ (i 0).val < off 0 + n; have := (i 0).isLt; rw [h0]; exact ⟨Nat.zero_le _, by rw [Nat.zero_add]; exact this⟩
  | 1 => show off 1 ≤ (i 1).val ∧ (i 1).val < off 1 + 512; omega

/-! The results, one by one: where a step's block lies, what it holds, and that the blocks cover the array. -/

theorem idx15 : ∀ t : Fin cfg0.N, win0_15.index t = ![t.val, 0] := (by decide +kernel : ∀ t : Fin grid0.N, _)

theorem flushed15_eq (c : Dev nD) (t : Fin cfg0.N) (_ : (cfg0.win 15).flush t = true) :
    (dats m 0 c).flushed 15 t = ((cfg0.win 15).blk t).view.read (Elt Ideal) (args m c).rH := by
  rw [out15]
  exact funext fun y => entry_eq m Row.h c t (y 0) _ (y 1) _
    ((Pipeline.Window.rect_emb_val win0_15 t y 0).trans (by rw [idx15]; rfl))
    (Pipeline.Window.rect_emb_val_of_index_zero win0_15 t 1 (by rw [idx15]; rfl) y)

theorem final15 (c : Dev nD) : (dats m 0 c).arrAt 15 cfg0.N = (args m c).rH := by
  refine (dats m 0 c).arrAt_eq_of_cover 15 _ (flushed15_eq m c) fun (i : S32768x2048.Idx) => ?_
  let t : Fin cfg0.N := ⟨(i 0).val / 512, lt_of_lt_of_eq (by have : (i 0).val < 32768 := (i 0).isLt; omega) N_0.symm⟩
  refine ⟨t, (by decide +kernel : ∀ t : Fin grid0.N, (cfg0.win 15).flush t = true) t, ?_⟩
  show i ∈ ((View.whole main_v0_0).slice (win0_15.rect t)).set
  rw [View.set_slice_whole]
  exact mem_rows _ _ i (by show win0_15.index t 0 * 512 = _; rw [idx15]; rfl) (by show win0_15.index t 1 * 2048 = 0; rw [idx15]; exact Nat.zero_mul _)

theorem idx16 : ∀ t : Fin cfg0.N, win0_16.index t = ![t.val, 0] := (by decide +kernel : ∀ t : Fin grid0.N, _)

theorem flushed16_eq (c : Dev nD) (t : Fin cfg0.N) (_ : (cfg0.win 16).flush t = true) :
    (dats m 0 c).flushed 16 t = ((cfg0.win 16).blk t).view.read (Elt Ideal) (args m c).rQ := by
  rw [out16]
  exact funext fun y => entry_eq m Row.qmla c t (y 0) _ (y 1) _
    ((Pipeline.Window.rect_emb_val win0_16 t y 0).trans (by rw [idx16]; rfl))
    (Pipeline.Window.rect_emb_val_of_index_zero win0_16 t 1 (by rw [idx16]; rfl) y)

theorem final16 (c : Dev nD) : (dats m 0 c).arrAt 16 cfg0.N = (args m c).rQ := by
  refine (dats m 0 c).arrAt_eq_of_cover 16 _ (flushed16_eq m c) fun (i : S32768x2048.Idx) => ?_
  let t : Fin cfg0.N := ⟨(i 0).val / 512, lt_of_lt_of_eq (by have : (i 0).val < 32768 := (i 0).isLt; omega) N_0.symm⟩
  refine ⟨t, (by decide +kernel : ∀ t : Fin grid0.N, (cfg0.win 16).flush t = true) t, ?_⟩
  show i ∈ ((View.whole main_v0_1).slice (win0_16.rect t)).set
  rw [View.set_slice_whole]
  exact mem_rows _ _ i (by show win0_16.index t 0 * 512 = _; rw [idx16]; rfl) (by show win0_16.index t 1 * 2048 = 0; rw [idx16]; exact Nat.zero_mul _)

theorem idx17 : ∀ t : Fin cfg0.N, win0_17.index t = ![t.val, 0] := (by decide +kernel : ∀ t : Fin grid0.N, _)

theorem flushed17_eq (c : Dev nD) (t : Fin cfg0.N) (_ : (cfg0.win 17).flush t = true) :
    (dats m 0 c).flushed 17 t = ((cfg0.win 17).blk t).view.read (Elt Ideal) (args m c).rK := by
  rw [out17]
  exact funext fun y => entry_eq m Row.kmla c t (y 0) _ (y 1) _
    ((Pipeline.Window.rect_emb_val win0_17 t y 0).trans (by rw [idx17]; rfl))
    (Pipeline.Window.rect_emb_val_of_index_zero win0_17 t 1 (by rw [idx17]; rfl) y)

theorem final17 (c : Dev nD) : (dats m 0 c).arrAt 17 cfg0.N = (args m c).rK := by
  refine (dats m 0 c).arrAt_eq_of_cover 17 _ (flushed17_eq m c) fun (i : S32768x2048.Idx) => ?_
  let t : Fin cfg0.N := ⟨(i 0).val / 512, lt_of_lt_of_eq (by have : (i 0).val < 32768 := (i 0).isLt; omega) N_0.symm⟩
  refine ⟨t, (by decide +kernel : ∀ t : Fin grid0.N, (cfg0.win 17).flush t = true) t, ?_⟩
  show i ∈ ((View.whole main_v0_2).slice (win0_17.rect t)).set
  rw [View.set_slice_whole]
  exact mem_rows _ _ i (by show win0_17.index t 0 * 512 = _; rw [idx17]; rfl) (by show win0_17.index t 1 * 2048 = 0; rw [idx17]; exact Nat.zero_mul _)

theorem idx18 : ∀ t : Fin cfg0.N, win0_18.index t = ![0, t.val] := (by decide +kernel : ∀ t : Fin grid0.N, _)

theorem flushed18_eq (c : Dev nD) (t : Fin cfg0.N) (_ : (cfg0.win 18).flush t = true) :
    (dats m 0 c).flushed 18 t = ((cfg0.win 18).blk t).view.read (Elt Ideal) (args m c).rV := by
  rw [out18]
  exact funext fun y => entry_eq m Row.vmla c t (y 1) _ (y 0) _
    ((Pipeline.Window.rect_emb_val win0_18 t y 1).trans (by rw [idx18]; rfl))
    (Pipeline.Window.rect_emb_val_of_index_zero win0_18 t 0 (by rw [idx18]; rfl) y)

theorem final18 (c : Dev nD) : (dats m 0 c).arrAt 18 cfg0.N = (args m c).rV := by
  refine (dats m 0 c).arrAt_eq_of_cover 18 _ (flushed18_eq m c) fun (i : S1152x32768.Idx) => ?_
  let t : Fin cfg0.N := ⟨(i 1).val / 512, lt_of_lt_of_eq (by have : (i 1).val < 32768 := (i 1).isLt; omega) N_0.symm⟩
  refine ⟨t, (by decide +kernel : ∀ t : Fin grid0.N, (cfg0.win 18).flush t = true) t, ?_⟩
  show i ∈ ((View.whole main_v0_3).slice (win0_18.rect t)).set
  rw [View.set_slice_whole]
  exact mem_cols _ _ i (by show win0_18.index t 0 * 1152 = 0; rw [idx18]; exact Nat.zero_mul _) (by show win0_18.index t 1 * 512 = _; rw [idx18]; rfl)

theorem idx19 : ∀ t : Fin cfg0.N, win0_19.index t = ![t.val, 0] := (by decide +kernel : ∀ t : Fin grid0.N, _)

theorem flushed19_eq (c : Dev nD) (t : Fin cfg0.N) (_ : (cfg0.win 19).flush t = true) :
    (dats m 0 c).flushed 19 t = ((cfg0.win 19).blk t).view.read (Elt Ideal) (args m c).rQg := by
  rw [out19]
  exact funext fun y => entry_eq m Row.qg c t (y 0) _ (y 1) _
    ((Pipeline.Window.rect_emb_val win0_19 t y 0).trans (by rw [idx19]; rfl))
    (Pipeline.Window.rect_emb_val_of_index_zero win0_19 t 1 (by rw [idx19]; rfl) y)

theorem final19 (c : Dev nD) : (dats m 0 c).arrAt 19 cfg0.N = (args m c).rQg := by
  refine (dats m 0 c).arrAt_eq_of_cover 19 _ (flushed19_eq m c) fun (i : S32768x1024.Idx) => ?_
  let t : Fin cfg0.N := ⟨(i 0).val / 512, lt_of_lt_of_eq (by have : (i 0).val < 32768 := (i 0).isLt; omega) N_0.symm⟩
  refine ⟨t, (by decide +kernel : ∀ t : Fin grid0.N, (cfg0.win 19).flush t = true) t, ?_⟩
  show i ∈ ((View.whole main_v0_4).slice (win0_19.rect t)).set
  rw [View.set_slice_whole]
  exact mem_rows _ _ i (by show win0_19.index t 0 * 512 = _; rw [idx19]; rfl) (by show win0_19.index t 1 * 1024 = 0; rw [idx19]; exact Nat.zero_mul _)

theorem idx20 : ∀ t : Fin cfg0.N, win0_20.index t = ![t.val, 0] := (by decide +kernel : ∀ t : Fin grid0.N, _)

theorem flushed20_eq (c : Dev nD) (t : Fin cfg0.N) (_ : (cfg0.win 20).flush t = true) :
    (dats m 0 c).flushed 20 t = ((cfg0.win 20).blk t).view.read (Elt Ideal) (args m c).rKg := by
  rw [out20]
  exact funext fun y => entry_eq m Row.kg c t (y 0) _ (y 1) _
    ((Pipeline.Window.rect_emb_val win0_20 t y 0).trans (by rw [idx20]; rfl))
    (Pipeline.Window.rect_emb_val_of_index_zero win0_20 t 1 (by rw [idx20]; rfl) y)

theorem final20 (c : Dev nD) : (dats m 0 c).arrAt 20 cfg0.N = (args m c).rKg := by
  refine (dats m 0 c).arrAt_eq_of_cover 20 _ (flushed20_eq m c) fun (i : S32768x256.Idx) => ?_
  let t : Fin cfg0.N := ⟨(i 0).val / 512, lt_of_lt_of_eq (by have : (i 0).val < 32768 := (i 0).isLt; omega) N_0.symm⟩
  refine ⟨t, (by decide +kernel : ∀ t : Fin grid0.N, (cfg0.win 20).flush t = true) t, ?_⟩
  show i ∈ ((View.whole main_v0_5).slice (win0_20.rect t)).set
  rw [View.set_slice_whole]
  exact mem_rows _ _ i (by show win0_20.index t 0 * 512 = _; rw [idx20]; rfl) (by show win0_20.index t 1 * 256 = 0; rw [idx20]; exact Nat.zero_mul _)

theorem idx21 : ∀ t : Fin cfg0.N, win0_21.index t = ![0, t.val] := (by decide +kernel : ∀ t : Fin grid0.N, _)

theorem flushed21_eq (c : Dev nD) (t : Fin cfg0.N) (_ : (cfg0.win 21).flush t = true) :
    (dats m 0 c).flushed 21 t = ((cfg0.win 21).blk t).view.read (Elt Ideal) (args m c).rVg := by
  rw [out21]
  exact funext fun y => entry_eq m Row.vg c t (y 1) _ (y 0) _
    ((Pipeline.Window.rect_emb_val win0_21 t y 1).trans (by rw [idx21]; rfl))
    (Pipeline.Window.rect_emb_val_of_index_zero win0_21 t 0 (by rw [idx21]; rfl) y)

theorem final21 (c : Dev nD) : (dats m 0 c).arrAt 21 cfg0.N = (args m c).rVg := by
  refine (dats m 0 c).arrAt_eq_of_cover 21 _ (flushed21_eq m c) fun (i : S288x32768.Idx) => ?_
  let t : Fin cfg0.N := ⟨(i 1).val / 512, lt_of_lt_of_eq (by have : (i 1).val < 32768 := (i 1).isLt; omega) N_0.symm⟩
  refine ⟨t, (by decide +kernel : ∀ t : Fin grid0.N, (cfg0.win 21).flush t = true) t, ?_⟩
  show i ∈ ((View.whole main_v0_6).slice (win0_21.rect t)).set
  rw [View.set_slice_whole]
  exact mem_cols _ _ i (by show win0_21.index t 0 * 288 = 0; rw [idx21]; exact Nat.zero_mul _) (by show win0_21.index t 1 * 512 = _; rw [idx21]; rfl)

theorem idx22 : ∀ t : Fin cfg0.N, win0_22.index t = ![t.val, 0] := (by decide +kernel : ∀ t : Fin grid0.N, _)

theorem flushed22_eq (c : Dev nD) (t : Fin cfg0.N) (_ : (cfg0.win 22).flush t = true) :
    (dats m 0 c).flushed 22 t = ((cfg0.win 22).blk t).view.read (Elt Ideal) (args m c).rQm := by
  rw [out22]
  exact funext fun y => entry_eq m Row.qm c t (y 0) _ (y 1) _
    ((Pipeline.Window.rect_emb_val win0_22 t y 0).trans (by rw [idx22]; rfl))
    (Pipeline.Window.rect_emb_val_of_index_zero win0_22 t 1 (by rw [idx22]; rfl) y)

theorem final22 (c : Dev nD) : (dats m 0 c).arrAt 22 cfg0.N = (args m c).rQm := by
  refine (dats m 0 c).arrAt_eq_of_cover 22 _ (flushed22_eq m c) fun (i : S32768x1024.Idx) => ?_
  let t : Fin cfg0.N := ⟨(i 0).val / 512, lt_of_lt_of_eq (by have : (i 0).val < 32768 := (i 0).isLt; omega) N_0.symm⟩
  refine ⟨t, (by decide +kernel : ∀ t : Fin grid0.N, (cfg0.win 22).flush t = true) t, ?_⟩
  show i ∈ ((View.whole main_v0_7).slice (win0_22.rect t)).set
  rw [View.set_slice_whole]
  exact mem_rows _ _ i (by show win0_22.index t 0 * 512 = _; rw [idx22]; rfl) (by show win0_22.index t 1 * 1024 = 0; rw [idx22]; exact Nat.zero_mul _)

end Cert.Small
end
-- ==== Proof.SmallValue.lean ====
/- The call `small_proj`: call and reference leave equal arrays. -/
module

public import proofs.«01_k».proof.Proof.SmallGrid
public import proofs.«01_k».proof.Proof.Gen.ReferenceSIdeal.Run
public import proofs.«01_k».proof.Defs

@[expose] public section

set_option maxRecDepth 16384

noncomputable section

namespace Cert.Small

open Idealize.ShloMosaic Idealize.ShloMosaic.TcCoe Idealize.SL.Sem

section
open Cert.ReferenceSIdeal Cert.ReferenceSIdeal.Gen

variable (m : (ℓ : Loc nD τ sig) → Buf (Elt Ideal) ℓ) (ρ : Dev nD → PrngReg)

/-- The arguments that the reference is given. -/
def refArgs (c : Dev nD) : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10), m ((c : Thread nD τ).loc main_arg11),
    m ((c : Thread nD τ).loc main_arg12), m ((c : Thread nD τ).loc main_arg13), m ((c : Thread nD τ).loc main_arg14)⟩

end

set_option maxHeartbeats 4000000 in
/-- Call and reference leave equal arrays. -/
theorem value : Cert.algebraic_KernelSIdeal_ReferenceSIdeal (hKernelSIdeal := Cert.KernelSIdeal.Gen.facts)
    (hReferenceSIdeal := Cert.ReferenceSIdeal.Gen.facts) := by
  intro m g m' g' _ hargs
  refine ⟨fun c => (args m c).rH, fun c => (args m c).rQ, fun c => (args m c).rK, fun c => (args m c).rV, fun c => (args m c).rQg,
    fun c => (args m c).rKg, fun c => (args m c).rVg, fun c => (args m c).rQm,
    (θ_run Cert.KernelSIdeal.defs _ _).mono (fun r h c => ?_) (Cert.KernelSIdeal.Value.run_blocks m g),
    (θ_run Cert.ReferenceSIdeal.defs _ _).mono (fun r h c => ?_) (Cert.ReferenceSIdeal.Value.run m' g')⟩
  · obtain ⟨h0, h1, h2, h3, h4, h5, h6, h7, ha⟩ := h c
    exact ⟨h0.trans (final15 m c), h1.trans (final16 m c), h2.trans (final17 m c), h3.trans (final18 m c), h4.trans (final19 m c),
      h5.trans (final20 m c), h6.trans (final21 m c), h7.trans (final22 m c), ha⟩
  · obtain ⟨h0, h1, h2, h3, h4, h5, h6, h7, ha⟩ := h c
    have e : refArgs m' c = args m c := by
      unfold refArgs args
      rw [Args.mk.injEq]
      exact hargs c
    exact ⟨((h0.trans (show _ = (refArgs m' c).oH from rfl)).trans (refArgs m' c).oH_eq).trans (congrArg Args.rH e),
      ((h1.trans (show _ = (refArgs m' c).oQ from rfl)).trans (refArgs m' c).oQ_eq).trans (congrArg Args.rQ e),
      ((h2.trans (show _ = (refArgs m' c).oK from rfl)).trans (refArgs m' c).oK_eq).trans (congrArg Args.rK e),
      ((h3.trans (show _ = (refArgs m' c).oV from rfl)).trans (refArgs m' c).oV_eq).trans (congrArg Args.rV e),
      ((h4.trans (show _ = (refArgs m' c).oQg from rfl)).trans (refArgs m' c).oQg_eq).trans (congrArg Args.rQg e),
      ((h5.trans (show _ = (refArgs m' c).oKg from rfl)).trans (refArgs m' c).oKg_eq).trans (congrArg Args.rKg e),
      ((h6.trans (show _ = (refArgs m' c).oVg from rfl)).trans (refArgs m' c).oVg_eq).trans (congrArg Args.rVg e),
      ((h7.trans (show _ = (refArgs m' c).oQm from rfl)).trans (refArgs m' c).oQm_eq).trans (congrArg Args.rQm e), ha⟩

end Cert.Small
end
-- ==== Proof.Gate.lean ====
/- The gate of a layer: a function of a product's entries, block by block and as a whole, and the sigmoid as the kernel
   computes it, by the hyperbolic tangent of half the argument. -/
module

public import Idealize.ShloMosaic.Lib.Pipeline.Value
public import Idealize.ShloMosaic.Lib.Pipeline.ValueKit
public import Idealize.ShloMosaic.Lib.Pointwise
public import Idealize.ShloMosaic.Lib.IdealHost

@[expose] public section

set_option maxRecDepth 16384

noncomputable section

namespace Cert.Gate

open Idealize.ShloMosaic

/-- The float32 word of one half. -/
theorem ofBits_half : Ideal.ofBits .f32 1056964608#32 = ((1 / 2 : ℝ) : EReal) := by
  simp [Ideal.ofBits, Ideal.ieee, -EReal.coe_mul]
  norm_num

/-- The float32 word of one. -/
theorem ofBits_one32 : Ideal.ofBits .f32 1065353216#32 = (1 : EReal) := by
  exact Ideal.ofBits_one_f32

/-- Half of one plus the hyperbolic tangent of half a real number is its sigmoid. -/
theorem half_tanh_real (r : ℝ) : 1 / 2 + 1 / 2 * Real.tanh (1 / 2 * r) = (1 + Real.exp (-r))⁻¹ := by
  have h : Real.exp (-r) = Real.exp (-(1 / 2 * r)) * Real.exp (-(1 / 2 * r)) := by
    rw [← Real.exp_add]; ring_nf
  have h2 : Real.exp (1 / 2 * r) * Real.exp (-(1 / 2 * r)) = 1 := by
    rw [← Real.exp_add]; simp
  have p1 := Real.exp_pos (1 / 2 * r)
  have p2 := Real.exp_pos (-(1 / 2 * r))
  rw [Real.tanh_eq_sinh_div_cosh, Real.sinh_eq, Real.cosh_eq, h]
  generalize Real.exp (1 / 2 * r) = u at *
  generalize Real.exp (-(1 / 2 * r)) = v at *
  have : u = v⁻¹ := eq_inv_of_mul_eq_one_left h2
  subst this
  field_simp
  ring

/-- The kernel's sigmoid is the reference's, at every extended real. -/
theorem half_tanh (a : EReal) : ((1 / 2 : ℝ) : EReal) + ((1 / 2 : ℝ) : EReal) * Ideal.tanh (((1 / 2 : ℝ) : EReal) * a) = Ideal.logistic a := by
  induction a with
  | bot =>
    rw [EReal.coe_mul_bot_of_pos (by norm_num), Ideal.tanh_bot, Ideal.logistic_bot, ← EReal.coe_one, ← EReal.coe_neg, ← EReal.coe_mul, ← EReal.coe_add,
      ← EReal.coe_zero]
    norm_num
  | top =>
    rw [EReal.coe_mul_top_of_pos (by norm_num), Ideal.tanh_top, Ideal.logistic_top, ← EReal.coe_one, ← EReal.coe_mul, ← EReal.coe_add]
    norm_num
  | coe r => rw [← EReal.coe_mul, Ideal.tanh_coe, Ideal.logistic_coe, ← EReal.coe_mul, ← EReal.coe_add, half_tanh_real]

/-- A number times its sigmoid. -/
def silu (a : EReal) : EReal := a * Ideal.logistic a

/-- `f` of the entries of the product of two matrices. -/
def of (f : EReal → EReal) {a b c : Nat} (h : FVec Ideal ⟨2, ![a, b]⟩ .bf16) (w : FVec Ideal ⟨2, ![b, c]⟩ .bf16) : FVec Ideal ⟨2, ![a, c]⟩ .bf16 :=
  fun i => f (∑ e : Fin b, h (ix2 (i 0) e) * w (ix2 e (i 1)))

/-- A block of 256 columns, computed from the same columns of the right factor, is that block of the whole. -/
theorem piece (f : EReal → EReal)
    (P : FVec Ideal ⟨2, ![1024, 2048]⟩ .bf16 → FVec Ideal ⟨2, ![2048, 256]⟩ .bf16 → FVec Ideal ⟨2, ![1024, 256]⟩ .bf16)
    (hP : ∀ h w r j, P h w (ix2 r j) = f (∑ e : Fin 2048, h (ix2 r e) * w (ix2 e j)))
    (x : FVec Ideal ⟨2, ![1024, 2048]⟩ .bf16) (w : FVec Ideal ⟨2, ![2048, 1536]⟩ .bf16) (o : Nat)
    (i0 : ∀ a, (![0, 0] : Fin 2 → Nat) a + ![1024, 2048] a ≤ (⟨2, ![1024, 2048]⟩ : Shape).size a)
    (i1 : ∀ a, (![0, o] : Fin 2 → Nat) a + ![2048, 256] a ≤ (⟨2, ![2048, 1536]⟩ : Shape).size a)
    (i2 : ∀ a, (![0, o] : Fin 2 → Nat) a + ![1024, 256] a ≤ (⟨2, ![1024, 1536]⟩ : Shape).size a)
    (z : (⟨2, ![1024, 256]⟩ : Shape).Idx) :
    P (View.ld (Val := Elt Ideal) (e' := .bf16) x (Rect.unit (s := ⟨2, ![1024, 2048]⟩) ![0, 0] ![1024, 2048] i0))
        (View.ld (Val := Elt Ideal) (e' := .bf16) w (Rect.unit (s := ⟨2, ![2048, 1536]⟩) ![0, o] ![2048, 256] i1)) z
      = of f x w ((Rect.unit (s := ⟨2, ![1024, 1536]⟩) ![0, o] ![1024, 256] i2).emb z) := by
  obtain ⟨r, j, rfl⟩ : ∃ (r : Fin 1024) (j : Fin 256), z = ix2 r j := ⟨z 0, z 1, funext fun a => by match a with
    | 0 => rfl
    | 1 => rfl⟩
  refine (hP _ _ r j).trans ?_
  unfold of
  refine congrArg f (Finset.sum_congr rfl fun e _ => congrArg₂ (· * ·) (congrArg x ?_) (congrArg w ?_))
  · funext a
    apply Fin.ext
    match a with
    | 0 => rfl
    | 1 => show 0 + 1 * e.val = e.val; omega
  · funext a
    apply Fin.ext
    match a with
    | 0 => show 0 + 1 * e.val = e.val; omega
    | 1 => rfl

/-- A block of the whole, computed from a band of rows of the left factor and a band of columns of the right one. -/
theorem band (f : EReal → EReal) {A b C a c : Nat} (H : FVec Ideal ⟨2, ![A, b]⟩ .bf16) (W : FVec Ideal ⟨2, ![b, C]⟩ .bf16)
    (h : FVec Ideal ⟨2, ![a, b]⟩ .bf16) (w : FVec Ideal ⟨2, ![b, c]⟩ .bf16) (y : (⟨2, ![a, c]⟩ : Shape).Idx) (i : (⟨2, ![A, C]⟩ : Shape).Idx)
    (hh : ∀ e, h (ix2 (y 0) e) = H (ix2 (i 0) e)) (hw : ∀ e, w (ix2 e (y 1)) = W (ix2 e (i 1))) :
    of f h w y = of f H W i := by
  unfold of
  exact congrArg f (Finset.sum_congr rfl fun e _ => congrArg₂ (· * ·) (hh e) (hw e))

end Cert.Gate
end
-- ==== Proof.GateZ.lean ====
/- The call `gate_z`: what its array ends holding is `a · sigmoid a` at each entry `a` of the product of its two arguments. -/
module

public import proofs.«01_k».proof.Proof.Gen.KernelZIdeal.Value
public import proofs.«01_k».proof.Proof.Gen.ReferenceZIdeal.Run
public import proofs.«01_k».proof.Proof.Gate
public import proofs.«01_k».proof.Defs

@[expose] public section

set_option maxRecDepth 16384

noncomputable section

namespace Cert.GateZ

open Idealize.ShloMosaic Idealize.ShloMosaic.TcCoe Idealize.SL.Sem Cert.KernelZIdeal Cert.KernelZIdeal.Gen Cert.Gate

/-- One block of columns, entry by entry. -/
theorem part_apply (h : FVec Ideal S1024x2048 .bf16) (w : FVec Ideal S2048x256 .bf16) (r : Fin 1024) (j : Fin 256) :
    k0_pay2 (F := Ideal) h w (ix2 r j) = silu (∑ e : Fin 2048, h (ix2 r e) * w (ix2 e j)) := by
  rw [silu, ← half_tanh, ← ofBits_half]
  pointwise [k0_pay2]

/-- What one grid step leaves in its block. -/
theorem out_eq (x : FVec Ideal S1024x2048 .bf16) (w : FVec Ideal S2048x1536 .bf16) : out0_2 (F := Ideal) x w = of silu x w := by
  funext y
  unfold out0_2
  refine View.canon_apply_of_pieces (Val := Elt Ideal) (of silu x w) _ ?_ y (cover0_2 _ _ _ _ _ _ y)
  intro p hp z
  simp only [List.mem_cons, List.mem_nil_iff, or_false] at hp
  rcases hp with rfl | rfl | rfl | rfl | rfl | rfl
  · exact piece silu (k0_pay2 (F := Ideal)) part_apply x w 1280 _ _ inb_S1024x1536_S1024x256_0_1280 z
  · exact piece silu (k0_pay2 (F := Ideal)) part_apply x w 1024 _ _ inb_S1024x1536_S1024x256_0_1024 z
  · exact piece silu (k0_pay2 (F := Ideal)) part_apply x w 768 _ _ inb_S1024x1536_S1024x256_0_768 z
  · exact piece silu (k0_pay2 (F := Ideal)) part_apply x w 512 _ _ inb_S1024x1536_S1024x256_0_512 z
  · exact piece silu (k0_pay2 (F := Ideal)) part_apply x w 256 _ _ inb_S1024x1536_S1024x256_0_256 z
  · exact piece silu (k0_pay2 (F := Ideal)) part_apply x w 0 _ _ inb_S1024x1536_S1024x256_0_0 z

variable (m : (ℓ : Loc nD τ sig) → Buf (Elt Ideal) ℓ) (ρ : Dev nD → PrngReg)

theorem idx0 : ∀ t : Fin cfg0.N, win0_0.index t = ![t.val % 32, 0] := (by decide +kernel : ∀ t : Fin grid0.N, _)
theorem idx1 : ∀ t : Fin cfg0.N, win0_1.index t = ![0, t.val / 32] := (by decide +kernel : ∀ t : Fin grid0.N, _)
theorem idx2 : ∀ t : Fin cfg0.N, win0_2.index t = ![t.val % 32, t.val / 32] := (by decide +kernel : ∀ t : Fin grid0.N, _)
theorem flush2 : ∀ t : Fin cfg0.N, (cfg0.win 2).flush t = true := (by decide +kernel : ∀ t : Fin grid0.N, _)

/-- The array that the call is to leave. -/
abbrev G (c : Dev nD) : FVec Ideal S32768x3072 .bf16 :=
  of silu (a := 32768) (b := 2048) (c := 3072) (m ((c : Thread nD τ).loc main_arg0)) (m ((c : Thread nD τ).loc main_arg1))

/-- Each grid step writes back its block of it. -/
theorem flushed_eq (c : Dev nD) (t : Fin cfg0.N) (_ : (cfg0.win 2).flush t = true) :
    (dats m 0 c).flushed 2 t = ((cfg0.win 2).blk t).view.read (Elt Ideal) (G m c) := by
  rw [Value.flushed2, out_eq]
  funext y
  have e0 := idx0 t
  have e1 := idx1 t
  have e2 := idx2 t
  refine band (A := 32768) (C := 3072) silu _ _ (iblk m c 0 t) (iblk m c 1 t) y (((cfg0.win 2).blk t).view.emb y) (fun e => ?_) (fun e => ?_)
  · show m ((c : Thread nD τ).loc main_arg0) (((cfg0.win 0).blk t).view.emb (ix2 (y 0) e)) = _
    refine congrArg (m ((c : Thread nD τ).loc main_arg0)) (funext fun a => Fin.ext ?_)
    match a with
    | 0 =>
      show win0_0.index t 0 * 1024 + 1 * (y 0).val = win0_2.index t 0 * 1024 + 1 * (y 0).val
      rw [e0, e2]; rfl
    | 1 =>
      show win0_0.index t 1 * 2048 + 1 * e.val = e.val
      rw [e0]; show 0 * 2048 + 1 * e.val = e.val; omega
  · show m ((c : Thread nD τ).loc main_arg1) (((cfg0.win 1).blk t).view.emb (ix2 e (y 1))) = _
    refine congrArg (m ((c : Thread nD τ).loc main_arg1)) (funext fun a => Fin.ext ?_)
    match a with
    | 0 =>
      show win0_1.index t 0 * 2048 + 1 * e.val = e.val
      rw [e1]; show 0 * 2048 + 1 * e.val = e.val; omega
    | 1 =>
      show win0_1.index t 1 * 1536 + 1 * (y 1).val = win0_2.index t 1 * 1536 + 1 * (y 1).val
      rw [e1, e2]; rfl

/-- The blocks cover the array. -/
theorem covered (i : S32768x3072.Idx) : ∃ t : Fin cfg0.N, (cfg0.win 2).flush t = true ∧ i ∈ ((cfg0.win 2).blk t).view.set := by
  have h0 : (i 0).val < 32768 := (i 0).isLt
  have h1 : (i 1).val < 3072 := (i 1).isLt
  let t : Fin cfg0.N := ⟨(i 1).val / 1536 * 32 + (i 0).val / 1024, lt_of_lt_of_eq (by omega) N_0.symm⟩
  have e2 := idx2 t
  refine ⟨t, flush2 t, ?_⟩
  show i ∈ ((View.whole main_v0).slice (win0_2.rect t)).set
  rw [View.set_slice_whole, Rect.mem_set_unit]
  have ht : t.val = (i 1).val / 1536 * 32 + (i 0).val / 1024 := rfl
  intro a
  match a with
  | 0 =>
    show win0_2.index t 0 * 1024 ≤ (i 0).val ∧ (i 0).val < win0_2.index t 0 * 1024 + 1024
    rw [e2]; show t.val % 32 * 1024 ≤ (i 0).val ∧ (i 0).val < t.val % 32 * 1024 + 1024; omega
  | 1 =>
    show win0_2.index t 1 * 1536 ≤ (i 1).val ∧ (i 1).val < win0_2.index t 1 * 1536 + 1536
    rw [e2]; show t.val / 32 * 1536 ≤ (i 1).val ∧ (i 1).val < t.val / 32 * 1536 + 1536; omega

/-- The array that the call leaves. -/
theorem final (c : Dev nD) : (dats m 0 c).arrAt 2 cfg0.N = G m c :=
  (dats m 0 c).arrAt_eq_of_cover 2 _ (flushed_eq m c) covered

/-- The reference's result as a function of its arguments. -/
def ref (h : FVec Ideal S32768x2048 .bf16) (w : FVec Ideal S2048x3072 .bf16) : FVec Ideal S32768x3072 .bf16 :=
  let a := Host.dotGeneral Cert.ReferenceZIdeal.dot_S32768x2048_S2048x3072_S32768x3072_1_0_0_1_n_n none (extf .f32 h bitsLt_bf16_f32) (extf .f32 w bitsLt_bf16_f32)
  truncf .bf16 (mulf a (Host.divf (broadcastInDim S32768x3072 ![] Cert.ReferenceZIdeal.Gen.bcast_S_S32768x3072 (constant ⟨0, ![]⟩ .f32 0x3F800000#32)) (addf (broadcastInDim S32768x3072 ![] Cert.ReferenceZIdeal.Gen.bcast_S_S32768x3072 (constant ⟨0, ![]⟩ .f32 0x3F800000#32)) (Host.exp (Host.negf a))))) bitsLt_bf16_f32

theorem ref_eq (h : FVec Ideal S32768x2048 .bf16) (w : FVec Ideal S2048x3072 .bf16) :
    of silu (a := 32768) (b := 2048) (c := 3072) h w = ref h w := by
  funext i
  obtain ⟨r, j, rfl⟩ : ∃ (r : Fin 32768) (j : Fin 3072), i = ix2 r j := ⟨i 0, i 1, funext fun a => by match a with
    | 0 => rfl
    | 1 => rfl⟩
  symm
  unfold of silu Ideal.logistic
  rw [← ofBits_one32]
  pointwise [ref]

/-- Call and reference leave equal arrays. -/
theorem value : Cert.algebraic_KernelZIdeal_ReferenceZIdeal (hKernelZIdeal := Cert.KernelZIdeal.Gen.facts)
    (hReferenceZIdeal := Cert.ReferenceZIdeal.Gen.facts) := by
  intro m g m' g' _ hargs
  refine ⟨fun c => G m c, (θ_run _ _ _).mono (fun r h c => ⟨(h c).1.trans (final m c), (h c).2⟩) (Value.run_blocks m g), ?_⟩
  refine (θ_run Cert.ReferenceZIdeal.defs _ _).mono (fun r h c => ⟨(h c).1.trans ?_, (h c).2⟩) (Cert.ReferenceZIdeal.Value.run m' g')
  obtain ⟨e0, e1⟩ := hargs c
  rw [e0, e1]
  exact (ref_eq _ _).symm

end Cert.GateZ
end
-- ==== Proof.GateG.lean ====
/- The call `gate_g`: what its array ends holding is the sigmoid of the product of its two arguments. -/
module

public import proofs.«01_k».proof.Proof.Gen.KernelGIdeal.Value
public import proofs.«01_k».proof.Proof.Gen.ReferenceGIdeal.Run
public import proofs.«01_k».proof.Proof.Gate
public import proofs.«01_k».proof.Defs

@[expose] public section

set_option maxRecDepth 16384

noncomputable section

namespace Cert.GateG

open Idealize.ShloMosaic Idealize.ShloMosaic.TcCoe Idealize.SL.Sem Cert.KernelGIdeal Cert.KernelGIdeal.Gen Cert.Gate

/-- One block of columns, entry by entry. -/
theorem part_apply (h : FVec Ideal S1024x2048 .bf16) (w : FVec Ideal S2048x256 .bf16) (r : Fin 1024) (j : Fin 256) :
    k0_pay2 (F := Ideal) h w (ix2 r j) = Ideal.logistic (∑ e : Fin 2048, h (ix2 r e) * w (ix2 e j)) := by
  rw [← half_tanh, ← ofBits_half]
  pointwise [k0_pay2]

/-- What one grid step leaves in its block. -/
theorem out_eq (x : FVec Ideal S1024x2048 .bf16) (w : FVec Ideal S2048x1536 .bf16) : out0_2 (F := Ideal) x w = of Ideal.logistic x w := by
  funext y
  unfold out0_2
  refine View.canon_apply_of_pieces (Val := Elt Ideal) (of Ideal.logistic x w) _ ?_ y (cover0_2 _ _ _ _ _ _ y)
  intro p hp z
  simp only [List.mem_cons, List.mem_nil_iff, or_false] at hp
  rcases hp with rfl | rfl | rfl | rfl | rfl | rfl
  · exact piece Ideal.logistic (k0_pay2 (F := Ideal)) part_apply x w 1280 _ _ inb_S1024x1536_S1024x256_0_1280 z
  · exact piece Ideal.logistic (k0_pay2 (F := Ideal)) part_apply x w 1024 _ _ inb_S1024x1536_S1024x256_0_1024 z
  · exact piece Ideal.logistic (k0_pay2 (F := Ideal)) part_apply x w 768 _ _ inb_S1024x1536_S1024x256_0_768 z
  · exact piece Ideal.logistic (k0_pay2 (F := Ideal)) part_apply x w 512 _ _ inb_S1024x1536_S1024x256_0_512 z
  · exact piece Ideal.logistic (k0_pay2 (F := Ideal)) part_apply x w 256 _ _ inb_S1024x1536_S1024x256_0_256 z
  · exact piece Ideal.logistic (k0_pay2 (F := Ideal)) part_apply x w 0 _ _ inb_S1024x1536_S1024x256_0_0 z

variable (m : (ℓ : Loc nD τ sig) → Buf (Elt Ideal) ℓ) (ρ : Dev nD → PrngReg)

theorem idx0 : ∀ t : Fin cfg0.N, win0_0.index t = ![t.val % 32, 0] := (by decide +kernel : ∀ t : Fin grid0.N, _)
theorem idx1 : ∀ t : Fin cfg0.N, win0_1.index t = ![0, t.val / 32] := (by decide +kernel : ∀ t : Fin grid0.N, _)
theorem idx2 : ∀ t : Fin cfg0.N, win0_2.index t = ![t.val % 32, t.val / 32] := (by decide +kernel : ∀ t : Fin grid0.N, _)
theorem flush2 : ∀ t : Fin cfg0.N, (cfg0.win 2).flush t = true := (by decide +kernel : ∀ t : Fin grid0.N, _)

/-- The array that the call is to leave. -/
abbrev G (c : Dev nD) : FVec Ideal S32768x6144 .bf16 :=
  of Ideal.logistic (a := 32768) (b := 2048) (c := 6144) (m ((c : Thread nD τ).loc main_arg0)) (m ((c : Thread nD τ).loc main_arg1))

/-- Each grid step writes back its block of it. -/
theorem flushed_eq (c : Dev nD) (t : Fin cfg0.N) (_ : (cfg0.win 2).flush t = true) :
    (dats m 0 c).flushed 2 t = ((cfg0.win 2).blk t).view.read (Elt Ideal) (G m c) := by
  rw [Value.flushed2, out_eq]
  funext y
  have e0 := idx0 t
  have e1 := idx1 t
  have e2 := idx2 t
  refine band (A := 32768) (C := 6144) Ideal.logistic _ _ (iblk m c 0 t) (iblk m c 1 t) y (((cfg0.win 2).blk t).view.emb y) (fun e => ?_) (fun e => ?_)
  · show m ((c : Thread nD τ).loc main_arg0) (((cfg0.win 0).blk t).view.emb (ix2 (y 0) e)) = _
    refine congrArg (m ((c : Thread nD τ).loc main_arg0)) (funext fun a => Fin.ext ?_)
    match a with
    | 0 =>
      show win0_0.index t 0 * 1024 + 1 * (y 0).val = win0_2.index t 0 * 1024 + 1 * (y 0).val
      rw [e0, e2]; rfl
    | 1 =>
      show win0_0.index t 1 * 2048 + 1 * e.val = e.val
      rw [e0]; show 0 * 2048 + 1 * e.val = e.val; omega
  · show m ((c : Thread nD τ).loc main_arg1) (((cfg0.win 1).blk t).view.emb (ix2 e (y 1))) = _
    refine congrArg (m ((c : Thread nD τ).loc main_arg1)) (funext fun a => Fin.ext ?_)
    match a with
    | 0 =>
      show win0_1.index t 0 * 2048 + 1 * e.val = e.val
      rw [e1]; show 0 * 2048 + 1 * e.val = e.val; omega
    | 1 =>
      show win0_1.index t 1 * 1536 + 1 * (y 1).val = win0_2.index t 1 * 1536 + 1 * (y 1).val
      rw [e1, e2]; rfl

/-- The blocks cover the array. -/
theorem covered (i : S32768x6144.Idx) : ∃ t : Fin cfg0.N, (cfg0.win 2).flush t = true ∧ i ∈ ((cfg0.win 2).blk t).view.set := by
  have h0 : (i 0).val < 32768 := (i 0).isLt
  have h1 : (i 1).val < 6144 := (i 1).isLt
  let t : Fin cfg0.N := ⟨(i 1).val / 1536 * 32 + (i 0).val / 1024, lt_of_lt_of_eq (by omega) N_0.symm⟩
  have e2 := idx2 t
  refine ⟨t, flush2 t, ?_⟩
  show i ∈ ((View.whole main_v0).slice (win0_2.rect t)).set
  rw [View.set_slice_whole, Rect.mem_set_unit]
  have ht : t.val = (i 1).val / 1536 * 32 + (i 0).val / 1024 := rfl
  intro a
  match a with
  | 0 =>
    show win0_2.index t 0 * 1024 ≤ (i 0).val ∧ (i 0).val < win0_2.index t 0 * 1024 + 1024
    rw [e2]; show t.val % 32 * 1024 ≤ (i 0).val ∧ (i 0).val < t.val % 32 * 1024 + 1024; omega
  | 1 =>
    show win0_2.index t 1 * 1536 ≤ (i 1).val ∧ (i 1).val < win0_2.index t 1 * 1536 + 1536
    rw [e2]; show t.val / 32 * 1536 ≤ (i 1).val ∧ (i 1).val < t.val / 32 * 1536 + 1536; omega

/-- The array that the call leaves. -/
theorem final (c : Dev nD) : (dats m 0 c).arrAt 2 cfg0.N = G m c :=
  (dats m 0 c).arrAt_eq_of_cover 2 _ (flushed_eq m c) covered

/-- The reference's result as a function of its arguments. -/
def ref (h : FVec Ideal S32768x2048 .bf16) (w : FVec Ideal S2048x6144 .bf16) : FVec Ideal S32768x6144 .bf16 :=
  let a := Host.dotGeneral Cert.ReferenceGIdeal.dot_S32768x2048_S2048x6144_S32768x6144_1_0_0_1_n_n none (extf .f32 h bitsLt_bf16_f32) (extf .f32 w bitsLt_bf16_f32)
  truncf .bf16 (Host.divf (broadcastInDim S32768x6144 ![] Cert.ReferenceGIdeal.Gen.bcast_S_S32768x6144 (constant ⟨0, ![]⟩ .f32 0x3F800000#32)) (addf (broadcastInDim S32768x6144 ![] Cert.ReferenceGIdeal.Gen.bcast_S_S32768x6144 (constant ⟨0, ![]⟩ .f32 0x3F800000#32)) (Host.exp (Host.negf a)))) bitsLt_bf16_f32

theorem ref_eq (h : FVec Ideal S32768x2048 .bf16) (w : FVec Ideal S2048x6144 .bf16) :
    of Ideal.logistic (a := 32768) (b := 2048) (c := 6144) h w = ref h w := by
  funext i
  obtain ⟨r, j, rfl⟩ : ∃ (r : Fin 32768) (j : Fin 6144), i = ix2 r j := ⟨i 0, i 1, funext fun a => by match a with
    | 0 => rfl
    | 1 => rfl⟩
  symm
  unfold of Ideal.logistic
  rw [← ofBits_one32]
  pointwise [ref]

/-- Call and reference leave equal arrays. -/
theorem value : Cert.algebraic_KernelGIdeal_ReferenceGIdeal (hKernelGIdeal := Cert.KernelGIdeal.Gen.facts)
    (hReferenceGIdeal := Cert.ReferenceGIdeal.Gen.facts) := by
  intro m g m' g' _ hargs
  refine ⟨fun c => G m c, (θ_run _ _ _).mono (fun r h c => ⟨(h c).1.trans (final m c), (h c).2⟩) (Value.run_blocks m g), ?_⟩
  refine (θ_run Cert.ReferenceGIdeal.defs _ _).mono (fun r h c => ⟨(h c).1.trans ?_, (h c).2⟩) (Cert.ReferenceGIdeal.Value.run m' g')
  obtain ⟨e0, e1⟩ := hargs c
  rw [e0, e1]
  exact (ref_eq _ _).symm

end Cert.GateG
end
-- ==== Proof.Merge.lean ====
/- The call `merge`: the three branches' projections, each weighted by its gate, summed. -/
module

public import proofs.«01_k».proof.Defs
public import proofs.«01_k».proof.Proof.Gen.KernelMIdeal.Value
public import proofs.«01_k».proof.Proof.Gen.ReferenceMIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.Merge

open Idealize.ShloMosaic Idealize.ShloMosaic.TcCoe Idealize.SL.Sem Cert.KernelMIdeal Cert.KernelMIdeal.Gen

/-- Branch `n`'s share of one entry: its gate times its projection. -/
def part {a : Nat} (o : FVec Ideal ⟨2, ![a, 1024]⟩ .bf16) (s : FVec Ideal ⟨2, ![a, 6144]⟩ .bf16) (w : FVec Ideal ⟨3, ![3, 1024, 2048]⟩ .bf16)
    (n : Fin 3) (r : Fin a) (j : Fin 2048) : EReal :=
  s (ix2 r ⟨2048 * n.val + j.val, by omega⟩) * ∑ e : Fin 1024, o (ix2 r e) * w (ix3 n e j)

/-- The merged branches. -/
def of {a : Nat} (oa ob oc : FVec Ideal ⟨2, ![a, 1024]⟩ .bf16) (s : FVec Ideal ⟨2, ![a, 6144]⟩ .bf16) (w : FVec Ideal ⟨3, ![3, 1024, 2048]⟩ .bf16) :
    FVec Ideal ⟨2, ![a, 2048]⟩ .bf16 :=
  fun i => part oa s w 0 (i 0) (i 1) + part ob s w 1 (i 0) (i 1) + part oc s w 2 (i 0) (i 1)

theorem pay_apply (x0 x1 x2 : FVec Ideal S512x1024 .bf16) (w0 w1 w2 : FVec Ideal S1x1024x2048 .bf16) (s0 s1 s2 : FVec Ideal S512x2048 .bf16)
    (r : Fin 512) (j : Fin 2048) :
    k0_pay1 (F := Ideal) x0 w0 s0 x1 w1 s1 x2 w2 s2 (ix2 r j)
      = s0 (ix2 r j) * (∑ e : Fin 1024, x0 (ix2 r e) * w0 (ix3 0 e j)) + s1 (ix2 r j) * (∑ e : Fin 1024, x1 (ix2 r e) * w1 (ix3 0 e j))
        + s2 (ix2 r j) * (∑ e : Fin 1024, x2 (ix2 r e) * w2 (ix3 0 e j)) := by
  pointwise [k0_pay1]

/-- The reference's gates, by branch. -/
def refS (s : FVec Ideal Cert.ReferenceMIdeal.S32768x6144 .bf16) : FVec Ideal Cert.ReferenceMIdeal.S32768x3x2048 .f32 :=
  shapeCast _ (extf .f32 s Cert.ReferenceMIdeal.Gen.bitsLt_bf16_f32) Cert.ReferenceMIdeal.Gen.shapeCasts_S32768x6144_S32768x3x2048

/-- The reference's branches, stacked. -/
def refC (oa ob oc : FVec Ideal S32768x1024 .bf16) : FVec Ideal Cert.ReferenceMIdeal.S3x32768x1024 .bf16 :=
  concatenate Cert.ReferenceMIdeal.S3x32768x1024 0 [⟨Cert.ReferenceMIdeal.S1x32768x1024, broadcastInDim Cert.ReferenceMIdeal.S1x32768x1024 ![1, 2] Cert.ReferenceMIdeal.Gen.bcast_S32768x1024_S1x32768x1024_1_2 oa⟩,
    ⟨Cert.ReferenceMIdeal.S1x32768x1024, broadcastInDim Cert.ReferenceMIdeal.S1x32768x1024 ![1, 2] Cert.ReferenceMIdeal.Gen.bcast_S32768x1024_S1x32768x1024_1_2 ob⟩,
    ⟨Cert.ReferenceMIdeal.S1x32768x1024, broadcastInDim Cert.ReferenceMIdeal.S1x32768x1024 ![1, 2] Cert.ReferenceMIdeal.Gen.bcast_S32768x1024_S1x32768x1024_1_2 oc⟩]
    Cert.ReferenceMIdeal.Gen.concatenates_S1x32768x1024_S1x32768x1024_S1x32768x1024_S3x32768x1024_d0

/-- The reference's projections. -/
def refP (b : FVec Ideal Cert.ReferenceMIdeal.S3x32768x1024 .bf16) (w : FVec Ideal S3x1024x2048 .bf16) : FVec Ideal Cert.ReferenceMIdeal.S32768x3x2048 .f32 :=
  transpose Cert.ReferenceMIdeal.S32768x3x2048 [2, 0, 1] (Host.dotGeneral Cert.ReferenceMIdeal.dot_S3x1024x2048_S3x32768x1024_S3x2048x32768_1_2_2_1_0_0 none
    (extf .f32 w Cert.ReferenceMIdeal.Gen.bitsLt_bf16_f32) (extf .f32 b Cert.ReferenceMIdeal.Gen.bitsLt_bf16_f32)) Cert.ReferenceMIdeal.Gen.transposes_S3x2048x32768_S32768x3x2048_2_0_1

/-- The reference's sum over the branches. -/
def refT (s p : FVec Ideal Cert.ReferenceMIdeal.S32768x3x2048 .f32) : FVec Ideal S32768x2048 .bf16 :=
  truncf .bf16 (Host.reduceAdd (mulf s p) (constant Cert.ReferenceMIdeal.S_ .f32 0x00000000#32) Cert.ReferenceMIdeal.Gen.reducesTo_S32768x3x2048_S32768x2048_d1 Cert.ReferenceMIdeal.Gen.h_S_) Cert.ReferenceMIdeal.Gen.bitsLt_bf16_f32

theorem refS_apply (s : FVec Ideal S32768x6144 .bf16) (r : Fin 32768) (n : Fin 3) (j : Fin 2048) :
    refS s (ix3 r n j) = s (ix2 r ⟨2048 * n.val + j.val, by omega⟩) := by
  unfold refS
  refine shapeCast_apply _ _ _ (ix2 r ⟨2048 * n.val + j.val, by omega⟩) ?_
  refine (Shape.rowMajor_val_two _).trans ((Shape.rowMajor_val_three _).trans ?_).symm
  show (r.val * 3 + n.val) * 2048 + j.val = r.val * 6144 + (2048 * n.val + j.val)
  omega

theorem refC_apply0 (oa ob oc : FVec Ideal S32768x1024 .bf16) (r : Fin 32768) (e : Fin 1024) : refC oa ob oc (ix3 0 r e) = oa (ix2 r e) := by
  pointwise [refC]
theorem refC_apply1 (oa ob oc : FVec Ideal S32768x1024 .bf16) (r : Fin 32768) (e : Fin 1024) : refC oa ob oc (ix3 1 r e) = ob (ix2 r e) := by
  pointwise [refC]
theorem refC_apply2 (oa ob oc : FVec Ideal S32768x1024 .bf16) (r : Fin 32768) (e : Fin 1024) : refC oa ob oc (ix3 2 r e) = oc (ix2 r e) := by
  pointwise [refC]

theorem refP_apply (b : FVec Ideal Cert.ReferenceMIdeal.S3x32768x1024 .bf16) (w : FVec Ideal S3x1024x2048 .bf16) (r : Fin 32768) (n : Fin 3) (j : Fin 2048) :
    refP b w (ix3 r n j) = ∑ e : Fin 1024, w (ix3 n e j) * b (ix3 n r e) := by
  pointwise [refP]

theorem refT_apply (s p : FVec Ideal Cert.ReferenceMIdeal.S32768x3x2048 .f32) (r : Fin 32768) (j : Fin 2048) :
    refT s p (ix2 r j) = ∑ n : Fin 3, s (ix3 r n j) * p (ix3 r n j) := by
  pointwise [refT]

theorem ref_eq (oa ob oc : FVec Ideal S32768x1024 .bf16) (s : FVec Ideal S32768x6144 .bf16) (w : FVec Ideal S3x1024x2048 .bf16) :
    of (a := 32768) oa ob oc s w = refT (refS s) (refP (refC oa ob oc) w) := by
  funext i
  obtain ⟨r, j, rfl⟩ : ∃ (r : Fin 32768) (j : Fin 2048), i = ix2 r j := ⟨i 0, i 1, funext fun a => by match a with
    | 0 => rfl
    | 1 => rfl⟩
  rw [refT_apply, Fin.sum_univ_three]
  simp only [refS_apply, refP_apply, refC_apply0, refC_apply1, refC_apply2, mul_comm (w _)]
  rfl

/-- One branch's share of a block, from what the body loads. -/
theorem part_ld (o : FVec Ideal S512x1024 .bf16) (s : FVec Ideal S512x6144 .bf16) (w : FVec Ideal S3x1024x2048 .bf16) (n : Fin 3)
    (i0 : ∀ a, (![0, 0] : Fin 2 → Nat) a + ![512, 1024] a ≤ S512x1024.size a)
    (i1 : ∀ a, (![n.val, 0, 0] : Fin 3 → Nat) a + ![1, 1024, 2048] a ≤ S3x1024x2048.size a)
    (i2 : ∀ a, (![0, 2048 * n.val] : Fin 2 → Nat) a + ![512, 2048] a ≤ S512x6144.size a) (r : Fin 512) (j : Fin 2048) :
    View.ld (Val := Elt Ideal) (e' := .bf16) s (Rect.unit (s := S512x6144) ![0, 2048 * n.val] ![512, 2048] i2) (ix2 r j)
        * (∑ e : Fin 1024, View.ld (Val := Elt Ideal) (e' := .bf16) o (Rect.unit (s := S512x1024) ![0, 0] ![512, 1024] i0) (ix2 r e)
          * View.ld (Val := Elt Ideal) (e' := .bf16) w (Rect.unit (s := S3x1024x2048) ![n.val, 0, 0] ![1, 1024, 2048] i1) (ix3 0 e j))
      = part o s w n r j := by
  unfold part
  refine congrArg₂ (· * ·) (congrArg s ?_) (Finset.sum_congr rfl fun e _ => congrArg₂ (· * ·) (congrArg o ?_) (congrArg w ?_))
  · funext a
    apply Fin.ext
    match a with
    | 0 => show 0 + 1 * r.val = r.val; omega
    | 1 => show 2048 * n.val + 1 * j.val = 2048 * n.val + j.val; omega
  · funext a
    apply Fin.ext
    match a with
    | 0 => show 0 + 1 * r.val = r.val; omega
    | 1 => show 0 + 1 * e.val = e.val; omega
  · funext a
    apply Fin.ext
    match a with
    | 0 => show n.val + 1 * 0 = n.val; omega
    | 1 => show 0 + 1 * e.val = e.val; omega
    | 2 => show 0 + 1 * j.val = j.val; omega

/-- What one grid step leaves in its block. -/
theorem out_eq (oa ob oc : FVec Ideal S512x1024 .bf16) (s : FVec Ideal S512x6144 .bf16) (w : FVec Ideal S3x1024x2048 .bf16) :
    out0_5 (F := Ideal) oa ob oc s w = of (a := 512) oa ob oc s w := by
  unfold out0_5
  rw [View.canon_unit_zero (by funext a; match a with | 0 => rfl | 1 => rfl)]
  funext i
  obtain ⟨r, j, rfl⟩ : ∃ (r : Fin 512) (j : Fin 2048), i = ix2 r j := ⟨i 0, i 1, funext fun a => by match a with
    | 0 => rfl
    | 1 => rfl⟩
  refine (pay_apply _ _ _ _ _ _ _ _ _ r j).trans ?_
  exact congrArg₂ (· + ·) (congrArg₂ (· + ·)
    (part_ld oa s w 0 inb_S512x1024_S512x1024_0_0 inb_S3x1024x2048_S1x1024x2048_0_0_0 inb_S512x6144_S512x2048_0_0 r j)
    (part_ld ob s w 1 inb_S512x1024_S512x1024_0_0 inb_S3x1024x2048_S1x1024x2048_1_0_0 inb_S512x6144_S512x2048_0_2048 r j))
    (part_ld oc s w 2 inb_S512x1024_S512x1024_0_0 inb_S3x1024x2048_S1x1024x2048_2_0_0 inb_S512x6144_S512x2048_0_4096 r j)

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val, 0] := (by decide +kernel : ∀ t : Fin grid0.N, _)
theorem flush5 : ∀ t : Fin cfg0.N, (cfg0.win 5).flush t = true := (by decide +kernel : ∀ t : Fin grid0.N, _)

/-- The array that the call is to leave. -/
abbrev G (c : Dev nD) : FVec Ideal S32768x2048 .bf16 :=
  of (a := 32768) (m ((c : Thread nD τ).loc main_arg0)) (m ((c : Thread nD τ).loc main_arg1)) (m ((c : Thread nD τ).loc main_arg2)) (m ((c : Thread nD τ).loc main_arg3)) (m ((c : Thread nD τ).loc main_arg4))

/-- A branch's share at a row of a band, computed from the same row of the tall arguments. -/
theorem part_band {A a : Nat} (O : FVec Ideal ⟨2, ![A, 1024]⟩ .bf16) (S : FVec Ideal ⟨2, ![A, 6144]⟩ .bf16) (W : FVec Ideal ⟨3, ![3, 1024, 2048]⟩ .bf16)
    (o : FVec Ideal ⟨2, ![a, 1024]⟩ .bf16) (s : FVec Ideal ⟨2, ![a, 6144]⟩ .bf16) (w : FVec Ideal ⟨3, ![3, 1024, 2048]⟩ .bf16) (n : Fin 3) (r : Fin a) (R : Fin A) (j J : Fin 2048)
    (hj : j = J) (ho : ∀ e, o (ix2 r e) = O (ix2 R e)) (hs : ∀ e, s (ix2 r e) = S (ix2 R e)) (hw : ∀ n e j, w (ix3 n e j) = W (ix3 n e j)) :
    part o s w n r j = part O S W n R J := by
  unfold part
  simp only [ho, hs, hw, hj]

/-- Each grid step writes back its block of it. -/
theorem flushed_eq (c : Dev nD) (t : Fin cfg0.N) (_ : (cfg0.win 5).flush t = true) :
    (dats m 0 c).flushed 5 t = ((cfg0.win 5).blk t).view.read (Elt Ideal) (G m c) := by
  rw [Value.flushed5, out_eq]
  funext y
  have e0 := idx0 t
  have e1 := idx1 t
  have e2 := idx2 t
  have e3 := idx3 t
  have e4 := idx4 t
  have e5 := idx5 t
  have hj : y 1 = (((cfg0.win 5).blk t).view.emb y) 1 := Fin.ext (by
    show (y 1).val = win0_5.index t 1 * 2048 + 1 * (y 1).val
    rw [e5]; show (y 1).val = 0 * 2048 + 1 * (y 1).val; omega)
  have ha : ∀ e : Fin 1024, iblk m c 0 t (ix2 (y 0) e) = m ((c : Thread nD τ).loc main_arg0) (ix2 ((((cfg0.win 5).blk t).view.emb y) 0) e) := fun e => by
    show m ((c : Thread nD τ).loc main_arg0) (((cfg0.win 0).blk t).view.emb (ix2 (y 0) e)) = _
    refine congrArg (m ((c : Thread nD τ).loc main_arg0)) (funext fun a => Fin.ext ?_)
    match a with
    | 0 =>
      show win0_0.index t 0 * 512 + 1 * (y 0).val = win0_5.index t 0 * 512 + 1 * (y 0).val
      rw [e0, e5]
    | 1 =>
      show win0_0.index t 1 * 1024 + 1 * e.val = e.val
      rw [e0]; show 0 * 1024 + 1 * e.val = e.val; omega
  have hb : ∀ e : Fin 1024, iblk m c 1 t (ix2 (y 0) e) = m ((c : Thread nD τ).loc main_arg1) (ix2 ((((cfg0.win 5).blk t).view.emb y) 0) e) := fun e => by
    show m ((c : Thread nD τ).loc main_arg1) (((cfg0.win 1).blk t).view.emb (ix2 (y 0) e)) = _
    refine congrArg (m ((c : Thread nD τ).loc main_arg1)) (funext fun a => Fin.ext ?_)
    match a with
    | 0 =>
      show win0_1.index t 0 * 512 + 1 * (y 0).val = win0_5.index t 0 * 512 + 1 * (y 0).val
      rw [e1, e5]
    | 1 =>
      show win0_1.index t 1 * 1024 + 1 * e.val = e.val
      rw [e1]; show 0 * 1024 + 1 * e.val = e.val; omega
  have hc : ∀ e : Fin 1024, iblk m c 2 t (ix2 (y 0) e) = m ((c : Thread nD τ).loc main_arg2) (ix2 ((((cfg0.win 5).blk t).view.emb y) 0) e) := fun e => by
    show m ((c : Thread nD τ).loc main_arg2) (((cfg0.win 2).blk t).view.emb (ix2 (y 0) e)) = _
    refine congrArg (m ((c : Thread nD τ).loc main_arg2)) (funext fun a => Fin.ext ?_)
    match a with
    | 0 =>
      show win0_2.index t 0 * 512 + 1 * (y 0).val = win0_5.index t 0 * 512 + 1 * (y 0).val
      rw [e2, e5]
    | 1 =>
      show win0_2.index t 1 * 1024 + 1 * e.val = e.val
      rw [e2]; show 0 * 1024 + 1 * e.val = e.val; omega
  have hs : ∀ e : Fin 6144, iblk m c 3 t (ix2 (y 0) e) = m ((c : Thread nD τ).loc main_arg3) (ix2 ((((cfg0.win 5).blk t).view.emb y) 0) e) := fun e => by
    show m ((c : Thread nD τ).loc main_arg3) (((cfg0.win 3).blk t).view.emb (ix2 (y 0) e)) = _
    refine congrArg (m ((c : Thread nD τ).loc main_arg3)) (funext fun a => Fin.ext ?_)
    match a with
    | 0 =>
      show win0_3.index t 0 * 512 + 1 * (y 0).val = win0_5.index t 0 * 512 + 1 * (y 0).val
      rw [e3, e5]
    | 1 =>
      show win0_3.index t 1 * 6144 + 1 * e.val = e.val
      rw [e3]; show 0 * 6144 + 1 * e.val = e.val; omega
  have hw : ∀ (n : Fin 3) (e : Fin 1024) (j : Fin 2048), iblk m c 4 t (ix3 n e j) = m ((c : Thread nD τ).loc main_arg4) (ix3 n e j) := fun n e j => by
    show m ((c : Thread nD τ).loc main_arg4) (((cfg0.win 4).blk t).view.emb (ix3 n e j)) = _
    refine congrArg (m ((c : Thread nD τ).loc main_arg4)) (funext fun a => Fin.ext ?_)
    match a with
    | 0 =>
      show win0_4.index t 0 * 3 + 1 * n.val = n.val
      rw [e4]; show 0 * 3 + 1 * n.val = n.val; omega
    | 1 =>
      show win0_4.index t 1 * 1024 + 1 * e.val = e.val
      rw [e4]; show 0 * 1024 + 1 * e.val = e.val; omega
    | 2 =>
      show win0_4.index t 2 * 2048 + 1 * j.val = j.val
      rw [e4]; show 0 * 2048 + 1 * j.val = j.val; omega
  exact congrArg₂ (· + ·) (congrArg₂ (· + ·)
    (part_band (A := 32768) (a := 512) (m ((c : Thread nD τ).loc main_arg0)) (m ((c : Thread nD τ).loc main_arg3)) (m ((c : Thread nD τ).loc main_arg4)) (iblk m c 0 t) (iblk m c 3 t) (iblk m c 4 t) 0 _ _ _ _ hj ha hs hw)
    (part_band (A := 32768) (a := 512) (m ((c : Thread nD τ).loc main_arg1)) (m ((c : Thread nD τ).loc main_arg3)) (m ((c : Thread nD τ).loc main_arg4)) (iblk m c 1 t) (iblk m c 3 t) (iblk m c 4 t) 1 _ _ _ _ hj hb hs hw))
    (part_band (A := 32768) (a := 512) (m ((c : Thread nD τ).loc main_arg2)) (m ((c : Thread nD τ).loc main_arg3)) (m ((c : Thread nD τ).loc main_arg4)) (iblk m c 2 t) (iblk m c 3 t) (iblk m c 4 t) 2 _ _ _ _ hj hc hs hw)

/-- The blocks cover the array. -/
theorem covered (i : S32768x2048.Idx) : ∃ t : Fin cfg0.N, (cfg0.win 5).flush t = true ∧ i ∈ ((cfg0.win 5).blk t).view.set := by
  have h0 : (i 0).val < 32768 := (i 0).isLt
  have h1 : (i 1).val < 2048 := (i 1).isLt
  let t : Fin cfg0.N := ⟨(i 0).val / 512, lt_of_lt_of_eq (by omega) N_0.symm⟩
  have e5 := idx5 t
  refine ⟨t, flush5 t, ?_⟩
  show i ∈ ((View.whole main_v0).slice (win0_5.rect t)).set
  rw [View.set_slice_whole, Rect.mem_set_unit]
  have ht : t.val = (i 0).val / 512 := rfl
  intro a
  match a with
  | 0 =>
    show win0_5.index t 0 * 512 ≤ (i 0).val ∧ (i 0).val < win0_5.index t 0 * 512 + 512
    rw [e5]; show t.val * 512 ≤ (i 0).val ∧ (i 0).val < t.val * 512 + 512; omega
  | 1 =>
    show win0_5.index t 1 * 2048 ≤ (i 1).val ∧ (i 1).val < win0_5.index t 1 * 2048 + 2048
    rw [e5]; show 0 * 2048 ≤ (i 1).val ∧ (i 1).val < 0 * 2048 + 2048; omega

/-- The array that the call leaves. -/
theorem final (c : Dev nD) : (dats m 0 c).arrAt 5 cfg0.N = G m c :=
  (dats m 0 c).arrAt_eq_of_cover 5 _ (flushed_eq m c) covered

/-- Call and reference leave equal arrays. -/
theorem value : Cert.algebraic_KernelMIdeal_ReferenceMIdeal (hKernelMIdeal := Cert.KernelMIdeal.Gen.facts)
    (hReferenceMIdeal := Cert.ReferenceMIdeal.Gen.facts) := by
  intro m g m' g' _ hargs
  refine ⟨fun c => G m c, (θ_run _ _ _).mono (fun r h c => ⟨(h c).1.trans (final m c), (h c).2⟩) (Value.run_blocks m g), ?_⟩
  refine (θ_run Cert.ReferenceMIdeal.defs _ _).mono (fun r h c => ⟨(h c).1.trans ?_, (h c).2⟩) (Cert.ReferenceMIdeal.Value.run m' g')
  obtain ⟨e0, e1, e2, e3, e4⟩ := hargs c
  rw [e0, e1, e2, e3, e4]
  exact (ref_eq _ _ _ _ _).symm

end Cert.Merge
end
-- ==== Proof.OutProj.lean ====
/- The call `out_proj`: the residual plus the merged branches' projection, normalised row by row. -/
module

public import proofs.«01_k».proof.Defs
public import proofs.«01_k».proof.Proof.Gen.KernelOIdeal.Value
public import proofs.«01_k».proof.Proof.Gen.ReferenceOIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.OutProj

open Idealize.ShloMosaic Idealize.ShloMosaic.TcCoe Idealize.SL.Sem Cert.KernelOIdeal Cert.KernelOIdeal.Gen

/-- One entry of the residual plus the projection. -/
def pre {a : Nat} (mg : FVec Ideal ⟨2, ![a, 2048]⟩ .bf16) (x : FVec Ideal ⟨2, ![a, 2048]⟩ .f32) (w : FVec Ideal ⟨2, ![2048, 2048]⟩ .bf16)
    (r : Fin a) (j : Fin 2048) : EReal := x (ix2 r j) + ∑ e : Fin 2048, mg (ix2 r e) * w (ix2 e j)

/-- One entry of a row divided by its root mean square and multiplied by a gain. -/
def normed (y : Fin 2048 → EReal) (g : Fin 2048 → EReal) (j : Fin 2048) : EReal :=
  y j * Ideal.rsqrt (Ideal.div (∑ k : Fin 2048, y k * y k) (Ideal.ofBits .f32 0x45000000#32) + Ideal.ofBits .f32 0x358637BD#32) * g j

/-- All rows. -/
def rows {a : Nat} (mg : FVec Ideal ⟨2, ![a, 2048]⟩ .bf16) (x : FVec Ideal ⟨2, ![a, 2048]⟩ .f32) (w : FVec Ideal ⟨2, ![2048, 2048]⟩ .bf16)
    (g : FVec Ideal ⟨2, ![1, 2048]⟩ .f32) : FVec Ideal ⟨2, ![a, 2048]⟩ .f32 :=
  fun i => normed (pre mg x w (i 0)) (fun j => g (ix2 0 j)) (i 1)

theorem pay_apply (x : FVec Ideal S512x2048 .f32) (mg : FVec Ideal S512x2048 .bf16) (w : FVec Ideal S2048x2048 .bf16) (g : FVec Ideal S1x2048 .f32)
    (r : Fin 512) (j : Fin 2048) :
    k0_pay1 (F := Ideal) x mg w g (ix2 r j) = normed (pre mg x w r) (fun j => g (ix2 0 j)) j := by
  unfold normed pre
  pointwise [k0_pay1]

/-- The reference before the normalisation. -/
def refY (mg : FVec Ideal S32768x2048 .bf16) (x : FVec Ideal S32768x2048 .f32) (w : FVec Ideal S2048x2048 .bf16) : FVec Ideal S32768x2048 .f32 :=
  addf x (Host.dotGeneral Cert.ReferenceOIdeal.dot_S32768x2048_S2048x2048_S32768x2048_1_0_0_1_n_n none (extf .f32 mg Cert.ReferenceOIdeal.Gen.bitsLt_bf16_f32) (extf .f32 w Cert.ReferenceOIdeal.Gen.bitsLt_bf16_f32))

open Cert.ReferenceOIdeal Cert.ReferenceOIdeal.Gen in
/-- The reference's normalisation. -/
def refN (y : FVec Ideal Cert.KernelOIdeal.S32768x2048 .f32) (g : FVec Ideal Cert.KernelOIdeal.S1x2048 .f32) : FVec Ideal Cert.KernelOIdeal.S32768x2048 .f32 :=
  mulf (mulf y (broadcastInDim Cert.ReferenceOIdeal.S32768x2048 ![0, 1] bcast_S32768x1_S32768x2048_0_1 (Host.rsqrt (addf (Host.divf (broadcastInDim S32768x1 ![0] bcast_S32768_S32768x1_0 (Host.reduceAdd (mulf y y) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim Cert.ReferenceOIdeal.S32768x2048 ![0, 1] bcast_S1x2048_S32768x2048_0_1 g)

theorem refY_apply (mg : FVec Ideal S32768x2048 .bf16) (x : FVec Ideal S32768x2048 .f32) (w : FVec Ideal S2048x2048 .bf16) (r : Fin 32768) (j : Fin 2048) :
    refY mg x w (ix2 r j) = pre mg x w r j := by
  unfold pre
  pointwise [refY]

theorem refN_apply (y : FVec Ideal S32768x2048 .f32) (g : FVec Ideal S1x2048 .f32) (r : Fin 32768) (j : Fin 2048) :
    refN y g (ix2 r j) = normed (fun k => y (ix2 r k)) (fun k => g (ix2 0 k)) j := by
  unfold normed
  pointwise [refN]

theorem ref_eq (mg : FVec Ideal S32768x2048 .bf16) (x : FVec Ideal S32768x2048 .f32) (w : FVec Ideal S2048x2048 .bf16) (g : FVec Ideal S1x2048 .f32) :
    rows (a := 32768) mg x w g = refN (refY mg x w) g := by
  funext i
  obtain ⟨r, j, rfl⟩ : ∃ (r : Fin 32768) (j : Fin 2048), i = ix2 r j := ⟨i 0, i 1, funext fun a => by match a with
    | 0 => rfl
    | 1 => rfl⟩
  rw [refN_apply]
  simp only [refY_apply]
  rfl

/-- What one grid step leaves in its block. -/
theorem out_eq (mg : FVec Ideal S512x2048 .bf16) (x : FVec Ideal S512x2048 .f32) (w : FVec Ideal S2048x2048 .bf16) (g : FVec Ideal S1x2048 .f32) :
    out0_4 (F := Ideal) mg x w g = rows (a := 512) mg x w g := by
  unfold out0_4
  rw [View.canon_unit_zero (by funext a; match a with | 0 => rfl | 1 => rfl), View.ld_unit_zero (by funext a; match a with | 0 => rfl | 1 => rfl),
    View.ld_unit_zero (by funext a; match a with | 0 => rfl | 1 => rfl), View.ld_unit_zero (by funext a; match a with | 0 => rfl | 1 => rfl),
    View.ld_unit_zero (by funext a; match a with | 0 => rfl | 1 => rfl)]
  funext i
  obtain ⟨r, j, rfl⟩ : ∃ (r : Fin 512) (j : Fin 2048), i = ix2 r j := ⟨i 0, i 1, funext fun a => by match a with
    | 0 => rfl
    | 1 => rfl⟩
  exact pay_apply x mg w g r j

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem flush4 : ∀ t : Fin cfg0.N, (cfg0.win 4).flush t = true := (by decide +kernel : ∀ t : Fin grid0.N, _)

/-- The array that the call is to leave. -/
abbrev G (c : Dev nD) : FVec Ideal S32768x2048 .f32 :=
  rows (a := 32768) (m ((c : Thread nD τ).loc main_arg0)) (m ((c : Thread nD τ).loc main_arg1)) (m ((c : Thread nD τ).loc main_arg2)) (m ((c : Thread nD τ).loc main_arg3))

/-- A band of rows, computed from the same rows of the two tall arguments. -/
theorem band {A a : Nat} (M : FVec Ideal ⟨2, ![A, 2048]⟩ .bf16) (X : FVec Ideal ⟨2, ![A, 2048]⟩ .f32) (W : FVec Ideal ⟨2, ![2048, 2048]⟩ .bf16)
    (Gn : FVec Ideal ⟨2, ![1, 2048]⟩ .f32) (mg : FVec Ideal ⟨2, ![a, 2048]⟩ .bf16) (x : FVec Ideal ⟨2, ![a, 2048]⟩ .f32) (w : FVec Ideal ⟨2, ![2048, 2048]⟩ .bf16)
    (g : FVec Ideal ⟨2, ![1, 2048]⟩ .f32) (y : (⟨2, ![a, 2048]⟩ : Shape).Idx) (i : (⟨2, ![A, 2048]⟩ : Shape).Idx) (hc : y 1 = i 1)
    (hm : ∀ e, mg (ix2 (y 0) e) = M (ix2 (i 0) e)) (hx : ∀ e, x (ix2 (y 0) e) = X (ix2 (i 0) e)) (hw : ∀ e j, w (ix2 e j) = W (ix2 e j)) (hg : ∀ j, g (ix2 0 j) = Gn (ix2 0 j)) :
    rows mg x w g y = rows M X W Gn i := by
  unfold rows pre
  simp only [hm, hx, hw, hg, hc]

/-- Each grid step writes back its block of it. -/
theorem flushed_eq (c : Dev nD) (t : Fin cfg0.N) (_ : (cfg0.win 4).flush t = true) :
    (dats m 0 c).flushed 4 t = ((cfg0.win 4).blk t).view.read (Elt Ideal) (G m c) := by
  rw [Value.flushed4, out_eq]
  funext y
  have e0 := idx0 t
  have e1 := idx1 t
  have e2 := idx2 t
  have e3 := idx3 t
  have e4 := idx4 t
  refine band (A := 32768) (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) y (((cfg0.win 4).blk t).view.emb y) (Fin.ext ?_) (fun e => ?_) (fun e => ?_) (fun e j => ?_) (fun j => ?_)
  · show (y 1).val = win0_4.index t 1 * 2048 + 1 * (y 1).val
    rw [e4]; show (y 1).val = 0 * 2048 + 1 * (y 1).val; omega
  · show m ((c : Thread nD τ).loc main_arg0) (((cfg0.win 0).blk t).view.emb (ix2 (y 0) e)) = _
    refine congrArg (m ((c : Thread nD τ).loc main_arg0)) (funext fun a => Fin.ext ?_)
    match a with
    | 0 =>
      show win0_0.index t 0 * 512 + 1 * (y 0).val = win0_4.index t 0 * 512 + 1 * (y 0).val
      rw [e0, e4]
    | 1 =>
      show win0_0.index t 1 * 2048 + 1 * e.val = e.val
      rw [e0]; show 0 * 2048 + 1 * e.val = e.val; omega
  · show m ((c : Thread nD τ).loc main_arg1) (((cfg0.win 1).blk t).view.emb (ix2 (y 0) e)) = _
    refine congrArg (m ((c : Thread nD τ).loc main_arg1)) (funext fun a => Fin.ext ?_)
    match a with
    | 0 =>
      show win0_1.index t 0 * 512 + 1 * (y 0).val = win0_4.index t 0 * 512 + 1 * (y 0).val
      rw [e1, e4]
    | 1 =>
      show win0_1.index t 1 * 2048 + 1 * e.val = e.val
      rw [e1]; show 0 * 2048 + 1 * e.val = e.val; omega
  · show m ((c : Thread nD τ).loc main_arg2) (((cfg0.win 2).blk t).view.emb (ix2 e j)) = _
    refine congrArg (m ((c : Thread nD τ).loc main_arg2)) (funext fun a => Fin.ext ?_)
    match a with
    | 0 =>
      show win0_2.index t 0 * 2048 + 1 * e.val = e.val
      rw [e2]; show 0 * 2048 + 1 * e.val = e.val; omega
    | 1 =>
      show win0_2.index t 1 * 2048 + 1 * j.val = j.val
      rw [e2]; show 0 * 2048 + 1 * j.val = j.val; omega
  · show m ((c : Thread nD τ).loc main_arg3) (((cfg0.win 3).blk t).view.emb (ix2 0 j)) = _
    refine congrArg (m ((c : Thread nD τ).loc main_arg3)) (funext fun a => Fin.ext ?_)
    match a with
    | 0 =>
      show win0_3.index t 0 * 1 + 1 * 0 = 0
      rw [e3]; rfl
    | 1 =>
      show win0_3.index t 1 * 2048 + 1 * j.val = j.val
      rw [e3]; show 0 * 2048 + 1 * j.val = j.val; omega

/-- The blocks cover the array. -/
theorem covered (i : S32768x2048.Idx) : ∃ t : Fin cfg0.N, (cfg0.win 4).flush t = true ∧ i ∈ ((cfg0.win 4).blk t).view.set := by
  have h0 : (i 0).val < 32768 := (i 0).isLt
  have h1 : (i 1).val < 2048 := (i 1).isLt
  let t : Fin cfg0.N := ⟨(i 0).val / 512, lt_of_lt_of_eq (by omega) N_0.symm⟩
  have e4 := idx4 t
  refine ⟨t, flush4 t, ?_⟩
  show i ∈ ((View.whole main_v0).slice (win0_4.rect t)).set
  rw [View.set_slice_whole, Rect.mem_set_unit]
  have ht : t.val = (i 0).val / 512 := rfl
  intro a
  match a with
  | 0 =>
    show win0_4.index t 0 * 512 ≤ (i 0).val ∧ (i 0).val < win0_4.index t 0 * 512 + 512
    rw [e4]; show t.val * 512 ≤ (i 0).val ∧ (i 0).val < t.val * 512 + 512; omega
  | 1 =>
    show win0_4.index t 1 * 2048 ≤ (i 1).val ∧ (i 1).val < win0_4.index t 1 * 2048 + 2048
    rw [e4]; show 0 * 2048 ≤ (i 1).val ∧ (i 1).val < 0 * 2048 + 2048; omega

/-- The array that the call leaves. -/
theorem final (c : Dev nD) : (dats m 0 c).arrAt 4 cfg0.N = G m c :=
  (dats m 0 c).arrAt_eq_of_cover 4 _ (flushed_eq m c) covered

/-- Call and reference leave equal arrays. -/
theorem value : Cert.algebraic_KernelOIdeal_ReferenceOIdeal (hKernelOIdeal := Cert.KernelOIdeal.Gen.facts)
    (hReferenceOIdeal := Cert.ReferenceOIdeal.Gen.facts) := by
  intro m g m' g' _ hargs
  refine ⟨fun c => G m c, (θ_run _ _ _).mono (fun r h c => ⟨(h c).1.trans (final m c), (h c).2⟩) (Value.run_blocks m g), ?_⟩
  refine (θ_run Cert.ReferenceOIdeal.defs _ _).mono (fun r h c => ⟨(h c).1.trans ?_, (h c).2⟩) (Cert.ReferenceOIdeal.Value.run m' g')
  obtain ⟨e0, e1, e2, e3⟩ := hargs c
  rw [e0, e1, e2, e3]
  exact (ref_eq _ _ _ _).symm

end Cert.OutProj
end
-- ==== Proof.MemKv.lean ====
/- The call `mem_kv`: the memory's RMS norm and the product that gives its keys and values. -/
module

public import proofs.«01_k».proof.Defs
public import proofs.«01_k».proof.Proof.SmallRow
public import proofs.«01_k».proof.Proof.Gen.KernelKIdeal.Value
public import proofs.«01_k».proof.Proof.Gen.ReferenceKIdeal.Run
public import Idealize.ShloMosaic.Lib.Pipeline.ValueKit
public import Idealize.ShloMosaic.Lib.Pointwise
public import Idealize.ShloMosaic.Lib.IdealHost

@[expose] public section

set_option maxRecDepth 16384

noncomputable section

namespace Cert.MemKv

open Idealize.ShloMosaic Idealize.ShloMosaic.TcCoe Idealize.SL.Sem Cert.KernelKIdeal Cert.KernelKIdeal.Gen

/-- One entry of the product of the normalised rows with the weights. -/
def kv {a : Nat} (x : FVec Ideal ⟨2, ![a, 2048]⟩ .f32) (g : FVec Ideal ⟨2, ![1, 2048]⟩ .f32) (w : FVec Ideal ⟨2, ![2048, 2048]⟩ .bf16)
    (r : Fin a) (j : Fin 2048) : EReal :=
  ∑ e : Fin 2048, Small.nrm 0x45000000#32 (fun e => x (ix2 r e)) (fun e => g (ix2 0 e)) e * w (ix2 e j)

/-- Its columns from `o` on: the keys for `o = 0`, the values for `o = 1024`. -/
def half {a : Nat} (o : Nat) (ho : o ≤ 1024) (x : FVec Ideal ⟨2, ![a, 2048]⟩ .f32) (g : FVec Ideal ⟨2, ![1, 2048]⟩ .f32)
    (w : FVec Ideal ⟨2, ![2048, 2048]⟩ .bf16) : FVec Ideal ⟨2, ![a, 1024]⟩ .bf16 :=
  fun i => kv x g w (i 0) ⟨o + (i 1).val, lt_of_lt_of_le (Nat.add_lt_add_left (show (i 1).val < 1024 from (i 1).isLt) o) (by omega)⟩

theorem pay1_apply (x : FVec Ideal S256x2048 .f32) (g : FVec Ideal S1x2048 .f32) (w : FVec Ideal S2048x2048 .bf16) (r : Fin 256) (j : Fin 2048) :
    k0_pay1 (F := Ideal) x g w (ix2 r j) = kv x g w r j := by
  unfold kv Small.nrm
  pointwise [k0_pay1]

/-- The reference's product. -/
def refKV (x : FVec Ideal S2048x2048 .f32) (g : FVec Ideal S1x2048 .f32) (w : FVec Ideal S2048x2048 .bf16) : FVec Ideal S2048x2048 .f32 :=
  Host.dotGeneral Cert.ReferenceKIdeal.dot_S2048x2048_S2048x2048_S2048x2048_1_0_0_1_n_n none (mulf (mulf x (broadcastInDim S2048x2048 ![0, 1] Cert.ReferenceKIdeal.Gen.bcast_S2048x1_S2048x2048_0_1 (Host.rsqrt (addf (Host.divf (broadcastInDim Cert.ReferenceKIdeal.S2048x1 ![0] Cert.ReferenceKIdeal.Gen.bcast_S2048_S2048x1_0 (Host.reduceAdd (mulf x x) (constant Cert.ReferenceKIdeal.S_ .f32 0x00000000#32) Cert.ReferenceKIdeal.Gen.reducesTo_S2048x2048_S2048_d1 Cert.ReferenceKIdeal.Gen.h_S_)) (broadcastInDim Cert.ReferenceKIdeal.S2048x1 ![] Cert.ReferenceKIdeal.Gen.bcast_S_S2048x1 (constant Cert.ReferenceKIdeal.S_ .f32 0x45000000#32))) (broadcastInDim Cert.ReferenceKIdeal.S2048x1 ![] Cert.ReferenceKIdeal.Gen.bcast_S_S2048x1 (constant Cert.ReferenceKIdeal.S_ .f32 0x358637BD#32)))))) (broadcastInDim S2048x2048 ![0, 1] Cert.ReferenceKIdeal.Gen.bcast_S1x2048_S2048x2048_0_1 g)) (extf .f32 w Cert.ReferenceKIdeal.Gen.bitsLt_bf16_f32)

theorem refKV_apply (x : FVec Ideal S2048x2048 .f32) (g : FVec Ideal S1x2048 .f32) (w : FVec Ideal S2048x2048 .bf16) (r j : Fin 2048) :
    refKV x g w (ix2 r j) = kv x g w r j := by
  unfold kv Small.nrm
  pointwise [refKV]

/-- Half of the columns of an array that holds the product. -/
theorem half_eq {a : Nat} (o : Nat) (ho : o ≤ 1024) (x : FVec Ideal ⟨2, ![a, 2048]⟩ .f32) (g : FVec Ideal ⟨2, ![1, 2048]⟩ .f32)
    (w : FVec Ideal ⟨2, ![2048, 2048]⟩ .bf16) (v : FVec Ideal ⟨2, ![a, 2048]⟩ .f32) (hv : ∀ r j, v (ix2 r j) = kv x g w r j)
    (hs : (⟨2, ![a, 2048]⟩ : Shape).Slices ![0, o] ⟨2, ![a, 1024]⟩) :
    truncf .bf16 (extractStridedSlice ⟨2, ![a, 1024]⟩ ![0, o] v hs) bitsLt_bf16_f32 = half o ho x g w := by
  funext i
  refine (extractStridedSlice_apply _ v hs i (ix2 (i 0) ⟨o + (i 1).val, lt_of_lt_of_le (Nat.add_lt_add_left (show (i 1).val < 1024 from (i 1).isLt) o) (by omega)⟩) fun b => ?_).trans (hv _ _)
  match b with
  | 0 => exact (Nat.zero_add _).symm
  | 1 => rfl

/-- What one grid step leaves in its two blocks. -/
theorem out3_eq (x : FVec Ideal S256x2048 .f32) (g : FVec Ideal S1x2048 .f32) (w : FVec Ideal S2048x2048 .bf16) :
    out0_3 (F := Ideal) x g w = half (a := 256) 0 (by decide) x g w := by
  unfold out0_3
  rw [View.canon_unit_zero (by funext a; match a with | 0 => rfl | 1 => rfl), View.ld_unit_zero (by funext a; match a with | 0 => rfl | 1 => rfl),
    View.ld_unit_zero (by funext a; match a with | 0 => rfl | 1 => rfl), View.ld_unit_zero (by funext a; match a with | 0 => rfl | 1 => rfl)]
  exact half_eq 0 _ x g w _ (pay1_apply x g w) slices_S256x2048_o0_0_S256x1024

theorem out4_eq (x : FVec Ideal S256x2048 .f32) (g : FVec Ideal S1x2048 .f32) (w : FVec Ideal S2048x2048 .bf16) :
    out0_4 (F := Ideal) x g w = half (a := 256) 1024 (by decide) x g w := by
  unfold out0_4
  rw [View.canon_unit_zero (by funext a; match a with | 0 => rfl | 1 => rfl), View.ld_unit_zero (by funext a; match a with | 0 => rfl | 1 => rfl),
    View.ld_unit_zero (by funext a; match a with | 0 => rfl | 1 => rfl), View.ld_unit_zero (by funext a; match a with | 0 => rfl | 1 => rfl)]
  exact half_eq 1024 _ x g w _ (pay1_apply x g w) slices_S256x2048_o0_1024_S256x1024

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem band0 (c : Dev nD) (t : Fin cfg0.N) (r : Fin 256) (e : Fin 2048) (R : Fin 2048) (hR : R.val = t.val * 256 + r.val) :
    iblk m c 0 t (ix2 r e) = m ((c : Thread nD τ).loc main_arg0) (ix2 R e) := by
  refine congrArg (m ((c : Thread nD τ).loc main_arg0)) (funext fun a => Fin.ext ((Pipeline.Window.rect_emb_val win0_0 t (ix2 r e) a).trans ?_))
  rw [idx0]
  match a with
  | 0 => exact hR.symm
  | 1 => show 0 * 2048 + e.val = e.val; omega

theorem whole1 (c : Dev nD) (t : Fin cfg0.N) (y : S1x2048.Idx) : iblk m c 1 t y = m ((c : Thread nD τ).loc main_arg1) y :=
  congrArg (m ((c : Thread nD τ).loc main_arg1)) (funext fun a => Fin.ext
    (Pipeline.Window.rect_emb_val_of_index_zero win0_1 t a ((by decide +kernel : ∀ (t : Fin grid0.N) (a : Fin 2), win0_1.index t a = 0) t a) y))

theorem whole2 (c : Dev nD) (t : Fin cfg0.N) (y : S2048x2048.Idx) : iblk m c 2 t y = m ((c : Thread nD τ).loc main_arg2) y :=
  congrArg (m ((c : Thread nD τ).loc main_arg2)) (funext fun a => Fin.ext
    (Pipeline.Window.rect_emb_val_of_index_zero win0_2 t a ((by decide +kernel : ∀ (t : Fin grid0.N) (a : Fin 2), win0_2.index t a = 0) t a) y))

/-- The arrays that the call is to leave: the keys for `o = 0`, the values for `o = 1024`. -/
abbrev G (o : Nat) (ho : o ≤ 1024) (c : Dev nD) : FVec Ideal S2048x1024 .bf16 :=
  half (a := 2048) o ho (m ((c : Thread nD τ).loc main_arg0)) (m ((c : Thread nD τ).loc main_arg1)) (m ((c : Thread nD τ).loc main_arg2))

/-- A step's entry is the array's, 256 rows to a step. -/
theorem entry_eq (o : Nat) (ho : o ≤ 1024) (c : Dev nD) (t : Fin cfg0.N) (y : S256x1024.Idx) (i : S2048x1024.Idx)
    (h0 : (i 0).val = t.val * 256 + (y 0).val) (h1 : (i 1).val = (y 1).val) :
    half (a := 256) o ho (iblk m c 0 t) (iblk m c 1 t) (iblk m c 2 t) y = G m o ho c i := by
  have e0 : (fun e => iblk m c 0 t (ix2 (y 0) e)) = fun e => m ((c : Thread nD τ).loc main_arg0) (ix2 (i 0) e) :=
    funext fun e => band0 m c t (y 0) e (i 0) h0
  have e1 : (fun e : Fin 2048 => iblk m c 1 t (ix2 0 e)) = fun e => m ((c : Thread nD τ).loc main_arg1) (ix2 0 e) :=
    funext fun e => whole1 m c t _
  unfold G half kv
  refine Finset.sum_congr rfl fun e _ => ?_
  refine congrArg₂ (· * ·) (congrFun (congrArg₂ (Small.nrm 0x45000000#32) e0 e1) e) ?_
  refine (whole2 m c t _).trans (congrArg (fun j => m ((c : Thread nD τ).loc main_arg2) (ix2 e j)) (Fin.ext ?_))
  exact congrArg (o + ·) h1.symm

/-- A row lies in the band of 256 rows that its number falls into. -/
theorem mem_rows (off : Fin 2 → Nat) (inb : ∀ a, off a + ![256, 1024] a ≤ S2048x1024.size a)
    (i : S2048x1024.Idx) (h0 : off 0 = (i 0).val / 256 * 256) (h1 : off 1 = 0) :
    i ∈ (Rect.unit (s := S2048x1024) off ![256, 1024] inb).set := by
  rw [Rect.mem_set_unit]
  intro a
  match a with
  | 0 => show off 0 ≤ (i 0).val ∧ (i 0).val < off 0 + 256; omega
  | 1 => show off 1 ≤ (i 1).val ∧ (i 1).val < off 1 + 1024; have : (i 1).val < 1024 := (i 1).isLt; omega

theorem flushed3_eq (c : Dev nD) (t : Fin cfg0.N) (_ : (cfg0.win 3).flush t = true) :
    (dats m 0 c).flushed 3 t = ((cfg0.win 3).blk t).view.read (Elt Ideal) (G m 0 (by decide) c) := by
  rw [Value.flushed3, out3_eq]
  exact funext fun y => entry_eq m 0 _ c t y _
    ((Pipeline.Window.rect_emb_val win0_3 t y 0).trans (by rw [idx3]; rfl))
    (Pipeline.Window.rect_emb_val_of_index_zero win0_3 t 1 (by rw [idx3]; rfl) y)

theorem flushed4_eq (c : Dev nD) (t : Fin cfg0.N) (_ : (cfg0.win 4).flush t = true) :
    (dats m 0 c).flushed 4 t = ((cfg0.win 4).blk t).view.read (Elt Ideal) (G m 1024 (by decide) c) := by
  rw [Value.flushed4, out4_eq]
  exact funext fun y => entry_eq m 1024 _ c t y _
    ((Pipeline.Window.rect_emb_val win0_4 t y 0).trans (by rw [idx4]; rfl))
    (Pipeline.Window.rect_emb_val_of_index_zero win0_4 t 1 (by rw [idx4]; rfl) y)

theorem final3 (c : Dev nD) : (dats m 0 c).arrAt 3 cfg0.N = G m 0 (by decide) c := by
  refine (dats m 0 c).arrAt_eq_of_cover 3 _ (flushed3_eq m c) fun (i : S2048x1024.Idx) => ?_
  let t : Fin cfg0.N := ⟨(i 0).val / 256, lt_of_lt_of_eq (by have : (i 0).val < 2048 := (i 0).isLt; omega) N_0.symm⟩
  refine ⟨t, (by decide +kernel : ∀ t : Fin grid0.N, (cfg0.win 3).flush t = true) t, ?_⟩
  show i ∈ ((View.whole main_v0_0).slice (win0_3.rect t)).set
  rw [View.set_slice_whole]
  exact mem_rows _ _ i (by show win0_3.index t 0 * 256 = _; rw [idx3]; rfl) (by show win0_3.index t 1 * 1024 = 0; rw [idx3]; exact Nat.zero_mul _)

theorem final4 (c : Dev nD) : (dats m 0 c).arrAt 4 cfg0.N = G m 1024 (by decide) c := by
  refine (dats m 0 c).arrAt_eq_of_cover 4 _ (flushed4_eq m c) fun (i : S2048x1024.Idx) => ?_
  let t : Fin cfg0.N := ⟨(i 0).val / 256, lt_of_lt_of_eq (by have : (i 0).val < 2048 := (i 0).isLt; omega) N_0.symm⟩
  refine ⟨t, (by decide +kernel : ∀ t : Fin grid0.N, (cfg0.win 4).flush t = true) t, ?_⟩
  show i ∈ ((View.whole main_v0_1).slice (win0_4.rect t)).set
  rw [View.set_slice_whole]
  exact mem_rows _ _ i (by show win0_4.index t 0 * 256 = _; rw [idx4]; rfl) (by show win0_4.index t 1 * 1024 = 0; rw [idx4]; exact Nat.zero_mul _)

/-- Call and reference leave equal arrays. -/
theorem value : Cert.algebraic_KernelKIdeal_ReferenceKIdeal (hKernelKIdeal := Cert.KernelKIdeal.Gen.facts)
    (hReferenceKIdeal := Cert.ReferenceKIdeal.Gen.facts) := by
  intro m g m' g' _ hargs
  refine ⟨fun c => G m 0 (by decide) c, fun c => G m 1024 (by decide) c,
    (θ_run _ _ _).mono (fun r h c => ⟨(h c).1.trans (final3 m c), (h c).2.1.trans (final4 m c), (h c).2.2⟩) (Value.run_blocks m g), ?_⟩
  refine (θ_run Cert.ReferenceKIdeal.defs _ _).mono (fun r h c => ⟨(h c).1.trans ?_, (h c).2.1.trans ?_, (h c).2.2⟩) (Cert.ReferenceKIdeal.Value.run m' g')
  · obtain ⟨e0, e1, e2⟩ := hargs c
    rw [e0, e1, e2]
    refine Eq.trans ?_ (half_eq 0 _ _ _ _ _ (refKV_apply _ _ _) Cert.ReferenceKIdeal.Gen.slices_S2048x2048_S2048x1024_0_0)
    unfold refKV
    rfl
  · obtain ⟨e0, e1, e2⟩ := hargs c
    rw [e0, e1, e2]
    refine Eq.trans ?_ (half_eq 1024 _ _ _ _ _ (refKV_apply _ _ _) Cert.ReferenceKIdeal.Gen.slices_S2048x2048_S2048x1024_0_1024)
    unfold refKV
    rfl

end Cert.MemKv
end
-- ==== Proof.MemRef.lean ====
/- The reference of the call `mem_attn`, read at one entry. -/
module

public import proofs.«01_k».proof.Proof.MlaRef
public import proofs.«01_k».proof.Proof.Gen.ReferenceCIdeal

@[expose] public section

set_option maxRecDepth 16384

noncomputable section

namespace Cert.ReferenceCIdeal.Attn

open Cert.ReferenceCIdeal Cert.ReferenceCIdeal.Gen Idealize.ShloMosaic Idealize.ShloMosaic.TcCoe Idealize.SL.Sem Idealize.ShloMosaic.StableHlo

/-- The scaled scores: batch, head, query, memory token. -/
def refS (q : FVec Ideal S32768x1024 .bf16) (k : FVec Ideal S2048x1024 .bf16) : FVec Ideal S8x4x4096x256 .f32 :=
  Host.divf (Host.dotGeneral dot_S8x4096x4x256_S8x256x4x256_S8x4x4096x256_3_3_1_1_02_02 none (shapeCast _ (extf .f32 q bitsLt_bf16_f32) shapeCasts_S32768x1024_S8x4096x4x256) (shapeCast _ (extf .f32 k bitsLt_bf16_f32) shapeCasts_S2048x1024_S8x256x4x256)) (broadcastInDim S8x4x4096x256 ![] bcast_S_S8x4x4096x256 (Host.sqrt (constant S_ .f32 0x43800000#32)))

/-- Each query's largest score. -/
def refM (s : FVec Ideal S8x4x4096x256 .f32) : FVec Ideal S8x4x4096 .f32 :=
  Host.reduce FloatOps.maximumf s (constant S_ .f32 0xFF800000#32) reducesTo_S8x4x4096x256_S8x4x4096_d3 h_S_

/-- The same with a last axis of size one, joined with the lower bound. -/
def refX (m : FVec Ideal S8x4x4096 .f32) : FVec Ideal S8x4x4096x1 .f32 :=
  broadcastInDim S8x4x4096x1 ![0, 1, 2] bcast_S8x4x4096_S8x4x4096x1_0_1_2 (maximumf (broadcastInDim S8x4x4096 ![] bcast_S_S8x4x4096 (constant S_ .f32 0xFF800000#32)) m)

/-- The exponentials of the scores, each less its query's largest. -/
def refE (s : FVec Ideal S8x4x4096x256 .f32) : FVec Ideal S8x4x4096x256 .f32 :=
  Host.exp (subf s (broadcastInDim S8x4x4096x256 ![0, 1, 2, 3] bcast_S8x4x4096x1_S8x4x4096x256_0_1_2_3 (refX (refM s))))

/-- The weighted values. -/
def refO (v : FVec Ideal S2048x1024 .bf16) (e : FVec Ideal S8x4x4096x256 .f32) : FVec Ideal S8x4x256x4096 .f32 :=
  Host.dotGeneral dot_S8x256x4x256_S8x4x4096x256_S8x4x256x4096_1_3_3_2_02_01 none (shapeCast _ (extf .f32 v bitsLt_bf16_f32) shapeCasts_S2048x1024_S8x256x4x256) (Host.divf e (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd e (constant S_ .f32 0x00000000#32) reducesTo_S8x4x4096x256_S8x4x4096_d3 h_S_))))

/-- The reference's result as a function of its four arguments. -/
def refVal (q : FVec Ideal S32768x1024 .bf16) (k v : FVec Ideal S2048x1024 .bf16) (sz : FVec Ideal S32768x3072 .bf16) : FVec Ideal S32768x1024 .bf16 :=
  truncf .bf16 (mulf (shapeCast _ (transpose S8x4096x4x256 [0, 3, 1, 2] (refO v (refE (refS q k))) transposes_S8x4x256x4096_S8x4096x4x256_0_3_1_2) shapeCasts_S8x4096x4x256_S32768x1024) (extf .f32 (extractStridedSlice S32768x1024 ![0, 2048] sz slices_S32768x3072_S32768x1024_0_2048) bitsLt_bf16_f32)) bitsLt_bf16_f32

theorem refS_apply (q : FVec Ideal S32768x1024 .bf16) (k : FVec Ideal S2048x1024 .bf16) (b : Fin 8) (h : Fin 4) (x : Fin 4096) (y : Fin 256) :
    refS q k (ix4 b h x y) = Ideal.div (∑ d : Fin 256, q (ix2 ⟨b.val * 4096 + x.val, by omega⟩ ⟨h.val * 256 + d.val, by omega⟩)
      * k (ix2 ⟨b.val * 256 + y.val, by omega⟩ ⟨h.val * 256 + d.val, by omega⟩)) (Ideal.sqrt (Ideal.ofBits .f32 0x43800000#32)) := by
  pointwise [refS]

theorem refM_apply (s : FVec Ideal S8x4x4096x256 .f32) (b : Fin 8) (h : Fin 4) (x : Fin 4096) :
    refM s (ix3 b h x) = Finset.fold max (Ideal.ofBits .f32 4286578688#32) (fun y : Fin 256 => s (ix4 b h x y)) Finset.univ :=
  Cert.ReferenceAIdeal.Attn.fold_last s _ _ _ b h x

theorem refX_apply (m : FVec Ideal S8x4x4096 .f32) (b : Fin 8) (h : Fin 4) (x : Fin 4096) :
    refX m (ix4 b h x 0) = max (Ideal.ofBits .f32 4286578688#32) (m (ix3 b h x)) := by
  pointwise [refX]

theorem refE_apply (s : FVec Ideal S8x4x4096x256 .f32) (b : Fin 8) (h : Fin 4) (x : Fin 4096) (y : Fin 256) :
    refE s (ix4 b h x y) = Ideal.exp (s (ix4 b h x y) - refX (refM s) (ix4 b h x 0)) := by
  pointwise [refE]

/-- One weight, not yet divided by the weights' sum. -/
theorem refE_entry (s : FVec Ideal S8x4x4096x256 .f32) (b : Fin 8) (h : Fin 4) (x : Fin 4096) (y : Fin 256) :
    refE s (ix4 b h x y) = Ideal.exp (s (ix4 b h x y) - max (Ideal.ofBits .f32 4286578688#32)
      (Finset.fold max (Ideal.ofBits .f32 4286578688#32) (fun z : Fin 256 => s (ix4 b h x z)) Finset.univ)) := by
  rw [refE_apply, refX_apply, refM_apply]

theorem refO_apply (v : FVec Ideal S2048x1024 .bf16) (e : FVec Ideal S8x4x4096x256 .f32) (b : Fin 8) (h : Fin 4) (d : Fin 256) (x : Fin 4096) :
    refO v e (ix4 b h d x) = ∑ y : Fin 256, v (ix2 ⟨b.val * 256 + y.val, by omega⟩ ⟨h.val * 256 + d.val, by omega⟩)
      * Ideal.div (e (ix4 b h x y)) (∑ z : Fin 256, e (ix4 b h x z)) := by
  pointwise [refO]

theorem refVal_apply (q : FVec Ideal S32768x1024 .bf16) (k v : FVec Ideal S2048x1024 .bf16) (sz : FVec Ideal S32768x3072 .bf16) (r : Fin 32768) (j : Fin 1024) :
    refVal q k v sz (ix2 r j) = refO v (refE (refS q k)) (ix4 ⟨r.val / 4096, by omega⟩ ⟨j.val / 256, by omega⟩ ⟨j.val % 256, by omega⟩
      ⟨r.val % 4096, by omega⟩) * sz (ix2 r ⟨2048 + j.val, by omega⟩) := by
  pointwise [refVal]

end Cert.ReferenceCIdeal.Attn
end
-- ==== Proof.MemAttn.lean ====
/- The call `mem_attn`: four heads of softmax attention over the 256 memory tokens, with their output gate. -/
module

public import proofs.«01_k».proof.Defs
public import proofs.«01_k».proof.Proof.MemRef
public import proofs.«01_k».proof.Proof.MlaValue
public import proofs.«01_k».proof.Proof.Gen.KernelCIdeal.Value
public import proofs.«01_k».proof.Proof.Gen.ReferenceCIdeal.Run
public import proofs.«01_k».proof.Proof.Gen.Pre_finite_qk_mem
public import Idealize.ShloMosaic.Lib.Pipeline.ValueKit
public import Idealize.ShloMosaic.Lib.Pointwise
public import Idealize.ShloMosaic.Lib.IdealHost

@[expose] public section

set_option maxRecDepth 16384

noncomputable section

namespace Cert.MemAttn

open Idealize.ShloMosaic Idealize.ShloMosaic.TcCoe Idealize.SL.Sem Cert.KernelCIdeal Cert.KernelCIdeal.Gen
open Cert.Softmax
open Cert.Gqa (AllReal)

/-- One entry: the kernel's form, where the difference from the largest score is scaled, to base two, with one division
    at the end, is the softmax's. -/
theorem late {n d : Nat} (k : Fin (n + 1) → Fin d → EReal) (q : Fin d → EReal) (v : Fin (n + 1) → EReal)
    (hk : ∀ y e, ∃ r : ℝ, k y e = r) (hq : ∀ e, ∃ r : ℝ, q e = r) {s : ℝ} (hs : 0 < s) :
    Ideal.div
        (∑ y, Ideal.exp2 (((∑ e, q e * k y e) - Finset.fold max (⊥ : EReal) (fun z => ∑ e, q e * k z e) Finset.univ)
          * (((Real.log 2)⁻¹ * s⁻¹ : ℝ) : EReal)) * v y)
        (∑ y, Ideal.exp2 (((∑ e, q e * k y e) - Finset.fold max (⊥ : EReal) (fun z => ∑ e, q e * k z e) Finset.univ)
          * (((Real.log 2)⁻¹ * s⁻¹ : ℝ) : EReal)))
      = ∑ y, v y * Ideal.div
          (Ideal.exp (Ideal.div (∑ e, q e * k y e) (s : EReal)
            - Finset.fold max (⊥ : EReal) (fun z => Ideal.div (∑ e, q e * k z e) (s : EReal)) Finset.univ))
          (∑ x, Ideal.exp (Ideal.div (∑ e, q e * k x e) (s : EReal)
            - Finset.fold max (⊥ : EReal) (fun z => Ideal.div (∑ e, q e * k z e) (s : EReal)) Finset.univ)) := by
  choose rk hk using hk
  choose rq hq using hq
  have hc : 0 ≤ (Real.log 2)⁻¹ * s⁻¹ := by
    have := Real.log_pos (show (1 : ℝ) < 2 by norm_num)
    positivity
  let a : Fin (n + 1) → ℝ := fun y => ∑ e, rq e * rk y e
  have hl : ∀ y, (∑ e, q e * k y e) = ((a y : ℝ) : EReal) := fun y => by
    simp only [hk, hq, ← EReal.coe_mul, coe_sum, a]
  have hr : ∀ y, Ideal.div ((a y : ℝ) : EReal) (s : EReal) = ((a y / s : ℝ) : EReal) := fun y => by
    rw [Ideal.div_coe hs.ne', ← EReal.coe_mul, mul_one_div]
  have hd : ∀ y, (((a y : ℝ) : EReal) - Finset.fold max (⊥ : EReal) (fun z => ((a z : ℝ) : EReal)) Finset.univ) * (((Real.log 2)⁻¹ * s⁻¹ : ℝ) : EReal)
      = ((a y * ((Real.log 2)⁻¹ * s⁻¹) : ℝ) : EReal)
        - Finset.fold max (⊥ : EReal) (fun z => ((a z * ((Real.log 2)⁻¹ * s⁻¹) : ℝ) : EReal)) Finset.univ := fun y => by
    rw [fold_max_coe a, fold_max_coe (fun z => a z * ((Real.log 2)⁻¹ * s⁻¹)), sup_scale a hc, ← EReal.coe_sub, ← EReal.coe_mul, ← EReal.coe_sub, sub_mul]
  simp only [hl, hr, hd, mul_comm (Ideal.exp2 _) (v _)]
  exact weighted a v hs

/-- The scale that the differences are multiplied by: `log₂ e / √256`. -/
def scale : EReal := (((Real.log 2)⁻¹ * (Real.sqrt 256)⁻¹ : ℝ) : EReal)

theorem named_scale : (Named.named κ "mem_scale" 0x3DB8AA3B#32 : Ideal .f32) = scale := rfl

/-- The weight of token `y` for the query `q`, not yet divided by the weights' sum. -/
def weight (q : Fin 256 → EReal) (k : Fin 256 → Fin 256 → EReal) (y : Fin 256) : EReal :=
  Ideal.exp2 (((∑ e : Fin 256, q e * k y e)
    - Finset.fold max (Ideal.ofBits .f32 4286578688#32) (fun z : Fin 256 => ∑ e : Fin 256, q e * k z e) Finset.univ) * scale)

/-- One entry of the result: `v` the tokens' values in its column, `z` its gate. -/
def entry (q : Fin 256 → EReal) (k : Fin 256 → Fin 256 → EReal) (v : Fin 256 → EReal) (z : EReal) : EReal :=
  Ideal.div (∑ y : Fin 256, weight q k y * v y) (∑ y : Fin 256, weight q k y) * z

theorem pay1_apply (q : FVec Ideal S1024x256 .bf16) (k v : FVec Ideal S256x256 .bf16) (sz : FVec Ideal S1024x256 .bf16) (r : Fin 1024) (d : Fin 256) :
    k0_pay1 (F := Ideal) q k v sz (ix2 r d) = entry (fun e => q (ix2 r e)) (fun y e => k (ix2 y e)) (fun y => v (ix2 y d)) (sz (ix2 r d)) := by
  unfold entry weight
  rw [← named_scale]
  pointwise [k0_pay1]
  rfl

/-- Column `e` of the head that column `j` lies in. -/
def col (j : Fin 1024) (e : Fin 256) : Fin 1024 := ⟨j.val / 256 * 256 + e.val, by omega⟩

/-- What one grid step leaves in its block. -/
def block (q : FVec Ideal S1024x1024 .bf16) (k v : FVec Ideal S256x1024 .bf16) (sz : FVec Ideal S1024x1024 .bf16) : FVec Ideal S1024x1024 .bf16 :=
  fun i => entry (fun e => q (ix2 (i 0) (col (i 1) e))) (fun y e => k (ix2 y (col (i 1) e))) (fun y => v (ix2 y (i 1))) (sz (ix2 (i 0) (i 1)))

/-- A head's stored columns agree with the block. -/
theorem piece (q : FVec Ideal S1024x1024 .bf16) (k v : FVec Ideal S256x1024 .bf16) (sz : FVec Ideal S1024x1024 .bf16) (h : Nat) (hh : h < 4)
    (o : Nat) (ho : o = h * 256) (inb : ∀ a, (![0, o] : Fin 2 → Nat) a + ![1024, 256] a ≤ S1024x1024.size a)
    (inb' : ∀ a, (![0, o] : Fin 2 → Nat) a + ![256, 256] a ≤ S256x1024.size a) (z : S1024x256.Idx) :
    k0_pay1 (F := Ideal) (View.ld (Val := Elt Ideal) (e' := .bf16) q (Rect.unit (s := S1024x1024) ![0, o] ![1024, 256] inb))
        (View.ld (Val := Elt Ideal) (e' := .bf16) k (Rect.unit (s := S256x1024) ![0, o] ![256, 256] inb'))
        (View.ld (Val := Elt Ideal) (e' := .bf16) v (Rect.unit (s := S256x1024) ![0, o] ![256, 256] inb'))
        (View.ld (Val := Elt Ideal) (e' := .bf16) sz (Rect.unit (s := S1024x1024) ![0, o] ![1024, 256] inb)) z
      = block q k v sz ((Rect.unit (s := S1024x1024) ![0, o] ![1024, 256] inb).emb z) := by
  subst ho
  obtain ⟨r, l, rfl⟩ : ∃ (r : Fin 1024) (l : Fin 256), z = ix2 r l := ⟨z 0, z 1, funext fun a => by match a with
    | 0 => rfl
    | 1 => rfl⟩
  have t : ∀ (x : FVec Ideal S1024x1024 .bf16) (e : Fin 256) (j : Fin 1024), j.val = h * 256 + e.val →
      View.ld (Val := Elt Ideal) (e' := .bf16) x (Rect.unit (s := S1024x1024) ![0, h * 256] ![1024, 256] inb) (ix2 r e) = x (ix2 r j) := fun x e j hj =>
    congrArg x (funext fun a => Fin.ext (by
      match a with
      | 0 => show 0 + 1 * r.val = r.val; omega
      | 1 => show h * 256 + 1 * e.val = j.val; omega))
  have u : ∀ (x : FVec Ideal S256x1024 .bf16) (y e : Fin 256) (j : Fin 1024), j.val = h * 256 + e.val →
      View.ld (Val := Elt Ideal) (e' := .bf16) x (Rect.unit (s := S256x1024) ![0, h * 256] ![256, 256] inb') (ix2 y e) = x (ix2 y j) := fun x y e j hj =>
    congrArg x (funext fun a => Fin.ext (by
      match a with
      | 0 => show 0 + 1 * y.val = y.val; omega
      | 1 => show h * 256 + 1 * e.val = j.val; omega))
  have hi : (Rect.unit (s := S1024x1024) ![0, h * 256] ![1024, 256] inb).emb (ix2 r l) = ix2 r ⟨h * 256 + l.val, by omega⟩ := funext fun a => Fin.ext (by
    match a with
    | 0 => show 0 + 1 * r.val = r.val; omega
    | 1 => show h * 256 + 1 * l.val = h * 256 + l.val; omega)
  have hcol : ∀ e : Fin 256, (col ⟨h * 256 + l.val, by omega⟩ e).val = h * 256 + e.val := fun e => by
    show (h * 256 + l.val) / 256 * 256 + e.val = _; omega
  rw [pay1_apply, hi, t sz l ⟨h * 256 + l.val, by omega⟩ rfl]
  simp only [fun e => t q e _ (hcol e), fun y e => u k y e _ (hcol e), fun y => u v y l ⟨h * 256 + l.val, by omega⟩ rfl]
  rfl

theorem out_eq (q : FVec Ideal S1024x1024 .bf16) (k v : FVec Ideal S256x1024 .bf16) (sz : FVec Ideal S1024x1024 .bf16) :
    out0_4 (F := Ideal) q k v sz = block q k v sz := by
  unfold out0_4
  funext y
  refine View.canon_apply_of_pieces (Val := Elt Ideal) (S := S1024x1024) (e := .bf16) (block q k v sz) _ ?_ y (cover0_4 _ _ _ _ y)
  intro p hp z
  simp only [List.mem_cons, List.mem_nil_iff, or_false] at hp
  rcases hp with rfl | rfl | rfl | rfl
  · exact piece q k v sz 3 (by decide) 768 rfl inb_S1024x1024_S1024x256_0_768 inb_S256x1024_S256x256_0_768 z
  · exact piece q k v sz 2 (by decide) 512 rfl inb_S1024x1024_S1024x256_0_512 inb_S256x1024_S256x256_0_512 z
  · exact piece q k v sz 1 (by decide) 256 rfl inb_S1024x1024_S1024x256_0_256 inb_S256x1024_S256x256_0_256 z
  · exact piece q k v sz 0 (by decide) 0 rfl inb_S1024x1024_S1024x256_0_0 inb_S256x1024_S256x256_0_0 z

variable (m : (ℓ : Loc nD τ sig) → Buf (Elt Ideal) ℓ) (ρ : Dev nD → PrngReg)

theorem idx4 : ∀ t : Fin cfg0.N, win0_4.index t = ![t.val, 0] := (by decide +kernel : ∀ t : Fin grid0.N, _)

theorem band0 (c : Dev nD) (t : Fin cfg0.N) (r j : Fin 1024) (R : Fin 32768) (hR : R.val = t.val * 1024 + r.val) :
    iblk m c 0 t (ix2 r j) = m ((c : Thread nD τ).loc main_arg0) (ix2 R j) := by
  refine congrArg (m ((c : Thread nD τ).loc main_arg0)) (funext fun a => Fin.ext ((Pipeline.Window.rect_emb_val win0_0 t (ix2 r j) a).trans ?_))
  rw [(by decide +kernel : ∀ t : Fin grid0.N, win0_0.index t = ![t.val, 0]) t]
  match a with
  | 0 => exact hR.symm
  | 1 => show 0 * 1024 + j.val = j.val; omega

theorem band1 (c : Dev nD) (t : Fin cfg0.N) (y : Fin 256) (j : Fin 1024) (Y : Fin 2048) (hY : Y.val = t.val / 4 * 256 + y.val) :
    iblk m c 1 t (ix2 y j) = m ((c : Thread nD τ).loc main_arg1) (ix2 Y j) := by
  refine congrArg (m ((c : Thread nD τ).loc main_arg1)) (funext fun a => Fin.ext ((Pipeline.Window.rect_emb_val win0_1 t (ix2 y j) a).trans ?_))
  rw [(by decide +kernel : ∀ t : Fin grid0.N, win0_1.index t = ![t.val / 4, 0]) t]
  match a with
  | 0 => exact hY.symm
  | 1 => show 0 * 1024 + j.val = j.val; omega

theorem band2 (c : Dev nD) (t : Fin cfg0.N) (y : Fin 256) (j : Fin 1024) (Y : Fin 2048) (hY : Y.val = t.val / 4 * 256 + y.val) :
    iblk m c 2 t (ix2 y j) = m ((c : Thread nD τ).loc main_arg2) (ix2 Y j) := by
  refine congrArg (m ((c : Thread nD τ).loc main_arg2)) (funext fun a => Fin.ext ((Pipeline.Window.rect_emb_val win0_2 t (ix2 y j) a).trans ?_))
  rw [(by decide +kernel : ∀ t : Fin grid0.N, win0_2.index t = ![t.val / 4, 0]) t]
  match a with
  | 0 => exact hY.symm
  | 1 => show 0 * 1024 + j.val = j.val; omega

theorem band3 (c : Dev nD) (t : Fin cfg0.N) (r j : Fin 1024) (R : Fin 32768) (hR : R.val = t.val * 1024 + r.val) :
    iblk m c 3 t (ix2 r j) = m ((c : Thread nD τ).loc main_arg3) (ix2 R ⟨2048 + j.val, by omega⟩) := by
  refine congrArg (m ((c : Thread nD τ).loc main_arg3)) (funext fun a => Fin.ext ((Pipeline.Window.rect_emb_val win0_3 t (ix2 r j) a).trans ?_))
  rw [(by decide +kernel : ∀ t : Fin grid0.N, win0_3.index t = ![t.val, 2]) t]
  match a with
  | 0 => exact hR.symm
  | 1 => show 2 * 1024 + j.val = 2048 + j.val; omega

/-- One entry of the array that the call is to leave. -/
def at' (q : FVec Ideal S32768x1024 .bf16) (k v : FVec Ideal S2048x1024 .bf16) (sz : FVec Ideal S32768x3072 .bf16) (r : Fin 32768) (j : Fin 1024) : EReal :=
  entry (fun e => q (ix2 r (col j e))) (fun y e => k (ix2 ⟨r.val / 4096 * 256 + y.val, by omega⟩ (col j e)))
    (fun y => v (ix2 ⟨r.val / 4096 * 256 + y.val, by omega⟩ j)) (sz (ix2 r ⟨2048 + j.val, by omega⟩))

/-- The array that the call is to leave. -/
def G (c : Dev nD) : FVec Ideal S32768x1024 .bf16 := fun i =>
  at' (m ((c : Thread nD τ).loc main_arg0)) (m ((c : Thread nD τ).loc main_arg1)) (m ((c : Thread nD τ).loc main_arg2)) (m ((c : Thread nD τ).loc main_arg3)) (i 0) (i 1)

/-- A step's entry is the array's, 1024 rows to a step and four steps to a sequence. -/
theorem entry_eq (c : Dev nD) (t : Fin cfg0.N) (r j : Fin 1024) (R : Fin 32768) (hR : R.val = t.val * 1024 + r.val) (J : Fin 1024) (hJ : J.val = j.val) :
    block (iblk m c 0 t) (iblk m c 1 t) (iblk m c 2 t) (iblk m c 3 t) (ix2 r j) = G m c (ix2 R J) := by
  obtain rfl : J = j := Fin.ext hJ
  have hY : ∀ y : Fin 256, R.val / 4096 * 256 + y.val = t.val / 4 * 256 + y.val := fun y => by omega
  have e0 : (fun e : Fin 256 => iblk m c 0 t (ix2 r (col J e))) = fun e => m ((c : Thread nD τ).loc main_arg0) (ix2 R (col J e)) :=
    funext fun e => band0 m c t r _ R hR
  have e1 : (fun (y e : Fin 256) => iblk m c 1 t (ix2 y (col J e))) = fun y e => m ((c : Thread nD τ).loc main_arg1) (ix2 ⟨R.val / 4096 * 256 + y.val, by omega⟩ (col J e)) :=
    funext fun y => funext fun e => band1 m c t y _ _ (hY y)
  have e2 : (fun y : Fin 256 => iblk m c 2 t (ix2 y J)) = fun y => m ((c : Thread nD τ).loc main_arg2) (ix2 ⟨R.val / 4096 * 256 + y.val, by omega⟩ J) :=
    funext fun y => band2 m c t y _ _ (hY y)
  show entry (fun e : Fin 256 => iblk m c 0 t (ix2 r (col J e))) (fun (y e : Fin 256) => iblk m c 1 t (ix2 y (col J e))) (fun y : Fin 256 => iblk m c 2 t (ix2 y J))
    (iblk m c 3 t (ix2 r J)) = _
  rw [e0, e1, e2, band3 m c t r J R hR]
  rfl

theorem flushed_eq (c : Dev nD) (t : Fin cfg0.N) (_ : (cfg0.win 4).flush t = true) :
    (dats m 0 c).flushed 4 t = ((cfg0.win 4).blk t).view.read (Elt Ideal) (G m c) := by
  rw [Value.flushed4, out_eq]
  funext y
  obtain ⟨r, j, rfl⟩ : ∃ (r j : Fin 1024), y = ix2 r j := ⟨y 0, y 1, funext fun a => by match a with
    | 0 => rfl
    | 1 => rfl⟩
  exact entry_eq m c t r j _ ((Pipeline.Window.rect_emb_val win0_4 t (ix2 r j) 0).trans (by rw [idx4]; rfl)) _
    (Pipeline.Window.rect_emb_val_of_index_zero win0_4 t 1 (by rw [idx4]; rfl) (ix2 r j))

/-- The array that the call leaves. -/
theorem final (c : Dev nD) : (dats m 0 c).arrAt 4 cfg0.N = G m c := by
  refine (dats m 0 c).arrAt_eq_of_cover 4 _ (flushed_eq m c) fun (i : S32768x1024.Idx) => ?_
  have h0 : (i 0).val < 32768 := (i 0).isLt
  have h1 : (i 1).val < 1024 := (i 1).isLt
  let t : Fin cfg0.N := ⟨(i 0).val / 1024, lt_of_lt_of_eq (by omega) N_0.symm⟩
  refine ⟨t, (by decide +kernel : ∀ t : Fin grid0.N, (cfg0.win 4).flush t = true) t, ?_⟩
  show i ∈ ((View.whole main_v0).slice (win0_4.rect t)).set
  rw [View.set_slice_whole, Rect.mem_set_unit]
  intro a
  match a with
  | 0 =>
    show win0_4.index t 0 * 1024 ≤ (i 0).val ∧ (i 0).val < win0_4.index t 0 * 1024 + 1024
    rw [idx4]; show (i 0).val / 1024 * 1024 ≤ (i 0).val ∧ (i 0).val < (i 0).val / 1024 * 1024 + 1024; omega
  | 1 =>
    show win0_4.index t 1 * 1024 ≤ (i 1).val ∧ (i 1).val < win0_4.index t 1 * 1024 + 1024
    rw [idx4]; show 0 * 1024 ≤ (i 1).val ∧ (i 1).val < 0 * 1024 + 1024; omega

theorem ofBits_256 : Ideal.ofBits .f32 0x43800000#32 = ((256 : ℝ) : EReal) := by
  simp [Ideal.ofBits, Ideal.ieee, -EReal.coe_mul]
  norm_num

theorem sqrt_256 : Ideal.sqrt ((256 : ℝ) : EReal) = ((Real.sqrt 256 : ℝ) : EReal) := by
  rw [Ideal.sqrt_coe, if_neg (by norm_num)]

open Cert.ReferenceCIdeal.Attn in
/-- One entry of the call's result is the reference's. -/
theorem at_eq (q : FVec Ideal S32768x1024 .bf16) (k v : FVec Ideal S2048x1024 .bf16) (sz : FVec Ideal S32768x3072 .bf16)
    (hq : AllReal q) (hk : AllReal k) (r : Fin 32768) (j : Fin 1024) : at' q k v sz r j = refVal q k v sz (ix2 r j) := by
  have er : ∀ h, (⟨r.val / 4096 * 4096 + r.val % 4096, h⟩ : Fin 32768) = r := fun h => Fin.ext (by show r.val / 4096 * 4096 + r.val % 4096 = r.val; omega)
  have ej : ∀ h, (⟨j.val / 256 * 256 + j.val % 256, h⟩ : Fin 1024) = j := fun h => Fin.ext (by show j.val / 256 * 256 + j.val % 256 = j.val; omega)
  rw [refVal_apply, refO_apply]
  simp only [refE_entry, refS_apply, er, ej, ofBits_bot, ofBits_256, sqrt_256, max_bot_left]
  unfold at' entry weight
  rw [ofBits_bot]
  exact congrArg (· * _) (late (fun (y e : Fin 256) => k (ix2 ⟨r.val / 4096 * 256 + y.val, by omega⟩ (col j e))) (fun e : Fin 256 => q (ix2 r (col j e)))
    (fun y : Fin 256 => v (ix2 ⟨r.val / 4096 * 256 + y.val, by omega⟩ j)) (fun _ _ => hk _) (fun _ => hq _) (Real.sqrt_pos.mpr (by norm_num)))

theorem G_eq (c : Dev nD) (hq : AllReal (m ((c : Thread nD τ).loc main_arg0))) (hk : AllReal (m ((c : Thread nD τ).loc main_arg1))) :
    G m c = Cert.ReferenceCIdeal.Attn.refVal (m ((c : Thread nD τ).loc main_arg0)) (m ((c : Thread nD τ).loc main_arg1))
      (m ((c : Thread nD τ).loc main_arg2)) (m ((c : Thread nD τ).loc main_arg3)) := by
  funext i
  obtain ⟨r, j, rfl⟩ : ∃ (r : Fin 32768) (j : Fin 1024), i = ix2 r j := ⟨i 0, i 1, funext fun a => by match a with
    | 0 => rfl
    | 1 => rfl⟩
  exact at_eq _ _ _ _ hq hk r j

/-- What the precondition says: every query and every key is a real number. -/
theorem real_args (q : FVec Ideal S32768x1024 .bf16) (k v : FVec Ideal S2048x1024 .bf16) (sz : FVec Ideal S32768x3072 .bf16)
    (h1 : (Cert.Pre_finite_qk_mem.fn (F := Ideal) q k v sz).1 = fun _ => 1#1) (h2 : (Cert.Pre_finite_qk_mem.fn (F := Ideal) q k v sz).2 = fun _ => 1#1) :
    AllReal q ∧ AllReal k :=
  ⟨fun i => Cert.Mla.real_of_cmp _ (congrFun h1 i), fun i => Cert.Mla.real_of_cmp _ (congrFun h2 i)⟩

/-- Call and reference leave equal arrays, where every query and every key is a real number. -/
theorem value : Cert.algebraic_KernelCIdeal_ReferenceCIdeal_pre_finite_qk_mem (hKernelCIdeal := Cert.KernelCIdeal.Gen.facts)
    (hReferenceCIdeal := Cert.ReferenceCIdeal.Gen.facts) (hPre_finite_qk_mem := Cert.Pre_finite_qk_mem.Gen.facts) := by
  intro m g m' g' hpre hargs
  refine ⟨fun c => G m c, (θ_run _ _ _).mono (fun r h c => ⟨(h c).1.trans (final m c), (h c).2⟩) (Value.run_blocks m g), ?_⟩
  refine (θ_run Cert.ReferenceCIdeal.defs _ _).mono (fun r h c => ⟨(h c).1.trans ?_, (h c).2⟩) (Cert.ReferenceCIdeal.Value.run m' g')
  obtain ⟨e0, e1, e2, e3⟩ := hargs c
  obtain ⟨p1, p2⟩ := hpre c
  obtain ⟨hq, hk⟩ := real_args _ _ _ _ p1 p2
  rw [e0, e1, e2, e3]
  refine Eq.trans ?_ (G_eq m c hq hk).symm
  unfold Cert.ReferenceCIdeal.Attn.refVal Cert.ReferenceCIdeal.Attn.refO Cert.ReferenceCIdeal.Attn.refE Cert.ReferenceCIdeal.Attn.refX
    Cert.ReferenceCIdeal.Attn.refM Cert.ReferenceCIdeal.Attn.refS
  rfl

end Cert.MemAttn
end
-- ==== Proof.lean ====
module

public import proofs.«01_k».proof.Defs
public import proofs.«01_k».proof.Proof.PlainFrame
public import proofs.«01_k».proof.Proof.GqaValue
public import proofs.«01_k».proof.Proof.MlaPlainFrame
public import proofs.«01_k».proof.Proof.MlaValue
public import proofs.«01_k».proof.Proof.Gen.KernelS.Frame
public import proofs.«01_k».proof.Proof.Gen.KernelSIdeal.Value
public import proofs.«01_k».proof.Proof.Gen.ReferenceSIdeal.Run
public import proofs.«01_k».proof.Proof.SmallValue
public import proofs.«01_k».proof.Proof.Gen.ReferenceIdeal.Run
public import proofs.«01_k».proof.Proof.Gen.KernelZ.Frame
public import proofs.«01_k».proof.Proof.Gen.KernelG.Frame
public import proofs.«01_k».proof.Proof.Gen.KernelM.Frame
public import proofs.«01_k».proof.Proof.Gen.KernelO.Frame
public import proofs.«01_k».proof.Proof.Gen.KernelK.Frame
public import proofs.«01_k».proof.Proof.Gen.KernelC.Frame
public import proofs.«01_k».proof.Proof.Gen.KernelKIdeal.Value
public import proofs.«01_k».proof.Proof.Gen.KernelCIdeal.Value
public import proofs.«01_k».proof.Proof.Gen.ReferenceKIdeal.Run
public import proofs.«01_k».proof.Proof.Gen.ReferenceCIdeal.Run
public import proofs.«01_k».proof.Proof.Gen.Pre_finite_qk_mem
public import proofs.«01_k».proof.Proof.GateZ
public import proofs.«01_k».proof.Proof.GateG
public import proofs.«01_k».proof.Proof.Merge
public import proofs.«01_k».proof.Proof.OutProj
public import proofs.«01_k».proof.Proof.MemKv
public import proofs.«01_k».proof.Proof.MemAttn
public import proofs.«01_k».proof.Proof.Gen.KernelZIdeal.Value
public import proofs.«01_k».proof.Proof.Gen.KernelGIdeal.Value
public import proofs.«01_k».proof.Proof.Gen.KernelMIdeal.Value
public import proofs.«01_k».proof.Proof.Gen.KernelOIdeal.Value
public import proofs.«01_k».proof.Proof.Gen.ReferenceZIdeal.Run
public import proofs.«01_k».proof.Proof.Gen.ReferenceGIdeal.Run
public import proofs.«01_k».proof.Proof.Gen.ReferenceMIdeal.Run
public import proofs.«01_k».proof.Proof.Gen.ReferenceOIdeal.Run

@[expose] public section

set_option maxRecDepth 16384

noncomputable section

namespace Cert.Proof

open Idealize.ShloMosaic Idealize.SL.Sem Cert.Gqa Cert.ReferenceIdeal.Attn

/-- The call and its reference leave equal arrays, where every query and every key is a real number. -/
theorem value : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  intro m g m' g' hpre hargs
  refine ⟨fun c => Cert.KernelIdeal.OwnValue.G6 m c, Cert.KernelIdeal.OwnValue.run m g, ?_⟩
  refine (θ_run Cert.ReferenceIdeal.defs _ _).mono (fun r h c => ⟨(h c).1.trans ?_, (h c).2⟩) (Cert.ReferenceIdeal.Value.run m' g')
  obtain ⟨e0, e1, e2, e3⟩ := hargs c
  obtain ⟨p1, p2⟩ := hpre c
  obtain ⟨hq, hk⟩ := real_args _ _ _ _ p1 p2
  rw [e0, e1, e2, e3]
  refine Eq.trans ?_ (G6_eq m c hq hk).symm
  unfold refVal refO refE refX refM refS
  rfl

/-- The reference's run leaves its arguments alone; it has no semaphore. -/
theorem ref_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

theorem ref_frameA : Cert.quiescent_ReferenceAIdeal (hReferenceAIdeal := Cert.ReferenceAIdeal.Gen.facts) := fun m ρ _ =>
  (θ_run Cert.ReferenceAIdeal.defs _ _).mono (fun r h => ⟨fun c => (h c).2, sem_eq_zero_of_no_sems (by decide) r.2⟩)
    (Cert.ReferenceAIdeal.Value.run m ρ)

theorem ref_frameS : Cert.quiescent_ReferenceSIdeal (hReferenceSIdeal := Cert.ReferenceSIdeal.Gen.facts) := fun m ρ _ =>
  (θ_run Cert.ReferenceSIdeal.defs _ _).mono (fun r h => ⟨fun c => (h c).2.2.2.2.2.2.2.2, sem_eq_zero_of_no_sems (by decide) r.2⟩)
    (Cert.ReferenceSIdeal.Value.run m ρ)

theorem ref_frameZ : Cert.quiescent_ReferenceZIdeal (hReferenceZIdeal := Cert.ReferenceZIdeal.Gen.facts) := fun m ρ _ =>
  (θ_run Cert.ReferenceZIdeal.defs _ _).mono (fun r h => ⟨fun c => (h c).2, sem_eq_zero_of_no_sems (by decide) r.2⟩)
    (Cert.ReferenceZIdeal.Value.run m ρ)

theorem ref_frameG : Cert.quiescent_ReferenceGIdeal (hReferenceGIdeal := Cert.ReferenceGIdeal.Gen.facts) := fun m ρ _ =>
  (θ_run Cert.ReferenceGIdeal.defs _ _).mono (fun r h => ⟨fun c => (h c).2, sem_eq_zero_of_no_sems (by decide) r.2⟩)
    (Cert.ReferenceGIdeal.Value.run m ρ)

theorem ref_frameM : Cert.quiescent_ReferenceMIdeal (hReferenceMIdeal := Cert.ReferenceMIdeal.Gen.facts) := fun m ρ _ =>
  (θ_run Cert.ReferenceMIdeal.defs _ _).mono (fun r h => ⟨fun c => (h c).2, sem_eq_zero_of_no_sems (by decide) r.2⟩)
    (Cert.ReferenceMIdeal.Value.run m ρ)

theorem ref_frameO : Cert.quiescent_ReferenceOIdeal (hReferenceOIdeal := Cert.ReferenceOIdeal.Gen.facts) := fun m ρ _ =>
  (θ_run Cert.ReferenceOIdeal.defs _ _).mono (fun r h => ⟨fun c => (h c).2, sem_eq_zero_of_no_sems (by decide) r.2⟩)
    (Cert.ReferenceOIdeal.Value.run m ρ)

theorem ref_frameK : Cert.quiescent_ReferenceKIdeal (hReferenceKIdeal := Cert.ReferenceKIdeal.Gen.facts) := fun m ρ _ =>
  (θ_run Cert.ReferenceKIdeal.defs _ _).mono (fun r h => ⟨fun c => (h c).2.2, sem_eq_zero_of_no_sems (by decide) r.2⟩)
    (Cert.ReferenceKIdeal.Value.run m ρ)

theorem ref_frameC : Cert.quiescent_ReferenceCIdeal (hReferenceCIdeal := Cert.ReferenceCIdeal.Gen.facts) := fun m ρ _ =>
  (θ_run Cert.ReferenceCIdeal.defs _ _).mono (fun r h => ⟨fun c => (h c).2, sem_eq_zero_of_no_sems (by decide) r.2⟩)
    (Cert.ReferenceCIdeal.Value.run m ρ)

theorem claim : Cert.Claim := ⟨Cert.Kernel.Gen.facts, Cert.KernelIdeal.Gen.facts, Cert.ReferenceIdeal.Gen.facts,
  Cert.KernelA.Gen.facts, Cert.KernelAIdeal.Gen.facts, Cert.ReferenceAIdeal.Gen.facts, Cert.KernelS.Gen.facts, Cert.KernelSIdeal.Gen.facts, Cert.ReferenceSIdeal.Gen.facts, Cert.KernelZ.Gen.facts, Cert.KernelZIdeal.Gen.facts, Cert.ReferenceZIdeal.Gen.facts, Cert.KernelG.Gen.facts, Cert.KernelGIdeal.Gen.facts, Cert.ReferenceGIdeal.Gen.facts, Cert.KernelM.Gen.facts, Cert.KernelMIdeal.Gen.facts, Cert.ReferenceMIdeal.Gen.facts, Cert.KernelO.Gen.facts, Cert.KernelOIdeal.Gen.facts, Cert.ReferenceOIdeal.Gen.facts,
  Cert.KernelK.Gen.facts, Cert.KernelKIdeal.Gen.facts, Cert.ReferenceKIdeal.Gen.facts, Cert.KernelC.Gen.facts, Cert.KernelCIdeal.Gen.facts, Cert.ReferenceCIdeal.Gen.facts,
  Cert.Pre_finite_qk.Gen.facts, Cert.Pre_finite_qk_mla.Gen.facts, Cert.Pre_finite_qk_mem.Gen.facts,
  fun m ρ _ => Cert.Kernel.Own.frame m ρ,
  fun m ρ _ => Cert.KernelIdeal.Own.frame m ρ,
  fun m ρ _ => Cert.KernelIdeal.Own.frame m ρ,
  fun m ρ _ => ref_frame m ρ trivial,
  fun m ρ _ => ref_frame m ρ trivial,
  fun m ρ _ => Cert.KernelA.Own.frame m ρ,
  fun m ρ _ => Cert.KernelAIdeal.Own.frame m ρ,
  fun m ρ _ => Cert.KernelAIdeal.Own.frame m ρ,
  fun m ρ _ => ref_frameA m ρ trivial,
  fun m ρ _ => ref_frameA m ρ trivial,
  fun m ρ _ => Cert.KernelS.Gen.frame m ρ,
  fun m ρ _ => Cert.KernelSIdeal.Gen.frame m ρ,
  ref_frameS,
  fun m ρ _ => Cert.KernelZ.Gen.frame m ρ,
  fun m ρ _ => Cert.KernelZIdeal.Gen.frame m ρ,
  ref_frameZ,
  fun m ρ _ => Cert.KernelG.Gen.frame m ρ,
  fun m ρ _ => Cert.KernelGIdeal.Gen.frame m ρ,
  ref_frameG,
  fun m ρ _ => Cert.KernelM.Gen.frame m ρ,
  fun m ρ _ => Cert.KernelMIdeal.Gen.frame m ρ,
  ref_frameM,
  fun m ρ _ => Cert.KernelO.Gen.frame m ρ,
  fun m ρ _ => Cert.KernelOIdeal.Gen.frame m ρ,
  ref_frameO,
  fun m ρ _ => Cert.KernelK.Gen.frame m ρ,
  fun m ρ _ => Cert.KernelKIdeal.Gen.frame m ρ,
  ref_frameK,
  fun m ρ _ => Cert.KernelC.Gen.frame m ρ,
  fun m ρ _ => Cert.KernelCIdeal.Gen.frame m ρ,
  fun m ρ _ => Cert.KernelCIdeal.Gen.frame m ρ,
  fun m ρ _ => ref_frameC m ρ trivial,
  fun m ρ _ => ref_frameC m ρ trivial,
  IdealRules.named_const.statement _ _ _ _ _ rfl,
  value,
  IdealRules.named_const.statement _ _ _ _ _ rfl,
  Cert.Mla.value,
  trivial, Cert.Small.value,
  trivial, Cert.GateZ.value,
  trivial, Cert.GateG.value,
  trivial, Cert.Merge.value,
  trivial, Cert.OutProj.value,
  trivial, Cert.MemKv.value,
  IdealRules.named_const.statement _ _ _ _ _ rfl,
  Cert.MemAttn.value⟩

end Cert.Proof

end
